-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_GuDw (m : (ℓ : Loc Cert.GuDw.nD Cert.GuDw.τ Cert.GuDw.sig) → Buf (Elt Bits) ℓ) : Prop :=
  True

def Pre_GuDwIdeal (m : (ℓ : Loc Cert.GuDwIdeal.nD Cert.GuDwIdeal.τ Cert.GuDwIdeal.sig) → Buf (Elt Ideal) ℓ) : Prop :=
  True

def Pre_GuDwRefIdeal (m : (ℓ : Loc Cert.GuDwRefIdeal.nD Cert.GuDwRefIdeal.τ Cert.GuDwRefIdeal.sig) → Buf (Elt Ideal) ℓ) : Prop :=
  True

def Pre_GuDx (m : (ℓ : Loc Cert.GuDx.nD Cert.GuDx.τ Cert.GuDx.sig) → Buf (Elt Bits) ℓ) : Prop :=
  True

def Pre_GuDxIdeal (m : (ℓ : Loc Cert.GuDxIdeal.nD Cert.GuDxIdeal.τ Cert.GuDxIdeal.sig) → Buf (Elt Ideal) ℓ) : Prop :=
  True

def Pre_GuDxRefIdeal (m : (ℓ : Loc Cert.GuDxRefIdeal.nD Cert.GuDxRefIdeal.τ Cert.GuDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InFw (m : (ℓ : Loc Cert.InFw.nD Cert.InFw.τ Cert.InFw.sig) → Buf (Elt Bits) ℓ) : Prop :=
  True

def Pre_InFwIdeal (m : (ℓ : Loc Cert.InFwIdeal.nD Cert.InFwIdeal.τ Cert.InFwIdeal.sig) → Buf (Elt Ideal) ℓ) : Prop :=
  True

def Pre_InFwRefIdeal (m : (ℓ : Loc Cert.InFwRefIdeal.nD Cert.InFwRefIdeal.τ Cert.InFwRefIdeal.sig) → Buf (Elt Ideal) ℓ) : Prop :=
  True

def Pre_DownFw (m : (ℓ : Loc Cert.DownFw.nD Cert.DownFw.τ Cert.DownFw.sig) → Buf (Elt Bits) ℓ) : Prop :=
  True

def Pre_DownFwIdeal (m : (ℓ : Loc Cert.DownFwIdeal.nD Cert.DownFwIdeal.τ Cert.DownFwIdeal.sig) → Buf (Elt Ideal) ℓ) : Prop :=
  True

def Pre_DownFwRefIdeal (m : (ℓ : Loc Cert.DownFwRefIdeal.nD Cert.DownFwRefIdeal.τ Cert.DownFwRefIdeal.sig) → Buf (Elt Ideal) ℓ) : Prop :=
  True

def Pre_OutFw (m : (ℓ : Loc Cert.OutFw.nD Cert.OutFw.τ Cert.OutFw.sig) → Buf (Elt Bits) ℓ) : Prop :=
  True

def Pre_OutFwIdeal (m : (ℓ : Loc Cert.OutFwIdeal.nD Cert.OutFwIdeal.τ Cert.OutFwIdeal.sig) → Buf (Elt Ideal) ℓ) : Prop :=
  True

def Pre_OutFwRefIdeal (m : (ℓ : Loc Cert.OutFwRefIdeal.nD Cert.OutFwRefIdeal.τ Cert.OutFwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BrFw (m : (ℓ : Loc Cert.BrFw.nD Cert.BrFw.τ Cert.BrFw.sig) → Buf (Elt Bits) ℓ) : Prop :=
  True

def Pre_BrFwIdeal (m : (ℓ : Loc Cert.BrFwIdeal.nD Cert.BrFwIdeal.τ Cert.BrFwIdeal.sig) → Buf (Elt Ideal) ℓ) : Prop :=
  True

def Pre_BrFwRefIdeal (m : (ℓ : Loc Cert.BrFwRefIdeal.nD Cert.BrFwRefIdeal.τ Cert.BrFwRefIdeal.sig) → Buf (Elt Ideal) ℓ) : Prop :=
  True

def Pre_BrDx (m : (ℓ : Loc Cert.BrDx.nD Cert.BrDx.τ Cert.BrDx.sig) → Buf (Elt Bits) ℓ) : Prop :=
  True

def Pre_BrDxIdeal (m : (ℓ : Loc Cert.BrDxIdeal.nD Cert.BrDxIdeal.τ Cert.BrDxIdeal.sig) → Buf (Elt Ideal) ℓ) : Prop :=
  True

def Pre_BrDxRefIdeal (m : (ℓ : Loc Cert.BrDxRefIdeal.nD Cert.BrDxRefIdeal.τ Cert.BrDxRefIdeal.sig) → Buf (Elt Ideal) ℓ) : Prop :=
  True

def Pre_BrDw (m : (ℓ : Loc Cert.BrDw.nD Cert.BrDw.τ Cert.BrDw.sig) → Buf (Elt Bits) ℓ) : Prop :=
  True

def Pre_BrDwIdeal (m : (ℓ : Loc Cert.BrDwIdeal.nD Cert.BrDwIdeal.τ Cert.BrDwIdeal.sig) → Buf (Elt Ideal) ℓ) : Prop :=
  True

def Pre_BrDwRefIdeal (m : (ℓ : Loc Cert.BrDwRefIdeal.nD Cert.BrDwRefIdeal.τ Cert.BrDwRefIdeal.sig) → Buf (Elt Ideal) ℓ) : Prop :=
  True

def Pre_UpFw (m : (ℓ : Loc Cert.UpFw.nD Cert.UpFw.τ Cert.UpFw.sig) → Buf (Elt Bits) ℓ) : Prop :=
  True

def Pre_UpFwIdeal (m : (ℓ : Loc Cert.UpFwIdeal.nD Cert.UpFwIdeal.τ Cert.UpFwIdeal.sig) → Buf (Elt Ideal) ℓ) : Prop :=
  True

def Pre_UpFwRefIdeal (m : (ℓ : Loc Cert.UpFwRefIdeal.nD Cert.UpFwRefIdeal.τ Cert.UpFwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_GuFw (m : (ℓ : Loc Cert.GuFw.nD Cert.GuFw.τ Cert.GuFw.sig) → Buf (Elt Bits) ℓ) : Prop :=
  True

def Pre_GuFwIdeal (m : (ℓ : Loc Cert.GuFwIdeal.nD Cert.GuFwIdeal.τ Cert.GuFwIdeal.sig) → Buf (Elt Ideal) ℓ) : Prop :=
  True

def Pre_GuFwRefIdeal (m : (ℓ : Loc Cert.GuFwRefIdeal.nD Cert.GuFwRefIdeal.τ Cert.GuFwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_finite_mlp [hPre_finite_mlp : Cert.Pre_finite_mlp.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_finite_mlp.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))) = (fun _ => 1#1)

def Pre_DownDxRefIdeal (m : (ℓ : Loc Cert.DownDxRefIdeal.nD Cert.DownDxRefIdeal.τ Cert.DownDxRefIdeal.sig) → Buf (Elt Ideal) ℓ) : Prop :=
  True

def Pre_DownDxRefIdeal_finite_mlp [hPre_finite_mlp : Cert.Pre_finite_mlp.Facts] (m : (ℓ : Loc Cert.DownDxRefIdeal.nD Cert.DownDxRefIdeal.τ Cert.DownDxRefIdeal.sig) → Buf (Elt Ideal) ℓ) : Prop :=
  ∀ c : Dev Cert.DownDxRefIdeal.nD,
    (Cert.Pre_finite_mlp.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))) = (fun _ => 1#1)

def Pre_InTop (m : (ℓ : Loc Cert.InTop.nD Cert.InTop.τ Cert.InTop.sig) → Buf (Elt Bits) ℓ) : Prop :=
  True

def Pre_InTopIdeal (m : (ℓ : Loc Cert.InTopIdeal.nD Cert.InTopIdeal.τ Cert.InTopIdeal.sig) → Buf (Elt Ideal) ℓ) : Prop :=
  True

def Pre_InTopRefIdeal (m : (ℓ : Loc Cert.InTopRefIdeal.nD Cert.InTopRefIdeal.τ Cert.InTopRefIdeal.sig) → Buf (Elt Ideal) ℓ) : Prop :=
  True

def Pre_InBot (m : (ℓ : Loc Cert.InBot.nD Cert.InBot.τ Cert.InBot.sig) → Buf (Elt Bits) ℓ) : Prop :=
  True

def Pre_InBotIdeal (m : (ℓ : Loc Cert.InBotIdeal.nD Cert.InBotIdeal.τ Cert.InBotIdeal.sig) → Buf (Elt Ideal) ℓ) : Prop :=
  True

def Pre_InBotRefIdeal (m : (ℓ : Loc Cert.InBotRefIdeal.nD Cert.InBotRefIdeal.τ Cert.InBotRefIdeal.sig) → Buf (Elt Ideal) ℓ) : Prop :=
  True

def Pre_AttFw (m : (ℓ : Loc Cert.AttFw.nD Cert.AttFw.τ Cert.AttFw.sig) → Buf (Elt Bits) ℓ) : Prop :=
  True

def Pre_AttFwIdeal (m : (ℓ : Loc Cert.AttFwIdeal.nD Cert.AttFwIdeal.τ Cert.AttFwIdeal.sig) → Buf (Elt Ideal) ℓ) : Prop :=
  True

def Pre_AttFwIdeal_finite_qkv [hPre_finite_qkv : Cert.Pre_finite_qkv.Facts] (m : (ℓ : Loc Cert.AttFwIdeal.nD Cert.AttFwIdeal.τ Cert.AttFwIdeal.sig) → Buf (Elt Ideal) ℓ) : Prop :=
  ∀ c : Dev Cert.AttFwIdeal.nD,
    (Cert.Pre_finite_qkv.fn (F := Ideal) (m ((c.tc : Thread Cert.AttFwIdeal.nD Cert.AttFwIdeal.τ).loc Cert.AttFwIdeal.main_arg0)) (m ((c.tc : Thread Cert.AttFwIdeal.nD Cert.AttFwIdeal.τ).loc Cert.AttFwIdeal.main_arg1)) (m ((c.tc : Thread Cert.AttFwIdeal.nD Cert.AttFwIdeal.τ).loc Cert.AttFwIdeal.main_arg2))) = (fun _ => 1#1)

def Pre_AttFwRefIdeal (m : (ℓ : Loc Cert.AttFwRefIdeal.nD Cert.AttFwRefIdeal.τ Cert.AttFwRefIdeal.sig) → Buf (Elt Ideal) ℓ) : Prop :=
  True

def Pre_AttFwRefIdeal_finite_qkv [hPre_finite_qkv : Cert.Pre_finite_qkv.Facts] (m : (ℓ : Loc Cert.AttFwRefIdeal.nD Cert.AttFwRefIdeal.τ Cert.AttFwRefIdeal.sig) → Buf (Elt Ideal) ℓ) : Prop :=
  ∀ c : Dev Cert.AttFwRefIdeal.nD,
    (Cert.Pre_finite_qkv.fn (F := Ideal) (m ((c.tc : Thread Cert.AttFwRefIdeal.nD Cert.AttFwRefIdeal.τ).loc Cert.AttFwRefIdeal.main_arg0)) (m ((c.tc : Thread Cert.AttFwRefIdeal.nD Cert.AttFwRefIdeal.τ).loc Cert.AttFwRefIdeal.main_arg1)) (m ((c.tc : Thread Cert.AttFwRefIdeal.nD Cert.AttFwRefIdeal.τ).loc Cert.AttFwRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GuDw [hGuDw : Cert.GuDw.Facts] : Prop :=
  ∀ (m : (ℓ : Loc Cert.GuDw.nD Cert.GuDw.τ Cert.GuDw.sig) → Buf (Elt Bits) ℓ) (g : Dev Cert.GuDw.nD → PrngReg), Pre_GuDw m →
    θ_run (Cert.GuDw.defs (F := Bits)) (onTc (τ := Cert.GuDw.τ) (Cert.GuDw.main (F := Bits))) ⟨m, fun _ => 0, g⟩ (fun r => (∀ c : Dev Cert.GuDw.nD,
      r.2.mem ((c.tc : Thread Cert.GuDw.nD Cert.GuDw.τ).loc Cert.GuDw.main_arg0) = m ((c.tc : Thread Cert.GuDw.nD Cert.GuDw.τ).loc Cert.GuDw.main_arg0)
      ∧ r.2.mem ((c.tc : Thread Cert.GuDw.nD Cert.GuDw.τ).loc Cert.GuDw.main_arg1) = m ((c.tc : Thread Cert.GuDw.nD Cert.GuDw.τ).loc Cert.GuDw.main_arg1)
      ∧ r.2.mem ((c.tc : Thread Cert.GuDw.nD Cert.GuDw.τ).loc Cert.GuDw.main_arg2) = m ((c.tc : Thread Cert.GuDw.nD Cert.GuDw.τ).loc Cert.GuDw.main_arg2))
      ∧ r.2.sem = fun _ => 0)

def quiescent_GuDwIdeal [hGuDwIdeal : Cert.GuDwIdeal.Facts] : Prop :=
  ∀ (m : (ℓ : Loc Cert.GuDwIdeal.nD Cert.GuDwIdeal.τ Cert.GuDwIdeal.sig) → Buf (Elt Ideal) ℓ) (g : Dev Cert.GuDwIdeal.nD → PrngReg), Pre_GuDwIdeal m →
    θ_run (Cert.GuDwIdeal.defs (F := Ideal)) (onTc (τ := Cert.GuDwIdeal.τ) (Cert.GuDwIdeal.main (F := Ideal))) ⟨m, fun _ => 0, g⟩ (fun r => (∀ c : Dev Cert.GuDwIdeal.nD,
      r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
      ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1)
      ∧ r.2.mem ((c.tc : Thread Cert.GuDwIdeal.nD Cert.GuDwIdeal.τ).loc Cert.GuDwIdeal.main_arg2) = m ((c.tc : Thread Cert.GuDwIdeal.nD Cert.GuDwIdeal.τ).loc Cert.GuDwIdeal.main_arg2))
      ∧ r.2.sem = fun _ => 0)

def quiescent_GuDwRefIdeal [hGuDwRefIdeal : Cert.GuDwRefIdeal.Facts] : Prop :=
  ∀ (m : (ℓ : Loc Cert.GuDwRefIdeal.nD Cert.GuDwRefIdeal.τ Cert.GuDwRefIdeal.sig) → Buf (Elt Ideal) ℓ) (g : Dev Cert.GuDwRefIdeal.nD → PrngReg), Pre_GuDwRefIdeal m →
    θ_run (Cert.GuDwRefIdeal.defs (F := Ideal)) (onTc (τ := Cert.GuDwRefIdeal.τ) (Cert.GuDwRefIdeal.main (F := Ideal))) ⟨m, fun _ => 0, g⟩ (fun r => (∀ c : Dev Cert.GuDwRefIdeal.nD,
      r.2.mem ((c.tc : Thread Cert.GuDwRefIdeal.nD Cert.GuDwRefIdeal.τ).loc Cert.GuDwRefIdeal.main_arg0) = m ((c.tc : Thread Cert.GuDwRefIdeal.nD Cert.GuDwRefIdeal.τ).loc Cert.GuDwRefIdeal.main_arg0)
      ∧ r.2.mem ((c.tc : Thread Cert.GuDwRefIdeal.nD Cert.GuDwRefIdeal.τ).loc Cert.GuDwRefIdeal.main_arg1) = m ((c.tc : Thread Cert.GuDwRefIdeal.nD Cert.GuDwRefIdeal.τ).loc Cert.GuDwRefIdeal.main_arg1)
      ∧ r.2.mem ((c.tc : Thread Cert.GuDwRefIdeal.nD Cert.GuDwRefIdeal.τ).loc Cert.GuDwRefIdeal.main_arg2) = m ((c.tc : Thread Cert.GuDwRefIdeal.nD Cert.GuDwRefIdeal.τ).loc Cert.GuDwRefIdeal.main_arg2))
      ∧ r.2.sem = fun _ => 0)

def quiescent_GuDx [hGuDx : Cert.GuDx.Facts] : Prop :=
  ∀ (m : (ℓ : Loc Cert.GuDx.nD Cert.GuDx.τ Cert.GuDx.sig) → Buf (Elt Bits) ℓ) (g : Dev Cert.GuDx.nD → PrngReg), Pre_GuDx m →
    θ_run (Cert.GuDx.defs (F := Bits)) (onTc (τ := Cert.GuDx.τ) (Cert.GuDx.main (F := Bits))) ⟨m, fun _ => 0, g⟩ (fun r => (∀ c : Dev Cert.GuDx.nD,
      r.2.mem ((c.tc : Thread Cert.GuDx.nD Cert.GuDx.τ).loc Cert.GuDx.main_arg0) = m ((c.tc : Thread Cert.GuDx.nD Cert.GuDx.τ).loc Cert.GuDx.main_arg0)
      ∧ r.2.mem ((c.tc : Thread Cert.GuDx.nD Cert.GuDx.τ).loc Cert.GuDx.main_arg1) = m ((c.tc : Thread Cert.GuDx.nD Cert.GuDx.τ).loc Cert.GuDx.main_arg1)
      ∧ r.2.mem ((c.tc : Thread Cert.GuDx.nD Cert.GuDx.τ).loc Cert.GuDx.main_arg2) = m ((c.tc : Thread Cert.GuDx.nD Cert.GuDx.τ).loc Cert.GuDx.main_arg2))
      ∧ r.2.sem = fun _ => 0)

def quiescent_GuDxIdeal [hGuDxIdeal : Cert.GuDxIdeal.Facts] : Prop :=
  ∀ (m : (ℓ : Loc Cert.GuDxIdeal.nD Cert.GuDxIdeal.τ Cert.GuDxIdeal.sig) → Buf (Elt Ideal) ℓ) (g : Dev Cert.GuDxIdeal.nD → PrngReg), Pre_GuDxIdeal m →
    θ_run (Cert.GuDxIdeal.defs (F := Ideal)) (onTc (τ := Cert.GuDxIdeal.τ) (Cert.GuDxIdeal.main (F := Ideal))) ⟨m, fun _ => 0, g⟩ (fun r => (∀ c : Dev Cert.GuDxIdeal.nD,
      r.2.mem ((c.tc : Thread Cert.GuDxIdeal.nD Cert.GuDxIdeal.τ).loc Cert.GuDxIdeal.main_arg0) = m ((c.tc : Thread Cert.GuDxIdeal.nD Cert.GuDxIdeal.τ).loc Cert.GuDxIdeal.main_arg0)
      ∧ r.2.mem ((c.tc : Thread Cert.GuDxIdeal.nD Cert.GuDxIdeal.τ).loc Cert.GuDxIdeal.main_arg1) = m ((c.tc : Thread Cert.GuDxIdeal.nD Cert.GuDxIdeal.τ).loc Cert.GuDxIdeal.main_arg1)
      ∧ r.2.mem ((c.tc : Thread Cert.GuDxIdeal.nD Cert.GuDxIdeal.τ).loc Cert.GuDxIdeal.main_arg2) = m ((c.tc : Thread Cert.GuDxIdeal.nD Cert.GuDxIdeal.τ).loc Cert.GuDxIdeal.main_arg2))
      ∧ r.2.sem = fun _ => 0)

def quiescent_GuDxRefIdeal [hGuDxRefIdeal : Cert.GuDxRefIdeal.Facts] : Prop :=
  ∀ (m : (ℓ : Loc Cert.GuDxRefIdeal.nD Cert.GuDxRefIdeal.τ Cert.GuDxRefIdeal.sig) → Buf (Elt Ideal) ℓ) (g : Dev Cert.GuDxRefIdeal.nD → PrngReg), Pre_GuDxRefIdeal m →
    θ_run (Cert.GuDxRefIdeal.defs (F := Ideal)) (onTc (τ := Cert.GuDxRefIdeal.τ) (Cert.GuDxRefIdeal.main (F := Ideal))) ⟨m, fun _ => 0, g⟩ (fun r => (∀ c : Dev Cert.GuDxRefIdeal.nD,
      r.2.mem ((c.tc : Thread Cert.GuDxRefIdeal.nD Cert.GuDxRefIdeal.τ).loc Cert.GuDxRefIdeal.main_arg0) = m ((c.tc : Thread Cert.GuDxRefIdeal.nD Cert.GuDxRefIdeal.τ).loc Cert.GuDxRefIdeal.main_arg0)
      ∧ r.2.mem ((c.tc : Thread Cert.GuDxRefIdeal.nD Cert.GuDxRefIdeal.τ).loc Cert.GuDxRefIdeal.main_arg1) = m ((c.tc : Thread Cert.GuDxRefIdeal.nD Cert.GuDxRefIdeal.τ).loc Cert.GuDxRefIdeal.main_arg1)
      ∧ r.2.mem ((c.tc : Thread Cert.GuDxRefIdeal.nD Cert.GuDxRefIdeal.τ).loc Cert.GuDxRefIdeal.main_arg2) = m ((c.tc : Thread Cert.GuDxRefIdeal.nD Cert.GuDxRefIdeal.τ).loc Cert.GuDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InFw [hInFw : Cert.InFw.Facts] : Prop :=
  ∀ (m : (ℓ : Loc Cert.InFw.nD Cert.InFw.τ Cert.InFw.sig) → Buf (Elt Bits) ℓ) (g : Dev Cert.InFw.nD → PrngReg), Pre_InFw m →
    θ_run (Cert.InFw.defs (F := Bits)) (onTc (τ := Cert.InFw.τ) (Cert.InFw.main (F := Bits))) ⟨m, fun _ => 0, g⟩ (fun r => (∀ c : Dev Cert.InFw.nD,
      r.2.mem ((c.tc : Thread Cert.InFw.nD Cert.InFw.τ).loc Cert.InFw.main_arg0) = m ((c.tc : Thread Cert.InFw.nD Cert.InFw.τ).loc Cert.InFw.main_arg0)
      ∧ r.2.mem ((c.tc : Thread Cert.InFw.nD Cert.InFw.τ).loc Cert.InFw.main_arg1) = m ((c.tc : Thread Cert.InFw.nD Cert.InFw.τ).loc Cert.InFw.main_arg1))
      ∧ r.2.sem = fun _ => 0)

def quiescent_InFwIdeal [hInFwIdeal : Cert.InFwIdeal.Facts] : Prop :=
  ∀ (m : (ℓ : Loc Cert.InFwIdeal.nD Cert.InFwIdeal.τ Cert.InFwIdeal.sig) → Buf (Elt Ideal) ℓ) (g : Dev Cert.InFwIdeal.nD → PrngReg), Pre_InFwIdeal m →
    θ_run (Cert.InFwIdeal.defs (F := Ideal)) (onTc (τ := Cert.InFwIdeal.τ) (Cert.InFwIdeal.main (F := Ideal))) ⟨m, fun _ => 0, g⟩ (fun r => (∀ c : Dev Cert.InFwIdeal.nD,
      r.2.mem ((c.tc : Thread Cert.InFwIdeal.nD Cert.InFwIdeal.τ).loc Cert.InFwIdeal.main_arg0) = m ((c.tc : Thread Cert.InFwIdeal.nD Cert.InFwIdeal.τ).loc Cert.InFwIdeal.main_arg0)
      ∧ r.2.mem ((c.tc : Thread Cert.InFwIdeal.nD Cert.InFwIdeal.τ).loc Cert.InFwIdeal.main_arg1) = m ((c.tc : Thread Cert.InFwIdeal.nD Cert.InFwIdeal.τ).loc Cert.InFwIdeal.main_arg1))
      ∧ r.2.sem = fun _ => 0)

def quiescent_InFwRefIdeal [hInFwRefIdeal : Cert.InFwRefIdeal.Facts] : Prop :=
  ∀ (m : (ℓ : Loc Cert.InFwRefIdeal.nD Cert.InFwRefIdeal.τ Cert.InFwRefIdeal.sig) → Buf (Elt Ideal) ℓ) (g : Dev Cert.InFwRefIdeal.nD → PrngReg), Pre_InFwRefIdeal m →
    θ_run (Cert.InFwRefIdeal.defs (F := Ideal)) (onTc (τ := Cert.InFwRefIdeal.τ) (Cert.InFwRefIdeal.main (F := Ideal))) ⟨m, fun _ => 0, g⟩ (fun r => (∀ c : Dev Cert.InFwRefIdeal.nD,
      r.2.mem ((c.tc : Thread Cert.InFwRefIdeal.nD Cert.InFwRefIdeal.τ).loc Cert.InFwRefIdeal.main_arg0) = m ((c.tc : Thread Cert.InFwRefIdeal.nD Cert.InFwRefIdeal.τ).loc Cert.InFwRefIdeal.main_arg0)
      ∧ r.2.mem ((c.tc : Thread Cert.InFwRefIdeal.nD Cert.InFwRefIdeal.τ).loc Cert.InFwRefIdeal.main_arg1) = m ((c.tc : Thread Cert.InFwRefIdeal.nD Cert.InFwRefIdeal.τ).loc Cert.InFwRefIdeal.main_arg1))
      ∧ r.2.sem = fun _ => 0)

def quiescent_DownFw [hDownFw : Cert.DownFw.Facts] : Prop :=
  ∀ (m : (ℓ : Loc Cert.DownFw.nD Cert.DownFw.τ Cert.DownFw.sig) → Buf (Elt Bits) ℓ) (g : Dev Cert.DownFw.nD → PrngReg), Pre_DownFw m →
    θ_run (Cert.DownFw.defs (F := Bits)) (onTc (τ := Cert.DownFw.τ) (Cert.DownFw.main (F := Bits))) ⟨m, fun _ => 0, g⟩ (fun r => (∀ c : Dev Cert.DownFw.nD,
      r.2.mem ((c.tc : Thread Cert.DownFw.nD Cert.DownFw.τ).loc Cert.DownFw.main_arg0) = m ((c.tc : Thread Cert.DownFw.nD Cert.DownFw.τ).loc Cert.DownFw.main_arg0)
      ∧ r.2.mem ((c.tc : Thread Cert.DownFw.nD Cert.DownFw.τ).loc Cert.DownFw.main_arg1) = m ((c.tc : Thread Cert.DownFw.nD Cert.DownFw.τ).loc Cert.DownFw.main_arg1))
      ∧ r.2.sem = fun _ => 0)

def quiescent_DownFwIdeal [hDownFwIdeal : Cert.DownFwIdeal.Facts] : Prop :=
  ∀ (m : (ℓ : Loc Cert.DownFwIdeal.nD Cert.DownFwIdeal.τ Cert.DownFwIdeal.sig) → Buf (Elt Ideal) ℓ) (g : Dev Cert.DownFwIdeal.nD → PrngReg), Pre_DownFwIdeal m →
    θ_run (Cert.DownFwIdeal.defs (F := Ideal)) (onTc (τ := Cert.DownFwIdeal.τ) (Cert.DownFwIdeal.main (F := Ideal))) ⟨m, fun _ => 0, g⟩ (fun r => (∀ c : Dev Cert.DownFwIdeal.nD,
      r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
      ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1))
      ∧ r.2.sem = fun _ => 0)

def quiescent_DownFwRefIdeal [hDownFwRefIdeal : Cert.DownFwRefIdeal.Facts] : Prop :=
  ∀ (m : (ℓ : Loc Cert.DownFwRefIdeal.nD Cert.DownFwRefIdeal.τ Cert.DownFwRefIdeal.sig) → Buf (Elt Ideal) ℓ) (g : Dev Cert.DownFwRefIdeal.nD → PrngReg), Pre_DownFwRefIdeal m →
    θ_run (Cert.DownFwRefIdeal.defs (F := Ideal)) (onTc (τ := Cert.DownFwRefIdeal.τ) (Cert.DownFwRefIdeal.main (F := Ideal))) ⟨m, fun _ => 0, g⟩ (fun r => (∀ c : Dev Cert.DownFwRefIdeal.nD,
      r.2.mem ((c.tc : Thread Cert.DownFwRefIdeal.nD Cert.DownFwRefIdeal.τ).loc Cert.DownFwRefIdeal.main_arg0) = m ((c.tc : Thread Cert.DownFwRefIdeal.nD Cert.DownFwRefIdeal.τ).loc Cert.DownFwRefIdeal.main_arg0)
      ∧ r.2.mem ((c.tc : Thread Cert.DownFwRefIdeal.nD Cert.DownFwRefIdeal.τ).loc Cert.DownFwRefIdeal.main_arg1) = m ((c.tc : Thread Cert.DownFwRefIdeal.nD Cert.DownFwRefIdeal.τ).loc Cert.DownFwRefIdeal.main_arg1))
      ∧ r.2.sem = fun _ => 0)

def quiescent_OutFw [hOutFw : Cert.OutFw.Facts] : Prop :=
  ∀ (m : (ℓ : Loc Cert.OutFw.nD Cert.OutFw.τ Cert.OutFw.sig) → Buf (Elt Bits) ℓ) (g : Dev Cert.OutFw.nD → PrngReg), Pre_OutFw m →
    θ_run (Cert.OutFw.defs (F := Bits)) (onTc (τ := Cert.OutFw.τ) (Cert.OutFw.main (F := Bits))) ⟨m, fun _ => 0, g⟩ (fun r => (∀ c : Dev Cert.OutFw.nD,
      r.2.mem ((c.tc : Thread Cert.OutFw.nD Cert.OutFw.τ).loc Cert.OutFw.main_arg0) = m ((c.tc : Thread Cert.OutFw.nD Cert.OutFw.τ).loc Cert.OutFw.main_arg0)
      ∧ r.2.mem ((c.tc : Thread Cert.OutFw.nD Cert.OutFw.τ).loc Cert.OutFw.main_arg1) = m ((c.tc : Thread Cert.OutFw.nD Cert.OutFw.τ).loc Cert.OutFw.main_arg1))
      ∧ r.2.sem = fun _ => 0)

def quiescent_OutFwIdeal [hOutFwIdeal : Cert.OutFwIdeal.Facts] : Prop :=
  ∀ (m : (ℓ : Loc Cert.OutFwIdeal.nD Cert.OutFwIdeal.τ Cert.OutFwIdeal.sig) → Buf (Elt Ideal) ℓ) (g : Dev Cert.OutFwIdeal.nD → PrngReg), Pre_OutFwIdeal m →
    θ_run (Cert.OutFwIdeal.defs (F := Ideal)) (onTc (τ := Cert.OutFwIdeal.τ) (Cert.OutFwIdeal.main (F := Ideal))) ⟨m, fun _ => 0, g⟩ (fun r => (∀ c : Dev Cert.OutFwIdeal.nD,
      r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
      ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1))
      ∧ r.2.sem = fun _ => 0)

def quiescent_OutFwRefIdeal [hOutFwRefIdeal : Cert.OutFwRefIdeal.Facts] : Prop :=
  ∀ (m : (ℓ : Loc Cert.OutFwRefIdeal.nD Cert.OutFwRefIdeal.τ Cert.OutFwRefIdeal.sig) → Buf (Elt Ideal) ℓ) (g : Dev Cert.OutFwRefIdeal.nD → PrngReg), Pre_OutFwRefIdeal m →
    θ_run (Cert.OutFwRefIdeal.defs (F := Ideal)) (onTc (τ := Cert.OutFwRefIdeal.τ) (Cert.OutFwRefIdeal.main (F := Ideal))) ⟨m, fun _ => 0, g⟩ (fun r => (∀ c : Dev Cert.OutFwRefIdeal.nD,
      r.2.mem ((c.tc : Thread Cert.OutFwRefIdeal.nD Cert.OutFwRefIdeal.τ).loc Cert.OutFwRefIdeal.main_arg0) = m ((c.tc : Thread Cert.OutFwRefIdeal.nD Cert.OutFwRefIdeal.τ).loc Cert.OutFwRefIdeal.main_arg0)
      ∧ r.2.mem ((c.tc : Thread Cert.OutFwRefIdeal.nD Cert.OutFwRefIdeal.τ).loc Cert.OutFwRefIdeal.main_arg1) = m ((c.tc : Thread Cert.OutFwRefIdeal.nD Cert.OutFwRefIdeal.τ).loc Cert.OutFwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_BrFw [hBrFw : Cert.BrFw.Facts] : Prop :=
  ∀ (m : (ℓ : Loc Cert.BrFw.nD Cert.BrFw.τ Cert.BrFw.sig) → Buf (Elt Bits) ℓ) (g : Dev Cert.BrFw.nD → PrngReg), Pre_BrFw m →
    θ_run (Cert.BrFw.defs (F := Bits)) (onTc (τ := Cert.BrFw.τ) (Cert.BrFw.main (F := Bits))) ⟨m, fun _ => 0, g⟩ (fun r => (∀ c : Dev Cert.BrFw.nD,
      r.2.mem ((c.tc : Thread Cert.BrFw.nD Cert.BrFw.τ).loc Cert.BrFw.main_arg0) = m ((c.tc : Thread Cert.BrFw.nD Cert.BrFw.τ).loc Cert.BrFw.main_arg0)
      ∧ r.2.mem ((c.tc : Thread Cert.BrFw.nD Cert.BrFw.τ).loc Cert.BrFw.main_arg1) = m ((c.tc : Thread Cert.BrFw.nD Cert.BrFw.τ).loc Cert.BrFw.main_arg1))
      ∧ r.2.sem = fun _ => 0)

def quiescent_BrFwIdeal [hBrFwIdeal : Cert.BrFwIdeal.Facts] : Prop :=
  ∀ (m : (ℓ : Loc Cert.BrFwIdeal.nD Cert.BrFwIdeal.τ Cert.BrFwIdeal.sig) → Buf (Elt Ideal) ℓ) (g : Dev Cert.BrFwIdeal.nD → PrngReg), Pre_BrFwIdeal m →
    θ_run (Cert.BrFwIdeal.defs (F := Ideal)) (onTc (τ := Cert.BrFwIdeal.τ) (Cert.BrFwIdeal.main (F := Ideal))) ⟨m, fun _ => 0, g⟩ (fun r => (∀ c : Dev Cert.BrFwIdeal.nD,
      r.2.mem ((c.tc : Thread Cert.BrFwIdeal.nD Cert.BrFwIdeal.τ).loc Cert.BrFwIdeal.main_arg0) = m ((c.tc : Thread Cert.BrFwIdeal.nD Cert.BrFwIdeal.τ).loc Cert.BrFwIdeal.main_arg0)
      ∧ r.2.mem ((c.tc : Thread Cert.BrFwIdeal.nD Cert.BrFwIdeal.τ).loc Cert.BrFwIdeal.main_arg1) = m ((c.tc : Thread Cert.BrFwIdeal.nD Cert.BrFwIdeal.τ).loc Cert.BrFwIdeal.main_arg1))
      ∧ r.2.sem = fun _ => 0)

def quiescent_BrFwRefIdeal [hBrFwRefIdeal : Cert.BrFwRefIdeal.Facts] : Prop :=
  ∀ (m : (ℓ : Loc Cert.BrFwRefIdeal.nD Cert.BrFwRefIdeal.τ Cert.BrFwRefIdeal.sig) → Buf (Elt Ideal) ℓ) (g : Dev Cert.BrFwRefIdeal.nD → PrngReg), Pre_BrFwRefIdeal m →
    θ_run (Cert.BrFwRefIdeal.defs (F := Ideal)) (onTc (τ := Cert.BrFwRefIdeal.τ) (Cert.BrFwRefIdeal.main (F := Ideal))) ⟨m, fun _ => 0, g⟩ (fun r => (∀ c : Dev Cert.BrFwRefIdeal.nD,
      r.2.mem ((c.tc : Thread Cert.BrFwRefIdeal.nD Cert.BrFwRefIdeal.τ).loc Cert.BrFwRefIdeal.main_arg0) = m ((c.tc : Thread Cert.BrFwRefIdeal.nD Cert.BrFwRefIdeal.τ).loc Cert.BrFwRefIdeal.main_arg0)
      ∧ r.2.mem ((c.tc : Thread Cert.BrFwRefIdeal.nD Cert.BrFwRefIdeal.τ).loc Cert.BrFwRefIdeal.main_arg1) = m ((c.tc : Thread Cert.BrFwRefIdeal.nD Cert.BrFwRefIdeal.τ).loc Cert.BrFwRefIdeal.main_arg1))
      ∧ r.2.sem = fun _ => 0)

def quiescent_BrDx [hBrDx : Cert.BrDx.Facts] : Prop :=
  ∀ (m : (ℓ : Loc Cert.BrDx.nD Cert.BrDx.τ Cert.BrDx.sig) → Buf (Elt Bits) ℓ) (g : Dev Cert.BrDx.nD → PrngReg), Pre_BrDx m →
    θ_run (Cert.BrDx.defs (F := Bits)) (onTc (τ := Cert.BrDx.τ) (Cert.BrDx.main (F := Bits))) ⟨m, fun _ => 0, g⟩ (fun r => (∀ c : Dev Cert.BrDx.nD,
      r.2.mem ((c.tc : Thread Cert.BrDx.nD Cert.BrDx.τ).loc Cert.BrDx.main_arg0) = m ((c.tc : Thread Cert.BrDx.nD Cert.BrDx.τ).loc Cert.BrDx.main_arg0)
      ∧ r.2.mem ((c.tc : Thread Cert.BrDx.nD Cert.BrDx.τ).loc Cert.BrDx.main_arg1) = m ((c.tc : Thread Cert.BrDx.nD Cert.BrDx.τ).loc Cert.BrDx.main_arg1)
      ∧ r.2.mem ((c.tc : Thread Cert.BrDx.nD Cert.BrDx.τ).loc Cert.BrDx.main_arg2) = m ((c.tc : Thread Cert.BrDx.nD Cert.BrDx.τ).loc Cert.BrDx.main_arg2))
      ∧ r.2.sem = fun _ => 0)

def quiescent_BrDxIdeal [hBrDxIdeal : Cert.BrDxIdeal.Facts] : Prop :=
  ∀ (m : (ℓ : Loc Cert.BrDxIdeal.nD Cert.BrDxIdeal.τ Cert.BrDxIdeal.sig) → Buf (Elt Ideal) ℓ) (g : Dev Cert.BrDxIdeal.nD → PrngReg), Pre_BrDxIdeal m →
    θ_run (Cert.BrDxIdeal.defs (F := Ideal)) (onTc (τ := Cert.BrDxIdeal.τ) (Cert.BrDxIdeal.main (F := Ideal))) ⟨m, fun _ => 0, g⟩ (fun r => (∀ c : Dev Cert.BrDxIdeal.nD,
      r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
      ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1)
      ∧ r.2.mem ((c.tc : Thread Cert.BrDxIdeal.nD Cert.BrDxIdeal.τ).loc Cert.BrDxIdeal.main_arg2) = m ((c.tc : Thread Cert.BrDxIdeal.nD Cert.BrDxIdeal.τ).loc Cert.BrDxIdeal.main_arg2))
      ∧ r.2.sem = fun _ => 0)

def quiescent_BrDxRefIdeal [hBrDxRefIdeal : Cert.BrDxRefIdeal.Facts] : Prop :=
  ∀ (m : (ℓ : Loc Cert.BrDxRefIdeal.nD Cert.BrDxRefIdeal.τ Cert.BrDxRefIdeal.sig) → Buf (Elt Ideal) ℓ) (g : Dev Cert.BrDxRefIdeal.nD → PrngReg), Pre_BrDxRefIdeal m →
    θ_run (Cert.BrDxRefIdeal.defs (F := Ideal)) (onTc (τ := Cert.BrDxRefIdeal.τ) (Cert.BrDxRefIdeal.main (F := Ideal))) ⟨m, fun _ => 0, g⟩ (fun r => (∀ c : Dev Cert.BrDxRefIdeal.nD,
      r.2.mem ((c.tc : Thread Cert.BrDxRefIdeal.nD Cert.BrDxRefIdeal.τ).loc Cert.BrDxRefIdeal.main_arg0) = m ((c.tc : Thread Cert.BrDxRefIdeal.nD Cert.BrDxRefIdeal.τ).loc Cert.BrDxRefIdeal.main_arg0)
      ∧ r.2.mem ((c.tc : Thread Cert.BrDxRefIdeal.nD Cert.BrDxRefIdeal.τ).loc Cert.BrDxRefIdeal.main_arg1) = m ((c.tc : Thread Cert.BrDxRefIdeal.nD Cert.BrDxRefIdeal.τ).loc Cert.BrDxRefIdeal.main_arg1)
      ∧ r.2.mem ((c.tc : Thread Cert.BrDxRefIdeal.nD Cert.BrDxRefIdeal.τ).loc Cert.BrDxRefIdeal.main_arg2) = m ((c.tc : Thread Cert.BrDxRefIdeal.nD Cert.BrDxRefIdeal.τ).loc Cert.BrDxRefIdeal.main_arg2))
      ∧ r.2.sem = fun _ => 0)

def quiescent_BrDw [hBrDw : Cert.BrDw.Facts] : Prop :=
  ∀ (m : (ℓ : Loc Cert.BrDw.nD Cert.BrDw.τ Cert.BrDw.sig) → Buf (Elt Bits) ℓ) (g : Dev Cert.BrDw.nD → PrngReg), Pre_BrDw m →
    θ_run (Cert.BrDw.defs (F := Bits)) (onTc (τ := Cert.BrDw.τ) (Cert.BrDw.main (F := Bits))) ⟨m, fun _ => 0, g⟩ (fun r => (∀ c : Dev Cert.BrDw.nD,
      r.2.mem ((c.tc : Thread Cert.BrDw.nD Cert.BrDw.τ).loc Cert.BrDw.main_arg0) = m ((c.tc : Thread Cert.BrDw.nD Cert.BrDw.τ).loc Cert.BrDw.main_arg0)
      ∧ r.2.mem ((c.tc : Thread Cert.BrDw.nD Cert.BrDw.τ).loc Cert.BrDw.main_arg1) = m ((c.tc : Thread Cert.BrDw.nD Cert.BrDw.τ).loc Cert.BrDw.main_arg1)
      ∧ r.2.mem ((c.tc : Thread Cert.BrDw.nD Cert.BrDw.τ).loc Cert.BrDw.main_arg2) = m ((c.tc : Thread Cert.BrDw.nD Cert.BrDw.τ).loc Cert.BrDw.main_arg2))
      ∧ r.2.sem = fun _ => 0)

def quiescent_BrDwIdeal [hBrDwIdeal : Cert.BrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg), Pre_BrDwIdeal m →
    θ_run (Cert.BrDwIdeal.defs (F := Ideal)) (onTc (τ := Cert.BrDwIdeal.τ) (Cert.BrDwIdeal.main (F := Ideal))) ⟨m, fun _ => 0, g⟩ (fun r => (∀ c : Dev Cert.BrDwIdeal.nD,
      r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
      ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1)
      ∧ r.2.mem ((c.tc : Thread Cert.BrDwIdeal.nD Cert.BrDwIdeal.τ).loc Cert.BrDwIdeal.main_arg2) = m ((c.tc : Thread Cert.BrDwIdeal.nD Cert.BrDwIdeal.τ).loc Cert.BrDwIdeal.main_arg2))
      ∧ r.2.sem = fun _ => 0)

def quiescent_BrDwRefIdeal [hBrDwRefIdeal : Cert.BrDwRefIdeal.Facts] : Prop :=
  ∀ (m : (ℓ : Loc Cert.BrDwRefIdeal.nD Cert.BrDwRefIdeal.τ Cert.BrDwRefIdeal.sig) → Buf (Elt Ideal) ℓ) (g : Dev Cert.BrDwRefIdeal.nD → PrngReg), Pre_BrDwRefIdeal m →
    θ_run (Cert.BrDwRefIdeal.defs (F := Ideal)) (onTc (τ := Cert.BrDwRefIdeal.τ) (Cert.BrDwRefIdeal.main (F := Ideal))) ⟨m, fun _ => 0, g⟩ (fun r => (∀ c : Dev Cert.BrDwRefIdeal.nD,
      r.2.mem ((c.tc : Thread Cert.BrDwRefIdeal.nD Cert.BrDwRefIdeal.τ).loc Cert.BrDwRefIdeal.main_arg0) = m ((c.tc : Thread Cert.BrDwRefIdeal.nD Cert.BrDwRefIdeal.τ).loc Cert.BrDwRefIdeal.main_arg0)
      ∧ r.2.mem ((c.tc : Thread Cert.BrDwRefIdeal.nD Cert.BrDwRefIdeal.τ).loc Cert.BrDwRefIdeal.main_arg1) = m ((c.tc : Thread Cert.BrDwRefIdeal.nD Cert.BrDwRefIdeal.τ).loc Cert.BrDwRefIdeal.main_arg1)
      ∧ r.2.mem ((c.tc : Thread Cert.BrDwRefIdeal.nD Cert.BrDwRefIdeal.τ).loc Cert.BrDwRefIdeal.main_arg2) = m ((c.tc : Thread Cert.BrDwRefIdeal.nD Cert.BrDwRefIdeal.τ).loc Cert.BrDwRefIdeal.main_arg2))
      ∧ r.2.sem = fun _ => 0)

def quiescent_UpFw [hUpFw : Cert.UpFw.Facts] : Prop :=
  ∀ (m : (ℓ : Loc Cert.UpFw.nD Cert.UpFw.τ Cert.UpFw.sig) → Buf (Elt Bits) ℓ) (g : Dev Cert.UpFw.nD → PrngReg), Pre_UpFw m →
    θ_run (Cert.UpFw.defs (F := Bits)) (onTc (τ := Cert.UpFw.τ) (Cert.UpFw.main (F := Bits))) ⟨m, fun _ => 0, g⟩ (fun r => (∀ c : Dev Cert.UpFw.nD,
      r.2.mem ((c.tc : Thread Cert.UpFw.nD Cert.UpFw.τ).loc Cert.UpFw.main_arg0) = m ((c.tc : Thread Cert.UpFw.nD Cert.UpFw.τ).loc Cert.UpFw.main_arg0)
      ∧ r.2.mem ((c.tc : Thread Cert.UpFw.nD Cert.UpFw.τ).loc Cert.UpFw.main_arg1) = m ((c.tc : Thread Cert.UpFw.nD Cert.UpFw.τ).loc Cert.UpFw.main_arg1))
      ∧ r.2.sem = fun _ => 0)

def quiescent_UpFwIdeal [hUpFwIdeal : Cert.UpFwIdeal.Facts] : Prop :=
  ∀ (m : (ℓ : Loc Cert.UpFwIdeal.nD Cert.UpFwIdeal.τ Cert.UpFwIdeal.sig) → Buf (Elt Ideal) ℓ) (g : Dev Cert.UpFwIdeal.nD → PrngReg), Pre_UpFwIdeal m →
    θ_run (Cert.UpFwIdeal.defs (F := Ideal)) (onTc (τ := Cert.UpFwIdeal.τ) (Cert.UpFwIdeal.main (F := Ideal))) ⟨m, fun _ => 0, g⟩ (fun r => (∀ c : Dev Cert.UpFwIdeal.nD,
      r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
      ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ r.2.sem = fun _ => 0)

def quiescent_UpFwRefIdeal [hUpFwRefIdeal : Cert.UpFwRefIdeal.Facts] : Prop :=
  ∀ (m : (ℓ : Loc Cert.UpFwRefIdeal.nD Cert.UpFwRefIdeal.τ Cert.UpFwRefIdeal.sig) → Buf (Elt Ideal) ℓ) (g : Dev Cert.UpFwRefIdeal.nD → PrngReg), Pre_UpFwRefIdeal m →
    θ_run (Cert.UpFwRefIdeal.defs (F := Ideal)) (onTc (τ := Cert.UpFwRefIdeal.τ) (Cert.UpFwRefIdeal.main (F := Ideal))) ⟨m, fun _ => 0, g⟩ (fun r => (∀ c : Dev Cert.UpFwRefIdeal.nD,
      r.2.mem ((c.tc : Thread Cert.UpFwRefIdeal.nD Cert.UpFwRefIdeal.τ).loc Cert.UpFwRefIdeal.main_arg0) = m ((c.tc : Thread Cert.UpFwRefIdeal.nD Cert.UpFwRefIdeal.τ).loc Cert.UpFwRefIdeal.main_arg0)
      ∧ r.2.mem ((c.tc : Thread Cert.UpFwRefIdeal.nD Cert.UpFwRefIdeal.τ).loc Cert.UpFwRefIdeal.main_arg1) = m ((c.tc : Thread Cert.UpFwRefIdeal.nD Cert.UpFwRefIdeal.τ).loc Cert.UpFwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_GuFw [hGuFw : Cert.GuFw.Facts] : Prop :=
  ∀ (m : (ℓ : Loc Cert.GuFw.nD Cert.GuFw.τ Cert.GuFw.sig) → Buf (Elt Bits) ℓ) (g : Dev Cert.GuFw.nD → PrngReg), Pre_GuFw m →
    θ_run (Cert.GuFw.defs (F := Bits)) (onTc (τ := Cert.GuFw.τ) (Cert.GuFw.main (F := Bits))) ⟨m, fun _ => 0, g⟩ (fun r => (∀ c : Dev Cert.GuFw.nD,
      r.2.mem ((c.tc : Thread Cert.GuFw.nD Cert.GuFw.τ).loc Cert.GuFw.main_arg0) = m ((c.tc : Thread Cert.GuFw.nD Cert.GuFw.τ).loc Cert.GuFw.main_arg0)
      ∧ r.2.mem ((c.tc : Thread Cert.GuFw.nD Cert.GuFw.τ).loc Cert.GuFw.main_arg1) = m ((c.tc : Thread Cert.GuFw.nD Cert.GuFw.τ).loc Cert.GuFw.main_arg1))
      ∧ r.2.sem = fun _ => 0)

def quiescent_GuFwIdeal [hGuFwIdeal : Cert.GuFwIdeal.Facts] : Prop :=
  ∀ (m : (ℓ : Loc Cert.GuFwIdeal.nD Cert.GuFwIdeal.τ Cert.GuFwIdeal.sig) → Buf (Elt Ideal) ℓ) (g : Dev Cert.GuFwIdeal.nD → PrngReg), Pre_GuFwIdeal m →
    θ_run (Cert.GuFwIdeal.defs (F := Ideal)) (onTc (τ := Cert.GuFwIdeal.τ) (Cert.GuFwIdeal.main (F := Ideal))) ⟨m, fun _ => 0, g⟩ (fun r => (∀ c : Dev Cert.GuFwIdeal.nD,
      r.2.mem ((c.tc : Thread Cert.GuFwIdeal.nD Cert.GuFwIdeal.τ).loc Cert.GuFwIdeal.main_arg0) = m ((c.tc : Thread Cert.GuFwIdeal.nD Cert.GuFwIdeal.τ).loc Cert.GuFwIdeal.main_arg0)
      ∧ r.2.mem ((c.tc : Thread Cert.GuFwIdeal.nD Cert.GuFwIdeal.τ).loc Cert.GuFwIdeal.main_arg1) = m ((c.tc : Thread Cert.GuFwIdeal.nD Cert.GuFwIdeal.τ).loc Cert.GuFwIdeal.main_arg1))
      ∧ r.2.sem = fun _ => 0)

def quiescent_GuFwRefIdeal [hGuFwRefIdeal : Cert.GuFwRefIdeal.Facts] : Prop :=
  ∀ (m : (ℓ : Loc Cert.GuFwRefIdeal.nD Cert.GuFwRefIdeal.τ Cert.GuFwRefIdeal.sig) → Buf (Elt Ideal) ℓ) (g : Dev Cert.GuFwRefIdeal.nD → PrngReg), Pre_GuFwRefIdeal m →
    θ_run (Cert.GuFwRefIdeal.defs (F := Ideal)) (onTc (τ := Cert.GuFwRefIdeal.τ) (Cert.GuFwRefIdeal.main (F := Ideal))) ⟨m, fun _ => 0, g⟩ (fun r => (∀ c : Dev Cert.GuFwRefIdeal.nD,
      r.2.mem ((c.tc : Thread Cert.GuFwRefIdeal.nD Cert.GuFwRefIdeal.τ).loc Cert.GuFwRefIdeal.main_arg0) = m ((c.tc : Thread Cert.GuFwRefIdeal.nD Cert.GuFwRefIdeal.τ).loc Cert.GuFwRefIdeal.main_arg0)
      ∧ r.2.mem ((c.tc : Thread Cert.GuFwRefIdeal.nD Cert.GuFwRefIdeal.τ).loc Cert.GuFwRefIdeal.main_arg1) = m ((c.tc : Thread Cert.GuFwRefIdeal.nD Cert.GuFwRefIdeal.τ).loc Cert.GuFwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxIdeal_pre_finite_mlp [hDownDxIdeal : Cert.DownDxIdeal.Facts] [hPre_finite_mlp : Cert.Pre_finite_mlp.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_finite_mlp m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDxRefIdeal_pre_finite_mlp [hDownDxRefIdeal : Cert.DownDxRefIdeal.Facts] [hPre_finite_mlp : Cert.Pre_finite_mlp.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal_finite_mlp m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_InTop [hInTop : Cert.InTop.Facts] : Prop :=
  ∀ (m : (ℓ : Loc Cert.InTop.nD Cert.InTop.τ Cert.InTop.sig) → Buf (Elt Bits) ℓ) (g : Dev Cert.InTop.nD → PrngReg), Pre_InTop m →
    θ_run (Cert.InTop.defs (F := Bits)) (onTc (τ := Cert.InTop.τ) (Cert.InTop.main (F := Bits))) ⟨m, fun _ => 0, g⟩ (fun r => (∀ c : Dev Cert.InTop.nD,
      r.2.mem ((c.tc : Thread Cert.InTop.nD Cert.InTop.τ).loc Cert.InTop.main_arg0) = m ((c.tc : Thread Cert.InTop.nD Cert.InTop.τ).loc Cert.InTop.main_arg0)
      ∧ r.2.mem ((c.tc : Thread Cert.InTop.nD Cert.InTop.τ).loc Cert.InTop.main_arg1) = m ((c.tc : Thread Cert.InTop.nD Cert.InTop.τ).loc Cert.InTop.main_arg1))
      ∧ r.2.sem = fun _ => 0)

def quiescent_InTopIdeal [hInTopIdeal : Cert.InTopIdeal.Facts] : Prop :=
  ∀ (m : (ℓ : Loc Cert.InTopIdeal.nD Cert.InTopIdeal.τ Cert.InTopIdeal.sig) → Buf (Elt Ideal) ℓ) (g : Dev Cert.InTopIdeal.nD → PrngReg), Pre_InTopIdeal m →
    θ_run (Cert.InTopIdeal.defs (F := Ideal)) (onTc (τ := Cert.InTopIdeal.τ) (Cert.InTopIdeal.main (F := Ideal))) ⟨m, fun _ => 0, g⟩ (fun r => (∀ c : Dev Cert.InTopIdeal.nD,
      r.2.mem ((c.tc : Thread Cert.InTopIdeal.nD Cert.InTopIdeal.τ).loc Cert.InTopIdeal.main_arg0) = m ((c.tc : Thread Cert.InTopIdeal.nD Cert.InTopIdeal.τ).loc Cert.InTopIdeal.main_arg0)
      ∧ r.2.mem ((c.tc : Thread Cert.InTopIdeal.nD Cert.InTopIdeal.τ).loc Cert.InTopIdeal.main_arg1) = m ((c.tc : Thread Cert.InTopIdeal.nD Cert.InTopIdeal.τ).loc Cert.InTopIdeal.main_arg1))
      ∧ r.2.sem = fun _ => 0)

def quiescent_InTopRefIdeal [hInTopRefIdeal : Cert.InTopRefIdeal.Facts] : Prop :=
  ∀ (m : (ℓ : Loc Cert.InTopRefIdeal.nD Cert.InTopRefIdeal.τ Cert.InTopRefIdeal.sig) → Buf (Elt Ideal) ℓ) (g : Dev Cert.InTopRefIdeal.nD → PrngReg), Pre_InTopRefIdeal m →
    θ_run (Cert.InTopRefIdeal.defs (F := Ideal)) (onTc (τ := Cert.InTopRefIdeal.τ) (Cert.InTopRefIdeal.main (F := Ideal))) ⟨m, fun _ => 0, g⟩ (fun r => (∀ c : Dev Cert.InTopRefIdeal.nD,
      r.2.mem ((c.tc : Thread Cert.InTopRefIdeal.nD Cert.InTopRefIdeal.τ).loc Cert.InTopRefIdeal.main_arg0) = m ((c.tc : Thread Cert.InTopRefIdeal.nD Cert.InTopRefIdeal.τ).loc Cert.InTopRefIdeal.main_arg0)
      ∧ r.2.mem ((c.tc : Thread Cert.InTopRefIdeal.nD Cert.InTopRefIdeal.τ).loc Cert.InTopRefIdeal.main_arg1) = m ((c.tc : Thread Cert.InTopRefIdeal.nD Cert.InTopRefIdeal.τ).loc Cert.InTopRefIdeal.main_arg1))
      ∧ r.2.sem = fun _ => 0)

def quiescent_InBot [hInBot : Cert.InBot.Facts] : Prop :=
  ∀ (m : (ℓ : Loc Cert.InBot.nD Cert.InBot.τ Cert.InBot.sig) → Buf (Elt Bits) ℓ) (g : Dev Cert.InBot.nD → PrngReg), Pre_InBot m →
    θ_run (Cert.InBot.defs (F := Bits)) (onTc (τ := Cert.InBot.τ) (Cert.InBot.main (F := Bits))) ⟨m, fun _ => 0, g⟩ (fun r => (∀ c : Dev Cert.InBot.nD,
      r.2.mem ((c.tc : Thread Cert.InBot.nD Cert.InBot.τ).loc Cert.InBot.main_arg0) = m ((c.tc : Thread Cert.InBot.nD Cert.InBot.τ).loc Cert.InBot.main_arg0)
      ∧ r.2.mem ((c.tc : Thread Cert.InBot.nD Cert.InBot.τ).loc Cert.InBot.main_arg1) = m ((c.tc : Thread Cert.InBot.nD Cert.InBot.τ).loc Cert.InBot.main_arg1)
      ∧ r.2.mem ((c.tc : Thread Cert.InBot.nD Cert.InBot.τ).loc Cert.InBot.main_arg2) = m ((c.tc : Thread Cert.InBot.nD Cert.InBot.τ).loc Cert.InBot.main_arg2))
      ∧ r.2.sem = fun _ => 0)

def quiescent_InBotIdeal [hInBotIdeal : Cert.InBotIdeal.Facts] : Prop :=
  ∀ (m : (ℓ : Loc Cert.InBotIdeal.nD Cert.InBotIdeal.τ Cert.InBotIdeal.sig) → Buf (Elt Ideal) ℓ) (g : Dev Cert.InBotIdeal.nD → PrngReg), Pre_InBotIdeal m →
    θ_run (Cert.InBotIdeal.defs (F := Ideal)) (onTc (τ := Cert.InBotIdeal.τ) (Cert.InBotIdeal.main (F := Ideal))) ⟨m, fun _ => 0, g⟩ (fun r => (∀ c : Dev Cert.InBotIdeal.nD,
      r.2.mem ((c.tc : Thread Cert.InBotIdeal.nD Cert.InBotIdeal.τ).loc Cert.InBotIdeal.main_arg0) = m ((c.tc : Thread Cert.InBotIdeal.nD Cert.InBotIdeal.τ).loc Cert.InBotIdeal.main_arg0)
      ∧ r.2.mem ((c.tc : Thread Cert.InBotIdeal.nD Cert.InBotIdeal.τ).loc Cert.InBotIdeal.main_arg1) = m ((c.tc : Thread Cert.InBotIdeal.nD Cert.InBotIdeal.τ).loc Cert.InBotIdeal.main_arg1)
      ∧ r.2.mem ((c.tc : Thread Cert.InBotIdeal.nD Cert.InBotIdeal.τ).loc Cert.InBotIdeal.main_arg2) = m ((c.tc : Thread Cert.InBotIdeal.nD Cert.InBotIdeal.τ).loc Cert.InBotIdeal.main_arg2))
      ∧ r.2.sem = fun _ => 0)

def quiescent_InBotRefIdeal [hInBotRefIdeal : Cert.InBotRefIdeal.Facts] : Prop :=
  ∀ (m : (ℓ : Loc Cert.InBotRefIdeal.nD Cert.InBotRefIdeal.τ Cert.InBotRefIdeal.sig) → Buf (Elt Ideal) ℓ) (g : Dev Cert.InBotRefIdeal.nD → PrngReg), Pre_InBotRefIdeal m →
    θ_run (Cert.InBotRefIdeal.defs (F := Ideal)) (onTc (τ := Cert.InBotRefIdeal.τ) (Cert.InBotRefIdeal.main (F := Ideal))) ⟨m, fun _ => 0, g⟩ (fun r => (∀ c : Dev Cert.InBotRefIdeal.nD,
      r.2.mem ((c.tc : Thread Cert.InBotRefIdeal.nD Cert.InBotRefIdeal.τ).loc Cert.InBotRefIdeal.main_arg0) = m ((c.tc : Thread Cert.InBotRefIdeal.nD Cert.InBotRefIdeal.τ).loc Cert.InBotRefIdeal.main_arg0)
      ∧ r.2.mem ((c.tc : Thread Cert.InBotRefIdeal.nD Cert.InBotRefIdeal.τ).loc Cert.InBotRefIdeal.main_arg1) = m ((c.tc : Thread Cert.InBotRefIdeal.nD Cert.InBotRefIdeal.τ).loc Cert.InBotRefIdeal.main_arg1)
      ∧ r.2.mem ((c.tc : Thread Cert.InBotRefIdeal.nD Cert.InBotRefIdeal.τ).loc Cert.InBotRefIdeal.main_arg2) = m ((c.tc : Thread Cert.InBotRefIdeal.nD Cert.InBotRefIdeal.τ).loc Cert.InBotRefIdeal.main_arg2))
      ∧ r.2.sem = fun _ => 0)

def quiescent_AttFw [hAttFw : Cert.AttFw.Facts] : Prop :=
  ∀ (m : (ℓ : Loc Cert.AttFw.nD Cert.AttFw.τ Cert.AttFw.sig) → Buf (Elt Bits) ℓ) (g : Dev Cert.AttFw.nD → PrngReg), Pre_AttFw m →
    θ_run (Cert.AttFw.defs (F := Bits)) (onTc (τ := Cert.AttFw.τ) (Cert.AttFw.main (F := Bits))) ⟨m, fun _ => 0, g⟩ (fun r => (∀ c : Dev Cert.AttFw.nD,
      r.2.mem ((c.tc : Thread Cert.AttFw.nD Cert.AttFw.τ).loc Cert.AttFw.main_arg0) = m ((c.tc : Thread Cert.AttFw.nD Cert.AttFw.τ).loc Cert.AttFw.main_arg0)
      ∧ r.2.mem ((c.tc : Thread Cert.AttFw.nD Cert.AttFw.τ).loc Cert.AttFw.main_arg1) = m ((c.tc : Thread Cert.AttFw.nD Cert.AttFw.τ).loc Cert.AttFw.main_arg1)
      ∧ r.2.mem ((c.tc : Thread Cert.AttFw.nD Cert.AttFw.τ).loc Cert.AttFw.main_arg2) = m ((c.tc : Thread Cert.AttFw.nD Cert.AttFw.τ).loc Cert.AttFw.main_arg2))
      ∧ r.2.sem = fun _ => 0)

def quiescent_AttFwIdeal [hAttFwIdeal : Cert.AttFwIdeal.Facts] : Prop :=
  ∀ (m : (ℓ : Loc Cert.AttFwIdeal.nD Cert.AttFwIdeal.τ Cert.AttFwIdeal.sig) → Buf (Elt Ideal) ℓ) (g : Dev Cert.AttFwIdeal.nD → PrngReg), Pre_AttFwIdeal m →
    θ_run (Cert.AttFwIdeal.defs (F := Ideal)) (onTc (τ := Cert.AttFwIdeal.τ) (Cert.AttFwIdeal.main (F := Ideal))) ⟨m, fun _ => 0, g⟩ (fun r => (∀ c : Dev Cert.AttFwIdeal.nD,
      r.2.mem ((c.tc : Thread Cert.AttFwIdeal.nD Cert.AttFwIdeal.τ).loc Cert.AttFwIdeal.main_arg0) = m ((c.tc : Thread Cert.AttFwIdeal.nD Cert.AttFwIdeal.τ).loc Cert.AttFwIdeal.main_arg0)
      ∧ r.2.mem ((c.tc : Thread Cert.AttFwIdeal.nD Cert.AttFwIdeal.τ).loc Cert.AttFwIdeal.main_arg1) = m ((c.tc : Thread Cert.AttFwIdeal.nD Cert.AttFwIdeal.τ).loc Cert.AttFwIdeal.main_arg1)
      ∧ r.2.mem ((c.tc : Thread Cert.AttFwIdeal.nD Cert.AttFwIdeal.τ).loc Cert.AttFwIdeal.main_arg2) = m ((c.tc : Thread Cert.AttFwIdeal.nD Cert.AttFwIdeal.τ).loc Cert.AttFwIdeal.main_arg2))
      ∧ r.2.sem = fun _ => 0)

def quiescent_AttFwIdeal_pre_finite_qkv [hAttFwIdeal : Cert.AttFwIdeal.Facts] [hPre_finite_qkv : Cert.Pre_finite_qkv.Facts] : Prop :=
  ∀ (m : (ℓ : Loc Cert.AttFwIdeal.nD Cert.AttFwIdeal.τ Cert.AttFwIdeal.sig) → Buf (Elt Ideal) ℓ) (g : Dev Cert.AttFwIdeal.nD → PrngReg), Pre_AttFwIdeal_finite_qkv m →
    θ_run (Cert.AttFwIdeal.defs (F := Ideal)) (onTc (τ := Cert.AttFwIdeal.τ) (Cert.AttFwIdeal.main (F := Ideal))) ⟨m, fun _ => 0, g⟩ (fun r => (∀ c : Dev Cert.AttFwIdeal.nD,
      r.2.mem ((c.tc : Thread Cert.AttFwIdeal.nD Cert.AttFwIdeal.τ).loc Cert.AttFwIdeal.main_arg0) = m ((c.tc : Thread Cert.AttFwIdeal.nD Cert.AttFwIdeal.τ).loc Cert.AttFwIdeal.main_arg0)
      ∧ r.2.mem ((c.tc : Thread Cert.AttFwIdeal.nD Cert.AttFwIdeal.τ).loc Cert.AttFwIdeal.main_arg1) = m ((c.tc : Thread Cert.AttFwIdeal.nD Cert.AttFwIdeal.τ).loc Cert.AttFwIdeal.main_arg1)
      ∧ r.2.mem ((c.tc : Thread Cert.AttFwIdeal.nD Cert.AttFwIdeal.τ).loc Cert.AttFwIdeal.main_arg2) = m ((c.tc : Thread Cert.AttFwIdeal.nD Cert.AttFwIdeal.τ).loc Cert.AttFwIdeal.main_arg2))
      ∧ r.2.sem = fun _ => 0)

def quiescent_AttFwRefIdeal [hAttFwRefIdeal : Cert.AttFwRefIdeal.Facts] : Prop :=
  ∀ (m : (ℓ : Loc Cert.AttFwRefIdeal.nD Cert.AttFwRefIdeal.τ Cert.AttFwRefIdeal.sig) → Buf (Elt Ideal) ℓ) (g : Dev Cert.AttFwRefIdeal.nD → PrngReg), Pre_AttFwRefIdeal m →
    θ_run (Cert.AttFwRefIdeal.defs (F := Ideal)) (onTc (τ := Cert.AttFwRefIdeal.τ) (Cert.AttFwRefIdeal.main (F := Ideal))) ⟨m, fun _ => 0, g⟩ (fun r => (∀ c : Dev Cert.AttFwRefIdeal.nD,
      r.2.mem ((c.tc : Thread Cert.AttFwRefIdeal.nD Cert.AttFwRefIdeal.τ).loc Cert.AttFwRefIdeal.main_arg0) = m ((c.tc : Thread Cert.AttFwRefIdeal.nD Cert.AttFwRefIdeal.τ).loc Cert.AttFwRefIdeal.main_arg0)
      ∧ r.2.mem ((c.tc : Thread Cert.AttFwRefIdeal.nD Cert.AttFwRefIdeal.τ).loc Cert.AttFwRefIdeal.main_arg1) = m ((c.tc : Thread Cert.AttFwRefIdeal.nD Cert.AttFwRefIdeal.τ).loc Cert.AttFwRefIdeal.main_arg1)
      ∧ r.2.mem ((c.tc : Thread Cert.AttFwRefIdeal.nD Cert.AttFwRefIdeal.τ).loc Cert.AttFwRefIdeal.main_arg2) = m ((c.tc : Thread Cert.AttFwRefIdeal.nD Cert.AttFwRefIdeal.τ).loc Cert.AttFwRefIdeal.main_arg2))
      ∧ r.2.sem = fun _ => 0)

def quiescent_AttFwRefIdeal_pre_finite_qkv [hAttFwRefIdeal : Cert.AttFwRefIdeal.Facts] [hPre_finite_qkv : Cert.Pre_finite_qkv.Facts] : Prop :=
  ∀ (m : (ℓ : Loc Cert.AttFwRefIdeal.nD Cert.AttFwRefIdeal.τ Cert.AttFwRefIdeal.sig) → Buf (Elt Ideal) ℓ) (g : Dev Cert.AttFwRefIdeal.nD → PrngReg), Pre_AttFwRefIdeal_finite_qkv m →
    θ_run (Cert.AttFwRefIdeal.defs (F := Ideal)) (onTc (τ := Cert.AttFwRefIdeal.τ) (Cert.AttFwRefIdeal.main (F := Ideal))) ⟨m, fun _ => 0, g⟩ (fun r => (∀ c : Dev Cert.AttFwRefIdeal.nD,
      r.2.mem ((c.tc : Thread Cert.AttFwRefIdeal.nD Cert.AttFwRefIdeal.τ).loc Cert.AttFwRefIdeal.main_arg0) = m ((c.tc : Thread Cert.AttFwRefIdeal.nD Cert.AttFwRefIdeal.τ).loc Cert.AttFwRefIdeal.main_arg0)
      ∧ r.2.mem ((c.tc : Thread Cert.AttFwRefIdeal.nD Cert.AttFwRefIdeal.τ).loc Cert.AttFwRefIdeal.main_arg1) = m ((c.tc : Thread Cert.AttFwRefIdeal.nD Cert.AttFwRefIdeal.τ).loc Cert.AttFwRefIdeal.main_arg1)
      ∧ r.2.mem ((c.tc : Thread Cert.AttFwRefIdeal.nD Cert.AttFwRefIdeal.τ).loc Cert.AttFwRefIdeal.main_arg2) = m ((c.tc : Thread Cert.AttFwRefIdeal.nD Cert.AttFwRefIdeal.τ).loc Cert.AttFwRefIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3DD53B95#32 (((Real.log 2)⁻¹ * (Real.sqrt 192)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GuDw_GuDwIdeal : Prop :=
  True

def algebraic_GuDwIdeal_GuDwRefIdeal [hGuDwIdeal : Cert.GuDwIdeal.Facts] [hGuDwRefIdeal : Cert.GuDwRefIdeal.Facts] : Prop :=
  ∀ (m : (ℓ : Loc Cert.GuDwIdeal.nD Cert.GuDwIdeal.τ Cert.GuDwIdeal.sig) → Buf (Elt Ideal) ℓ) (g : Dev Cert.GuDwIdeal.nD → PrngReg)
    (m' : (ℓ : Loc Cert.GuDwRefIdeal.nD Cert.GuDwRefIdeal.τ Cert.GuDwRefIdeal.sig) → Buf (Elt Ideal) ℓ) (g' : Dev Cert.GuDwRefIdeal.nD → PrngReg), Pre_GuDwIdeal m →
    (∀ c : Dev Cert.GuDwIdeal.nD,
      m' ((c.tc : Thread Cert.GuDwRefIdeal.nD Cert.GuDwRefIdeal.τ).loc Cert.GuDwRefIdeal.main_arg0) = m ((c.tc : Thread Cert.GuDwIdeal.nD Cert.GuDwIdeal.τ).loc Cert.GuDwIdeal.main_arg0)
      ∧ m' ((c.tc : Thread Cert.GuDwRefIdeal.nD Cert.GuDwRefIdeal.τ).loc Cert.GuDwRefIdeal.main_arg1) = m ((c.tc : Thread Cert.GuDwIdeal.nD Cert.GuDwIdeal.τ).loc Cert.GuDwIdeal.main_arg1)
      ∧ m' ((c.tc : Thread Cert.GuDwRefIdeal.nD Cert.GuDwRefIdeal.τ).loc Cert.GuDwRefIdeal.main_arg2) = m ((c.tc : Thread Cert.GuDwIdeal.nD Cert.GuDwIdeal.τ).loc Cert.GuDwIdeal.main_arg2)) →
    ∃ (v0 : (c : Dev Cert.GuDwIdeal.nD) → Buf (Elt Ideal) ((c.tc : Thread Cert.GuDwIdeal.nD Cert.GuDwIdeal.τ).loc Cert.GuDwIdeal.main_v0)),
      θ_run (Cert.GuDwIdeal.defs (F := Ideal)) (onTc (τ := Cert.GuDwIdeal.τ) (Cert.GuDwIdeal.main (F := Ideal))) ⟨m, fun _ => 0, g⟩ (fun r => ∀ c : Dev Cert.GuDwIdeal.nD,
          r.2.mem ((c.tc : Thread Cert.GuDwIdeal.nD Cert.GuDwIdeal.τ).loc Cert.GuDwIdeal.main_v0) = v0 c
          ∧ r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
          ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1)
          ∧ r.2.mem ((c.tc : Thread Cert.GuDwIdeal.nD Cert.GuDwIdeal.τ).loc Cert.GuDwIdeal.main_arg2) = m ((c.tc : Thread Cert.GuDwIdeal.nD Cert.GuDwIdeal.τ).loc Cert.GuDwIdeal.main_arg2))
      ∧ θ_run (Cert.GuDwRefIdeal.defs (F := Ideal)) (onTc (τ := Cert.GuDwRefIdeal.τ) (Cert.GuDwRefIdeal.main (F := Ideal))) ⟨m', fun _ => 0, g'⟩ (fun r => ∀ c : Dev Cert.GuDwRefIdeal.nD,
          r.2.mem ((c.tc : Thread Cert.GuDwRefIdeal.nD Cert.GuDwRefIdeal.τ).loc Cert.GuDwRefIdeal.main_v2) = v0 c
          ∧ r.2.mem ((c.tc : Thread Cert.GuDwRefIdeal.nD Cert.GuDwRefIdeal.τ).loc Cert.GuDwRefIdeal.main_arg0) = m' ((c.tc : Thread Cert.GuDwRefIdeal.nD Cert.GuDwRefIdeal.τ).loc Cert.GuDwRefIdeal.main_arg0)
          ∧ r.2.mem ((c.tc : Thread Cert.GuDwRefIdeal.nD Cert.GuDwRefIdeal.τ).loc Cert.GuDwRefIdeal.main_arg1) = m' ((c.tc : Thread Cert.GuDwRefIdeal.nD Cert.GuDwRefIdeal.τ).loc Cert.GuDwRefIdeal.main_arg1)
          ∧ r.2.mem ((c.tc : Thread Cert.GuDwRefIdeal.nD Cert.GuDwRefIdeal.τ).loc Cert.GuDwRefIdeal.main_arg2) = m' ((c.tc : Thread Cert.GuDwRefIdeal.nD Cert.GuDwRefIdeal.τ).loc Cert.GuDwRefIdeal.main_arg2))

def preserves_GuDx_GuDxIdeal : Prop :=
  True

def algebraic_GuDxIdeal_GuDxRefIdeal [hGuDxIdeal : Cert.GuDxIdeal.Facts] [hGuDxRefIdeal : Cert.GuDxRefIdeal.Facts] : Prop :=
  ∀ (m : (ℓ : Loc Cert.GuDxIdeal.nD Cert.GuDxIdeal.τ Cert.GuDxIdeal.sig) → Buf (Elt Ideal) ℓ) (g : Dev Cert.GuDxIdeal.nD → PrngReg)
    (m' : (ℓ : Loc Cert.GuDxRefIdeal.nD Cert.GuDxRefIdeal.τ Cert.GuDxRefIdeal.sig) → Buf (Elt Ideal) ℓ) (g' : Dev Cert.GuDxRefIdeal.nD → PrngReg), Pre_GuDxIdeal m →
    (∀ c : Dev Cert.GuDxIdeal.nD,
      m' ((c.tc : Thread Cert.GuDxRefIdeal.nD Cert.GuDxRefIdeal.τ).loc Cert.GuDxRefIdeal.main_arg0) = m ((c.tc : Thread Cert.GuDxIdeal.nD Cert.GuDxIdeal.τ).loc Cert.GuDxIdeal.main_arg0)
      ∧ m' ((c.tc : Thread Cert.GuDxRefIdeal.nD Cert.GuDxRefIdeal.τ).loc Cert.GuDxRefIdeal.main_arg1) = m ((c.tc : Thread Cert.GuDxIdeal.nD Cert.GuDxIdeal.τ).loc Cert.GuDxIdeal.main_arg1)
      ∧ m' ((c.tc : Thread Cert.GuDxRefIdeal.nD Cert.GuDxRefIdeal.τ).loc Cert.GuDxRefIdeal.main_arg2) = m ((c.tc : Thread Cert.GuDxIdeal.nD Cert.GuDxIdeal.τ).loc Cert.GuDxIdeal.main_arg2)) →
    ∃ (v0 : (c : Dev Cert.GuDxIdeal.nD) → Buf (Elt Ideal) ((c.tc : Thread Cert.GuDxIdeal.nD Cert.GuDxIdeal.τ).loc Cert.GuDxIdeal.main_v1)),
      θ_run (Cert.GuDxIdeal.defs (F := Ideal)) (onTc (τ := Cert.GuDxIdeal.τ) (Cert.GuDxIdeal.main (F := Ideal))) ⟨m, fun _ => 0, g⟩ (fun r => ∀ c : Dev Cert.GuDxIdeal.nD,
          r.2.mem ((c.tc : Thread Cert.GuDxIdeal.nD Cert.GuDxIdeal.τ).loc Cert.GuDxIdeal.main_v1) = v0 c
          ∧ r.2.mem ((c.tc : Thread Cert.GuDxIdeal.nD Cert.GuDxIdeal.τ).loc Cert.GuDxIdeal.main_arg0) = m ((c.tc : Thread Cert.GuDxIdeal.nD Cert.GuDxIdeal.τ).loc Cert.GuDxIdeal.main_arg0)
          ∧ r.2.mem ((c.tc : Thread Cert.GuDxIdeal.nD Cert.GuDxIdeal.τ).loc Cert.GuDxIdeal.main_arg1) = m ((c.tc : Thread Cert.GuDxIdeal.nD Cert.GuDxIdeal.τ).loc Cert.GuDxIdeal.main_arg1)
          ∧ r.2.mem ((c.tc : Thread Cert.GuDxIdeal.nD Cert.GuDxIdeal.τ).loc Cert.GuDxIdeal.main_arg2) = m ((c.tc : Thread Cert.GuDxIdeal.nD Cert.GuDxIdeal.τ).loc Cert.GuDxIdeal.main_arg2))
      ∧ θ_run (Cert.GuDxRefIdeal.defs (F := Ideal)) (onTc (τ := Cert.GuDxRefIdeal.τ) (Cert.GuDxRefIdeal.main (F := Ideal))) ⟨m', fun _ => 0, g'⟩ (fun r => ∀ c : Dev Cert.GuDxRefIdeal.nD,
          r.2.mem ((c.tc : Thread Cert.GuDxRefIdeal.nD Cert.GuDxRefIdeal.τ).loc Cert.GuDxRefIdeal.main_v1) = v0 c
          ∧ r.2.mem ((c.tc : Thread Cert.GuDxRefIdeal.nD Cert.GuDxRefIdeal.τ).loc Cert.GuDxRefIdeal.main_arg0) = m' ((c.tc : Thread Cert.GuDxRefIdeal.nD Cert.GuDxRefIdeal.τ).loc Cert.GuDxRefIdeal.main_arg0)
          ∧ r.2.mem ((c.tc : Thread Cert.GuDxRefIdeal.nD Cert.GuDxRefIdeal.τ).loc Cert.GuDxRefIdeal.main_arg1) = m' ((c.tc : Thread Cert.GuDxRefIdeal.nD Cert.GuDxRefIdeal.τ).loc Cert.GuDxRefIdeal.main_arg1)
          ∧ r.2.mem ((c.tc : Thread Cert.GuDxRefIdeal.nD Cert.GuDxRefIdeal.τ).loc Cert.GuDxRefIdeal.main_arg2) = m' ((c.tc : Thread Cert.GuDxRefIdeal.nD Cert.GuDxRefIdeal.τ).loc Cert.GuDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v2) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v2) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v1) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InFw_InFwIdeal : Prop :=
  True

def algebraic_InFwIdeal_InFwRefIdeal [hInFwIdeal : Cert.InFwIdeal.Facts] [hInFwRefIdeal : Cert.InFwRefIdeal.Facts] : Prop :=
  ∀ (m : (ℓ : Loc Cert.InFwIdeal.nD Cert.InFwIdeal.τ Cert.InFwIdeal.sig) → Buf (Elt Ideal) ℓ) (g : Dev Cert.InFwIdeal.nD → PrngReg)
    (m' : (ℓ : Loc Cert.InFwRefIdeal.nD Cert.InFwRefIdeal.τ Cert.InFwRefIdeal.sig) → Buf (Elt Ideal) ℓ) (g' : Dev Cert.InFwRefIdeal.nD → PrngReg), Pre_InFwIdeal m →
    (∀ c : Dev Cert.InFwIdeal.nD,
      m' ((c.tc : Thread Cert.InFwRefIdeal.nD Cert.InFwRefIdeal.τ).loc Cert.InFwRefIdeal.main_arg0) = m ((c.tc : Thread Cert.InFwIdeal.nD Cert.InFwIdeal.τ).loc Cert.InFwIdeal.main_arg0)
      ∧ m' ((c.tc : Thread Cert.InFwRefIdeal.nD Cert.InFwRefIdeal.τ).loc Cert.InFwRefIdeal.main_arg1) = m ((c.tc : Thread Cert.InFwIdeal.nD Cert.InFwIdeal.τ).loc Cert.InFwIdeal.main_arg1)) →
    ∃ (v0 : (c : Dev Cert.InFwIdeal.nD) → Buf (Elt Ideal) ((c.tc : Thread Cert.InFwIdeal.nD Cert.InFwIdeal.τ).loc Cert.InFwIdeal.main_v1)),
      θ_run (Cert.InFwIdeal.defs (F := Ideal)) (onTc (τ := Cert.InFwIdeal.τ) (Cert.InFwIdeal.main (F := Ideal))) ⟨m, fun _ => 0, g⟩ (fun r => ∀ c : Dev Cert.InFwIdeal.nD,
          r.2.mem ((c.tc : Thread Cert.InFwIdeal.nD Cert.InFwIdeal.τ).loc Cert.InFwIdeal.main_v1) = v0 c
          ∧ r.2.mem ((c.tc : Thread Cert.InFwIdeal.nD Cert.InFwIdeal.τ).loc Cert.InFwIdeal.main_arg0) = m ((c.tc : Thread Cert.InFwIdeal.nD Cert.InFwIdeal.τ).loc Cert.InFwIdeal.main_arg0)
          ∧ r.2.mem ((c.tc : Thread Cert.InFwIdeal.nD Cert.InFwIdeal.τ).loc Cert.InFwIdeal.main_arg1) = m ((c.tc : Thread Cert.InFwIdeal.nD Cert.InFwIdeal.τ).loc Cert.InFwIdeal.main_arg1))
      ∧ θ_run (Cert.InFwRefIdeal.defs (F := Ideal)) (onTc (τ := Cert.InFwRefIdeal.τ) (Cert.InFwRefIdeal.main (F := Ideal))) ⟨m', fun _ => 0, g'⟩ (fun r => ∀ c : Dev Cert.InFwRefIdeal.nD,
          r.2.mem ((c.tc : Thread Cert.InFwRefIdeal.nD Cert.InFwRefIdeal.τ).loc Cert.InFwRefIdeal.main_v0) = v0 c
          ∧ r.2.mem ((c.tc : Thread Cert.InFwRefIdeal.nD Cert.InFwRefIdeal.τ).loc Cert.InFwRefIdeal.main_arg0) = m' ((c.tc : Thread Cert.InFwRefIdeal.nD Cert.InFwRefIdeal.τ).loc Cert.InFwRefIdeal.main_arg0)
          ∧ r.2.mem ((c.tc : Thread Cert.InFwRefIdeal.nD Cert.InFwRefIdeal.τ).loc Cert.InFwRefIdeal.main_arg1) = m' ((c.tc : Thread Cert.InFwRefIdeal.nD Cert.InFwRefIdeal.τ).loc Cert.InFwRefIdeal.main_arg1))

def preserves_DownFw_DownFwIdeal : Prop :=
  True

def algebraic_DownFwIdeal_DownFwRefIdeal [hDownFwIdeal : Cert.DownFwIdeal.Facts] [hDownFwRefIdeal : Cert.DownFwRefIdeal.Facts] : Prop :=
  ∀ (m : (ℓ : Loc Cert.DownFwIdeal.nD Cert.DownFwIdeal.τ Cert.DownFwIdeal.sig) → Buf (Elt Ideal) ℓ) (g : Dev Cert.DownFwIdeal.nD → PrngReg)
    (m' : (ℓ : Loc Cert.DownFwRefIdeal.nD Cert.DownFwRefIdeal.τ Cert.DownFwRefIdeal.sig) → Buf (Elt Ideal) ℓ) (g' : Dev Cert.DownFwRefIdeal.nD → PrngReg), Pre_DownFwIdeal m →
    (∀ c : Dev Cert.DownFwIdeal.nD,
      m' ((c.tc : Thread Cert.DownFwRefIdeal.nD Cert.DownFwRefIdeal.τ).loc Cert.DownFwRefIdeal.main_arg0) = m ((c.tc : Thread Cert.DownFwIdeal.nD Cert.DownFwIdeal.τ).loc Cert.DownFwIdeal.main_arg0)
      ∧ m' ((c.tc : Thread Cert.DownFwRefIdeal.nD Cert.DownFwRefIdeal.τ).loc Cert.DownFwRefIdeal.main_arg1) = m ((c.tc : Thread Cert.DownFwIdeal.nD Cert.DownFwIdeal.τ).loc Cert.DownFwIdeal.main_arg1)) →
    ∃ (v0 : (c : Dev Cert.DownFwIdeal.nD) → Buf (Elt Ideal) ((c.tc : Thread Cert.DownFwIdeal.nD Cert.DownFwIdeal.τ).loc Cert.DownFwIdeal.main_v1)),
      θ_run (Cert.DownFwIdeal.defs (F := Ideal)) (onTc (τ := Cert.DownFwIdeal.τ) (Cert.DownFwIdeal.main (F := Ideal))) ⟨m, fun _ => 0, g⟩ (fun r => ∀ c : Dev Cert.DownFwIdeal.nD,
          r.2.mem ((c.tc : Thread Cert.DownFwIdeal.nD Cert.DownFwIdeal.τ).loc Cert.DownFwIdeal.main_v1) = v0 c
          ∧ r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
          ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1))
      ∧ θ_run (Cert.DownFwRefIdeal.defs (F := Ideal)) (onTc (τ := Cert.DownFwRefIdeal.τ) (Cert.DownFwRefIdeal.main (F := Ideal))) ⟨m', fun _ => 0, g'⟩ (fun r => ∀ c : Dev Cert.DownFwRefIdeal.nD,
          r.2.mem ((c.tc : Thread Cert.DownFwRefIdeal.nD Cert.DownFwRefIdeal.τ).loc Cert.DownFwRefIdeal.main_v0) = v0 c
          ∧ r.2.mem ((c.tc : Thread Cert.DownFwRefIdeal.nD Cert.DownFwRefIdeal.τ).loc Cert.DownFwRefIdeal.main_arg0) = m' ((c.tc : Thread Cert.DownFwRefIdeal.nD Cert.DownFwRefIdeal.τ).loc Cert.DownFwRefIdeal.main_arg0)
          ∧ r.2.mem ((c.tc : Thread Cert.DownFwRefIdeal.nD Cert.DownFwRefIdeal.τ).loc Cert.DownFwRefIdeal.main_arg1) = m' ((c.tc : Thread Cert.DownFwRefIdeal.nD Cert.DownFwRefIdeal.τ).loc Cert.DownFwRefIdeal.main_arg1))

def preserves_OutFw_OutFwIdeal : Prop :=
  True

def algebraic_OutFwIdeal_OutFwRefIdeal [hOutFwIdeal : Cert.OutFwIdeal.Facts] [hOutFwRefIdeal : Cert.OutFwRefIdeal.Facts] : Prop :=
  ∀ (m : (ℓ : Loc Cert.OutFwIdeal.nD Cert.OutFwIdeal.τ Cert.OutFwIdeal.sig) → Buf (Elt Ideal) ℓ) (g : Dev Cert.OutFwIdeal.nD → PrngReg)
    (m' : (ℓ : Loc Cert.OutFwRefIdeal.nD Cert.OutFwRefIdeal.τ Cert.OutFwRefIdeal.sig) → Buf (Elt Ideal) ℓ) (g' : Dev Cert.OutFwRefIdeal.nD → PrngReg), Pre_OutFwIdeal m →
    (∀ c : Dev Cert.OutFwIdeal.nD,
      m' ((c.tc : Thread Cert.OutFwRefIdeal.nD Cert.OutFwRefIdeal.τ).loc Cert.OutFwRefIdeal.main_arg0) = m ((c.tc : Thread Cert.OutFwIdeal.nD Cert.OutFwIdeal.τ).loc Cert.OutFwIdeal.main_arg0)
      ∧ m' ((c.tc : Thread Cert.OutFwRefIdeal.nD Cert.OutFwRefIdeal.τ).loc Cert.OutFwRefIdeal.main_arg1) = m ((c.tc : Thread Cert.OutFwIdeal.nD Cert.OutFwIdeal.τ).loc Cert.OutFwIdeal.main_arg1)) →
    ∃ (v0 : (c : Dev Cert.OutFwIdeal.nD) → Buf (Elt Ideal) ((c.tc : Thread Cert.OutFwIdeal.nD Cert.OutFwIdeal.τ).loc Cert.OutFwIdeal.main_v1)),
      θ_run (Cert.OutFwIdeal.defs (F := Ideal)) (onTc (τ := Cert.OutFwIdeal.τ) (Cert.OutFwIdeal.main (F := Ideal))) ⟨m, fun _ => 0, g⟩ (fun r => ∀ c : Dev Cert.OutFwIdeal.nD,
          r.2.mem ((c.tc : Thread Cert.OutFwIdeal.nD Cert.OutFwIdeal.τ).loc Cert.OutFwIdeal.main_v1) = v0 c
          ∧ r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
          ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1))
      ∧ θ_run (Cert.OutFwRefIdeal.defs (F := Ideal)) (onTc (τ := Cert.OutFwRefIdeal.τ) (Cert.OutFwRefIdeal.main (F := Ideal))) ⟨m', fun _ => 0, g'⟩ (fun r => ∀ c : Dev Cert.OutFwRefIdeal.nD,
          r.2.mem ((c.tc : Thread Cert.OutFwRefIdeal.nD Cert.OutFwRefIdeal.τ).loc Cert.OutFwRefIdeal.main_v0) = v0 c
          ∧ r.2.mem ((c.tc : Thread Cert.OutFwRefIdeal.nD Cert.OutFwRefIdeal.τ).loc Cert.OutFwRefIdeal.main_arg0) = m' ((c.tc : Thread Cert.OutFwRefIdeal.nD Cert.OutFwRefIdeal.τ).loc Cert.OutFwRefIdeal.main_arg0)
          ∧ r.2.mem ((c.tc : Thread Cert.OutFwRefIdeal.nD Cert.OutFwRefIdeal.τ).loc Cert.OutFwRefIdeal.main_arg1) = m' ((c.tc : Thread Cert.OutFwRefIdeal.nD Cert.OutFwRefIdeal.τ).loc Cert.OutFwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v1) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v2) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_BrFw_BrFwIdeal : Prop :=
  True

def algebraic_BrFwIdeal_BrFwRefIdeal [hBrFwIdeal : Cert.BrFwIdeal.Facts] [hBrFwRefIdeal : Cert.BrFwRefIdeal.Facts] : Prop :=
  ∀ (m : (ℓ : Loc Cert.BrFwIdeal.nD Cert.BrFwIdeal.τ Cert.BrFwIdeal.sig) → Buf (Elt Ideal) ℓ) (g : Dev Cert.BrFwIdeal.nD → PrngReg)
    (m' : (ℓ : Loc Cert.BrFwRefIdeal.nD Cert.BrFwRefIdeal.τ Cert.BrFwRefIdeal.sig) → Buf (Elt Ideal) ℓ) (g' : Dev Cert.BrFwRefIdeal.nD → PrngReg), Pre_BrFwIdeal m →
    (∀ c : Dev Cert.BrFwIdeal.nD,
      m' ((c.tc : Thread Cert.BrFwRefIdeal.nD Cert.BrFwRefIdeal.τ).loc Cert.BrFwRefIdeal.main_arg0) = m ((c.tc : Thread Cert.BrFwIdeal.nD Cert.BrFwIdeal.τ).loc Cert.BrFwIdeal.main_arg0)
      ∧ m' ((c.tc : Thread Cert.BrFwRefIdeal.nD Cert.BrFwRefIdeal.τ).loc Cert.BrFwRefIdeal.main_arg1) = m ((c.tc : Thread Cert.BrFwIdeal.nD Cert.BrFwIdeal.τ).loc Cert.BrFwIdeal.main_arg1)) →
    ∃ (v0 : (c : Dev Cert.BrFwIdeal.nD) → Buf (Elt Ideal) ((c.tc : Thread Cert.BrFwIdeal.nD Cert.BrFwIdeal.τ).loc Cert.BrFwIdeal.main_v1)),
      θ_run (Cert.BrFwIdeal.defs (F := Ideal)) (onTc (τ := Cert.BrFwIdeal.τ) (Cert.BrFwIdeal.main (F := Ideal))) ⟨m, fun _ => 0, g⟩ (fun r => ∀ c : Dev Cert.BrFwIdeal.nD,
          r.2.mem ((c.tc : Thread Cert.BrFwIdeal.nD Cert.BrFwIdeal.τ).loc Cert.BrFwIdeal.main_v1) = v0 c
          ∧ r.2.mem ((c.tc : Thread Cert.BrFwIdeal.nD Cert.BrFwIdeal.τ).loc Cert.BrFwIdeal.main_arg0) = m ((c.tc : Thread Cert.BrFwIdeal.nD Cert.BrFwIdeal.τ).loc Cert.BrFwIdeal.main_arg0)
          ∧ r.2.mem ((c.tc : Thread Cert.BrFwIdeal.nD Cert.BrFwIdeal.τ).loc Cert.BrFwIdeal.main_arg1) = m ((c.tc : Thread Cert.BrFwIdeal.nD Cert.BrFwIdeal.τ).loc Cert.BrFwIdeal.main_arg1))
      ∧ θ_run (Cert.BrFwRefIdeal.defs (F := Ideal)) (onTc (τ := Cert.BrFwRefIdeal.τ) (Cert.BrFwRefIdeal.main (F := Ideal))) ⟨m', fun _ => 0, g'⟩ (fun r => ∀ c : Dev Cert.BrFwRefIdeal.nD,
          r.2.mem ((c.tc : Thread Cert.BrFwRefIdeal.nD Cert.BrFwRefIdeal.τ).loc Cert.BrFwRefIdeal.main_v0) = v0 c
          ∧ r.2.mem ((c.tc : Thread Cert.BrFwRefIdeal.nD Cert.BrFwRefIdeal.τ).loc Cert.BrFwRefIdeal.main_arg0) = m' ((c.tc : Thread Cert.BrFwRefIdeal.nD Cert.BrFwRefIdeal.τ).loc Cert.BrFwRefIdeal.main_arg0)
          ∧ r.2.mem ((c.tc : Thread Cert.BrFwRefIdeal.nD Cert.BrFwRefIdeal.τ).loc Cert.BrFwRefIdeal.main_arg1) = m' ((c.tc : Thread Cert.BrFwRefIdeal.nD Cert.BrFwRefIdeal.τ).loc Cert.BrFwRefIdeal.main_arg1))

def preserves_BrDx_BrDxIdeal : Prop :=
  True

def algebraic_BrDxIdeal_BrDxRefIdeal [hBrDxIdeal : Cert.BrDxIdeal.Facts] [hBrDxRefIdeal : Cert.BrDxRefIdeal.Facts] : Prop :=
  ∀ (m : (ℓ : Loc Cert.BrDxIdeal.nD Cert.BrDxIdeal.τ Cert.BrDxIdeal.sig) → Buf (Elt Ideal) ℓ) (g : Dev Cert.BrDxIdeal.nD → PrngReg)
    (m' : (ℓ : Loc Cert.BrDxRefIdeal.nD Cert.BrDxRefIdeal.τ Cert.BrDxRefIdeal.sig) → Buf (Elt Ideal) ℓ) (g' : Dev Cert.BrDxRefIdeal.nD → PrngReg), Pre_BrDxIdeal m →
    (∀ c : Dev Cert.BrDxIdeal.nD,
      m' ((c.tc : Thread Cert.BrDxRefIdeal.nD Cert.BrDxRefIdeal.τ).loc Cert.BrDxRefIdeal.main_arg0) = m ((c.tc : Thread Cert.BrDxIdeal.nD Cert.BrDxIdeal.τ).loc Cert.BrDxIdeal.main_arg0)
      ∧ m' ((c.tc : Thread Cert.BrDxRefIdeal.nD Cert.BrDxRefIdeal.τ).loc Cert.BrDxRefIdeal.main_arg1) = m ((c.tc : Thread Cert.BrDxIdeal.nD Cert.BrDxIdeal.τ).loc Cert.BrDxIdeal.main_arg1)
      ∧ m' ((c.tc : Thread Cert.BrDxRefIdeal.nD Cert.BrDxRefIdeal.τ).loc Cert.BrDxRefIdeal.main_arg2) = m ((c.tc : Thread Cert.BrDxIdeal.nD Cert.BrDxIdeal.τ).loc Cert.BrDxIdeal.main_arg2)) →
    ∃ (v0 : (c : Dev Cert.BrDxIdeal.nD) → Buf (Elt Ideal) ((c.tc : Thread Cert.BrDxIdeal.nD Cert.BrDxIdeal.τ).loc Cert.BrDxIdeal.main_v1)),
      θ_run (Cert.BrDxIdeal.defs (F := Ideal)) (onTc (τ := Cert.BrDxIdeal.τ) (Cert.BrDxIdeal.main (F := Ideal))) ⟨m, fun _ => 0, g⟩ (fun r => ∀ c : Dev Cert.BrDxIdeal.nD,
          r.2.mem ((c.tc : Thread Cert.BrDxIdeal.nD Cert.BrDxIdeal.τ).loc Cert.BrDxIdeal.main_v1) = v0 c
          ∧ r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
          ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1)
          ∧ r.2.mem ((c.tc : Thread Cert.BrDxIdeal.nD Cert.BrDxIdeal.τ).loc Cert.BrDxIdeal.main_arg2) = m ((c.tc : Thread Cert.BrDxIdeal.nD Cert.BrDxIdeal.τ).loc Cert.BrDxIdeal.main_arg2))
      ∧ θ_run (Cert.BrDxRefIdeal.defs (F := Ideal)) (onTc (τ := Cert.BrDxRefIdeal.τ) (Cert.BrDxRefIdeal.main (F := Ideal))) ⟨m', fun _ => 0, g'⟩ (fun r => ∀ c : Dev Cert.BrDxRefIdeal.nD,
          r.2.mem ((c.tc : Thread Cert.BrDxRefIdeal.nD Cert.BrDxRefIdeal.τ).loc Cert.BrDxRefIdeal.main_v1) = v0 c
          ∧ r.2.mem ((c.tc : Thread Cert.BrDxRefIdeal.nD Cert.BrDxRefIdeal.τ).loc Cert.BrDxRefIdeal.main_arg0) = m' ((c.tc : Thread Cert.BrDxRefIdeal.nD Cert.BrDxRefIdeal.τ).loc Cert.BrDxRefIdeal.main_arg0)
          ∧ r.2.mem ((c.tc : Thread Cert.BrDxRefIdeal.nD Cert.BrDxRefIdeal.τ).loc Cert.BrDxRefIdeal.main_arg1) = m' ((c.tc : Thread Cert.BrDxRefIdeal.nD Cert.BrDxRefIdeal.τ).loc Cert.BrDxRefIdeal.main_arg1)
          ∧ r.2.mem ((c.tc : Thread Cert.BrDxRefIdeal.nD Cert.BrDxRefIdeal.τ).loc Cert.BrDxRefIdeal.main_arg2) = m' ((c.tc : Thread Cert.BrDxRefIdeal.nD Cert.BrDxRefIdeal.τ).loc Cert.BrDxRefIdeal.main_arg2))

def preserves_BrDw_BrDwIdeal : Prop :=
  True

def algebraic_BrDwIdeal_BrDwRefIdeal [hBrDwIdeal : Cert.BrDwIdeal.Facts] [hBrDwRefIdeal : Cert.BrDwRefIdeal.Facts] : Prop :=
  ∀ (m : (ℓ : Loc Cert.BrDwIdeal.nD Cert.BrDwIdeal.τ Cert.BrDwIdeal.sig) → Buf (Elt Ideal) ℓ) (g : Dev Cert.BrDwIdeal.nD → PrngReg)
    (m' : (ℓ : Loc Cert.BrDwRefIdeal.nD Cert.BrDwRefIdeal.τ Cert.BrDwRefIdeal.sig) → Buf (Elt Ideal) ℓ) (g' : Dev Cert.BrDwRefIdeal.nD → PrngReg), Pre_BrDwIdeal m →
    (∀ c : Dev Cert.BrDwIdeal.nD,
      m' ((c.tc : Thread Cert.BrDwRefIdeal.nD Cert.BrDwRefIdeal.τ).loc Cert.BrDwRefIdeal.main_arg0) = m ((c.tc : Thread Cert.BrDwIdeal.nD Cert.BrDwIdeal.τ).loc Cert.BrDwIdeal.main_arg0)
      ∧ m' ((c.tc : Thread Cert.BrDwRefIdeal.nD Cert.BrDwRefIdeal.τ).loc Cert.BrDwRefIdeal.main_arg1) = m ((c.tc : Thread Cert.BrDwIdeal.nD Cert.BrDwIdeal.τ).loc Cert.BrDwIdeal.main_arg1)
      ∧ m' ((c.tc : Thread Cert.BrDwRefIdeal.nD Cert.BrDwRefIdeal.τ).loc Cert.BrDwRefIdeal.main_arg2) = m ((c.tc : Thread Cert.BrDwIdeal.nD Cert.BrDwIdeal.τ).loc Cert.BrDwIdeal.main_arg2)) →
    ∃ (v0 : (c : Dev Cert.BrDwIdeal.nD) → Buf (Elt Ideal) ((c.tc : Thread Cert.BrDwIdeal.nD Cert.BrDwIdeal.τ).loc Cert.BrDwIdeal.main_v0)),
      θ_run (Cert.BrDwIdeal.defs (F := Ideal)) (onTc (τ := Cert.BrDwIdeal.τ) (Cert.BrDwIdeal.main (F := Ideal))) ⟨m, fun _ => 0, g⟩ (fun r => ∀ c : Dev Cert.BrDwIdeal.nD,
          r.2.mem ((c.tc : Thread Cert.BrDwIdeal.nD Cert.BrDwIdeal.τ).loc Cert.BrDwIdeal.main_v0) = v0 c
          ∧ r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
          ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1)
          ∧ r.2.mem ((c.tc : Thread Cert.BrDwIdeal.nD Cert.BrDwIdeal.τ).loc Cert.BrDwIdeal.main_arg2) = m ((c.tc : Thread Cert.BrDwIdeal.nD Cert.BrDwIdeal.τ).loc Cert.BrDwIdeal.main_arg2))
      ∧ θ_run (Cert.BrDwRefIdeal.defs (F := Ideal)) (onTc (τ := Cert.BrDwRefIdeal.τ) (Cert.BrDwRefIdeal.main (F := Ideal))) ⟨m', fun _ => 0, g'⟩ (fun r => ∀ c : Dev Cert.BrDwRefIdeal.nD,
          r.2.mem ((c.tc : Thread Cert.BrDwRefIdeal.nD Cert.BrDwRefIdeal.τ).loc Cert.BrDwRefIdeal.main_v2) = v0 c
          ∧ r.2.mem ((c.tc : Thread Cert.BrDwRefIdeal.nD Cert.BrDwRefIdeal.τ).loc Cert.BrDwRefIdeal.main_arg0) = m' ((c.tc : Thread Cert.BrDwRefIdeal.nD Cert.BrDwRefIdeal.τ).loc Cert.BrDwRefIdeal.main_arg0)
          ∧ r.2.mem ((c.tc : Thread Cert.BrDwRefIdeal.nD Cert.BrDwRefIdeal.τ).loc Cert.BrDwRefIdeal.main_arg1) = m' ((c.tc : Thread Cert.BrDwRefIdeal.nD Cert.BrDwRefIdeal.τ).loc Cert.BrDwRefIdeal.main_arg1)
          ∧ r.2.mem ((c.tc : Thread Cert.BrDwRefIdeal.nD Cert.BrDwRefIdeal.τ).loc Cert.BrDwRefIdeal.main_arg2) = m' ((c.tc : Thread Cert.BrDwRefIdeal.nD Cert.BrDwRefIdeal.τ).loc Cert.BrDwRefIdeal.main_arg2))

def preserves_UpFw_UpFwIdeal : Prop :=
  True

def algebraic_UpFwIdeal_UpFwRefIdeal [hUpFwIdeal : Cert.UpFwIdeal.Facts] [hUpFwRefIdeal : Cert.UpFwRefIdeal.Facts] : Prop :=
  ∀ (m : (ℓ : Loc Cert.UpFwIdeal.nD Cert.UpFwIdeal.τ Cert.UpFwIdeal.sig) → Buf (Elt Ideal) ℓ) (g : Dev Cert.UpFwIdeal.nD → PrngReg)
    (m' : (ℓ : Loc Cert.UpFwRefIdeal.nD Cert.UpFwRefIdeal.τ Cert.UpFwRefIdeal.sig) → Buf (Elt Ideal) ℓ) (g' : Dev Cert.UpFwRefIdeal.nD → PrngReg), Pre_UpFwIdeal m →
    (∀ c : Dev Cert.UpFwIdeal.nD,
      m' ((c.tc : Thread Cert.UpFwRefIdeal.nD Cert.UpFwRefIdeal.τ).loc Cert.UpFwRefIdeal.main_arg0) = m ((c.tc : Thread Cert.UpFwIdeal.nD Cert.UpFwIdeal.τ).loc Cert.UpFwIdeal.main_arg0)
      ∧ m' ((c.tc : Thread Cert.UpFwRefIdeal.nD Cert.UpFwRefIdeal.τ).loc Cert.UpFwRefIdeal.main_arg1) = m ((c.tc : Thread Cert.UpFwIdeal.nD Cert.UpFwIdeal.τ).loc Cert.UpFwIdeal.main_arg1)) →
    ∃ (v0 : (c : Dev Cert.UpFwIdeal.nD) → Buf (Elt Ideal) ((c.tc : Thread Cert.UpFwIdeal.nD Cert.UpFwIdeal.τ).loc Cert.UpFwIdeal.main_v1)),
      θ_run (Cert.UpFwIdeal.defs (F := Ideal)) (onTc (τ := Cert.UpFwIdeal.τ) (Cert.UpFwIdeal.main (F := Ideal))) ⟨m, fun _ => 0, g⟩ (fun r => ∀ c : Dev Cert.UpFwIdeal.nD,
          r.2.mem ((c.tc : Thread Cert.UpFwIdeal.nD Cert.UpFwIdeal.τ).loc Cert.UpFwIdeal.main_v1) = v0 c
          ∧ r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
          ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ θ_run (Cert.UpFwRefIdeal.defs (F := Ideal)) (onTc (τ := Cert.UpFwRefIdeal.τ) (Cert.UpFwRefIdeal.main (F := Ideal))) ⟨m', fun _ => 0, g'⟩ (fun r => ∀ c : Dev Cert.UpFwRefIdeal.nD,
          r.2.mem ((c.tc : Thread Cert.UpFwRefIdeal.nD Cert.UpFwRefIdeal.τ).loc Cert.UpFwRefIdeal.main_v0) = v0 c
          ∧ r.2.mem ((c.tc : Thread Cert.UpFwRefIdeal.nD Cert.UpFwRefIdeal.τ).loc Cert.UpFwRefIdeal.main_arg0) = m' ((c.tc : Thread Cert.UpFwRefIdeal.nD Cert.UpFwRefIdeal.τ).loc Cert.UpFwRefIdeal.main_arg0)
          ∧ r.2.mem ((c.tc : Thread Cert.UpFwRefIdeal.nD Cert.UpFwRefIdeal.τ).loc Cert.UpFwRefIdeal.main_arg1) = m' ((c.tc : Thread Cert.UpFwRefIdeal.nD Cert.UpFwRefIdeal.τ).loc Cert.UpFwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v1) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v2) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_GuFw_GuFwIdeal : Prop :=
  True

def algebraic_GuFwIdeal_GuFwRefIdeal [hGuFwIdeal : Cert.GuFwIdeal.Facts] [hGuFwRefIdeal : Cert.GuFwRefIdeal.Facts] : Prop :=
  ∀ (m : (ℓ : Loc Cert.GuFwIdeal.nD Cert.GuFwIdeal.τ Cert.GuFwIdeal.sig) → Buf (Elt Ideal) ℓ) (g : Dev Cert.GuFwIdeal.nD → PrngReg)
    (m' : (ℓ : Loc Cert.GuFwRefIdeal.nD Cert.GuFwRefIdeal.τ Cert.GuFwRefIdeal.sig) → Buf (Elt Ideal) ℓ) (g' : Dev Cert.GuFwRefIdeal.nD → PrngReg), Pre_GuFwIdeal m →
    (∀ c : Dev Cert.GuFwIdeal.nD,
      m' ((c.tc : Thread Cert.GuFwRefIdeal.nD Cert.GuFwRefIdeal.τ).loc Cert.GuFwRefIdeal.main_arg0) = m ((c.tc : Thread Cert.GuFwIdeal.nD Cert.GuFwIdeal.τ).loc Cert.GuFwIdeal.main_arg0)
      ∧ m' ((c.tc : Thread Cert.GuFwRefIdeal.nD Cert.GuFwRefIdeal.τ).loc Cert.GuFwRefIdeal.main_arg1) = m ((c.tc : Thread Cert.GuFwIdeal.nD Cert.GuFwIdeal.τ).loc Cert.GuFwIdeal.main_arg1)) →
    ∃ (v0 : (c : Dev Cert.GuFwIdeal.nD) → Buf (Elt Ideal) ((c.tc : Thread Cert.GuFwIdeal.nD Cert.GuFwIdeal.τ).loc Cert.GuFwIdeal.main_v1_0)) (v1 : (c : Dev Cert.GuFwIdeal.nD) → Buf (Elt Ideal) ((c.tc : Thread Cert.GuFwIdeal.nD Cert.GuFwIdeal.τ).loc Cert.GuFwIdeal.main_v1_1)),
      θ_run (Cert.GuFwIdeal.defs (F := Ideal)) (onTc (τ := Cert.GuFwIdeal.τ) (Cert.GuFwIdeal.main (F := Ideal))) ⟨m, fun _ => 0, g⟩ (fun r => ∀ c : Dev Cert.GuFwIdeal.nD,
          r.2.mem ((c.tc : Thread Cert.GuFwIdeal.nD Cert.GuFwIdeal.τ).loc Cert.GuFwIdeal.main_v1_0) = v0 c
          ∧ r.2.mem ((c.tc : Thread Cert.GuFwIdeal.nD Cert.GuFwIdeal.τ).loc Cert.GuFwIdeal.main_v1_1) = v1 c
          ∧ r.2.mem ((c.tc : Thread Cert.GuFwIdeal.nD Cert.GuFwIdeal.τ).loc Cert.GuFwIdeal.main_arg0) = m ((c.tc : Thread Cert.GuFwIdeal.nD Cert.GuFwIdeal.τ).loc Cert.GuFwIdeal.main_arg0)
          ∧ r.2.mem ((c.tc : Thread Cert.GuFwIdeal.nD Cert.GuFwIdeal.τ).loc Cert.GuFwIdeal.main_arg1) = m ((c.tc : Thread Cert.GuFwIdeal.nD Cert.GuFwIdeal.τ).loc Cert.GuFwIdeal.main_arg1))
      ∧ θ_run (Cert.GuFwRefIdeal.defs (F := Ideal)) (onTc (τ := Cert.GuFwRefIdeal.τ) (Cert.GuFwRefIdeal.main (F := Ideal))) ⟨m', fun _ => 0, g'⟩ (fun r => ∀ c : Dev Cert.GuFwRefIdeal.nD,
          r.2.mem ((c.tc : Thread Cert.GuFwRefIdeal.nD Cert.GuFwRefIdeal.τ).loc Cert.GuFwRefIdeal.main_v0) = v0 c
          ∧ r.2.mem ((c.tc : Thread Cert.GuFwRefIdeal.nD Cert.GuFwRefIdeal.τ).loc Cert.GuFwRefIdeal.main_v8) = v1 c
          ∧ r.2.mem ((c.tc : Thread Cert.GuFwRefIdeal.nD Cert.GuFwRefIdeal.τ).loc Cert.GuFwRefIdeal.main_arg0) = m' ((c.tc : Thread Cert.GuFwRefIdeal.nD Cert.GuFwRefIdeal.τ).loc Cert.GuFwRefIdeal.main_arg0)
          ∧ r.2.mem ((c.tc : Thread Cert.GuFwRefIdeal.nD Cert.GuFwRefIdeal.τ).loc Cert.GuFwRefIdeal.main_arg1) = m' ((c.tc : Thread Cert.GuFwRefIdeal.nD Cert.GuFwRefIdeal.τ).loc Cert.GuFwRefIdeal.main_arg1))

def preserves_DownDx_DownDxIdeal : Prop :=
  True

def algebraic_DownDxIdeal_DownDxRefIdeal_pre_finite_mlp [hDownDxIdeal : Cert.DownDxIdeal.Facts] [hDownDxRefIdeal : Cert.DownDxRefIdeal.Facts] [hPre_finite_mlp : Cert.Pre_finite_mlp.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal_finite_mlp m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v19) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_InTop_InTopIdeal : Prop :=
  True

def algebraic_InTopIdeal_InTopRefIdeal [hInTopIdeal : Cert.InTopIdeal.Facts] [hInTopRefIdeal : Cert.InTopRefIdeal.Facts] : Prop :=
  ∀ (m : (ℓ : Loc Cert.InTopIdeal.nD Cert.InTopIdeal.τ Cert.InTopIdeal.sig) → Buf (Elt Ideal) ℓ) (g : Dev Cert.InTopIdeal.nD → PrngReg)
    (m' : (ℓ : Loc Cert.InTopRefIdeal.nD Cert.InTopRefIdeal.τ Cert.InTopRefIdeal.sig) → Buf (Elt Ideal) ℓ) (g' : Dev Cert.InTopRefIdeal.nD → PrngReg), Pre_InTopIdeal m →
    (∀ c : Dev Cert.InTopIdeal.nD,
      m' ((c.tc : Thread Cert.InTopRefIdeal.nD Cert.InTopRefIdeal.τ).loc Cert.InTopRefIdeal.main_arg0) = m ((c.tc : Thread Cert.InTopIdeal.nD Cert.InTopIdeal.τ).loc Cert.InTopIdeal.main_arg0)
      ∧ m' ((c.tc : Thread Cert.InTopRefIdeal.nD Cert.InTopRefIdeal.τ).loc Cert.InTopRefIdeal.main_arg1) = m ((c.tc : Thread Cert.InTopIdeal.nD Cert.InTopIdeal.τ).loc Cert.InTopIdeal.main_arg1)) →
    ∃ (v0 : (c : Dev Cert.InTopIdeal.nD) → Buf (Elt Ideal) ((c.tc : Thread Cert.InTopIdeal.nD Cert.InTopIdeal.τ).loc Cert.InTopIdeal.main_v1)),
      θ_run (Cert.InTopIdeal.defs (F := Ideal)) (onTc (τ := Cert.InTopIdeal.τ) (Cert.InTopIdeal.main (F := Ideal))) ⟨m, fun _ => 0, g⟩ (fun r => ∀ c : Dev Cert.InTopIdeal.nD,
          r.2.mem ((c.tc : Thread Cert.InTopIdeal.nD Cert.InTopIdeal.τ).loc Cert.InTopIdeal.main_v1) = v0 c
          ∧ r.2.mem ((c.tc : Thread Cert.InTopIdeal.nD Cert.InTopIdeal.τ).loc Cert.InTopIdeal.main_arg0) = m ((c.tc : Thread Cert.InTopIdeal.nD Cert.InTopIdeal.τ).loc Cert.InTopIdeal.main_arg0)
          ∧ r.2.mem ((c.tc : Thread Cert.InTopIdeal.nD Cert.InTopIdeal.τ).loc Cert.InTopIdeal.main_arg1) = m ((c.tc : Thread Cert.InTopIdeal.nD Cert.InTopIdeal.τ).loc Cert.InTopIdeal.main_arg1))
      ∧ θ_run (Cert.InTopRefIdeal.defs (F := Ideal)) (onTc (τ := Cert.InTopRefIdeal.τ) (Cert.InTopRefIdeal.main (F := Ideal))) ⟨m', fun _ => 0, g'⟩ (fun r => ∀ c : Dev Cert.InTopRefIdeal.nD,
          r.2.mem ((c.tc : Thread Cert.InTopRefIdeal.nD Cert.InTopRefIdeal.τ).loc Cert.InTopRefIdeal.main_v1) = v0 c
          ∧ r.2.mem ((c.tc : Thread Cert.InTopRefIdeal.nD Cert.InTopRefIdeal.τ).loc Cert.InTopRefIdeal.main_arg0) = m' ((c.tc : Thread Cert.InTopRefIdeal.nD Cert.InTopRefIdeal.τ).loc Cert.InTopRefIdeal.main_arg0)
          ∧ r.2.mem ((c.tc : Thread Cert.InTopRefIdeal.nD Cert.InTopRefIdeal.τ).loc Cert.InTopRefIdeal.main_arg1) = m' ((c.tc : Thread Cert.InTopRefIdeal.nD Cert.InTopRefIdeal.τ).loc Cert.InTopRefIdeal.main_arg1))

def preserves_InBot_InBotIdeal : Prop :=
  True

def algebraic_InBotIdeal_InBotRefIdeal [hInBotIdeal : Cert.InBotIdeal.Facts] [hInBotRefIdeal : Cert.InBotRefIdeal.Facts] : Prop :=
  ∀ (m : (ℓ : Loc Cert.InBotIdeal.nD Cert.InBotIdeal.τ Cert.InBotIdeal.sig) → Buf (Elt Ideal) ℓ) (g : Dev Cert.InBotIdeal.nD → PrngReg)
    (m' : (ℓ : Loc Cert.InBotRefIdeal.nD Cert.InBotRefIdeal.τ Cert.InBotRefIdeal.sig) → Buf (Elt Ideal) ℓ) (g' : Dev Cert.InBotRefIdeal.nD → PrngReg), Pre_InBotIdeal m →
    (∀ c : Dev Cert.InBotIdeal.nD,
      m' ((c.tc : Thread Cert.InBotRefIdeal.nD Cert.InBotRefIdeal.τ).loc Cert.InBotRefIdeal.main_arg0) = m ((c.tc : Thread Cert.InBotIdeal.nD Cert.InBotIdeal.τ).loc Cert.InBotIdeal.main_arg0)
      ∧ m' ((c.tc : Thread Cert.InBotRefIdeal.nD Cert.InBotRefIdeal.τ).loc Cert.InBotRefIdeal.main_arg1) = m ((c.tc : Thread Cert.InBotIdeal.nD Cert.InBotIdeal.τ).loc Cert.InBotIdeal.main_arg1)
      ∧ m' ((c.tc : Thread Cert.InBotRefIdeal.nD Cert.InBotRefIdeal.τ).loc Cert.InBotRefIdeal.main_arg2) = m ((c.tc : Thread Cert.InBotIdeal.nD Cert.InBotIdeal.τ).loc Cert.InBotIdeal.main_arg2)) →
    ∃ (v0 : (c : Dev Cert.InBotIdeal.nD) → Buf (Elt Ideal) ((c.tc : Thread Cert.InBotIdeal.nD Cert.InBotIdeal.τ).loc Cert.InBotIdeal.main_v1)),
      θ_run (Cert.InBotIdeal.defs (F := Ideal)) (onTc (τ := Cert.InBotIdeal.τ) (Cert.InBotIdeal.main (F := Ideal))) ⟨m, fun _ => 0, g⟩ (fun r => ∀ c : Dev Cert.InBotIdeal.nD,
          r.2.mem ((c.tc : Thread Cert.InBotIdeal.nD Cert.InBotIdeal.τ).loc Cert.InBotIdeal.main_v1) = v0 c
          ∧ r.2.mem ((c.tc : Thread Cert.InBotIdeal.nD Cert.InBotIdeal.τ).loc Cert.InBotIdeal.main_arg0) = m ((c.tc : Thread Cert.InBotIdeal.nD Cert.InBotIdeal.τ).loc Cert.InBotIdeal.main_arg0)
          ∧ r.2.mem ((c.tc : Thread Cert.InBotIdeal.nD Cert.InBotIdeal.τ).loc Cert.InBotIdeal.main_arg1) = m ((c.tc : Thread Cert.InBotIdeal.nD Cert.InBotIdeal.τ).loc Cert.InBotIdeal.main_arg1)
          ∧ r.2.mem ((c.tc : Thread Cert.InBotIdeal.nD Cert.InBotIdeal.τ).loc Cert.InBotIdeal.main_arg2) = m ((c.tc : Thread Cert.InBotIdeal.nD Cert.InBotIdeal.τ).loc Cert.InBotIdeal.main_arg2))
      ∧ θ_run (Cert.InBotRefIdeal.defs (F := Ideal)) (onTc (τ := Cert.InBotRefIdeal.τ) (Cert.InBotRefIdeal.main (F := Ideal))) ⟨m', fun _ => 0, g'⟩ (fun r => ∀ c : Dev Cert.InBotRefIdeal.nD,
          r.2.mem ((c.tc : Thread Cert.InBotRefIdeal.nD Cert.InBotRefIdeal.τ).loc Cert.InBotRefIdeal.main_v2) = v0 c
          ∧ r.2.mem ((c.tc : Thread Cert.InBotRefIdeal.nD Cert.InBotRefIdeal.τ).loc Cert.InBotRefIdeal.main_arg0) = m' ((c.tc : Thread Cert.InBotRefIdeal.nD Cert.InBotRefIdeal.τ).loc Cert.InBotRefIdeal.main_arg0)
          ∧ r.2.mem ((c.tc : Thread Cert.InBotRefIdeal.nD Cert.InBotRefIdeal.τ).loc Cert.InBotRefIdeal.main_arg1) = m' ((c.tc : Thread Cert.InBotRefIdeal.nD Cert.InBotRefIdeal.τ).loc Cert.InBotRefIdeal.main_arg1)
          ∧ r.2.mem ((c.tc : Thread Cert.InBotRefIdeal.nD Cert.InBotRefIdeal.τ).loc Cert.InBotRefIdeal.main_arg2) = m' ((c.tc : Thread Cert.InBotRefIdeal.nD Cert.InBotRefIdeal.τ).loc Cert.InBotRefIdeal.main_arg2))

def preserves_AttFw_AttFwIdeal : Prop :=
  IdealRules.named_const.Statement Cert.AttFwIdeal.κ "scale_log2e" .f32 0x3DD53B95#32 (((Real.log 2)⁻¹ * (Real.sqrt 192)⁻¹ : ℝ) : EReal)
  ∧ IdealRules.named_const.Statement Cert.AttFwIdeal.κ "log2e" .f32 0x3FB8AA3B#32 (((Real.log 2)⁻¹ : ℝ) : EReal)
  ∧ IdealRules.named_const.Statement Cert.AttFwIdeal.κ "log_2" .f32 0x3F317218#32 ((Real.log 2 : ℝ) : EReal)

def algebraic_AttFwIdeal_AttFwRefIdeal_pre_finite_qkv [hAttFwIdeal : Cert.AttFwIdeal.Facts] [hAttFwRefIdeal : Cert.AttFwRefIdeal.Facts] [hPre_finite_qkv : Cert.Pre_finite_qkv.Facts] : Prop :=
  ∀ (m : (ℓ : Loc Cert.AttFwIdeal.nD Cert.AttFwIdeal.τ Cert.AttFwIdeal.sig) → Buf (Elt Ideal) ℓ) (g : Dev Cert.AttFwIdeal.nD → PrngReg)
    (m' : (ℓ : Loc Cert.AttFwRefIdeal.nD Cert.AttFwRefIdeal.τ Cert.AttFwRefIdeal.sig) → Buf (Elt Ideal) ℓ) (g' : Dev Cert.AttFwRefIdeal.nD → PrngReg), Pre_AttFwIdeal_finite_qkv m →
    (∀ c : Dev Cert.AttFwIdeal.nD,
      m' ((c.tc : Thread Cert.AttFwRefIdeal.nD Cert.AttFwRefIdeal.τ).loc Cert.AttFwRefIdeal.main_arg0) = m ((c.tc : Thread Cert.AttFwIdeal.nD Cert.AttFwIdeal.τ).loc Cert.AttFwIdeal.main_arg0)
      ∧ m' ((c.tc : Thread Cert.AttFwRefIdeal.nD Cert.AttFwRefIdeal.τ).loc Cert.AttFwRefIdeal.main_arg1) = m ((c.tc : Thread Cert.AttFwIdeal.nD Cert.AttFwIdeal.τ).loc Cert.AttFwIdeal.main_arg1)
      ∧ m' ((c.tc : Thread Cert.AttFwRefIdeal.nD Cert.AttFwRefIdeal.τ).loc Cert.AttFwRefIdeal.main_arg2) = m ((c.tc : Thread Cert.AttFwIdeal.nD Cert.AttFwIdeal.τ).loc Cert.AttFwIdeal.main_arg2)) →
    ∃ (v0 : (c : Dev Cert.AttFwIdeal.nD) → Buf (Elt Ideal) ((c.tc : Thread Cert.AttFwIdeal.nD Cert.AttFwIdeal.τ).loc Cert.AttFwIdeal.main_v8_0)) (v1 : (c : Dev Cert.AttFwIdeal.nD) → Buf (Elt Ideal) ((c.tc : Thread Cert.AttFwIdeal.nD Cert.AttFwIdeal.τ).loc Cert.AttFwIdeal.main_v8_1)),
      θ_run (Cert.AttFwIdeal.defs (F := Ideal)) (onTc (τ := Cert.AttFwIdeal.τ) (Cert.AttFwIdeal.main (F := Ideal))) ⟨m, fun _ => 0, g⟩ (fun r => ∀ c : Dev Cert.AttFwIdeal.nD,
          r.2.mem ((c.tc : Thread Cert.AttFwIdeal.nD Cert.AttFwIdeal.τ).loc Cert.AttFwIdeal.main_v8_0) = v0 c
          ∧ r.2.mem ((c.tc : Thread Cert.AttFwIdeal.nD Cert.AttFwIdeal.τ).loc Cert.AttFwIdeal.main_v8_1) = v1 c
          ∧ r.2.mem ((c.tc : Thread Cert.AttFwIdeal.nD Cert.AttFwIdeal.τ).loc Cert.AttFwIdeal.main_arg0) = m ((c.tc : Thread Cert.AttFwIdeal.nD Cert.AttFwIdeal.τ).loc Cert.AttFwIdeal.main_arg0)
          ∧ r.2.mem ((c.tc : Thread Cert.AttFwIdeal.nD Cert.AttFwIdeal.τ).loc Cert.AttFwIdeal.main_arg1) = m ((c.tc : Thread Cert.AttFwIdeal.nD Cert.AttFwIdeal.τ).loc Cert.AttFwIdeal.main_arg1)
          ∧ r.2.mem ((c.tc : Thread Cert.AttFwIdeal.nD Cert.AttFwIdeal.τ).loc Cert.AttFwIdeal.main_arg2) = m ((c.tc : Thread Cert.AttFwIdeal.nD Cert.AttFwIdeal.τ).loc Cert.AttFwIdeal.main_arg2))
      ∧ θ_run (Cert.AttFwRefIdeal.defs (F := Ideal)) (onTc (τ := Cert.AttFwRefIdeal.τ) (Cert.AttFwRefIdeal.main (F := Ideal))) ⟨m', fun _ => 0, g'⟩ (fun r => ∀ c : Dev Cert.AttFwRefIdeal.nD,
          r.2.mem ((c.tc : Thread Cert.AttFwRefIdeal.nD Cert.AttFwRefIdeal.τ).loc Cert.AttFwRefIdeal.main_v30) = v0 c
          ∧ r.2.mem ((c.tc : Thread Cert.AttFwRefIdeal.nD Cert.AttFwRefIdeal.τ).loc Cert.AttFwRefIdeal.main_v12) = v1 c
          ∧ r.2.mem ((c.tc : Thread Cert.AttFwRefIdeal.nD Cert.AttFwRefIdeal.τ).loc Cert.AttFwRefIdeal.main_arg0) = m' ((c.tc : Thread Cert.AttFwRefIdeal.nD Cert.AttFwRefIdeal.τ).loc Cert.AttFwRefIdeal.main_arg0)
          ∧ r.2.mem ((c.tc : Thread Cert.AttFwRefIdeal.nD Cert.AttFwRefIdeal.τ).loc Cert.AttFwRefIdeal.main_arg1) = m' ((c.tc : Thread Cert.AttFwRefIdeal.nD Cert.AttFwRefIdeal.τ).loc Cert.AttFwRefIdeal.main_arg1)
          ∧ r.2.mem ((c.tc : Thread Cert.AttFwRefIdeal.nD Cert.AttFwRefIdeal.τ).loc Cert.AttFwRefIdeal.main_arg2) = m' ((c.tc : Thread Cert.AttFwRefIdeal.nD Cert.AttFwRefIdeal.τ).loc Cert.AttFwRefIdeal.main_arg2))

def Claim : Prop :=
  ∃ (hKernel : Cert.Kernel.Facts) (hKernelIdeal : Cert.KernelIdeal.Facts) (hReferenceIdeal : Cert.ReferenceIdeal.Facts) (hGuDw : Cert.GuDw.Facts) (hGuDwIdeal : Cert.GuDwIdeal.Facts) (hGuDwRefIdeal : Cert.GuDwRefIdeal.Facts) (hGuDx : Cert.GuDx.Facts) (hGuDxIdeal : Cert.GuDxIdeal.Facts) (hGuDxRefIdeal : Cert.GuDxRefIdeal.Facts) (hDownDw : Cert.DownDw.Facts) (hDownDwIdeal : Cert.DownDwIdeal.Facts) (hDownDwRefIdeal : Cert.DownDwRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hInFw : Cert.InFw.Facts) (hInFwIdeal : Cert.InFwIdeal.Facts) (hInFwRefIdeal : Cert.InFwRefIdeal.Facts) (hDownFw : Cert.DownFw.Facts) (hDownFwIdeal : Cert.DownFwIdeal.Facts) (hDownFwRefIdeal : Cert.DownFwRefIdeal.Facts) (hOutFw : Cert.OutFw.Facts) (hOutFwIdeal : Cert.OutFwIdeal.Facts) (hOutFwRefIdeal : Cert.OutFwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hBrFw : Cert.BrFw.Facts) (hBrFwIdeal : Cert.BrFwIdeal.Facts) (hBrFwRefIdeal : Cert.BrFwRefIdeal.Facts) (hBrDx : Cert.BrDx.Facts) (hBrDxIdeal : Cert.BrDxIdeal.Facts) (hBrDxRefIdeal : Cert.BrDxRefIdeal.Facts) (hBrDw : Cert.BrDw.Facts) (hBrDwIdeal : Cert.BrDwIdeal.Facts) (hBrDwRefIdeal : Cert.BrDwRefIdeal.Facts) (hUpFw : Cert.UpFw.Facts) (hUpFwIdeal : Cert.UpFwIdeal.Facts) (hUpFwRefIdeal : Cert.UpFwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hGuFw : Cert.GuFw.Facts) (hGuFwIdeal : Cert.GuFwIdeal.Facts) (hGuFwRefIdeal : Cert.GuFwRefIdeal.Facts) (hDownDx : Cert.DownDx.Facts) (hDownDxIdeal : Cert.DownDxIdeal.Facts) (hDownDxRefIdeal : Cert.DownDxRefIdeal.Facts) (hInTop : Cert.InTop.Facts) (hInTopIdeal : Cert.InTopIdeal.Facts) (hInTopRefIdeal : Cert.InTopRefIdeal.Facts) (hInBot : Cert.InBot.Facts) (hInBotIdeal : Cert.InBotIdeal.Facts) (hInBotRefIdeal : Cert.InBotRefIdeal.Facts) (hAttFw : Cert.AttFw.Facts) (hAttFwIdeal : Cert.AttFwIdeal.Facts) (hAttFwRefIdeal : Cert.AttFwRefIdeal.Facts) (hPre_finite : Cert.Pre_finite.Facts) (hPre_finite_mlp : Cert.Pre_finite_mlp.Facts) (hPre_finite_qkv : Cert.Pre_finite_qkv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GuDw (hGuDw := hGuDw)
    ∧ quiescent_GuDwIdeal (hGuDwIdeal := hGuDwIdeal)
    ∧ quiescent_GuDwRefIdeal (hGuDwRefIdeal := hGuDwRefIdeal)
    ∧ quiescent_GuDx (hGuDx := hGuDx)
    ∧ quiescent_GuDxIdeal (hGuDxIdeal := hGuDxIdeal)
    ∧ quiescent_GuDxRefIdeal (hGuDxRefIdeal := hGuDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InFw (hInFw := hInFw)
    ∧ quiescent_InFwIdeal (hInFwIdeal := hInFwIdeal)
    ∧ quiescent_InFwRefIdeal (hInFwRefIdeal := hInFwRefIdeal)
    ∧ quiescent_DownFw (hDownFw := hDownFw)
    ∧ quiescent_DownFwIdeal (hDownFwIdeal := hDownFwIdeal)
    ∧ quiescent_DownFwRefIdeal (hDownFwRefIdeal := hDownFwRefIdeal)
    ∧ quiescent_OutFw (hOutFw := hOutFw)
    ∧ quiescent_OutFwIdeal (hOutFwIdeal := hOutFwIdeal)
    ∧ quiescent_OutFwRefIdeal (hOutFwRefIdeal := hOutFwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BrFw (hBrFw := hBrFw)
    ∧ quiescent_BrFwIdeal (hBrFwIdeal := hBrFwIdeal)
    ∧ quiescent_BrFwRefIdeal (hBrFwRefIdeal := hBrFwRefIdeal)
    ∧ quiescent_BrDx (hBrDx := hBrDx)
    ∧ quiescent_BrDxIdeal (hBrDxIdeal := hBrDxIdeal)
    ∧ quiescent_BrDxRefIdeal (hBrDxRefIdeal := hBrDxRefIdeal)
    ∧ quiescent_BrDw (hBrDw := hBrDw)
    ∧ quiescent_BrDwIdeal (hBrDwIdeal := hBrDwIdeal)
    ∧ quiescent_BrDwRefIdeal (hBrDwRefIdeal := hBrDwRefIdeal)
    ∧ quiescent_UpFw (hUpFw := hUpFw)
    ∧ quiescent_UpFwIdeal (hUpFwIdeal := hUpFwIdeal)
    ∧ quiescent_UpFwRefIdeal (hUpFwRefIdeal := hUpFwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_GuFw (hGuFw := hGuFw)
    ∧ quiescent_GuFwIdeal (hGuFwIdeal := hGuFwIdeal)
    ∧ quiescent_GuFwRefIdeal (hGuFwRefIdeal := hGuFwRefIdeal)
    ∧ quiescent_DownDx (hDownDx := hDownDx)
    ∧ quiescent_DownDxIdeal (hDownDxIdeal := hDownDxIdeal)
    ∧ quiescent_DownDxIdeal_pre_finite_mlp (hDownDxIdeal := hDownDxIdeal) (hPre_finite_mlp := hPre_finite_mlp)
    ∧ quiescent_DownDxRefIdeal (hDownDxRefIdeal := hDownDxRefIdeal)
    ∧ quiescent_DownDxRefIdeal_pre_finite_mlp (hDownDxRefIdeal := hDownDxRefIdeal) (hPre_finite_mlp := hPre_finite_mlp)
    ∧ quiescent_InTop (hInTop := hInTop)
    ∧ quiescent_InTopIdeal (hInTopIdeal := hInTopIdeal)
    ∧ quiescent_InTopRefIdeal (hInTopRefIdeal := hInTopRefIdeal)
    ∧ quiescent_InBot (hInBot := hInBot)
    ∧ quiescent_InBotIdeal (hInBotIdeal := hInBotIdeal)
    ∧ quiescent_InBotRefIdeal (hInBotRefIdeal := hInBotRefIdeal)
    ∧ quiescent_AttFw (hAttFw := hAttFw)
    ∧ quiescent_AttFwIdeal (hAttFwIdeal := hAttFwIdeal)
    ∧ quiescent_AttFwIdeal_pre_finite_qkv (hAttFwIdeal := hAttFwIdeal) (hPre_finite_qkv := hPre_finite_qkv)
    ∧ quiescent_AttFwRefIdeal (hAttFwRefIdeal := hAttFwRefIdeal)
    ∧ quiescent_AttFwRefIdeal_pre_finite_qkv (hAttFwRefIdeal := hAttFwRefIdeal) (hPre_finite_qkv := hPre_finite_qkv)
    ∧ preserves_Kernel_KernelIdeal
    ∧ algebraic_KernelIdeal_ReferenceIdeal_pre_finite (hKernelIdeal := hKernelIdeal) (hReferenceIdeal := hReferenceIdeal) (hPre_finite := hPre_finite)
    ∧ preserves_GuDw_GuDwIdeal
    ∧ algebraic_GuDwIdeal_GuDwRefIdeal (hGuDwIdeal := hGuDwIdeal) (hGuDwRefIdeal := hGuDwRefIdeal)
    ∧ preserves_GuDx_GuDxIdeal
    ∧ algebraic_GuDxIdeal_GuDxRefIdeal (hGuDxIdeal := hGuDxIdeal) (hGuDxRefIdeal := hGuDxRefIdeal)
    ∧ preserves_DownDw_DownDwIdeal
    ∧ algebraic_DownDwIdeal_DownDwRefIdeal (hDownDwIdeal := hDownDwIdeal) (hDownDwRefIdeal := hDownDwRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_InFw_InFwIdeal
    ∧ algebraic_InFwIdeal_InFwRefIdeal (hInFwIdeal := hInFwIdeal) (hInFwRefIdeal := hInFwRefIdeal)
    ∧ preserves_DownFw_DownFwIdeal
    ∧ algebraic_DownFwIdeal_DownFwRefIdeal (hDownFwIdeal := hDownFwIdeal) (hDownFwRefIdeal := hDownFwRefIdeal)
    ∧ preserves_OutFw_OutFwIdeal
    ∧ algebraic_OutFwIdeal_OutFwRefIdeal (hOutFwIdeal := hOutFwIdeal) (hOutFwRefIdeal := hOutFwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_BrFw_BrFwIdeal
    ∧ algebraic_BrFwIdeal_BrFwRefIdeal (hBrFwIdeal := hBrFwIdeal) (hBrFwRefIdeal := hBrFwRefIdeal)
    ∧ preserves_BrDx_BrDxIdeal
    ∧ algebraic_BrDxIdeal_BrDxRefIdeal (hBrDxIdeal := hBrDxIdeal) (hBrDxRefIdeal := hBrDxRefIdeal)
    ∧ preserves_BrDw_BrDwIdeal
    ∧ algebraic_BrDwIdeal_BrDwRefIdeal (hBrDwIdeal := hBrDwIdeal) (hBrDwRefIdeal := hBrDwRefIdeal)
    ∧ preserves_UpFw_UpFwIdeal
    ∧ algebraic_UpFwIdeal_UpFwRefIdeal (hUpFwIdeal := hUpFwIdeal) (hUpFwRefIdeal := hUpFwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_GuFw_GuFwIdeal
    ∧ algebraic_GuFwIdeal_GuFwRefIdeal (hGuFwIdeal := hGuFwIdeal) (hGuFwRefIdeal := hGuFwRefIdeal)
    ∧ preserves_DownDx_DownDxIdeal
    ∧ algebraic_DownDxIdeal_DownDxRefIdeal_pre_finite_mlp (hDownDxIdeal := hDownDxIdeal) (hDownDxRefIdeal := hDownDxRefIdeal) (hPre_finite_mlp := hPre_finite_mlp)
    ∧ preserves_InTop_InTopIdeal
    ∧ algebraic_InTopIdeal_InTopRefIdeal (hInTopIdeal := hInTopIdeal) (hInTopRefIdeal := hInTopRefIdeal)
    ∧ preserves_InBot_InBotIdeal
    ∧ algebraic_InBotIdeal_InBotRefIdeal (hInBotIdeal := hInBotIdeal) (hInBotRefIdeal := hInBotRefIdeal)
    ∧ preserves_AttFw_AttFwIdeal
    ∧ algebraic_AttFwIdeal_AttFwRefIdeal_pre_finite_qkv (hAttFwIdeal := hAttFwIdeal) (hAttFwRefIdeal := hAttFwRefIdeal) (hPre_finite_qkv := hPre_finite_qkv)
-- ==== Pre_finite.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x8x192 .f32) (main_arg1 : FVec F S8192x8x192 .f32) (main_arg2 : FVec F S8192x8x128 .f32) (main_arg3 : FVec F S8192x8x128 .f32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_v4 : FVec F S8192x8x192 .f32 := Host.absf main_arg1
  let main_cst_0 : FVec F S_ .f32 := constant S_ .f32 0x7F800000#32
  let main_v5 : FVec F S8192x8x192 .f32 := broadcastInDim S8192x8x192 ![] bcast_S_S8192x8x192 main_cst_0
  let main_v6 : IVec S8192x8x192 1 := cmpf .olt main_v4 main_v5
  let main_c_1 : IVec S_ 1 := constantI S_ 1 1#1
  let main_v7 : IVec S_ 1 := (fun x v => Host.reduce IntOp.andi x v reducesTo_S8192x8x192_S_d0_1_2 h_S_) main_v6 main_c_1
  let main_v8 : FVec F S8192x8x128 .f32 := Host.absf main_arg2
  let main_cst_2 : FVec F S_ .f32 := constant S_ .f32 0x7F800000#32
  let main_v9 : FVec F S8192x8x128 .f32 := broadcastInDim S8192x8x128 ![] bcast_S_S8192x8x128 main_cst_2
  let main_v10 : IVec S8192x8x128 1 := cmpf .olt main_v8 main_v9
  let main_c_3 : IVec S_ 1 := constantI S_ 1 1#1
  let main_v11 : IVec S_ 1 := (fun x v => Host.reduce IntOp.andi x v reducesTo_S8192x8x128_S_d0_1_2 h_S_) main_v10 main_c_3
  let main_v12 : FVec F S8192x8x128 .f32 := Host.absf main_arg3
  let main_cst_4 : FVec F S_ .f32 := constant S_ .f32 0x7F800000#32
  let main_v13 : FVec F S8192x8x128 .f32 := broadcastInDim S8192x8x128 ![] bcast_S_S8192x8x128 main_cst_4
  let main_v14 : IVec S8192x8x128 1 := cmpf .olt main_v12 main_v13
  let main_c_5 : IVec S_ 1 := constantI S_ 1 1#1
  let main_v15 : IVec S_ 1 := (fun x v => Host.reduce IntOp.andi x v reducesTo_S8192x8x128_S_d0_1_2 h_S_) main_v14 main_c_5
  fn_part1 (F := F) main_v3 main_v7 main_v11 main_v15
-- ==== Pre_finite_mlp.lean ====
abbrev S8192x11264 : Shape := ⟨2, ![8192, 11264]⟩
abbrev S5632x2048 : Shape := ⟨2, ![5632, 2048]⟩
abbrev S8192x2048 : Shape := ⟨2, ![8192, 2048]⟩
abbrev S_ : Shape := ⟨0, ![]⟩

class Facts : Prop where
  bcast_S_S8192x11264 : S_.BroadcastsInDim S8192x11264 (![] : Fin 0 → Fin S8192x11264.rank)
  reducesTo_S8192x11264_S_d0_1 : S8192x11264.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x11264 .f32) (main_arg1 : FVec F S5632x2048 .f32) (main_arg2 : FVec F S8192x2048 .f32) : IVec S_ 1 :=
  let main_v0 : FVec F S8192x11264 .f32 := Host.absf main_arg0
  let main_cst : FVec F S_ .f32 := constant S_ .f32 0x7F800000#32
  let main_v1 : FVec F S8192x11264 .f32 := broadcastInDim S8192x11264 ![] bcast_S_S8192x11264 main_cst
  let main_v2 : IVec S8192x11264 1 := cmpf .olt main_v0 main_v1
  let main_c : IVec S_ 1 := constantI S_ 1 1#1
  let main_v3 : IVec S_ 1 := (fun x v => Host.reduce IntOp.andi x v reducesTo_S8192x11264_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : FVec F S8192x2048 .f32 := Host.absf main_arg2
  let main_cst_2 : FVec F S_ .f32 := constant S_ .f32 0x7F800000#32
  let main_v9 : FVec F S8192x2048 .f32 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : IVec S_ 1 := andi main_v3 main_v7
  let main_v13 : IVec S_ 1 := andi main_v12 main_v11
  main_v13
-- ==== Pre_finite_qkv.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_

variable [Facts]

def fn {F : FTy → Type} [FloatOps F] (main_arg0 : FVec F S8192x8x192 .f32) (main_arg1 : FVec F S8192x8x192 .f32) (main_arg2 : FVec F S8192x8x128 .f32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_v4 : FVec F S8192x8x192 .f32 := Host.absf main_arg1
  let main_cst_0 : FVec F S_ .f32 := constant S_ .f32 0x7F800000#32
  let main_v5 : FVec F S8192x8x192 .f32 := broadcastInDim S8192x8x192 ![] bcast_S_S8192x8x192 main_cst_0
  let main_v6 : IVec S8192x8x192 1 := cmpf .olt main_v4 main_v5
  let main_c_1 : IVec S_ 1 := constantI S_ 1 1#1
  let main_v7 : IVec S_ 1 := (fun x v => Host.reduce IntOp.andi x v reducesTo_S8192x8x192_S_d0_1_2 h_S_) main_v6 main_c_1
  let main_v8 : FVec F S8192x8x128 .f32 := Host.absf main_arg2
  let main_cst_2 : FVec F S_ .f32 := constant S_ .f32 0x7F800000#32
  let main_v9 : FVec F S8192x8x128 .f32 := broadcastInDim S8192x8x128 ![] bcast_S_S8192x8x128 main_cst_2
  let main_v10 : IVec S8192x8x128 1 := cmpf .olt main_v8 main_v9
  let main_c_3 : IVec S_ 1 := constantI S_ 1 1#1
  let main_v11 : IVec S_ 1 := (fun x v => Host.reduce IntOp.andi x v reducesTo_S8192x8x128_S_d0_1_2 h_S_) main_v10 main_c_3
  let main_v12 : IVec S_ 1 := andi main_v3 main_v7
  let main_v13 : IVec S_ 1 := andi main_v12 main_v11
  main_v13
-- ==== Kernel.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8192x8x256 : Shape := ⟨3, ![8192, 8, 256]⟩
abbrev S8192x2048 : Shape := ⟨2, ![8192, 2048]⟩
abbrev S2048x256 : Shape := ⟨2, ![2048, 256]⟩
abbrev S2048x128 : Shape := ⟨2, ![2048, 128]⟩
abbrev S1x2048x1 : Shape := ⟨3, ![1, 2048, 1]⟩
abbrev S8192x256 : Shape := ⟨2, ![8192, 256]⟩
abbrev S2048x1 : Shape := ⟨2, ![2048, 1]⟩
abbrev S512x256 : Shape := ⟨2, ![512, 256]⟩
abbrev S512x128 : Shape := ⟨2, ![512, 128]⟩
abbrev S512x2048 : Shape := ⟨2, ![512, 2048]⟩
abbrev S512x1 : Shape := ⟨2, ![512, 1]⟩
abbrev S512 : Shape := ⟨1, ![512]⟩

abbrev nBuf : Space → Nat
  | .hbm => 58
  | .vmem => 20
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x8x128, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x8192, .f32⟩
  | .hbm, ⟨21, _⟩ => ⟨S_, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x128x8192, .f32⟩
  | .hbm, ⟨40, _⟩ => ⟨S8192x8x128, .f32⟩
  | .hbm, ⟨41, _⟩ => ⟨S8192x1024, .f32⟩
  | .hbm, ⟨42, _⟩ => ⟨S_, .i32⟩
  | .hbm, ⟨43, _⟩ => ⟨S_, .f32⟩
  | .hbm, ⟨44, _⟩ => ⟨S8192x8x256, .f32⟩
  | .hbm, ⟨45, _⟩ => ⟨S8192x2048, .f32⟩
  | .hbm, ⟨46, _⟩ => ⟨S8192x2048, .bf16⟩
  | .hbm, ⟨47, _⟩ => ⟨S_, .i32⟩
  | .hbm, ⟨48, _⟩ => ⟨S_, .f32⟩
  | .hbm, ⟨49, _⟩ => ⟨S8192x8x256, .f32⟩
  | .hbm, ⟨50, _⟩ => ⟨S8192x2048, .f32⟩
  | .hbm, ⟨51, _⟩ => ⟨S8192x2048, .bf16⟩
  | .hbm, ⟨52, _⟩ => ⟨S8192x1024, .f32⟩
  | .hbm, ⟨53, _⟩ => ⟨S8192x1024, .bf16⟩
  | .hbm, ⟨54, _⟩ => ⟨S8192x1024, .f32⟩
  | .hbm, ⟨55, _⟩ => ⟨S8192x2048, .f32⟩
  | .hbm, ⟨56, _⟩ => ⟨S8192x2048, .f32⟩
  | .hbm, ⟨57, _⟩ => ⟨S8192x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x2048x1, .f32⟩
  | .local _ .vmem, ⟨9, _⟩ => ⟨S1x2048x1, .f32⟩
  | .local _ .vmem, ⟨10, _⟩ => ⟨S2048x128, .f32⟩
  | .local _ .vmem, ⟨11, _⟩ => ⟨S2048x128, .f32⟩
  | .local _ .vmem, ⟨12, _⟩ => ⟨S8192x256, .f32⟩
  | .local _ .vmem, ⟨13, _⟩ => ⟨S8192x256, .f32⟩
  | .local _ .vmem, ⟨14, _⟩ => ⟨S2048x256, .f32⟩
  | .local _ .vmem, ⟨15, _⟩ => ⟨S2048x256, .f32⟩
  | .local _ .vmem, ⟨16, _⟩ => ⟨S2048x128, .f32⟩
  | .local _ .vmem, ⟨17, _⟩ => ⟨S2048x128, .f32⟩
  | .local _ .vmem, ⟨18, _⟩ => ⟨S2048x256, .f32⟩
  | .local _ .vmem, ⟨19, _⟩ => ⟨S2048x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_call1_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v40_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c2048_i32 : BitVec 32 := 2048#32
  let v138 : BitVec 32 := Scalar.muli arg2 c2048_i32
  v138
def k0_off1 (i : grid0.Coords) : Fin 2 → Nat :=
  let arg2 : BitVec 32 := BitVec.ofNat 32 (i 2).val
  let c2048_i32 : BitVec 32 := 2048#32
  let v138 : BitVec 32 := Scalar.muli arg2 c2048_i32
  let v139 : BitVec 32 := v138
  let v140 : Index := Scalar.indexCast v139
  let c0_67 : Index := 0#32
  ![v140.toNat, 0]
def k0_cond3 (i : grid0.Coords) : BitVec 1 :=
  let arg2 : BitVec 32 := BitVec.ofNat 32 (i 2).val
  let c3_i32 : BitVec 32 := 3#32
  let v153 : BitVec 1 := Scalar.cmpi .eq arg2 c3_i32
  let v154 : BitVec 32 := Scalar.extui v153
  let c0_i32_73 : BitVec 32 := 0#32
  let v155 : BitVec 1 := Scalar.cmpi .ne v154 c0_i32_73
  v155

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.log 2)⁻¹ * (Real.sqrt 192)⁻¹ : ℝ) : EReal)
  | _ => none
-- ==== ReferenceIdeal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8192x8x256 : Shape := ⟨3, ![8192, 8, 256]⟩
abbrev S8192x2048 : Shape := ⟨2, ![8192, 2048]⟩
abbrev S8192x1024 : Shape := ⟨2, ![8192, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x8x128, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8192, .f32⟩
  | .hbm, ⟨13, _⟩ => ⟨S8x8192x8192, .i1⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .i1⟩
  | .hbm, ⟨23, _⟩ => ⟨S_, .f32⟩
  | .hbm, ⟨24, _⟩ => ⟨S8x8192, .f32⟩
  | .hbm, ⟨25, _⟩ => ⟨S8x8192, .i1⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S8x128x8192, .f32⟩
  | .hbm, ⟨48, _⟩ => ⟨S8192x8x128, .f32⟩
  | .hbm, ⟨49, _⟩ => ⟨S8x128x8192, .f32⟩
  | .hbm, ⟨50, _⟩ => ⟨S8x8192x8192, .f32⟩
  | .hbm, ⟨51, _⟩ => ⟨S8x128x8192, .f32⟩
  | .hbm, ⟨52, _⟩ => ⟨S8192x8x128, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S8x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S8x8192x192, .f32⟩
  | .hbm, ⟨70, _⟩ => ⟨S8192x8x192, .f32⟩
  | .hbm, ⟨71, _⟩ => ⟨S8x8192x192, .f32⟩
  | .hbm, ⟨72, _⟩ => ⟨S8192x8x192, .f32⟩
  | .hbm, ⟨73, _⟩ => ⟨S_, .i32⟩
  | .hbm, ⟨74, _⟩ => ⟨S_, .f32⟩
  | .hbm, ⟨75, _⟩ => ⟨S8192x8x256, .f32⟩
  | .hbm, ⟨76, _⟩ => ⟨S8192x2048, .f32⟩
  | .hbm, ⟨77, _⟩ => ⟨S_, .i32⟩
  | .hbm, ⟨78, _⟩ => ⟨S_, .f32⟩
  | .hbm, ⟨79, _⟩ => ⟨S8192x8x256, .f32⟩
  | .hbm, ⟨80, _⟩ => ⟨S8192x2048, .f32⟩
  | .hbm, ⟨81, _⟩ => ⟨S8192x1024, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c : Ref sig .tc := ⟨.hbm, 73, rfl⟩
abbrev main_call0_v0 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_call1_v0 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== GuDw.lean ====
abbrev S8192x2048 : Shape := ⟨2, ![8192, 2048]⟩
abbrev S2048x11264 : Shape := ⟨2, ![2048, 11264]⟩
abbrev S8192x11264 : Shape := ⟨2, ![8192, 11264]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S2048x11264, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDwRefIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .f32⟩
  | .hbm, ⟨4, _⟩ => ⟨S11264x2048, .f32⟩
  | .hbm, ⟨5, _⟩ => ⟨S2048x11264, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GuDx.lean ====
abbrev S8192x2048 : Shape := ⟨2, ![8192, 2048]⟩
abbrev S2048x11264 : Shape := ⟨2, ![2048, 11264]⟩
abbrev S8192x11264 : Shape := ⟨2, ![8192, 11264]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S2048x11264, .bf16⟩
  | .hbm, ⟨4, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32_6 : BitVec 32 := 10#32
  let v13 : BitVec 1 := Scalar.cmpi .eq arg2 c10_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDxRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownDw.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S5632x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDw.lean ====
abbrev S8192x2048 : Shape := ⟨2, ![8192, 2048]⟩
abbrev S2048x13440 : Shape := ⟨2, ![2048, 13440]⟩
abbrev S8192x13440 : Shape := ⟨2, ![8192, 13440]⟩
abbrev S1024x1024 : Shape := ⟨2, ![1024, 1024]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x13440, .f32⟩
  | .hbm, ⟨2, _⟩ => ⟨S8192x13440, .f32⟩
  | .hbm, ⟨3, _⟩ => ⟨S2048x13440, .f32⟩
  | .local _ .vmem, ⟨0, _⟩ => ⟨S1024x1024, .f32⟩
  | .local _ .vmem, ⟨1, _⟩ => ⟨S1024x1024, .f32⟩
  | .local _ .vmem, ⟨2, _⟩ => ⟨S1024x896, .f32⟩
  | .local _ .vmem, ⟨3, _⟩ => ⟨S1024x896, .f32⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 15, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x2048 : Shape := ⟨2, ![8192, 2048]⟩
abbrev S2048x13440 : Shape := ⟨2, ![2048, 13440]⟩
abbrev S8192x13440 : Shape := ⟨2, ![8192, 13440]⟩
abbrev S13440x2048 : Shape := ⟨2, ![13440, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x13440, .f32⟩
  | .hbm, ⟨2, _⟩ => ⟨S8192x13440, .f32⟩
  | .hbm, ⟨3, _⟩ => ⟨S8192x13440, .f32⟩
  | .hbm, ⟨4, _⟩ => ⟨S13440x2048, .f32⟩
  | .hbm, ⟨5, _⟩ => ⟨S2048x13440, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDx.lean ====
abbrev S8192x2048 : Shape := ⟨2, ![8192, 2048]⟩
abbrev S2048x13440 : Shape := ⟨2, ![2048, 13440]⟩
abbrev S8192x13440 : Shape := ⟨2, ![8192, 13440]⟩
abbrev S1024x1920 : Shape := ⟨2, ![1024, 1920]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x13440, .f32⟩
  | .hbm, ⟨2, _⟩ => ⟨S8192x13440, .f32⟩
  | .hbm, ⟨3, _⟩ => ⟨S2048x13440, .bf16⟩
  | .hbm, ⟨4, _⟩ => ⟨S8192x2048, .f32⟩
  | .local _ .vmem, ⟨0, _⟩ => ⟨S1024x1920, .f32⟩
  | .local _ .vmem, ⟨1, _⟩ => ⟨S1024x1920, .f32⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 7], ![false, false, false]⟩

def k0_cond3 (i : grid0.Coords) : BitVec 1 :=
  let arg2 : BitVec 32 := BitVec.ofNat 32 (i 2).val
  let c6_i32_6 : BitVec 32 := 6#32
  let v13 : BitVec 1 := Scalar.cmpi .eq arg2 c6_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x2048 : Shape := ⟨2, ![8192, 2048]⟩
abbrev S2048x13440 : Shape := ⟨2, ![2048, 13440]⟩
abbrev S8192x13440 : Shape := ⟨2, ![8192, 13440]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x13440, .f32⟩
  | .hbm, ⟨2, _⟩ => ⟨S8192x13440, .f32⟩
  | .hbm, ⟨3, _⟩ => ⟨S8192x13440, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InFw.lean ====
abbrev S8192x2048 : Shape := ⟨2, ![8192, 2048]⟩
abbrev S2048x13440 : Shape := ⟨2, ![2048, 13440]⟩
abbrev S8192x13440 : Shape := ⟨2, ![8192, 13440]⟩
abbrev S1024x1024 : Shape := ⟨2, ![1024, 1024]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x13440, .f32⟩
  | .hbm, ⟨2, _⟩ => ⟨S2048x13440, .bf16⟩
  | .hbm, ⟨3, _⟩ => ⟨S8192x13440, .f32⟩
  | .local _ .vmem, ⟨0, _⟩ => ⟨S1024x1024, .f32⟩
  | .local _ .vmem, ⟨1, _⟩ => ⟨S1024x1024, .f32⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 15, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwRefIdeal.lean ====
abbrev S8192x2048 : Shape := ⟨2, ![8192, 2048]⟩
abbrev S2048x13440 : Shape := ⟨2, ![2048, 13440]⟩
abbrev S8192x13440 : Shape := ⟨2, ![8192, 13440]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x13440, .f32⟩
  | .hbm, ⟨2, _⟩ => ⟨S8192x13440, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownFw.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S5632x2048, .bf16⟩
  | .hbm, ⟨3, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutFw.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BrFw.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x2048, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrFwRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BrDx.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S1024x2048, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDxRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== BrDw.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDwRefIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpFw.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S512x2048, .bf16⟩
  | .hbm, ⟨3, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwRefIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpDx.lean ====
abbrev S8192x512 : Shape := ⟨2, ![8192, 512]⟩
abbrev S512x2048 : Shape := ⟨2, ![512, 2048]⟩
abbrev S8192x2048 : Shape := ⟨2, ![8192, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S512x2048, .bf16⟩
  | .hbm, ⟨4, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== UpDw.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S512x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S512x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GuFw.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S1024x2048 : Shape := ⟨2, ![1024, 2048]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S2048x11264, .bf16⟩
  | .hbm, ⟨3, _⟩ => ⟨S8192x11264, .f32⟩
  | .hbm, ⟨4, _⟩ => ⟨S8192x5632, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x512, .f32⟩
  | .local _ .vmem, ⟨7, _⟩ => ⟨S1024x512, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GuFwRefIdeal.lean ====
abbrev S8192x2048 : Shape := ⟨2, ![8192, 2048]⟩
abbrev S2048x11264 : Shape := ⟨2, ![2048, 11264]⟩
abbrev S8192x11264 : Shape := ⟨2, ![8192, 11264]⟩
abbrev S8192x11x2x512 : Shape := ⟨4, ![8192, 11, 2, 512]⟩
abbrev S8192x11x1x512 : Shape := ⟨4, ![8192, 11, 1, 512]⟩
abbrev S8192x11x512 : Shape := ⟨3, ![8192, 11, 512]⟩
abbrev S_ : Shape := ⟨0, ![]⟩
abbrev S8192x5632 : Shape := ⟨2, ![8192, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11x2x512, .f32⟩
  | .hbm, ⟨4, _⟩ => ⟨S8192x11x1x512, .f32⟩
  | .hbm, ⟨5, _⟩ => ⟨S8192x11x512, .f32⟩
  | .hbm, ⟨6, _⟩ => ⟨S8192x11x512, .f32⟩
  | .hbm, ⟨7, _⟩ => ⟨S8192x11x512, .f32⟩
  | .hbm, ⟨8, _⟩ => ⟨S_, .f32⟩
  | .hbm, ⟨9, _⟩ => ⟨S8192x11x512, .f32⟩
  | .hbm, ⟨10, _⟩ => ⟨S8192x11x512, .f32⟩
  | .hbm, ⟨11, _⟩ => ⟨S_, .f32⟩
  | .hbm, ⟨12, _⟩ => ⟨S8192x11x512, .f32⟩
  | .hbm, ⟨13, _⟩ => ⟨S8192x11x512, .f32⟩
  | .hbm, ⟨14, _⟩ => ⟨S8192x11x512, .f32⟩
  | .hbm, ⟨15, _⟩ => ⟨S8192x11x1x512, .f32⟩
  | .hbm, ⟨16, _⟩ => ⟨S8192x11x512, .f32⟩
  | .hbm, ⟨17, _⟩ => ⟨S8192x11x512, .f32⟩
  | .hbm, ⟨18, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== DownDx.lean ====
abbrev S8192x11264 : Shape := ⟨2, ![8192, 11264]⟩
abbrev S5632x2048 : Shape := ⟨2, ![5632, 2048]⟩
abbrev S8192x2048 : Shape := ⟨2, ![8192, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x11264, .f32⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S8192x11264, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x512, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 11, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S8192x11264 : Shape := ⟨2, ![8192, 11264]⟩
abbrev S5632x2048 : Shape := ⟨2, ![5632, 2048]⟩
abbrev S8192x2048 : Shape := ⟨2, ![8192, 2048]⟩
abbrev S8192x11x2x512 : Shape := ⟨4, ![8192, 11, 2, 512]⟩
abbrev S8192x11x1x512 : Shape := ⟨4, ![8192, 11, 1, 512]⟩
abbrev S8192x11x512 : Shape := ⟨3, ![8192, 11, 512]⟩
abbrev S_ : Shape := ⟨0, ![]⟩
abbrev S8192x5632 : Shape := ⟨2, ![8192, 5632]⟩

abbrev nBuf : Space → Nat
  | .hbm => 40
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S5632x2048, .f32⟩
  | .hbm, ⟨2, _⟩ => ⟨S8192x2048, .f32⟩
  | .hbm, ⟨3, _⟩ => ⟨S8192x11x2x512, .f32⟩
  | .hbm, ⟨4, _⟩ => ⟨S8192x11x1x512, .f32⟩
  | .hbm, ⟨5, _⟩ => ⟨S8192x11x512, .f32⟩
  | .hbm, ⟨6, _⟩ => ⟨S8192x11x512, .f32⟩
  | .hbm, ⟨7, _⟩ => ⟨S8192x11x512, .f32⟩
  | .hbm, ⟨8, _⟩ => ⟨S_, .f32⟩
  | .hbm, ⟨9, _⟩ => ⟨S8192x11x512, .f32⟩
  | .hbm, ⟨10, _⟩ => ⟨S8192x11x512, .f32⟩
  | .hbm, ⟨11, _⟩ => ⟨S_, .f32⟩
  | .hbm, ⟨12, _⟩ => ⟨S8192x11x512, .f32⟩
  | .hbm, ⟨13, _⟩ => ⟨S8192x11x512, .f32⟩
  | .hbm, ⟨14, _⟩ => ⟨S_, .f32⟩
  | .hbm, ⟨15, _⟩ => ⟨S8192x11x512, .f32⟩
  | .hbm, ⟨16, _⟩ => ⟨S8192x11x512, .f32⟩
  | .hbm, ⟨17, _⟩ => ⟨S8192x11x512, .f32⟩
  | .hbm, ⟨18, _⟩ => ⟨S8192x11x512, .f32⟩
  | .hbm, ⟨19, _⟩ => ⟨S8192x11x1x512, .f32⟩
  | .hbm, ⟨20, _⟩ => ⟨S8192x11x512, .f32⟩
  | .hbm, ⟨21, _⟩ => ⟨S8192x11x512, .f32⟩
  | .hbm, ⟨22, _⟩ => ⟨S8192x5632, .f32⟩
  | .hbm, ⟨23, _⟩ => ⟨S8192x2048, .f32⟩
  | .hbm, ⟨24, _⟩ => ⟨S8192x5632, .f32⟩
  | .hbm, ⟨25, _⟩ => ⟨S8192x11x512, .f32⟩
  | .hbm, ⟨26, _⟩ => ⟨S8192x11x512, .f32⟩
  | .hbm, ⟨27, _⟩ => ⟨S8192x11x512, .f32⟩
  | .hbm, ⟨28, _⟩ => ⟨S8192x11x1x512, .f32⟩
  | .hbm, ⟨29, _⟩ => ⟨S_, .f32⟩
  | .hbm, ⟨30, _⟩ => ⟨S8192x11x2x512, .f32⟩
  | .hbm, ⟨31, _⟩ => ⟨S8192x11x512, .f32⟩
  | .hbm, ⟨32, _⟩ => ⟨S8192x11x512, .f32⟩
  | .hbm, ⟨33, _⟩ => ⟨S8192x11x512, .f32⟩
  | .hbm, ⟨34, _⟩ => ⟨S8192x11x512, .f32⟩
  | .hbm, ⟨35, _⟩ => ⟨S8192x11x1x512, .f32⟩
  | .hbm, ⟨36, _⟩ => ⟨S_, .f32⟩
  | .hbm, ⟨37, _⟩ => ⟨S8192x11x2x512, .f32⟩
  | .hbm, ⟨38, _⟩ => ⟨S8192x11x2x512, .f32⟩
  | .hbm, ⟨39, _⟩ => ⟨S8192x11264, .f32⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== InTop.lean ====
abbrev S8192x2048 : Shape := ⟨2, ![8192, 2048]⟩
abbrev S1024x13440 : Shape := ⟨2, ![1024, 13440]⟩
abbrev S8192x13440 : Shape := ⟨2, ![8192, 13440]⟩
abbrev S1024x1024 : Shape := ⟨2, ![1024, 1024]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1024x13440, .f32⟩
  | .hbm, ⟨2, _⟩ => ⟨S1024x13440, .bf16⟩
  | .hbm, ⟨3, _⟩ => ⟨S8192x13440, .f32⟩
  | .local _ .vmem, ⟨0, _⟩ => ⟨S1024x1024, .f32⟩
  | .local _ .vmem, ⟨1, _⟩ => ⟨S1024x1024, .f32⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InTopRefIdeal.lean ====
abbrev S8192x2048 : Shape := ⟨2, ![8192, 2048]⟩
abbrev S1024x13440 : Shape := ⟨2, ![1024, 13440]⟩
abbrev S8192x1024 : Shape := ⟨2, ![8192, 1024]⟩
abbrev S8192x13440 : Shape := ⟨2, ![8192, 13440]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x13440, .f32⟩
  | .hbm, ⟨2, _⟩ => ⟨S8192x1024, .f32⟩
  | .hbm, ⟨3, _⟩ => ⟨S8192x13440, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InBot.lean ====
abbrev S8192x2048 : Shape := ⟨2, ![8192, 2048]⟩
abbrev S1024x13440 : Shape := ⟨2, ![1024, 13440]⟩
abbrev S8192x13440 : Shape := ⟨2, ![8192, 13440]⟩
abbrev S1024x1024 : Shape := ⟨2, ![1024, 1024]⟩
abbrev S1024x896 : Shape := ⟨2, ![1024, 896]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1024x13440, .f32⟩
  | .hbm, ⟨2, _⟩ => ⟨S8192x13440, .f32⟩
  | .hbm, ⟨3, _⟩ => ⟨S1024x13440, .bf16⟩
  | .hbm, ⟨4, _⟩ => ⟨S8192x13440, .f32⟩
  | .local _ .vmem, ⟨0, _⟩ => ⟨S1024x1024, .f32⟩
  | .local _ .vmem, ⟨1, _⟩ => ⟨S1024x1024, .f32⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | .local _ .vmem, ⟨7, _⟩ => ⟨S1024x896, .f32⟩
  | .local _ .vmem, ⟨8, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.addi c1_i32 arg2
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBotRefIdeal.lean ====
abbrev S8192x2048 : Shape := ⟨2, ![8192, 2048]⟩
abbrev S1024x13440 : Shape := ⟨2, ![1024, 13440]⟩
abbrev S8192x13440 : Shape := ⟨2, ![8192, 13440]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x13440, .f32⟩
  | .hbm, ⟨2, _⟩ => ⟨S8192x13440, .f32⟩
  | .hbm, ⟨3, _⟩ => ⟨S8192x1024, .f32⟩
  | .hbm, ⟨4, _⟩ => ⟨S8192x13440, .f32⟩
  | .hbm, ⟨5, _⟩ => ⟨S8192x13440, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttFw.lean ====
abbrev S8192x8x192 : Shape := ⟨3, ![8192, 8, 192]⟩
abbrev S8192x8x128 : Shape := ⟨3, ![8192, 8, 128]⟩
abbrev S_ : Shape := ⟨0, ![]⟩
abbrev S8192x8x256 : Shape := ⟨3, ![8192, 8, 256]⟩
abbrev S8192x2048 : Shape := ⟨2, ![8192, 2048]⟩
abbrev S8192x1024 : Shape := ⟨2, ![8192, 1024]⟩
abbrev S8x8192x1 : Shape := ⟨3, ![8, 8192, 1]⟩
abbrev S2048x256 : Shape := ⟨2, ![2048, 256]⟩
abbrev S2048x128 : Shape := ⟨2, ![2048, 128]⟩
abbrev S1x2048x1 : Shape := ⟨3, ![1, 2048, 1]⟩
abbrev S512x256 : Shape := ⟨2, ![512, 256]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S2048x1 : Shape := ⟨2, ![2048, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S_, .i32⟩
  | .hbm, ⟨4, _⟩ => ⟨S_, .f32⟩
  | .hbm, ⟨5, _⟩ => ⟨S8192x8x256, .f32⟩
  | .hbm, ⟨6, _⟩ => ⟨S8192x2048, .f32⟩
  | .hbm, ⟨7, _⟩ => ⟨S8192x2048, .bf16⟩
  | .hbm, ⟨8, _⟩ => ⟨S_, .i32⟩
  | .hbm, ⟨9, _⟩ => ⟨S_, .f32⟩
  | .hbm, ⟨10, _⟩ => ⟨S8192x8x256, .f32⟩
  | .hbm, ⟨11, _⟩ => ⟨S8192x2048, .f32⟩
  | .hbm, ⟨12, _⟩ => ⟨S8192x2048, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8x8192x1, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x2048x1, .f32⟩
  | .local _ .vmem, ⟨9, _⟩ => ⟨S1x2048x1, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v126 : BitVec 1 := Scalar.cmpi .eq arg2 c3_i32
  let v127 : BitVec 32 := Scalar.extui v126
  let c0_i32_40 : BitVec 32 := 0#32
  let v128 : BitVec 1 := Scalar.cmpi .ne v127 c0_i32_40
  v128

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttFwIdeal.lean ====
variable {F : FTy → Type} [FloatOps F] [Named F]
def κ : String → Option EReal := fun
  | "log2e" => some (((Real.log 2)⁻¹ : ℝ) : EReal)
  | "log_2" => some ((Real.log 2 : ℝ) : EReal)
  | "scale_log2e" => some (((Real.log 2)⁻¹ * (Real.sqrt 192)⁻¹ : ℝ) : EReal)
  | _ => none
-- ==== AttFwRefIdeal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8x8192x8192, .f32⟩
  | .hbm, ⟨4, _⟩ => ⟨S_, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x8192, .f32⟩
  | .hbm, ⟨20, _⟩ => ⟨S_, .f32⟩
  | .hbm, ⟨21, _⟩ => ⟨S_, .f32⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x128x8192, .f32⟩
  | .hbm, ⟨39, _⟩ => ⟨S8192x8x128, .f32⟩
  | .hbm, ⟨40, _⟩ => ⟨S8192x1024, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Num.lean ====
/-
  Arrays of real numbers among the extended ones: what a product, a sum over an axis and the pointwise operations
  of a program give on entries that are reals, each entry named by its coordinates as natural numbers.
-/
module

public import Idealize.ShloMosaic.Lib.Pipeline.Value
public import Idealize.ShloMosaic.Lib.ValueIdx
public import Idealize.ShloMosaic.PureOps.Ideal.Laws
public import Mathlib.Analysis.SpecialFunctions.Pow.Real
public import Mathlib.Algebra.BigOperators.Intervals

@[expose] public section

noncomputable section

namespace Att

open Idealize.ShloMosaic Idealize.ShloMosaic.ValueIdx
open scoped BigOperators

/-- A two-axis array holds the real numbers `X`, read at the coordinates. -/
def Is2 {a b : ℕ} (x : (⟨2, ![a, b]⟩ : Shape).Idx → EReal) (X : ℕ → ℕ → ℝ) : Prop :=
  ∀ i, x i = ((X (i (0 : Fin 2)).val (i (1 : Fin 2)).val : ℝ) : EReal)

/-- A three-axis array holds the real numbers `X`, read at the coordinates. -/
def Is3 {a b c : ℕ} (x : (⟨3, ![a, b, c]⟩ : Shape).Idx → EReal) (X : ℕ → ℕ → ℕ → ℝ) : Prop :=
  ∀ i, x i = ((X (i (0 : Fin 3)).val (i (1 : Fin 3)).val (i (2 : Fin 3)).val : ℝ) : EReal)

/-- A sum of reals is the real sum. -/
theorem sum_real {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A sum over the positions of an axis is the sum over the first natural numbers. -/
theorem sum_fin_real {n : ℕ} (f : ℕ → ℝ) : (∑ k : Fin n, ((f k.val : ℝ) : EReal)) = ((∑ k ∈ Finset.range n, f k : ℝ) : EReal) := by
  rw [sum_real, Finset.sum_range]

/-- A product with one contracted coordinate and a zero accumulator, of reals. -/
theorem matmul_real {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx) (L R : ℕ → ℝ)
    (hL : ∀ k : d.contr.Idx, lhs (d.lhsIdx j k) = ((L (k ⟨0, by omega⟩).val : ℝ) : EReal))
    (hR : ∀ k : d.contr.Idx, rhs (d.rhsIdx j k) = ((R (k ⟨0, by omega⟩).val : ℝ) : EReal)) :
    FloatOps.matmul d prec lhs rhs (constant so .f32 0x00000000#32) j
      = ((∑ k ∈ Finset.range K, L k * R k : ℝ) : EReal) := by
  rw [Ideal.matmul_constant_zero_apply, ← Equiv.sum_comp (contrEquiv1 d K hr hs).symm, ← sum_fin_real]
  refine Finset.sum_congr rfl fun k _ => ?_
  rw [hL, hR, contrEquiv1_symm_val, EReal.coe_mul]

/-- The same of a host product. -/
theorem dotGeneral_real {sl sr so : Shape} {φ₁ φ₂ : FTy} (d : DotDims sl sr so) (prec : Option ContractPrecision)
    (sched : HostSchedule) (K : ℕ)
    (hr : d.contr.rank = 1) (hs : d.contr.size ⟨0, by omega⟩ = K)
    (lhs : FVec Ideal sl φ₁) (rhs : FVec Ideal sr φ₂) (j : so.Idx) (L R : ℕ → ℝ)
    (hL : ∀ k : d.contr.Idx, lhs (d.lhsIdx j k) = ((L (k ⟨0, by omega⟩).val : ℝ) : EReal))
    (hR : ∀ k : d.contr.Idx, rhs (d.rhsIdx j k) = ((R (k ⟨0, by omega⟩).val : ℝ) : EReal)) :
    FloatOps.dotGeneral d prec sched lhs rhs j = ((∑ k ∈ Finset.range K, L k * R k : ℝ) : EReal) := by
  rw [Ideal.dotGeneral_apply, ← Equiv.sum_comp (contrEquiv1 d K hr hs).symm, ← sum_fin_real]
  refine Finset.sum_congr rfl fun k _ => ?_
  rw [hL, hR, contrEquiv1_symm_val, EReal.coe_mul]

/-- A power of two whose exponent is scaled by the reciprocal of `log 2` is an exponential. -/
theorem exp2_scaled (a l s : ℝ) :
    Ideal.exp2 (((a * ((Real.log 2)⁻¹ * s) - l * (Real.log 2)⁻¹ : ℝ) : EReal)) = ((Real.exp (a * s - l) : ℝ) : EReal) := by
  have h2 : Real.log 2 ≠ 0 := (Real.log_pos one_lt_two).ne'
  rw [Ideal.exp2_coe]
  congr 1
  show (2 : ℝ) ^ (a * ((Real.log 2)⁻¹ * s) - l * (Real.log 2)⁻¹ : ℝ) = _
  rw [Real.rpow_def_of_pos two_pos]
  congr 1
  field_simp

/-- Four slabs of 512 positions are the 2048 positions of a block. -/
theorem sum_slabs (f : ℕ → ℝ) :
    ∑ r ∈ Finset.range 2048, f r
      = ∑ r ∈ Finset.range 512, f r + ∑ r ∈ Finset.range 512, f (512 + r) + ∑ r ∈ Finset.range 512, f (1024 + r)
        + ∑ r ∈ Finset.range 512, f (1536 + r) := by
  rw [show 2048 = 1536 + 512 from rfl, Finset.sum_range_add, show 1536 = 1024 + 512 from rfl, Finset.sum_range_add,
    show 1024 = 512 + 512 from rfl, Finset.sum_range_add]

end Att

end
-- ==== Proof.Arr.lean ====
/-
  The operations of a program's host lines on arrays of real numbers: pointwise operations, the maximum and the sum over
  the last axis, broadcasts, transposes, reshapes and padding, each entry named by its coordinates.
-/
module

public import proofs.«01_k».proof.Proof.Num
public import Idealize.ShloMosaic.Lib.IdealHost
public import Idealize.ShloMosaic.Lib.Pointwise.Reduce

@[expose] public section

set_option maxHeartbeats 1000000

noncomputable section

namespace Att

open Idealize.ShloMosaic
open scoped BigOperators

theorem Is3.congr {a b c : ℕ} {x : (⟨3, ![a, b, c]⟩ : Shape).Idx → EReal} {X Y : ℕ → ℕ → ℕ → ℝ} (h : Is3 x X)
    (e : ∀ i j k, X i j k = Y i j k) : Is3 x Y := fun i => (h i).trans (congrArg _ (e _ _ _))

/-- The coordinates of an index are in range, so two functions that agree there serve alike. -/
theorem Is3.congr' {a b c : ℕ} {x : (⟨3, ![a, b, c]⟩ : Shape).Idx → EReal} {X Y : ℕ → ℕ → ℕ → ℝ} (h : Is3 x X)
    (e : ∀ i j k, i < a → j < b → k < c → X i j k = Y i j k) : Is3 x Y := fun i =>
  (h i).trans (congrArg _ (e _ _ _ (i (0 : Fin 3)).isLt (i (1 : Fin 3)).isLt (i (2 : Fin 3)).isLt))

/-- Two arrays that hold the same numbers are one. -/
theorem Is2.ext {a b : ℕ} {x y : (⟨2, ![a, b]⟩ : Shape).Idx → EReal} {X Y : ℕ → ℕ → ℝ} (hx : Is2 x X) (hy : Is2 y Y)
    (e : ∀ r d, r < a → d < b → X r d = Y r d) : x = y := funext fun i =>
  (hx i).trans ((congrArg _ (e _ _ (i (0 : Fin 2)).isLt (i (1 : Fin 2)).isLt)).trans (hy i).symm)

/-- An array without infinities holds real numbers. -/
theorem exists_real2 {a b : ℕ} (x : (⟨2, ![a, b]⟩ : Shape).Idx → EReal) (h : ∀ i, ∃ r : ℝ, x i = (r : EReal)) : ∃ X, Is2 x X := by
  choose f hf using h
  refine ⟨fun r d => if h : r < a ∧ d < b then f (ix2 ⟨r, h.1⟩ ⟨d, h.2⟩) else 0, fun i => ?_⟩
  have hi : (i (0 : Fin 2)).val < a ∧ (i (1 : Fin 2)).val < b := ⟨(i (0 : Fin 2)).isLt, (i (1 : Fin 2)).isLt⟩
  rw [hf]
  simp only [dif_pos hi]
  congr 2
  funext k
  fin_cases k <;> rfl

theorem exists_real3 {a b c : ℕ} (x : (⟨3, ![a, b, c]⟩ : Shape).Idx → EReal) (h : ∀ i, ∃ r : ℝ, x i = (r : EReal)) : ∃ X, Is3 x X := by
  choose f hf using h
  refine ⟨fun r d e => if h : r < a ∧ d < b ∧ e < c then f (ix3 ⟨r, h.1⟩ ⟨d, h.2.1⟩ ⟨e, h.2.2⟩) else 0, fun i => ?_⟩
  have hi : (i (0 : Fin 3)).val < a ∧ (i (1 : Fin 3)).val < b ∧ (i (2 : Fin 3)).val < c :=
    ⟨(i (0 : Fin 3)).isLt, (i (1 : Fin 3)).isLt, (i (2 : Fin 3)).isLt⟩
  rw [hf]
  simp only [dif_pos hi]
  congr 2
  funext k
  fin_cases k <;> rfl

section Pointwise
variable {a b c : ℕ} {x y : (⟨3, ![a, b, c]⟩ : Shape).Idx → EReal} {X Y : ℕ → ℕ → ℕ → ℝ}

theorem divf3 (hx : Is3 x X) (hy : Is3 y Y) (h0 : ∀ i j k, Y i j k ≠ 0) :
    Is3 (Host.divf (F := Ideal) (φ := .f32) x y) fun i j k => X i j k * (1 / Y i j k) := fun i => by
  show Ideal.div (x i) (y i) = _
  rw [hx, hy, Ideal.div_coe (h0 _ _ _), ← EReal.coe_mul]
theorem mulf3 (hx : Is3 x X) (hy : Is3 y Y) : Is3 (mulf (F := Ideal) (φ := .f32) x y) fun i j k => X i j k * Y i j k := fun i => by
  show x i * y i = _
  rw [hx, hy, ← EReal.coe_mul]
theorem addf3 (hx : Is3 x X) (hy : Is3 y Y) : Is3 (addf (F := Ideal) (φ := .f32) x y) fun i j k => X i j k + Y i j k := fun i => by
  show x i + y i = _
  rw [hx, hy, ← EReal.coe_add]
theorem subf3 (hx : Is3 x X) (hy : Is3 y Y) : Is3 (subf (F := Ideal) (φ := .f32) x y) fun i j k => X i j k - Y i j k := fun i => by
  show x i - y i = _
  rw [hx, hy, ← EReal.coe_sub]
theorem exp3 (hx : Is3 x X) : Is3 (Host.exp (F := Ideal) (φ := .f32) x) fun i j k => Real.exp (X i j k) := fun i => by
  show Ideal.exp (x i) = _
  rw [hx]; rfl
theorem neg3 (hx : Is3 x X) : Is3 (Host.negf (F := Ideal) (φ := .f32) x) fun i j k => -X i j k := fun i => by
  show -(x i) = _
  rw [hx, ← EReal.coe_neg]
theorem log3 (hx : Is3 x X) (h0 : ∀ i j k, 0 < X i j k) : Is3 (Host.log (F := Ideal) (φ := .f32) x) fun i j k => Real.log (X i j k) := fun i => by
  show Ideal.log (x i) = _
  rw [hx]
  exact if_neg (not_le.mpr (h0 _ _ _))
end Pointwise

/-- The maximum with minus infinity changes nothing. -/
theorem max_bot2 {a b : ℕ} {x y : (⟨2, ![a, b]⟩ : Shape).Idx → EReal} {X : ℕ → ℕ → ℝ} (hx : ∀ i, x i = ⊥) (hy : Is2 y X) :
    Is2 (maximumf (F := Ideal) (φ := .f32) x y) X := fun i => by
  show max (x i) (y i) = _
  rw [hx, hy]
  exact bot_sup_eq _

/-- The maximum of real numbers is one. -/
theorem fold_max_real {ι : Type*} (s : Finset ι) (x : ι → EReal) (h : ∀ i, ∃ r : ℝ, x i = (r : EReal)) :
    s.fold (FloatOps.maximumf (F := Ideal) (φ := .f32)) ⊥ x = ⊥ ∧ s = ∅ ∨ ∃ r : ℝ, s.fold (FloatOps.maximumf (F := Ideal) (φ := .f32)) ⊥ x = (r : EReal) := by
  classical
  induction s using Finset.induction_on with
  | empty => exact .inl ⟨rfl, rfl⟩
  | insert i s hi ih =>
    refine .inr ?_
    obtain ⟨r, hr⟩ := h i
    rw [Finset.fold_insert hi, hr]
    rcases ih with ⟨e, -⟩ | ⟨q, e⟩
    · rw [e]; exact ⟨r, sup_bot_eq _⟩
    · rw [e]; exact ⟨max r q, (EReal.coe_strictMono.monotone.map_max (a := r) (b := q)).symm⟩

theorem hostMax3 {a b c : ℕ} {u : Shape} {x : (⟨3, ![a, b, c + 1]⟩ : Shape).Idx → EReal} {X : ℕ → ℕ → ℕ → ℝ} (hx : Is3 x X)
    (init : u.Idx → EReal) (hi : ∀ i, init i = ⊥)
    (h' : (⟨3, ![a, b, c + 1]⟩ : Shape).ReducesTo [(2 : Fin 3)] ⟨2, ![a, b]⟩) (h : (⟨3, ![a, b, c + 1]⟩ : Shape).Reduces [(2 : Fin 3)] ⟨2, ![a, b]⟩)
    (hu : 0 < u.numel) :
    ∃ M, Is2 (Host.reduce (FloatOps.maximumf (F := Ideal) (φ := .f32)) x init h' hu) M := by
  refine exists_real2 _ fun j => ?_
  rw [Host.reduce_eq_fold_single _ x init h' h hu j, hi]
  rcases fold_max_real (Finset.univ : Finset (Fin ((⟨3, ![a, b, c + 1]⟩ : Shape).size (2 : Fin 3)))) (x ∘ h.lift j) (fun k => ⟨_, hx _⟩) with ⟨-, e⟩ | e
  · exact absurd (e ▸ Finset.mem_univ (⟨0, Nat.succ_pos c⟩ : Fin (c + 1))) (Finset.notMem_empty _)
  · exact e

theorem hostSum3 {a b c : ℕ} {u : Shape} {x : (⟨3, ![a, b, c]⟩ : Shape).Idx → EReal} {X : ℕ → ℕ → ℕ → ℝ} (hx : Is3 x X)
    (init : u.Idx → EReal) (hi : ∀ i, init i = 0)
    (h : (⟨3, ![a, b, c]⟩ : Shape).ReducesTo [(2 : Fin 3)] ⟨2, ![a, b]⟩) (hu : 0 < u.numel) :
    Is2 (Host.reduceAdd (F := Ideal) (φ := .f32) x init h hu) fun i j => ∑ k ∈ Finset.range c, X i j k := fun j => by
  rw [ValueIdx.hostReduceAdd_apply, hi, Ideal.hostReduceAdd_r3_a2, zero_add, ← sum_fin_real]
  exact Finset.sum_congr rfl fun k _ => hx _

section Layout
variable {a b c d : ℕ}

theorem bcast_unit {x : (⟨2, ![a, b]⟩ : Shape).Idx → EReal} {X : ℕ → ℕ → ℝ} (hx : Is2 x X) (ha : a ≠ 1) (hb : b ≠ 1)
    (h : (⟨2, ![a, b]⟩ : Shape).BroadcastsInDim ⟨3, ![a, b, c]⟩ ![(0 : Fin 3), 1]) :
    Is3 (broadcastInDim ⟨3, ![a, b, c]⟩ ![(0 : Fin 3), 1] h x) fun i j _ => X i j := fun i =>
  (broadcastInDim_apply ![(0 : Fin 3), 1] h x i (ix2 (i (0 : Fin 3)) (i (1 : Fin 3))) fun k => by
    fin_cases k
    · exact (if_neg ha).symm
    · exact (if_neg hb).symm).trans (hx _)

theorem bcast_last {x : (⟨3, ![a, b, 1]⟩ : Shape).Idx → EReal} {X : ℕ → ℕ → ℕ → ℝ} (hx : Is3 x X) (ha : a ≠ 1) (hb : b ≠ 1)
    (h : (⟨3, ![a, b, 1]⟩ : Shape).BroadcastsInDim ⟨3, ![a, b, c]⟩ ![(0 : Fin 3), 1, 2]) :
    Is3 (broadcastInDim ⟨3, ![a, b, c]⟩ ![(0 : Fin 3), 1, 2] h x) fun i j _ => X i j 0 := fun i =>
  (broadcastInDim_apply ![(0 : Fin 3), 1, 2] h x i (ix3 (i (0 : Fin 3)) (i (1 : Fin 3)) ⟨0, Nat.one_pos⟩) fun k => by
    fin_cases k
    · exact (if_neg ha).symm
    · exact (if_neg hb).symm
    · rfl).trans (hx _)

theorem bcast_const {u : Shape} {x : u.Idx → EReal} {r : ℝ} (hx : ∀ i, x i = (r : EReal)) (dims : Fin u.rank → Fin 3)
    (h : u.BroadcastsInDim ⟨3, ![a, b, c]⟩ dims) :
    Is3 (broadcastInDim ⟨3, ![a, b, c]⟩ dims h x) fun _ _ _ => r := fun i => hx _

theorem transpose_120 {x : (⟨3, ![a, b, c]⟩ : Shape).Idx → EReal} {X : ℕ → ℕ → ℕ → ℝ} (hx : Is3 x X)
    (h : (⟨3, ![a, b, c]⟩ : Shape).Transposes [1, 2, 0] ⟨3, ![b, c, a]⟩) :
    Is3 (transpose ⟨3, ![b, c, a]⟩ [1, 2, 0] x h) fun i j k => X k i j := fun i =>
  (transpose_apply [1, 2, 0] x h i (ix3 (i (2 : Fin 3)) (i (0 : Fin 3)) (i (1 : Fin 3))) fun k => by fin_cases k <;> rfl).trans (hx _)
theorem transpose_201 {x : (⟨3, ![a, b, c]⟩ : Shape).Idx → EReal} {X : ℕ → ℕ → ℕ → ℝ} (hx : Is3 x X)
    (h : (⟨3, ![a, b, c]⟩ : Shape).Transposes [2, 0, 1] ⟨3, ![c, a, b]⟩) :
    Is3 (transpose ⟨3, ![c, a, b]⟩ [2, 0, 1] x h) fun i j k => X j k i := fun i =>
  (transpose_apply [2, 0, 1] x h i (ix3 (i (1 : Fin 3)) (i (2 : Fin 3)) (i (0 : Fin 3))) fun k => by fin_cases k <;> rfl).trans (hx _)
theorem transpose_102 {x : (⟨3, ![a, b, c]⟩ : Shape).Idx → EReal} {X : ℕ → ℕ → ℕ → ℝ} (hx : Is3 x X)
    (h : (⟨3, ![a, b, c]⟩ : Shape).Transposes [1, 0, 2] ⟨3, ![b, a, c]⟩) :
    Is3 (transpose ⟨3, ![b, a, c]⟩ [1, 0, 2] x h) fun i j k => X j i k := fun i =>
  (transpose_apply [1, 0, 2] x h i (ix3 (i (1 : Fin 3)) (i (0 : Fin 3)) (i (2 : Fin 3))) fun k => by fin_cases k <;> rfl).trans (hx _)

/-- The last two axes as one. -/
theorem join_real {x : (⟨3, ![a, b, c]⟩ : Shape).Idx → EReal} {X : ℕ → ℕ → ℕ → ℝ} (hx : Is3 x X) (hd : d = b * c)
    (h : (⟨3, ![a, b, c]⟩ : Shape).ShapeCasts ⟨2, ![a, d]⟩) :
    Is2 (shapeCast ⟨2, ![a, d]⟩ x h) fun i j => X i (j / c) (j % c) := fun i => by
  subst hd
  have hl : (i (1 : Fin 2)).val < b * c := (i (1 : Fin 2)).isLt
  have hc : 0 < c := Nat.pos_of_ne_zero fun e => by subst e; exact absurd hl (Nat.not_lt_zero _)
  refine (shapeCast_apply x h i (ix3 (i (0 : Fin 2)) ⟨(i (1 : Fin 2)).val / c, Nat.div_lt_of_lt_mul (Nat.mul_comm b c ▸ hl)⟩
    ⟨(i (1 : Fin 2)).val % c, Nat.mod_lt _ hc⟩) ?_).trans (hx _)
  rw [Shape.rowMajor_val_two, Shape.rowMajor_val_three]
  show ((i (0 : Fin 2)).val * b + (i (1 : Fin 2)).val / c) * c + (i (1 : Fin 2)).val % c = (i (0 : Fin 2)).val * (b * c) + (i (1 : Fin 2)).val
  have := Nat.div_add_mod (i (1 : Fin 2)).val c
  nlinarith

/-- A unit axis at the end. -/
theorem unit_real {x : (⟨2, ![a, b]⟩ : Shape).Idx → EReal} {X : ℕ → ℕ → ℝ} (hx : Is2 x X)
    (h : (⟨2, ![a, b]⟩ : Shape).ShapeCasts ⟨3, ![a, b, 1]⟩) :
    Is3 (shapeCast ⟨3, ![a, b, 1]⟩ x h) fun i j _ => X i j := fun i => by
  have hl : (i (2 : Fin 3)).val < 1 := (i (2 : Fin 3)).isLt
  refine (shapeCast_apply x h i (ix2 (i (0 : Fin 3)) (i (1 : Fin 3))) ?_).trans (hx _)
  rw [Shape.rowMajor_val_two, Shape.rowMajor_val_three]
  show (i (0 : Fin 3)).val * b + (i (1 : Fin 3)).val = ((i (0 : Fin 3)).val * b + (i (1 : Fin 3)).val) * 1 + (i (2 : Fin 3)).val
  omega

/-- Zeros behind the numbers of the last axis. -/
theorem pad_real {u : Shape} {e : ℕ} {x : (⟨3, ![a, b, c]⟩ : Shape).Idx → EReal} {X : ℕ → ℕ → ℕ → ℝ} (hx : Is3 x X) (v : u.Idx → EReal)
    (hv : ∀ i, v i = 0) (h : (⟨3, ![a, b, c]⟩ : Shape).Pads ![0, 0, 0] ![0, 0, e] ![0, 0, 0] ⟨3, ![a, b, d]⟩) (hu : 0 < u.numel) :
    Is3 (pad ⟨3, ![a, b, d]⟩ ![0, 0, 0] ![0, 0, e] ![0, 0, 0] x v h hu) fun i j k => if k < c then X i j k else 0 := fun i => by
  by_cases hk : (i (2 : Fin 3)).val < c
  · unfold pad
    rw [dif_pos]
    · refine (hx _).trans ?_
      simp only [if_pos hk]
      refine congrArg (fun z : ℝ => (z : EReal)) ?_
      show X (((i (0 : Fin 3)).val - 0) / (0 + 1)) (((i (1 : Fin 3)).val - 0) / (0 + 1)) (((i (2 : Fin 3)).val - 0) / (0 + 1)) = _
      simp only [Nat.sub_zero, Nat.zero_add, Nat.div_one]
    · intro k
      fin_cases k
      · exact ⟨Nat.zero_le _, Nat.mod_one _, by show ((i (0 : Fin 3)).val - 0) / (0 + 1) < a; simpa using (i (0 : Fin 3)).isLt⟩
      · exact ⟨Nat.zero_le _, Nat.mod_one _, by show ((i (1 : Fin 3)).val - 0) / (0 + 1) < b; simpa using (i (1 : Fin 3)).isLt⟩
      · exact ⟨Nat.zero_le _, Nat.mod_one _, by show ((i (2 : Fin 3)).val - 0) / (0 + 1) < c; simpa using hk⟩
  · unfold pad
    rw [dif_neg, hv]
    · simp only [if_neg hk]; rfl
    · intro hin
      have : ((i (2 : Fin 3)).val - 0) / (0 + 1) < c := (hin (2 : Fin 3)).2.2
      exact hk (by simpa using this)
end Layout

end Att

end
-- ==== Proof.Finite.lean ====
/-
  The precondition makes every number of the four arguments real.
-/
module

public import proofs.«01_k».proof.Defs
public import proofs.«01_k».proof.Proof.Arr
public import Idealize.ShloMosaic.Lib.ReduceAll

@[expose] public section

set_option maxHeartbeats 1000000

noncomputable section

namespace Cert.Pre_finite

open Idealize.ShloMosaic

instance facts : Facts := ⟨by decide, by decide, by decide, by decide, by decide⟩

/-- An entry whose absolute value is below infinity is a real number. -/
theorem real_of_lt {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  have hlt : max x (-x) < ⊤ := by
    by_contra hn
    rw [ht] at h
    have : Ideal.cmp .olt (max x (-x)) ⊤ = BitVec.ofBool (decide (max x (-x) < ⊤)) := rfl
    rw [this, decide_eq_false hn] at h
    exact absurd h (by decide)
  induction x with
  | bot => simp at hlt
  | top => simp at hlt
  | coe r => exact ⟨r, rfl⟩

/-- A conjunction of two bits is one only if both are. -/
theorem and_one {a b : BitVec 1} (h : a &&& b = 1#1) : a = 1#1 ∧ b = 1#1 := by
  revert a b; decide

theorem reals_of_all {s u : Shape} {axes : List (Fin s.rank)} (x : FVec Ideal s .f32) (init : S_.Idx → BitVec 1) (b : S_.BroadcastsInDim s ![])
    (h : s.ReducesTo axes S_) (hu : 0 < S_.numel) (j : S_.Idx)
    (e : Host.reduce IntOp.andi (cmpf .olt (Host.absf x) (broadcastInDim s ![] b (constant (F := Ideal) S_ .f32 0x7F800000#32))) init h hu j = 1#1) (i : s.Idx) :
    ∃ r : ℝ, x i = (r : EReal) :=
  haveI : Subsingleton S_.Idx := ⟨fun p q => funext fun k => k.elim0⟩
  real_of_lt (Host.reduce_andi_all _ _ h hu j e i)

/-- Every entry of the four arrays is real. -/
theorem reals (q k : FVec Ideal S8192x8x192 .f32) (v d : FVec Ideal S8192x8x128 .f32) (h : fn (F := Ideal) q k v d = fun _ => 1#1) :
    (∃ Q, Att.Is3 (a := 8192) (b := 8) (c := 192) q Q) ∧ (∃ K, Att.Is3 (a := 8192) (b := 8) (c := 192) k K)
      ∧ (∃ W, Att.Is3 (a := 8192) (b := 8) (c := 128) v W) ∧ ∃ D, Att.Is3 (a := 8192) (b := 8) (c := 128) d D := by
  let j : S_.Idx := fun k => k.elim0
  have e := congrFun h j
  obtain ⟨e, h3⟩ := and_one e
  obtain ⟨e, h2⟩ := and_one e
  obtain ⟨h0, h1⟩ := and_one e
  exact ⟨Att.exists_real3 q (reals_of_all (u := S_) q _ _ _ _ j h0), Att.exists_real3 k (reals_of_all (u := S_) k _ _ _ _ j h1),
    Att.exists_real3 v (reals_of_all (u := S_) v _ _ _ _ j h2), Att.exists_real3 d (reals_of_all (u := S_) d _ _ _ _ j h3)⟩

end Cert.Pre_finite

end
-- ==== Proof.Slab.lean ====
/-
  One slab of 512 query positions against one block of 2048 key positions: the five products of the backward pass,
  on real numbers.
-/
module

public import proofs.«01_k».proof.Proof.Num
public import proofs.«01_k».proof.Proof.Gen.KernelIdeal
public import proofs.«01_k».proof.Proof.Gen.KernelIdeal.Skeleton

@[expose] public section

noncomputable section

namespace Att

open Cert.KernelIdeal Cert.KernelIdeal.Gen Idealize.ShloMosaic Idealize.ShloMosaic.ValueIdx
open scoped BigOperators

/-- The factor of the scores: one over the square root of a head's 192 numbers. -/
def rs : ℝ := (Real.sqrt 192)⁻¹

/-! ## On real numbers -/

/-- The probability of key `c` at query `r`, from the logarithm `L` of the row's sum. -/
def prR (Q K : ℕ → ℕ → ℝ) (L : ℕ → ℝ) (r c : ℕ) : ℝ := Real.exp ((∑ d ∈ Finset.range 256, Q r d * K c d) * rs - L r)

/-- The gradient of the score of key `c` at query `r`. -/
def dsR (Q K V D O : ℕ → ℕ → ℝ) (L : ℕ → ℝ) (r c : ℕ) : ℝ :=
  prR Q K L r c * ((∑ e ∈ Finset.range 128, D r e * V c e) - ∑ e ∈ Finset.range 128, D r e * O r e) * rs

/-! ## On the arrays of the program -/

/-- The values of the named constants. -/
theorem named_log2e : (Named.named (F := Ideal) κ "log2e" (φ := .f32) 0x3FB8AA3B#32 : EReal) = (((Real.log 2)⁻¹ : ℝ) : EReal) :=
  IdealRules.named_const.ideal_named_scalar _ _ _ _ rfl
theorem named_scale : (Named.named (F := Ideal) κ "scale" (φ := .f32) 0x3D93CD3A#32 : EReal) = ((rs : ℝ) : EReal) :=
  IdealRules.named_const.ideal_named_scalar _ _ _ _ rfl
theorem named_both : (Named.named (F := Ideal) κ "scale_log2e" (φ := .f32) 0x3DD53B95#32 : EReal) = (((Real.log 2)⁻¹ * rs : ℝ) : EReal) :=
  IdealRules.named_const.ideal_named_scalar _ _ _ _ rfl

/-- The probabilities of a slab. -/
def prob (k : FVec Ideal S2048x256 .bf16) (l : FVec Ideal S512x1 .f32) (q : FVec Ideal S512x256 .bf16) : FVec Ideal S512x2048 .f32 :=
  exp2 (subf (mulf (matmul dot_S512x256_S2048x256_S512x2048_1_1_0_0_n_n none q k (constant S512x2048 .f32 0x00000000#32))
    (broadcast S512x2048 (Named.named κ "scale_log2e" 0x3DD53B95#32))) (broadcastTo S512x2048 l Facts₀.broadcasts_S512x1_S512x2048))

/-- The sum over a row of the product of the output and its gradient. -/
def delta (dO o : FVec Ideal S512x128 .f32) : FVec Ideal S512x1 .f32 :=
  shapeCast S512x1 (multiReduction .add [1] S512 (mulf dO o) 0x00000000#32 Facts₀.reduces_S512x128_S512 (.inl rfl) rfl)
    Facts₀.shapeCasts_S512_S512x1

/-- The gradients of the scores of a slab. -/
def dscore (v : FVec Ideal S2048x128 .bf16) (dO o : FVec Ideal S512x128 .f32) (p : FVec Ideal S512x2048 .f32) :
    FVec Ideal S512x2048 .bf16 :=
  truncf .bf16 (mulf (mulf p (subf
    (matmul dot_S512x128_S2048x128_S512x2048_1_1_0_0_n_n none (truncf .bf16 dO Facts₀.bitsLt_bf16_f32) v (constant S512x2048 .f32 0x00000000#32))
    (broadcastTo S512x2048 (delta dO o) Facts₀.broadcasts_S512x1_S512x2048)))
    (broadcast S512x2048 (Named.named κ "scale" 0x3D93CD3A#32))) Facts₀.bitsLt_bf16_f32

/-- A slab's part of the gradient of the values. -/
def dvPart (p : FVec Ideal S512x2048 .f32) (dO : FVec Ideal S512x128 .f32) : FVec Ideal S2048x128 .f32 :=
  matmul dot_S512x2048_S512x128_S2048x128_0_0_1_1_n_n none (truncf .bf16 p Facts₀.bitsLt_bf16_f32)
    (truncf .bf16 dO Facts₀.bitsLt_bf16_f32) (constant S2048x128 .f32 0x00000000#32)

/-- A slab's part of the gradient of the keys. -/
def dkPart (ds : FVec Ideal S512x2048 .bf16) (q : FVec Ideal S512x256 .bf16) : FVec Ideal S2048x256 .f32 :=
  matmul dot_S512x2048_S512x256_S2048x256_0_0_1_1_n_n none ds q (constant S2048x256 .f32 0x00000000#32)

/-- A block of keys' part of the gradient of a slab's queries. -/
def dqPart (ds : FVec Ideal S512x2048 .bf16) (k : FVec Ideal S2048x256 .bf16) : FVec Ideal S512x256 .f32 :=
  matmul dot_S512x2048_S2048x256_S512x256_1_0_0_1_n_n none ds k (constant S512x256 .f32 0x00000000#32)

variable {Q K V D O : ℕ → ℕ → ℝ} {L : ℕ → ℝ}
  {k : FVec Ideal S2048x256 .bf16} {v : FVec Ideal S2048x128 .bf16} {q : FVec Ideal S512x256 .bf16}
  {dO o : FVec Ideal S512x128 .f32} {l : FVec Ideal S512x1 .f32} {p : FVec Ideal S512x2048 .f32} {ds : FVec Ideal S512x2048 .bf16}

theorem prob_real (hk : Is2 k K) (hq : Is2 q Q) (hl : Is2 l fun r _ => L r * (Real.log 2)⁻¹) :
    Is2 (prob k l q) (prR Q K L) := by
  intro i
  show Ideal.exp2 (FloatOps.matmul dot_S512x256_S2048x256_S512x2048_1_1_0_0_n_n none q k
    (constant S512x2048 .f32 0x00000000#32) i * Named.named (F := Ideal) κ "scale_log2e" (φ := .f32) 0x3DD53B95#32
      - broadcastTo S512x2048 l Facts₀.broadcasts_S512x1_S512x2048 i) = _
  rw [matmul_real _ _ 256 rfl rfl q k i (fun d => Q (i (0 : Fin 2)).val d) (fun d => K (i (1 : Fin 2)).val d)
      (fun _ => hq _) (fun _ => hk _), named_both,
    broadcastTo_apply l _ i (ix2 (i (0 : Fin 2)) 0) (by intro a; fin_cases a <;> rfl), hl, ← EReal.coe_mul, ← EReal.coe_sub]
  exact exp2_scaled _ _ _

theorem delta_real (hd : Is2 dO D) (ho : Is2 o O) :
    Is2 (delta dO o) fun r _ => ∑ e ∈ Finset.range 128, D r e * O r e := by
  intro i
  refine (shapeCast_apply _ _ i (ix1 (i (0 : Fin 2))) ?_).trans ((Ideal.multiReduction_add_single _ _ _ _ _ _).trans ?_)
  · have h1 : (i (1 : Fin 2)).val = 0 := by have := (i (1 : Fin 2)).isLt; simpa using this
    rw [Shape.rowMajor_val_one, Shape.rowMajor_val_two]
    show (i (0 : Fin 2)).val = (i (0 : Fin 2)).val * 1 + (i (1 : Fin 2)).val
    omega
  · rw [← sum_fin_real fun e => D (i (0 : Fin 2)).val e * O (i (0 : Fin 2)).val e]
    refine Finset.sum_congr rfl fun e _ => ?_
    show dO _ * o _ = _
    rw [hd, ho, EReal.coe_mul]
    rfl

theorem dscore_real (hp : Is2 p (prR Q K L)) (hv : Is2 v V) (hd : Is2 dO D) (ho : Is2 o O) :
    Is2 (dscore v dO o p) (dsR Q K V D O L) := by
  intro i
  show p i * (FloatOps.matmul dot_S512x128_S2048x128_S512x2048_1_1_0_0_n_n none (truncf .bf16 dO Facts₀.bitsLt_bf16_f32) v
      (constant S512x2048 .f32 0x00000000#32) i
    - broadcastTo S512x2048 (delta dO o) Facts₀.broadcasts_S512x1_S512x2048 i) * Named.named (F := Ideal) κ "scale" (φ := .f32) 0x3D93CD3A#32 = _
  rw [matmul_real _ _ 128 rfl rfl _ v i (fun d => D (i (0 : Fin 2)).val d) (fun d => V (i (1 : Fin 2)).val d)
      (fun _ => hd _) (fun _ => hv _), named_scale,
    broadcastTo_apply (delta dO o) _ i (ix2 (i (0 : Fin 2)) 0) (by intro a; fin_cases a <;> rfl),
    delta_real hd ho, hp, ← EReal.coe_sub, ← EReal.coe_mul, ← EReal.coe_mul]
  rfl

theorem dvPart_real (hp : Is2 p (prR Q K L)) (hd : Is2 dO D) :
    Is2 (dvPart p dO) fun c e => ∑ r ∈ Finset.range 512, prR Q K L r c * D r e := fun i =>
  matmul_real _ _ 512 rfl rfl _ _ i (fun r => prR Q K L r (i (0 : Fin 2)).val) (fun r => D r (i (1 : Fin 2)).val)
    (fun _ => hp _) (fun _ => hd _)

theorem dkPart_real (hs : Is2 ds (dsR Q K V D O L)) (hq : Is2 q Q) :
    Is2 (dkPart ds q) fun c d => ∑ r ∈ Finset.range 512, dsR Q K V D O L r c * Q r d := fun i =>
  matmul_real _ _ 512 rfl rfl _ _ i (fun r => dsR Q K V D O L r (i (0 : Fin 2)).val) (fun r => Q r (i (1 : Fin 2)).val)
    (fun _ => hs _) (fun _ => hq _)

theorem dqPart_real (hs : Is2 ds (dsR Q K V D O L)) (hk : Is2 k K) :
    Is2 (dqPart ds k) fun r d => ∑ c ∈ Finset.range 2048, dsR Q K V D O L r c * K c d := fun i =>
  matmul_real _ _ 2048 rfl rfl _ _ i (fun c => dsR Q K V D O L (i (0 : Fin 2)).val c) (fun c => K c (i (1 : Fin 2)).val)
    (fun _ => hs _) (fun _ => hk _)

end Att
end
-- ==== Proof.Block.lean ====
/-
  One block of 2048 query positions against one block of 2048 key positions: the kernel body's named payloads as the
  slab operations, and the three sums the body adds to, on real numbers.
-/
module

public import proofs.«01_k».proof.Proof.Slab
public import Idealize.ShloMosaic.Lib.Pipeline.ValueKit.Tiles

@[expose] public section

noncomputable section

namespace Att

open Cert.KernelIdeal Cert.KernelIdeal.Gen Idealize.ShloMosaic Idealize.ShloMosaic.ValueIdx
open scoped BigOperators

/-- The logarithms of a block, scaled for a power of two. -/
def lse2 (x : FVec Ideal S1x2048x1 .f32) : FVec Ideal S2048x1 .f32 :=
  mulf (shapeCast S2048x1 x Facts₀.shapeCasts_S1x2048x1_S2048x1) (broadcast S2048x1 (Named.named κ "log2e" 0x3FB8AA3B#32))

abbrev sl0 (l : FVec Ideal S2048x1 .f32) : FVec Ideal S512x1 .f32 := extractStridedSlice S512x1 ![0, 0] l Facts₀.slices_S2048x1_o0_0_S512x1
abbrev sl1 (l : FVec Ideal S2048x1 .f32) : FVec Ideal S512x1 .f32 := extractStridedSlice S512x1 ![512, 0] l Facts₀.slices_S2048x1_o512_0_S512x1
abbrev sl2 (l : FVec Ideal S2048x1 .f32) : FVec Ideal S512x1 .f32 := extractStridedSlice S512x1 ![1024, 0] l Facts₀.slices_S2048x1_o1024_0_S512x1
abbrev sl3 (l : FVec Ideal S2048x1 .f32) : FVec Ideal S512x1 .f32 := extractStridedSlice S512x1 ![1536, 0] l Facts₀.slices_S2048x1_o1536_0_S512x1

/-! ## The payloads -/

section Payloads

variable (k : FVec Ideal S2048x256 .bf16) (v : FVec Ideal S2048x128 .bf16) (l : FVec Ideal S2048x1 .f32)
  (x4 : FVec Ideal S1x2048x1 .f32) (q q' : FVec Ideal S512x256 .bf16) (dO o dO' : FVec Ideal S512x128 .f32)
  (p : FVec Ideal S512x2048 .f32) (ds : FVec Ideal S512x2048 .bf16) (dk old : FVec Ideal S2048x256 .f32)
  (dv : FVec Ideal S2048x128 .f32) (a b c : FVec Ideal S512x256 .f32)

theorem pay4_eq : k0_pay4 k = k := shapeCast_self _ _
theorem pay5_eq : k0_pay5 v = v := shapeCast_self _ _
theorem pay6_eq : k0_pay6 x4 = lse2 x4 := rfl
theorem pay7_eq : k0_pay7 q = q := shapeCast_self _ _
theorem pay8_eq : k0_pay8 dO = dO := shapeCast_self _ _
theorem pay15_eq : k0_pay15 q = q := shapeCast_self _ _
theorem pay16_eq : k0_pay16 dO = dO := shapeCast_self _ _
theorem pay22_eq : k0_pay22 q = q := shapeCast_self _ _
theorem pay23_eq : k0_pay23 dO = dO := shapeCast_self _ _
theorem pay30_eq : k0_pay30 q = q := shapeCast_self _ _
theorem pay31_eq : k0_pay31 dO = dO := shapeCast_self _ _
theorem pay9_eq : k0_pay9 k x4 q = prob k (sl0 (lse2 x4)) q := by
  unfold k0_pay9; rw [pay7_eq, pay4_eq, pay6_eq]; rfl
theorem pay11_eq : k0_pay11 v dO p o = dscore v dO o p := by
  unfold k0_pay11; simp only [shapeCast_self]; rfl
theorem pay12_eq : k0_pay12 dv dO p = addf dv (dvPart p dO) := rfl
theorem pay13_eq : k0_pay13 v dk q dO p o = addf dk (dkPart (dscore v dO o p) q) := by
  unfold k0_pay13; rw [pay11_eq]; rfl
theorem pay14_eq : k0_pay14 k v dO p o = dqPart (dscore v dO o p) k := by
  unfold k0_pay14; rw [pay11_eq]; rfl
theorem pay17_eq : k0_pay17 k l q = prob k (sl1 l) q := by
  unfold k0_pay17; rw [pay15_eq]; rfl
theorem pay19_eq : k0_pay19 k v l q dO o = dscore v dO o (prob k (sl1 l) q) := by
  unfold k0_pay19 k0_pay18; rw [pay17_eq, pay16_eq]; simp only [shapeCast_self]; rfl
theorem pay21_eq : k0_pay21 k ds = dqPart ds k := rfl
theorem pay24_eq : k0_pay24 k l q = prob k (sl2 l) q := by
  unfold k0_pay24; rw [pay22_eq]; rfl
theorem pay26_eq : k0_pay26 k v l q dO o = dscore v dO o (prob k (sl2 l) q) := by
  unfold k0_pay26 k0_pay25; rw [pay24_eq, pay23_eq]; simp only [shapeCast_self]; rfl
theorem pay27_eq : k0_pay27 k l dv (k0_pay18 dO) (k0_pay20 k l q) q' dO'
    = addf (addf dv (dvPart (prob k (sl1 l) q) dO)) (dvPart (prob k (sl2 l) q') dO') := by
  unfold k0_pay27 k0_pay18 k0_pay20 k0_pay25; rw [pay24_eq, pay17_eq, pay16_eq, pay23_eq]; rfl
theorem pay28_eq : k0_pay28 k v l dk q ds q' dO o
    = addf (addf dk (dkPart ds q)) (dkPart (dscore v dO o (prob k (sl2 l) q')) q') := by
  unfold k0_pay28; rw [pay26_eq, pay22_eq]; rfl
theorem pay29_eq : k0_pay29 k v l q dO o = dqPart (dscore v dO o (prob k (sl2 l) q)) k := by
  unfold k0_pay29; rw [pay26_eq]; rfl
theorem pay34_eq : k0_pay34 k v l q dO o = dscore v dO o (prob k (sl3 l) q) := by
  unfold k0_pay34; simp only [shapeCast_self]; rfl
theorem pay35_eq : k0_pay35 k l dv q dO = addf dv (dvPart (prob k (sl3 l) q) dO) := rfl
theorem pay36_eq : k0_pay36 k v l dk q dO o = addf dk (dkPart (dscore v dO o (prob k (sl3 l) q)) q) := by
  unfold k0_pay36; rw [pay34_eq]; rfl
theorem pay38_eq : k0_pay38 k v l dk q dO o = addf dk (dkPart (dscore v dO o (prob k (sl3 l) q)) q) :=
  (shapeCast_self _ _).trans (pay36_eq ..)
theorem pay39_eq : k0_pay39 k l dv q dO = addf dv (dvPart (prob k (sl3 l) q) dO) := shapeCast_self _ _

/-- The gradients of four slabs of queries, one under the other. -/
def stack (a b c d : FVec Ideal S512x256 .f32) : FVec Ideal S2048x256 .f32 :=
  concatenate S2048x256 0 [⟨S512x256, a⟩, ⟨S512x256, b⟩, ⟨S512x256, c⟩, ⟨S512x256, d⟩]
    Facts₀.concatenates_S512x256_S512x256_S512x256_S512x256_S2048x256_d0

theorem pay37_eq : k0_pay37 k v l a b c q dO o old
    = addf old (stack a b c (dqPart (dscore v dO o (prob k (sl3 l) q)) k)) := by
  unfold k0_pay37; rw [pay34_eq]; simp only [shapeCast_self]; rfl

end Payloads

/-! ## The three sums of a block -/

section Sums

variable {Q K V D O : ℕ → ℕ → ℝ} {L : ℕ → ℝ}

theorem ld_real {n : ℕ} {x : (⟨2, ![2048, n]⟩ : Shape).Idx → EReal} {X : ℕ → ℕ → ℝ} (hx : Is2 x X) (o : ℕ)
    (inb : ∀ a : Fin 2, (![o, 0] : Fin 2 → ℕ) a + (![512, n] : Fin 2 → ℕ) a ≤ (⟨2, ![2048, n]⟩ : Shape).size a) :
    Is2 (a := 512) (b := n) (fun i => x ((Rect.unit (s := ⟨2, ![2048, n]⟩) ![o, 0] ![512, n] inb).idx i)) fun r d => X (o + r) d := by
  intro i
  show x _ = _
  rw [hx, Rect.idx_unit_val, Rect.idx_unit_val]
  exact congrArg (fun z => ((X (o + (i (0 : Fin 2)).val) z : ℝ) : EReal)) (Nat.zero_add _)

theorem lse2_real {x : FVec Ideal S1x2048x1 .f32} (hx : Is3 x fun _ r _ => L r) :
    Is2 (lse2 x) fun r _ => L r * (Real.log 2)⁻¹ := by
  intro i
  show shapeCast S2048x1 x Facts₀.shapeCasts_S1x2048x1_S2048x1 i * Named.named (F := Ideal) κ "log2e" (φ := .f32) 0x3FB8AA3B#32 = _
  have h1 : (i (1 : Fin 2)).val = 0 := by have := (i (1 : Fin 2)).isLt; simpa using this
  rw [named_log2e, shapeCast_apply x _ i (ix3 0 (i (0 : Fin 2)) 0) (by
    rw [Shape.rowMajor_val_three, Shape.rowMajor_val_two]
    show (0 * 2048 + (i (0 : Fin 2)).val) * 1 + 0 = (i (0 : Fin 2)).val * 1 + (i (1 : Fin 2)).val
    omega), hx, ← EReal.coe_mul]

theorem slice_real {l : FVec Ideal S2048x1 .f32} (hl : Is2 l fun r _ => L r * (Real.log 2)⁻¹) (o : ℕ) (ho : o + 512 ≤ 2048)
    (h : S2048x1.Slices ![o, 0] S512x1) :
    Is2 (extractStridedSlice S512x1 ![o, 0] l h : FVec Ideal S512x1 .f32) fun r _ => L (o + r) * (Real.log 2)⁻¹ := by
  intro i
  have h0 : (i (0 : Fin 2)).val < 512 := (i (0 : Fin 2)).isLt
  refine (extractStridedSlice_apply ![o, 0] l h i (ix2 ⟨o + (i (0 : Fin 2)).val, by omega⟩ (i (1 : Fin 2))) ?_).trans (hl _)
  intro a
  fin_cases a
  · rfl
  · exact (Nat.zero_add _).symm

theorem stack_real {a b c d : FVec Ideal S512x256 .f32} {X : ℕ → ℕ → ℝ} (ha : Is2 a X) (hb : Is2 b fun r e => X (512 + r) e)
    (hc : Is2 c fun r e => X (1024 + r) e) (hd : Is2 d fun r e => X (1536 + r) e) : Is2 (stack a b c d) X := by
  intro i
  have h0 : (i (0 : Fin 2)).val < 2048 := (i (0 : Fin 2)).isLt
  have key : ∀ (n : ℕ) (hn : n < 4) (y : FVec Ideal S512x256 .f32)
      (_ : ([⟨S512x256, a⟩, ⟨S512x256, b⟩, ⟨S512x256, c⟩, ⟨S512x256, d⟩] : List ((s : Shape) × (s.Idx → EReal)))[n] = ⟨S512x256, y⟩)
      (_ : Is2 y fun r e => X (n * 512 + r) e) (_ : n * 512 ≤ (i (0 : Fin 2)).val) (_ : (i (0 : Fin 2)).val < n * 512 + 512),
      stack a b c d i = ((X (i (0 : Fin 2)).val (i (1 : Fin 2)).val : ℝ) : EReal) := by
    intro n hn y hy hY hlo hhi
    refine (concatenate_apply_piece (t := S2048x256) 0
      ([⟨S512x256, a⟩, ⟨S512x256, b⟩, ⟨S512x256, c⟩, ⟨S512x256, d⟩] : List ((s : Shape) × (s.Idx → EReal))) _ i n hn S512x256 y hy rfl (n * 512) ?_
      (ix2 ⟨(i (0 : Fin 2)).val - n * 512, by omega⟩ (i (1 : Fin 2))) ?_ ?_).trans ?_
    · interval_cases n <;> rfl
    · intro e he
      fin_cases e
      · exact absurd rfl he
      · rfl
    · show n * 512 + ((i (0 : Fin 2)).val - n * 512) = (i (0 : Fin 2)).val
      omega
    · rw [hY]
      show ((X (n * 512 + ((i (0 : Fin 2)).val - n * 512)) (i (1 : Fin 2)).val : ℝ) : EReal) = _
      rw [Nat.add_sub_cancel' hlo]
  by_cases h1 : (i (0 : Fin 2)).val < 512
  · exact key 0 (by omega) a rfl (by simpa using ha) (by omega) (by omega)
  by_cases h2 : (i (0 : Fin 2)).val < 1024
  · exact key 1 (by omega) b rfl hb (by omega) (by omega)
  by_cases h3 : (i (0 : Fin 2)).val < 1536
  · exact key 2 (by omega) c rfl hc (by omega) (by omega)
  · exact key 3 (by omega) d rfl hd (by omega) (by omega)

theorem addf_real {n m : ℕ} {x y : FVec Ideal ⟨2, ![n, m]⟩ .f32} {X Y : ℕ → ℕ → ℝ} (hx : Is2 x X) (hy : Is2 y Y) :
    Is2 (addf x y) fun r d => X r d + Y r d := fun i => by
  show x i + y i = _
  rw [hx, hy, EReal.coe_add]

variable {k : FVec Ideal S2048x256 .bf16} {v : FVec Ideal S2048x128 .bf16} {l : FVec Ideal S2048x1 .f32}
  {q0 q1 q2 q3 : FVec Ideal S512x256 .bf16} {d0 d1 d2 d3 o0 o1 o2 o3 : FVec Ideal S512x128 .f32}

theorem prob_slab {X : ℕ → ℕ → ℝ} {q : FVec Ideal S512x256 .bf16} (hk : Is2 k K) (hl : Is2 l fun r _ => L r * (Real.log 2)⁻¹)
    (o : ℕ) (ho : o + 512 ≤ 2048) (h : S2048x1.Slices ![o, 0] S512x1) (hq : Is2 q fun r d => X (o + r) d) :
    Is2 (prob k (extractStridedSlice S512x1 ![o, 0] l h) q) (prR (fun r d => X (o + r) d) K fun r => L (o + r)) :=
  prob_real hk hq (slice_real hl o ho h)

/-- What a block adds to the gradient of the values. -/
theorem dv_block {old : FVec Ideal S2048x128 .f32} {A : ℕ → ℕ → ℝ} (hA : Is2 old A)
    (hk : Is2 k K) (hl : Is2 l fun r _ => L r * (Real.log 2)⁻¹)
    (hq0 : Is2 q0 fun r d => Q (0 + r) d) (hq1 : Is2 q1 fun r d => Q (512 + r) d) (hq2 : Is2 q2 fun r d => Q (1024 + r) d)
    (hq3 : Is2 q3 fun r d => Q (1536 + r) d) (hd0 : Is2 d0 fun r d => D (0 + r) d) (hd1 : Is2 d1 fun r d => D (512 + r) d)
    (hd2 : Is2 d2 fun r d => D (1024 + r) d) (hd3 : Is2 d3 fun r d => D (1536 + r) d) :
    Is2 (addf (addf (addf (addf old (dvPart (prob k (sl0 l) q0) d0)) (dvPart (prob k (sl1 l) q1) d1))
      (dvPart (prob k (sl2 l) q2) d2)) (dvPart (prob k (sl3 l) q3) d3))
      fun c e => A c e + ∑ r ∈ Finset.range 2048, prR Q K L r c * D r e := by
  have h := addf_real (addf_real (addf_real (addf_real hA
    (dvPart_real (prob_slab hk hl 0 (by omega) Facts₀.slices_S2048x1_o0_0_S512x1 hq0) hd0))
    (dvPart_real (prob_slab hk hl 512 (by omega) Facts₀.slices_S2048x1_o512_0_S512x1 hq1) hd1))
    (dvPart_real (prob_slab hk hl 1024 (by omega) Facts₀.slices_S2048x1_o1024_0_S512x1 hq2) hd2))
    (dvPart_real (prob_slab hk hl 1536 (by omega) Facts₀.slices_S2048x1_o1536_0_S512x1 hq3) hd3)
  intro i
  rw [h i]
  congr 1
  simp only [sum_slabs, prR, Nat.zero_add]
  ring

theorem ds_slab {q : FVec Ideal S512x256 .bf16} {dO o : FVec Ideal S512x128 .f32} (hk : Is2 k K)
    (hl : Is2 l fun r _ => L r * (Real.log 2)⁻¹) (hv : Is2 v V)
    (n : ℕ) (hn : n + 512 ≤ 2048) (h : S2048x1.Slices ![n, 0] S512x1) (hq : Is2 q fun r d => Q (n + r) d)
    (hd : Is2 dO fun r d => D (n + r) d) (ho : Is2 o fun r d => O (n + r) d) :
    Is2 (dscore v dO o (prob k (extractStridedSlice S512x1 ![n, 0] l h) q))
      (dsR (fun r d => Q (n + r) d) K V (fun r d => D (n + r) d) (fun r d => O (n + r) d) fun r => L (n + r)) :=
  dscore_real (prob_slab hk hl n hn h hq) hv hd ho

/-- What a block adds to the gradient of the keys. -/
theorem dk_block {old : FVec Ideal S2048x256 .f32} {A : ℕ → ℕ → ℝ} (hA : Is2 old A)
    (hk : Is2 k K) (hl : Is2 l fun r _ => L r * (Real.log 2)⁻¹) (hv : Is2 v V)
    (hq0 : Is2 q0 fun r d => Q (0 + r) d) (hq1 : Is2 q1 fun r d => Q (512 + r) d) (hq2 : Is2 q2 fun r d => Q (1024 + r) d)
    (hq3 : Is2 q3 fun r d => Q (1536 + r) d) (hd0 : Is2 d0 fun r d => D (0 + r) d) (hd1 : Is2 d1 fun r d => D (512 + r) d)
    (hd2 : Is2 d2 fun r d => D (1024 + r) d) (hd3 : Is2 d3 fun r d => D (1536 + r) d)
    (ho0 : Is2 o0 fun r d => O (0 + r) d) (ho1 : Is2 o1 fun r d => O (512 + r) d)
    (ho2 : Is2 o2 fun r d => O (1024 + r) d) (ho3 : Is2 o3 fun r d => O (1536 + r) d) :
    Is2 (addf (addf (addf (addf old (dkPart (dscore v d0 o0 (prob k (sl0 l) q0)) q0)) (dkPart (dscore v d1 o1 (prob k (sl1 l) q1)) q1))
      (dkPart (dscore v d2 o2 (prob k (sl2 l) q2)) q2)) (dkPart (dscore v d3 o3 (prob k (sl3 l) q3)) q3))
      fun c e => A c e + ∑ r ∈ Finset.range 2048, dsR Q K V D O L r c * Q r e := by
  have h := addf_real (addf_real (addf_real (addf_real hA
    (dkPart_real (ds_slab hk hl hv 0 (by omega) Facts₀.slices_S2048x1_o0_0_S512x1 hq0 hd0 ho0) hq0))
    (dkPart_real (ds_slab hk hl hv 512 (by omega) Facts₀.slices_S2048x1_o512_0_S512x1 hq1 hd1 ho1) hq1))
    (dkPart_real (ds_slab hk hl hv 1024 (by omega) Facts₀.slices_S2048x1_o1024_0_S512x1 hq2 hd2 ho2) hq2))
    (dkPart_real (ds_slab hk hl hv 1536 (by omega) Facts₀.slices_S2048x1_o1536_0_S512x1 hq3 hd3 ho3) hq3)
  intro i
  rw [h i]
  congr 1
  simp only [sum_slabs, dsR, prR, Nat.zero_add]
  ring

/-- What a block adds to the gradient of its queries. -/
theorem dq_block {old : FVec Ideal S2048x256 .f32} {A : ℕ → ℕ → ℝ} (hA : Is2 old A)
    (hk : Is2 k K) (hl : Is2 l fun r _ => L r * (Real.log 2)⁻¹) (hv : Is2 v V)
    (hq0 : Is2 q0 fun r d => Q (0 + r) d) (hq1 : Is2 q1 fun r d => Q (512 + r) d) (hq2 : Is2 q2 fun r d => Q (1024 + r) d)
    (hq3 : Is2 q3 fun r d => Q (1536 + r) d) (hd0 : Is2 d0 fun r d => D (0 + r) d) (hd1 : Is2 d1 fun r d => D (512 + r) d)
    (hd2 : Is2 d2 fun r d => D (1024 + r) d) (hd3 : Is2 d3 fun r d => D (1536 + r) d)
    (ho0 : Is2 o0 fun r d => O (0 + r) d) (ho1 : Is2 o1 fun r d => O (512 + r) d)
    (ho2 : Is2 o2 fun r d => O (1024 + r) d) (ho3 : Is2 o3 fun r d => O (1536 + r) d) :
    Is2 (addf old (stack (dqPart (dscore v d0 o0 (prob k (sl0 l) q0)) k) (dqPart (dscore v d1 o1 (prob k (sl1 l) q1)) k)
      (dqPart (dscore v d2 o2 (prob k (sl2 l) q2)) k) (dqPart (dscore v d3 o3 (prob k (sl3 l) q3)) k)))
      fun r e => A r e + ∑ c ∈ Finset.range 2048, dsR Q K V D O L r c * K c e := by
  refine addf_real hA (stack_real ?_ ?_ ?_ ?_)
  · have h := dqPart_real (ds_slab hk hl hv 0 (by omega) Facts₀.slices_S2048x1_o0_0_S512x1 hq0 hd0 ho0) hk
    intro i
    rw [h i]
    simp only [dsR, prR, Nat.zero_add]
  · exact dqPart_real (ds_slab hk hl hv 512 (by omega) Facts₀.slices_S2048x1_o512_0_S512x1 hq1 hd1 ho1) hk
  · exact dqPart_real (ds_slab hk hl hv 1024 (by omega) Facts₀.slices_S2048x1_o1024_0_S512x1 hq2 hd2 ho2) hk
  · exact dqPart_real (ds_slab hk hl hv 1536 (by omega) Facts₀.slices_S2048x1_o1536_0_S512x1 hq3 hd3 ho3) hk

end Sums

end Att
end
-- ==== Proof.Step.lean ====
/-
  What one grid point leaves in the three buffers it adds to, on real numbers, in each of the four cases of a point:
  the first of a head (A), the first of a later block of keys (D), the last of a block of keys (C), any other (B).
-/
module

public import Idealize.ShloMosaic.Lib.WritesUnit
public import proofs.«01_k».proof.Proof.Block
public import proofs.«01_k».proof.Proof.Gen.KernelIdeal.Frame

@[expose] public section

set_option maxRecDepth 16384

noncomputable section

namespace Att

open Cert.KernelIdeal Cert.KernelIdeal.Gen Idealize.ShloMosaic Idealize.ShloMosaic.TcCoe Idealize.ShloMosaic.ValueIdx Idealize.ShloMosaic.Tactic
open Idealize.SL.Sem
open scoped BigOperators

/-- Reading the whole of a buffer. -/
theorem hz : (![0,0] : Fin 2 → Nat) = fun _ => 0 := funext fun a => by fin_cases a <;> rfl
theorem hz3 : (![0,0,0] : Fin 3 → Nat) = fun _ => 0 := funext fun a => by fin_cases a <;> rfl

/-- Loading the rows from `o` on. -/
theorem ld_rows_real {x : Vec Ideal S8192x256 .f32} {A : ℕ → ℕ → ℝ} (hA : Is2 (a := 8192) (b := 256) x A) {off : Fin 2 → ℕ} {o : ℕ}
    (hoff : off = ![o, 0]) (inb : ∀ a : Fin 2, off a + (![2048, 256] : Fin 2 → ℕ) a ≤ S8192x256.size a) :
    Is2 (a := 2048) (b := 256) (View.ld (Val := Elt Ideal) x (Rect.unit (s := S8192x256) off ![2048, 256] inb)) fun r d => A (o + r) d := by
  subst hoff
  intro i
  show x _ = _
  rw [hA, Rect.idx_unit_val, Rect.idx_unit_val]
  exact congrArg (fun z => ((A (o + (i (0 : Fin 2)).val) z : ℝ) : EReal)) (Nat.zero_add _)

/-- Storing the rows from `o` on over what was there. -/
theorem rows_real {sig : RefSig} {κ : Kind} {sp : Space} (v : View sig κ sp S8192x256 .f32) (f : v.ty.Contents (Elt Ideal))
    {A W : ℕ → ℕ → ℝ} {off : Fin 2 → ℕ} {o : ℕ} (hoff : off = ![o, 0])
    (inb : ∀ a : Fin 2, off a + (![2048, 256] : Fin 2 → ℕ) a ≤ S8192x256.size a)
    (w : (Rect.unit (s := S8192x256) off ![2048, 256] inb).shape.Idx → Elt Ideal .f32) (P : List (View.Piece (Elt Ideal) S8192x256 .f32))
    (hA : Is2 (a := 8192) (b := 256) (v.read (Elt Ideal) (v.writes (Elt Ideal) f P)) A) (hw : Is2 (a := 2048) (b := 256) w fun r d => A (o + r) d + W r d) :
    Is2 (a := 8192) (b := 256) (v.read (Elt Ideal) (v.writes (Elt Ideal) f ((⟨Rect.unit (s := S8192x256) off ![2048, 256] inb, w⟩ : View.Piece (Elt Ideal) S8192x256 .f32) :: P)))
      fun r d => A r d + if o ≤ r ∧ r < o + 2048 then W (r - o) d else 0 := by
  intro y
  by_cases h : o ≤ (y (0 : Fin 2)).val ∧ (y (0 : Fin 2)).val < o + 2048
  · refine (View.read_writes_cons_rows_of_mem v f inb w P y
      (ix2 ⟨(y (0 : Fin 2)).val - o, by omega⟩ (y (1 : Fin 2)) : (⟨2, ![2048, 256]⟩ : Shape).Idx) hoff
      (by show (y (0 : Fin 2)).val = o + ((y (0 : Fin 2)).val - o); omega) rfl).trans ?_
    refine (hw _).trans ?_
    show ((A (o + ((y (0 : Fin 2)).val - o)) (y (1 : Fin 2)).val + W ((y (0 : Fin 2)).val - o) (y (1 : Fin 2)).val : ℝ) : EReal) = _
    rw [Nat.add_sub_cancel' h.1]
    simp only [if_pos h]
  · refine (View.read_writes_cons_rows_of_not_mem v f inb w P y hoff (W := 2048) rfl (by omega)).trans ((hA y).trans ?_)
    simp only [if_neg h, add_zero]

/-- The zeros a head begins with. -/
theorem zero_rows {sig : RefSig} {κ : Kind} {sp : Space} (v : View sig κ sp S8192x256 .f32) (f : v.ty.Contents (Elt Ideal))
    (inb : ∀ a : Fin 2, (![0, 0] : Fin 2 → ℕ) a + (![8192, 256] : Fin 2 → ℕ) a ≤ S8192x256.size a) :
    Is2 (a := 8192) (b := 256) (v.read (Elt Ideal) (v.writes (Elt Ideal) f [(⟨Rect.unit (s := S8192x256) ![0, 0] ![8192, 256] inb, k0_pay1 (F := Ideal)⟩ : View.Piece (Elt Ideal) S8192x256 .f32)]))
      fun _ _ => 0 := by
  intro y
  refine (View.read_writes_cons_unit_of_mem v f inb _ [] y y rfl (fun a => ?_)).trans ?_
  · fin_cases a <;> exact (Nat.zero_add _).symm
  · show Ideal.ofBits .f32 0x00000000#32 = _
    rw [Ideal.ofBits_zero_f32]; rfl

theorem zero_dk : Is2 (a := 2048) (b := 256) (k0_pay2 (F := Ideal)) fun _ _ => 0 := fun i => by
  unfold k0_pay2
  dsimp only
  rw [shapeCast_self]
  show Ideal.ofBits .f32 0x00000000#32 = _
  rw [Ideal.ofBits_zero_f32]; rfl

theorem zero_dv : Is2 (a := 2048) (b := 128) (k0_pay3 (F := Ideal)) fun _ _ => 0 := fun i => by
  unfold k0_pay3
  dsimp only
  rw [shapeCast_self]
  show Ideal.ofBits .f32 0x00000000#32 = _
  rw [Ideal.ofBits_zero_f32]; rfl

/-- What a point with query block `n` adds to the gradient of the queries. -/
def dqAdd (Q K V D O : ℕ → ℕ → ℝ) (L : ℕ → ℝ) (n r e : ℕ) : ℝ :=
  if 2048 * n ≤ r ∧ r < 2048 * n + 2048 then ∑ c ∈ Finset.range 2048, dsR Q K V D O L (r - 2048 * n) c * K c e else 0
/-- What a point adds to the gradient of the keys. -/
def dkAdd (Q K V D O : ℕ → ℕ → ℝ) (L : ℕ → ℝ) (c e : ℕ) : ℝ := ∑ r ∈ Finset.range 2048, dsR Q K V D O L r c * Q r e
/-- What a point adds to the gradient of the values. -/
def dvAdd (Q K D : ℕ → ℕ → ℝ) (L : ℕ → ℝ) (c e : ℕ) : ℝ := ∑ r ∈ Finset.range 2048, prR Q K L r c * D r e

variable {Q K V D O : ℕ → ℕ → ℝ} {L : ℕ → ℝ}
theorem A_dq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) :
    Is2 (a := 8192) (b := 256) (out0_A_6 c i arg3 harg3 arg4 harg4 arg5 harg5 arg6 harg6 arg7 harg7 arg8 harg8 arg9 harg9 arg10 harg10 arg11 harg11 arg12 harg12 arg13 harg13 hc0 hc1 hc2 x0 x1 x2 x3 x4 x5) fun r e => 0 + dqAdd Q K V D O L (i 2).val r e := by
  unfold out0_A_6
  unfold kernelRun0_A
  dsimp only
  sl_unfold_words
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, View.readCov_unit_zero (S := S2048x256) _ hz, View.readCov_unit_zero (S := S2048x128) _ hz]
  exact rows_real _ _ (k0_off1_eq i) _ _ _ (zero_rows _ _ _) (dq_block (ld_rows_real (zero_rows _ _ _) (k0_off1_eq i) _) h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _))

theorem A_dk (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) :
    Is2 (a := 2048) (b := 256) (sout0_A_0 c i arg3 harg3 arg4 harg4 arg5 harg5 arg6 harg6 arg7 harg7 arg8 harg8 arg9 harg9 arg10 harg10 arg11 harg11 arg12 harg12 arg13 harg13 hc0 hc1 hc2 x0 x1 x2 x3 x4 x5) fun r e => 0 + dkAdd Q K V D O L r e := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  rw [View.canon_cons_unit_zero (S := S2048x256) hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, View.readCov_unit_zero (S := S2048x256) _ hz, View.readCov_unit_zero (S := S2048x128) _ hz]
  exact dk_block zero_dk h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _)

theorem A_dv (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) :
    Is2 (a := 2048) (b := 128) (sout0_A_1 c i arg3 harg3 arg4 harg4 arg5 harg5 arg6 harg6 arg7 harg7 arg8 harg8 arg9 harg9 arg10 harg10 arg11 harg11 arg12 harg12 arg13 harg13 hc0 hc1 hc2 x0 x1 x2 x3 x4 x5) fun r e => 0 + dvAdd Q K D L r e := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  rw [View.canon_cons_unit_zero (S := S2048x128) hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, View.readCov_unit_zero (S := S2048x256) _ hz, View.readCov_unit_zero (S := S2048x128) _ hz]
  exact dv_block zero_dv h1 (lse2_real h4) (ld_real h0 0 _) (ld_real h0 512 _) (ld_real h0 1024 _) (ld_real h0 1536 _) (ld_real h5 0 _) (ld_real h5 512 _) (ld_real h5 1024 _) (ld_real h5 1536 _)

theorem B_dq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : ¬cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32) (xs0 : Vec Ideal S2048x256 .f32) (xs1 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 8192) (b := 256) xo6 A) :
    Is2 (a := 8192) (b := 256) (out0_B_6 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1) fun r e => A r e + dqAdd Q K V D O L (i 2).val r e := by
  unfold out0_B_6
  unfold kernelRun0_B
  dsimp only
  sl_unfold_words
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, harg12.read_unread, harg13.read_unread]
  exact rows_real _ _ (k0_off1_eq i) _ _ _ (by rw [View.writes_nil, harg9.read_unread]; exact hA) (dq_block (ld_rows_real hA (k0_off1_eq i) _) h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _))

theorem B_dk (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : ¬cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32) (xs0 : Vec Ideal S2048x256 .f32) (xs1 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 2048) (b := 256) xs0 A) :
    Is2 (a := 2048) (b := 256) (sout0_B_0 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1) fun r e => A r e + dkAdd Q K V D O L r e := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, harg12.read_unread, harg13.read_unread]
  exact dk_block hA h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _)

theorem B_dv (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : ¬cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32) (xs0 : Vec Ideal S2048x256 .f32) (xs1 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 2048) (b := 128) xs1 A) :
    Is2 (a := 2048) (b := 128) (sout0_B_1 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1) fun r e => A r e + dvAdd Q K D L r e := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, harg12.read_unread, harg13.read_unread]
  exact dv_block hA h1 (lse2_real h4) (ld_real h0 0 _) (ld_real h0 512 _) (ld_real h0 1024 _) (ld_real h0 1536 _) (ld_real h5 0 _) (ld_real h5 512 _) (ld_real h5 1024 _) (ld_real h5 1536 _)

theorem C_dq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32) (xs0 : Vec Ideal S2048x256 .f32) (xs1 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 8192) (b := 256) xo6 A) :
    Is2 (a := 8192) (b := 256) (out0_C_6 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1) fun r e => A r e + dqAdd Q K V D O L (i 2).val r e := by
  unfold out0_C_6
  unfold kernelRun0_C
  dsimp only
  sl_unfold_words
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, harg12.read_unread, harg13.read_unread]
  exact rows_real _ _ (k0_off1_eq i) _ _ _ (by rw [View.writes_nil, harg9.read_unread]; exact hA) (dq_block (ld_rows_real hA (k0_off1_eq i) _) h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _))

theorem C_dk (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32) (xs0 : Vec Ideal S2048x256 .f32) (xs1 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 2048) (b := 256) xs0 A) :
    Is2 (a := 2048) (b := 256) (sout0_C_0 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1) fun r e => A r e + dkAdd Q K V D O L r e := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, harg12.read_unread, harg13.read_unread]
  exact dk_block hA h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _)

theorem C_dv (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32) (xs0 : Vec Ideal S2048x256 .f32) (xs1 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 2048) (b := 128) xs1 A) :
    Is2 (a := 2048) (b := 128) (sout0_C_1 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1) fun r e => A r e + dvAdd Q K D L r e := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, harg12.read_unread, harg13.read_unread]
  exact dv_block hA h1 (lse2_real h4) (ld_real h0 0 _) (ld_real h0 512 _) (ld_real h0 1024 _) (ld_real h0 1536 _) (ld_real h5 0 _) (ld_real h5 512 _) (ld_real h5 1024 _) (ld_real h5 1536 _)

theorem C_dko (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32) (xs0 : Vec Ideal S2048x256 .f32) (xs1 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 2048) (b := 256) xs0 A) :
    Is2 (a := 2048) (b := 256) (out0_C_7 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1) fun r e => A r e + dkAdd Q K V D O L r e := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, harg12.read_unread, harg13.read_unread]
  exact dk_block hA h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _)

theorem C_dvo (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32) (xs0 : Vec Ideal S2048x256 .f32) (xs1 : Vec Ideal S2048x128 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 2048) (b := 128) xs1 A) :
    Is2 (a := 2048) (b := 128) (out0_C_8 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1) fun r e => A r e + dvAdd Q K D L r e := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 hc0 hc1 hc2 x0 x1 x2 x3 x4 x5 xo6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, harg12.read_unread, harg13.read_unread]
  exact dv_block hA h1 (lse2_real h4) (ld_real h0 0 _) (ld_real h0 512 _) (ld_real h0 1024 _) (ld_real h0 1536 _) (ld_real h5 0 _) (ld_real h5 512 _) (ld_real h5 1024 _) (ld_real h5 1536 _)

theorem D_dq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) {A : ℕ → ℕ → ℝ} (hA : Is2 (a := 8192) (b := 256) xo6 A) :
    Is2 (a := 8192) (b := 256) (out0_D_6 c i arg3 harg3 arg4 harg4 arg5 harg5 arg6 harg6 arg7 harg7 arg8 harg8 arg9 harg9 arg10 harg10 arg11 harg11 arg12 harg12 arg13 harg13 hc0 hc1 hc2 x0 x1 x2 x3 x4 x5 xo6) fun r e => A r e + dqAdd Q K V D O L (i 2).val r e := by
  unfold out0_D_6
  unfold kernelRun0_D
  dsimp only
  sl_unfold_words
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, View.readCov_unit_zero (S := S2048x256) _ hz, View.readCov_unit_zero (S := S2048x128) _ hz]
  exact rows_real _ _ (k0_off1_eq i) _ _ _ (by rw [View.writes_nil, harg9.read_unread]; exact hA) (dq_block (ld_rows_real hA (k0_off1_eq i) _) h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _))

theorem D_dk (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) :
    Is2 (a := 2048) (b := 256) (sout0_D_0 c i arg3 harg3 arg4 harg4 arg5 harg5 arg6 harg6 arg7 harg7 arg8 harg8 arg9 harg9 arg10 harg10 arg11 harg11 arg12 harg12 arg13 harg13 hc0 hc1 hc2 x0 x1 x2 x3 x4 x5 xo6) fun r e => 0 + dkAdd Q K V D O L r e := by
  unfold sout0_D_0
  rw [View.read_writes_eq_canon _ _ _ (scover0_D_0 c i arg3 harg3 arg4 harg4 arg5 harg5 arg6 harg6 arg7 harg7 arg8 harg8 arg9 harg9 arg10 harg10 arg11 harg11 arg12 harg12 arg13 harg13 hc0 hc1 hc2 x0 x1 x2 x3 x4 x5 xo6)]
  unfold kernelRun0_D
  dsimp only
  sl_unfold_words
  rw [View.canon_cons_unit_zero (S := S2048x256) hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, View.readCov_unit_zero (S := S2048x256) _ hz, View.readCov_unit_zero (S := S2048x128) _ hz]
  exact dk_block zero_dk h1 (lse2_real h4) h2 (ld_real h0 0 _) (ld_real h0 512 _) (ld_real h0 1024 _) (ld_real h0 1536 _) (ld_real h5 0 _) (ld_real h5 512 _) (ld_real h5 1024 _) (ld_real h5 1536 _) (ld_real h3 0 _) (ld_real h3 512 _) (ld_real h3 1024 _) (ld_real h3 1536 _)

theorem D_dv (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S8192x256 .f32) (harg9 : arg9.IsWhole) (arg10 : Memref sig .tc .vmem S2048x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x256 .bf16) (x1 : Vec Ideal S2048x256 .bf16) (x2 : Vec Ideal S2048x128 .bf16) (x3 : Vec Ideal S2048x128 .f32) (x4 : Vec Ideal S1x2048x1 .f32) (x5 : Vec Ideal S2048x128 .f32) (xo6 : Vec Ideal S8192x256 .f32)
    (h0 : Is2 (a := 2048) (b := 256) x0 Q) (h1 : Is2 (a := 2048) (b := 256) x1 K) (h2 : Is2 (a := 2048) (b := 128) x2 V)
    (h3 : Is2 (a := 2048) (b := 128) x3 O) (h4 : Is3 (a := 1) (b := 2048) (c := 1) x4 fun _ r _ => L r) (h5 : Is2 (a := 2048) (b := 128) x5 D) :
    Is2 (a := 2048) (b := 128) (sout0_D_1 c i arg3 harg3 arg4 harg4 arg5 harg5 arg6 harg6 arg7 harg7 arg8 harg8 arg9 harg9 arg10 harg10 arg11 harg11 arg12 harg12 arg13 harg13 hc0 hc1 hc2 x0 x1 x2 x3 x4 x5 xo6) fun r e => 0 + dvAdd Q K D L r e := by
  unfold sout0_D_1
  rw [View.read_writes_eq_canon _ _ _ (scover0_D_1 c i arg3 harg3 arg4 harg4 arg5 harg5 arg6 harg6 arg7 harg7 arg8 harg8 arg9 harg9 arg10 harg10 arg11 harg11 arg12 harg12 arg13 harg13 hc0 hc1 hc2 x0 x1 x2 x3 x4 x5 xo6)]
  unfold kernelRun0_D
  dsimp only
  sl_unfold_words
  rw [View.canon_cons_unit_zero (S := S2048x128) hz]
  simp only [View.readAt_eq_ld, harg3.read_unread, harg4.read_unread, harg5.read_unread, harg6.read_unread, harg7.read_unread, harg8.read_unread, View.ld_unit_zero (S := S2048x256) hz, View.ld_unit_zero (S := S2048x128) hz, View.ld_unit_zero (S := S1x2048x1) hz3, pay4_eq, pay5_eq, pay6_eq, pay7_eq, pay8_eq, pay15_eq, pay16_eq, pay22_eq, pay23_eq, pay30_eq, pay31_eq, pay9_eq, pay11_eq, pay12_eq, pay13_eq, pay14_eq, pay17_eq, pay19_eq, pay21_eq, pay24_eq, pay26_eq, pay27_eq, pay28_eq, pay29_eq, pay34_eq, pay35_eq, pay36_eq, pay37_eq, pay38_eq, pay39_eq, harg9.read_unread, View.readCov_unit_zero (S := S2048x256) _ hz, View.readCov_unit_zero (S := S2048x128) _ hz]
  exact dv_block zero_dv h1 (lse2_real h4) (ld_real h0 0 _) (ld_real h0 512 _) (ld_real h0 1024 _) (ld_real h0 1536 _) (ld_real h5 0 _) (ld_real h5 512 _) (ld_real h5 1024 _) (ld_real h5 1536 _)

end Att
end
-- ==== Proof.Blocks.lean ====
/-
  The four buffers along the grid, on real numbers: after a point the gradient of the queries of its head holds the sum
  of what the head's points added, and the two buffers for keys and values the sum over the query blocks so far.
-/
module

public import proofs.«01_k».proof.Proof.Step
public import proofs.«01_k».proof.Proof.Gen.KernelIdeal.Value

@[expose] public section

set_option maxHeartbeats 1000000

noncomputable section

open Idealize.ShloMosaic Cert.KernelIdeal Cert.KernelIdeal.Gen Cert.KernelIdeal.Value

namespace Att

/-- An array of numbers at an index with known coordinates. -/
theorem at_two {a b : ℕ} {x : (⟨2, ![a, b]⟩ : Shape).Idx → EReal} {X : ℕ → ℕ → ℝ} (h : Is2 x X) (k : (⟨2, ![a, b]⟩ : Shape).Idx) {r d : ℕ}
    (h0 : (k (0 : Fin 2)).val = r) (h1 : (k (1 : Fin 2)).val = d) : x k = ((X r d : ℝ) : EReal) := by
  subst h0 h1; exact h k
theorem at_three {a b c : ℕ} {x : (⟨3, ![a, b, c]⟩ : Shape).Idx → EReal} {X : ℕ → ℕ → ℕ → ℝ} (h : Is3 x X) (k : (⟨3, ![a, b, c]⟩ : Shape).Idx) {r d e : ℕ}
    (h0 : (k (0 : Fin 3)).val = r) (h1 : (k (1 : Fin 3)).val = d) (h2 : (k (2 : Fin 3)).val = e) : x k = ((X r d e : ℝ) : EReal) := by
  subst h0 h1 h2; exact h k

/-! The blocks a point reads, as numbers. Point `n` is head `n / 16`, key block `n / 4 % 4`, query block `n % 4`. -/

/-- Rows of the query block, 256 columns of the head. -/
def bq (Q : ℕ → ℕ → ℝ) (n r d : ℕ) : ℝ := Q (2048 * (n % 4) + r) (256 * (n / 16) + d)
/-- Rows of the key block, 256 columns of the head. -/
def bk (K : ℕ → ℕ → ℝ) (n r d : ℕ) : ℝ := K (2048 * (n / 4 % 4) + r) (256 * (n / 16) + d)
/-- Rows of the key block, 128 columns of the head. -/
def bv (W : ℕ → ℕ → ℝ) (n r d : ℕ) : ℝ := W (2048 * (n / 4 % 4) + r) (128 * (n / 16) + d)
/-- Rows of the query block, 128 columns of the head. -/
def bo (O : ℕ → ℕ → ℝ) (n r d : ℕ) : ℝ := O (2048 * (n % 4) + r) (128 * (n / 16) + d)
/-- The log-sums of the query block. -/
def bl (L : ℕ → ℕ → ℝ) (n r : ℕ) : ℝ := L (n / 16) (2048 * (n % 4) + r)

/-- What point `n` adds to each of the three gradients. -/
def dqN (Q K W O D L : ℕ → ℕ → ℝ) (n : ℕ) : ℕ → ℕ → ℝ := dqAdd (bq Q n) (bk K n) (bv W n) (bo D n) (bo O n) (bl L n) (n % 4)
def dkN (Q K W O D L : ℕ → ℕ → ℝ) (n : ℕ) : ℕ → ℕ → ℝ := dkAdd (bq Q n) (bk K n) (bv W n) (bo D n) (bo O n) (bl L n)
def dvN (Q K D L : ℕ → ℕ → ℝ) (n : ℕ) : ℕ → ℕ → ℝ := dvAdd (bq Q n) (bk K n) (bo D n) (bl L n)

/-- The sum of the first `k` points of the head of point `n`. -/
def dqS (Q K W O D L : ℕ → ℕ → ℝ) (n k r e : ℕ) : ℝ := ∑ j ∈ Finset.range k, dqN Q K W O D L (16 * (n / 16) + j) r e
/-- The sum of the first `k` points of the key block of point `n`. -/
def dkS (Q K W O D L : ℕ → ℕ → ℝ) (n k r e : ℕ) : ℝ := ∑ j ∈ Finset.range k, dkN Q K W O D L (4 * (n / 4) + j) r e
def dvS (Q K D L : ℕ → ℕ → ℝ) (n k r e : ℕ) : ℝ := ∑ j ∈ Finset.range k, dvN Q K D L (4 * (n / 4) + j) r e

theorem idx_q : ∀ t : Fin grid0.N, win0_0.index t (0 : Fin 2) = t.val % 4 ∧ win0_0.index t (1 : Fin 2) = t.val / 16 := by decide +kernel
theorem idx_k : ∀ t : Fin grid0.N, win0_1.index t (0 : Fin 2) = t.val / 4 % 4 ∧ win0_1.index t (1 : Fin 2) = t.val / 16 := by decide +kernel
theorem idx_v : ∀ t : Fin grid0.N, win0_2.index t (0 : Fin 2) = t.val / 4 % 4 ∧ win0_2.index t (1 : Fin 2) = t.val / 16 := by decide +kernel
theorem idx_o : ∀ t : Fin grid0.N, win0_3.index t (0 : Fin 2) = t.val % 4 ∧ win0_3.index t (1 : Fin 2) = t.val / 16 := by decide +kernel
theorem idx_l : ∀ t : Fin grid0.N, win0_4.index t (0 : Fin 3) = t.val / 16 ∧ win0_4.index t (1 : Fin 3) = t.val % 4 ∧ win0_4.index t (2 : Fin 3) = 0 := by decide +kernel
theorem idx_d : ∀ t : Fin grid0.N, win0_5.index t (0 : Fin 2) = t.val % 4 ∧ win0_5.index t (1 : Fin 2) = t.val / 16 := by decide +kernel
theorem coord_i : ∀ t : Fin grid0.N, (grid0.coords t 2).val = t.val % 4 := by decide +kernel

variable (m : (b : Loc nD τ sig) → Buf (Elt Ideal) b) (c : Dev nD)
variable {Q K W O D L : ℕ → ℕ → ℝ}

theorem blk_q (h : Is2 (a := 8192) (b := 2048) (V (F := Ideal) m c main_v33) Q) (t : Fin cfg0.N) :
    Is2 (a := 2048) (b := 256) (iblk (F := Ideal) m c 0 t) (bq Q t.val) := by
  intro i
  unfold iblk
  rw [View.read_apply]
  obtain ⟨e0, e1⟩ := idx_q t
  have hb0 : (((cfg0.win 0).blk t).view.emb i (0 : Fin 2)).val = win0_0.index t (0 : Fin 2) * 2048 + 1 * (i (0 : Fin 2)).val := rfl
  have hb1 : (((cfg0.win 0).blk t).view.emb i (1 : Fin 2)).val = win0_0.index t (1 : Fin 2) * 256 + 1 * (i (1 : Fin 2)).val := rfl
  rw [e0, one_mul, mul_comm] at hb0
  rw [e1, one_mul, mul_comm] at hb1
  show V (F := Ideal) m c main_v33 (((cfg0.win 0).blk t).view.emb i) = _
  exact at_two h _ hb0 hb1

theorem blk_k (h : Is2 (a := 8192) (b := 2048) (V (F := Ideal) m c main_v36) K) (t : Fin cfg0.N) :
    Is2 (a := 2048) (b := 256) (iblk (F := Ideal) m c 1 t) (bk K t.val) := by
  intro i
  unfold iblk
  rw [View.read_apply]
  obtain ⟨e0, e1⟩ := idx_k t
  have hb0 : (((cfg0.win 1).blk t).view.emb i (0 : Fin 2)).val = win0_1.index t (0 : Fin 2) * 2048 + 1 * (i (0 : Fin 2)).val := rfl
  have hb1 : (((cfg0.win 1).blk t).view.emb i (1 : Fin 2)).val = win0_1.index t (1 : Fin 2) * 256 + 1 * (i (1 : Fin 2)).val := rfl
  rw [e0, one_mul, mul_comm] at hb0
  rw [e1, one_mul, mul_comm] at hb1
  show V (F := Ideal) m c main_v36 (((cfg0.win 1).blk t).view.emb i) = _
  exact at_two h _ hb0 hb1

theorem blk_v (h : Is2 (a := 8192) (b := 1024) (V (F := Ideal) m c main_v38) W) (t : Fin cfg0.N) :
    Is2 (a := 2048) (b := 128) (iblk (F := Ideal) m c 2 t) (bv W t.val) := by
  intro i
  unfold iblk
  rw [View.read_apply]
  obtain ⟨e0, e1⟩ := idx_v t
  have hb0 : (((cfg0.win 2).blk t).view.emb i (0 : Fin 2)).val = win0_2.index t (0 : Fin 2) * 2048 + 1 * (i (0 : Fin 2)).val := rfl
  have hb1 : (((cfg0.win 2).blk t).view.emb i (1 : Fin 2)).val = win0_2.index t (1 : Fin 2) * 128 + 1 * (i (1 : Fin 2)).val := rfl
  rw [e0, one_mul, mul_comm] at hb0
  rw [e1, one_mul, mul_comm] at hb1
  show V (F := Ideal) m c main_v38 (((cfg0.win 2).blk t).view.emb i) = _
  exact at_two h _ hb0 hb1

theorem blk_o (h : Is2 (a := 8192) (b := 1024) (V (F := Ideal) m c main_v30) O) (t : Fin cfg0.N) :
    Is2 (a := 2048) (b := 128) (iblk (F := Ideal) m c 3 t) (bo O t.val) := by
  intro i
  unfold iblk
  rw [View.read_apply]
  obtain ⟨e0, e1⟩ := idx_o t
  have hb0 : (((cfg0.win 3).blk t).view.emb i (0 : Fin 2)).val = win0_3.index t (0 : Fin 2) * 2048 + 1 * (i (0 : Fin 2)).val := rfl
  have hb1 : (((cfg0.win 3).blk t).view.emb i (1 : Fin 2)).val = win0_3.index t (1 : Fin 2) * 128 + 1 * (i (1 : Fin 2)).val := rfl
  rw [e0, one_mul, mul_comm] at hb0
  rw [e1, one_mul, mul_comm] at hb1
  show V (F := Ideal) m c main_v30 (((cfg0.win 3).blk t).view.emb i) = _
  exact at_two h _ hb0 hb1

theorem blk_d (h : Is2 (a := 8192) (b := 1024) (V (F := Ideal) m c main_v39) D) (t : Fin cfg0.N) :
    Is2 (a := 2048) (b := 128) (iblk (F := Ideal) m c 5 t) (bo D t.val) := by
  intro i
  unfold iblk
  rw [View.read_apply]
  obtain ⟨e0, e1⟩ := idx_d t
  have hb0 : (((cfg0.win 5).blk t).view.emb i (0 : Fin 2)).val = win0_5.index t (0 : Fin 2) * 2048 + 1 * (i (0 : Fin 2)).val := rfl
  have hb1 : (((cfg0.win 5).blk t).view.emb i (1 : Fin 2)).val = win0_5.index t (1 : Fin 2) * 128 + 1 * (i (1 : Fin 2)).val := rfl
  rw [e0, one_mul, mul_comm] at hb0
  rw [e1, one_mul, mul_comm] at hb1
  show V (F := Ideal) m c main_v39 (((cfg0.win 5).blk t).view.emb i) = _
  exact at_two h _ hb0 hb1

theorem blk_l (h : Is3 (a := 8) (b := 8192) (c := 1) (V (F := Ideal) m c main_v12) fun g r _ => L g r) (t : Fin cfg0.N) :
    Is3 (a := 1) (b := 2048) (c := 1) (iblk (F := Ideal) m c 4 t) fun _ r _ => bl L t.val r := by
  intro i
  unfold iblk
  rw [View.read_apply]
  refine (cast_eq _ _).trans ?_
  obtain ⟨e0, e1, e2⟩ := idx_l t
  have hi : (i (0 : Fin 3)).val < 1 := (i (0 : Fin 3)).isLt
  have hb0 : (((cfg0.win 4).blk t).view.emb i (0 : Fin 3)).val = win0_4.index t (0 : Fin 3) * 1 + 1 * (i (0 : Fin 3)).val := rfl
  have hb1 : (((cfg0.win 4).blk t).view.emb i (1 : Fin 3)).val = win0_4.index t (1 : Fin 3) * 2048 + 1 * (i (1 : Fin 3)).val := rfl
  rw [e0, show t.val / 16 * 1 + 1 * (i (0 : Fin 3)).val = t.val / 16 by omega] at hb0
  rw [e1, one_mul, mul_comm] at hb1
  have hb2 : (((cfg0.win 4).blk t).view.emb i (2 : Fin 3)).val = (((cfg0.win 4).blk t).view.emb i (2 : Fin 3)).val := rfl
  exact at_three h _ hb0 hb1 hb2

end Att
end
-- ==== Proof.Soft.lean ====
/-
  Softmax attention of eight heads and its gradients, as a program's host lines compute them, on arrays of real numbers:
  scores, row maxima, exponentials, row sums, probabilities, output, and the gradients of scores, queries, keys, values.
-/
module

public import proofs.«01_k».proof.Proof.Arr
public import proofs.«01_k».proof.Proof.Gen.ReferenceIdeal.Run

@[expose] public section

set_option maxHeartbeats 1000000

noncomputable section

namespace Att

open Idealize.ShloMosaic Cert.ReferenceIdeal Cert.ReferenceIdeal.Facts₀
open scoped BigOperators

/-! ### The real numbers -/

/-- The reciprocal of the scores' scale. -/
def rq : ℝ := 1 / Real.sqrt 192

/-- The score of row `r` against column `c` in head `h`. -/
def sV (Q K : ℕ → ℕ → ℕ → ℝ) (h r c : ℕ) : ℝ := (∑ d ∈ Finset.range 192, Q r h d * K c h d) * rq
/-- The sum of a row's exponentials. -/
def zV (Q K : ℕ → ℕ → ℕ → ℝ) (h r : ℕ) : ℝ := ∑ c ∈ Finset.range 8192, Real.exp (sV Q K h r c)
/-- The probabilities. -/
def pV (Q K : ℕ → ℕ → ℕ → ℝ) (h r c : ℕ) : ℝ := Real.exp (sV Q K h r c) / zV Q K h r
/-- The attention's output. -/
def oV (Q K W : ℕ → ℕ → ℕ → ℝ) (h r e : ℕ) : ℝ := ∑ c ∈ Finset.range 8192, pV Q K h r c * W c h e
/-- The gradient of the probabilities. -/
def dpV (W D : ℕ → ℕ → ℕ → ℝ) (h r c : ℕ) : ℝ := ∑ e ∈ Finset.range 128, D r h e * W c h e
/-- The gradient of the unscaled scores. -/
def dsV (Q K W D : ℕ → ℕ → ℕ → ℝ) (h r c : ℕ) : ℝ :=
  pV Q K h r c * (dpV W D h r c - ∑ j ∈ Finset.range 8192, pV Q K h r j * dpV W D h r j) * rq

theorem zV_pos (Q K : ℕ → ℕ → ℕ → ℝ) (h r : ℕ) : 0 < zV Q K h r :=
  Finset.sum_pos (fun _ _ => Real.exp_pos _) ⟨0, by simp⟩

/-- A shift of a row's scores scales its exponentials' sum. -/
theorem zV_shift (Q K : ℕ → ℕ → ℕ → ℝ) (h r : ℕ) (M : ℝ) :
    ∑ c ∈ Finset.range 8192, Real.exp (sV Q K h r c - M) = zV Q K h r * Real.exp (-M) := by
  unfold zV
  rw [Finset.sum_mul]
  exact Finset.sum_congr rfl fun c _ => by rw [← Real.exp_add, sub_eq_add_neg]

theorem pV_shift (Q K : ℕ → ℕ → ℕ → ℝ) (h r c : ℕ) (M : ℝ) :
    Real.exp (sV Q K h r c - M) * (1 / ∑ j ∈ Finset.range 8192, Real.exp (sV Q K h r j - M)) = pV Q K h r c := by
  have hz := (zV_pos Q K h r).ne'
  have he := (Real.exp_pos (-M)).ne'
  rw [zV_shift, pV, sub_eq_add_neg, Real.exp_add]
  field_simp

/-- The maximum and the logarithm of the shifted sum make up the logarithm of the sum. -/
theorem lse_shift (Q K : ℕ → ℕ → ℕ → ℝ) (h r : ℕ) (M : ℝ) :
    M + Real.log (∑ c ∈ Finset.range 8192, Real.exp (sV Q K h r c - M)) = Real.log (zV Q K h r) := by
  rw [zV_shift, Real.log_mul (zV_pos Q K h r).ne' (Real.exp_pos _).ne', Real.log_exp]
  ring

/-- The host's gradient of the scores, simplified. -/
theorem ds_shift (Q K W D : ℕ → ℕ → ℕ → ℝ) (h r c : ℕ) (M : ℝ) :
    (dpV W D h r c * (1 / ∑ j ∈ Finset.range 8192, Real.exp (sV Q K h r j - M))
      + ∑ _i ∈ Finset.range 1, -∑ j ∈ Finset.range 8192, dpV W D h r j
          * (1 * (1 / ((∑ i ∈ Finset.range 8192, Real.exp (sV Q K h r i - M)) * ∑ i ∈ Finset.range 8192, Real.exp (sV Q K h r i - M))))
          * Real.exp (sV Q K h r j - M)) * Real.exp (sV Q K h r c - M) * (1 / Real.sqrt 192) = dsV Q K W D h r c := by
  rw [Finset.sum_range_one, dsV, ← pV_shift Q K h r c M,
    Finset.sum_congr rfl fun j _ => show dpV W D h r j
          * (1 * (1 / ((∑ i ∈ Finset.range 8192, Real.exp (sV Q K h r i - M)) * ∑ i ∈ Finset.range 8192, Real.exp (sV Q K h r i - M))))
          * Real.exp (sV Q K h r j - M) = pV Q K h r j * dpV W D h r j * (1 / ∑ i ∈ Finset.range 8192, Real.exp (sV Q K h r i - M)) from by
        rw [← pV_shift Q K h r j M, one_mul]; ring,
    ← Finset.sum_mul, rq]
  ring

/-! ### The arrays -/

/-- The scale of the scores, the constants zero, one and minus infinity. -/
theorem scale_real (i : S_.Idx) : Host.sqrt (F := Ideal) (constant S_ .f32 0x43400000#32) i = ((Real.sqrt 192 : ℝ) : EReal) := by
  have h : Ideal.ofBits .f32 0x43400000#32 = ((192 : ℝ) : EReal) := by simp [Ideal.ofBits, Ideal.ieee, -EReal.coe_mul]; norm_num
  show Ideal.sqrt (Ideal.ofBits .f32 0x43400000#32) = _
  rw [h]
  exact if_neg (by norm_num)
theorem zero_real (i : S_.Idx) : constant (F := Ideal) S_ .f32 0x00000000#32 i = 0 := Ideal.ofBits_zero_f32
theorem bot_real (i : S_.Idx) : constant (F := Ideal) S_ .f32 0xFF800000#32 i = ⊥ := by
  show Ideal.ofBits .f32 0xFF800000#32 = ⊥
  simp [Ideal.ofBits, Ideal.ieee]
theorem one_real (i : S_.Idx) : constant (F := Ideal) S_ .f32 0x3F800000#32 i = ((1 : ℝ) : EReal) := by
  show Ideal.ofBits .f32 0x3F800000#32 = _
  rw [Ideal.ofBits_one_f32]; rfl

variable (q k : FVec Ideal S8192x8x192 .f32) (v d : FVec Ideal S8192x8x128 .f32)

def scaleA : FVec Ideal S8x8192x8192 .f32 := broadcastInDim S8x8192x8192 ![] bcast_S_S8x8192x8192 (Host.sqrt (constant S_ .f32 0x43400000#32))
def sA : FVec Ideal S8x8192x8192 .f32 :=
  Host.divf (Host.dotGeneral dot_S8192x8x192_S8192x8x192_S8x8192x8192_2_2_0_0_1_1 none q k) scaleA
/-- The maxima of the rows. -/
def mA : FVec Ideal S8x8192 .f32 :=
  Host.reduce FloatOps.maximumf (sA q k) (constant S_ .f32 0xFF800000#32) reducesTo_S8x8192x8192_S8x8192_d2 h_S_
def mB : FVec Ideal S8x8192 .f32 := maximumf (broadcastInDim S8x8192 ![] bcast_S_S8x8192 (constant S_ .f32 0xFF800000#32)) (mA q k)
def tall (x : FVec Ideal S8x8192 .f32) : FVec Ideal S8x8192x1 .f32 := broadcastInDim S8x8192x1 ![0, 1] bcast_S8x8192_S8x8192x1_0_1 x
def wide (x : FVec Ideal S8x8192x1 .f32) : FVec Ideal S8x8192x8192 .f32 :=
  broadcastInDim S8x8192x8192 ![0, 1, 2] bcast_S8x8192x1_S8x8192x8192_0_1_2 x
/-- The exponentials of the scores less a number of each row. -/
def eA (x : FVec Ideal S8x8192 .f32) : FVec Ideal S8x8192x8192 .f32 := Host.exp (subf (sA q k) (wide (tall x)))
/-- Sums of the rows. -/
def sumA (x : FVec Ideal S8x8192x8192 .f32) : FVec Ideal S8x8192 .f32 :=
  Host.reduceAdd x (constant S_ .f32 0x00000000#32) reducesTo_S8x8192x8192_S8x8192_d2 h_S_
def lseA : FVec Ideal S8x8192x1 .f32 := addf (tall (mA q k)) (Host.log (tall (sumA (eA q k (mA q k)))))
def pA : FVec Ideal S8x8192x8192 .f32 := Host.divf (eA q k (mB q k)) (wide (tall (sumA (eA q k (mB q k)))))
def oA : FVec Ideal S8192x8x128 .f32 :=
  transpose S8192x8x128 [2, 0, 1] (Host.dotGeneral dot_S8192x8x128_S8x8192x8192_S8x128x8192_0_2_2_1_1_0 none v (pA q k)) transposes_S8x128x8192_S8192x8x128_2_0_1
def dT : FVec Ideal S8x128x8192 .f32 := transpose S8x128x8192 [1, 2, 0] d transposes_S8192x8x128_S8x128x8192_1_2_0
def dvA : FVec Ideal S8192x8x128 .f32 :=
  transpose S8192x8x128 [2, 0, 1] (Host.dotGeneral dot_S8x128x8192_S8x8192x8192_S8x128x8192_2_1_1_2_0_0 none (dT d) (pA q k)) transposes_S8x128x8192_S8192x8x128_2_0_1
def dpA : FVec Ideal S8x8192x8192 .f32 := Host.dotGeneral dot_S8x128x8192_S8192x8x128_S8x8192x8192_1_2_2_0_0_1 none (dT d) v
/-- The part of the scores' gradient that comes through the rows' sums. -/
def dzA : FVec Ideal S8x8192 .f32 :=
  Host.reduceAdd (Host.negf (shapeCast S8x8192x1 (sumA (mulf (mulf (dpA v d) (wide (Host.divf
    (broadcastInDim S8x8192x1 ![] bcast_S_S8x8192x1 (constant S_ .f32 0x3F800000#32))
    (mulf (tall (sumA (eA q k (mB q k)))) (tall (sumA (eA q k (mB q k)))))))) (eA q k (mB q k)))) shapeCasts_S8x8192_S8x8192x1))
    (constant S_ .f32 0x00000000#32) reducesTo_S8x8192x1_S8x8192_d2 h_S_
def dsA : FVec Ideal S8x8192x8192 .f32 :=
  Host.divf (mulf (addf (Host.divf (dpA v d) (wide (tall (sumA (eA q k (mB q k))))))
    (broadcastInDim S8x8192x8192 ![0, 1] bcast_S8x8192_S8x8192x8192_0_1 (dzA q k v d))) (eA q k (mB q k))) scaleA
def dqA : FVec Ideal S8192x8x192 .f32 :=
  transpose S8192x8x192 [1, 0, 2] (Host.dotGeneral dot_S8x8192x8192_S8192x8x192_S8x8192x192_2_0_1_2_0_1 none (dsA q k v d) k) transposes_S8x8192x192_S8192x8x192_1_0_2
def dkA : FVec Ideal S8192x8x192 .f32 :=
  transpose S8192x8x192 [1, 0, 2] (Host.dotGeneral dot_S8x8192x8192_S8192x8x192_S8x8192x192_1_0_2_2_0_1 none (dsA q k v d) q) transposes_S8x8192x192_S8192x8x192_1_0_2

variable {q k v d} {Q K W D : ℕ → ℕ → ℕ → ℝ}

theorem scaleA_real : Is3 (a := 8) (b := 8192) (c := 8192) scaleA fun _ _ _ => Real.sqrt 192 :=
  bcast_const scale_real _ _
theorem tall_real {x : FVec Ideal S8x8192 .f32} {X : ℕ → ℕ → ℝ} (hx : Is2 (a := 8) (b := 8192) x X) :
    Is3 (a := 8) (b := 8192) (c := 1) (tall x) fun i j _ => X i j := bcast_unit hx (by decide) (by decide) _
theorem wide_real {x : FVec Ideal S8x8192x1 .f32} {X : ℕ → ℕ → ℕ → ℝ} (hx : Is3 (a := 8) (b := 8192) (c := 1) x X) :
    Is3 (a := 8) (b := 8192) (c := 8192) (wide x) fun i j _ => X i j 0 := bcast_last hx (by decide) (by decide) _
theorem sumA_real {x : FVec Ideal S8x8192x8192 .f32} {X : ℕ → ℕ → ℕ → ℝ} (hx : Is3 (a := 8) (b := 8192) (c := 8192) x X) :
    Is2 (a := 8) (b := 8192) (sumA x) fun i j => ∑ c ∈ Finset.range 8192, X i j c := hostSum3 hx _ zero_real _ _

theorem sA_real (hq : Is3 (a := 8192) (b := 8) (c := 192) q Q) (hk : Is3 (a := 8192) (b := 8) (c := 192) k K) :
    Is3 (a := 8) (b := 8192) (c := 8192) (sA q k) (sV Q K) :=
  divf3 (X := fun h r c => ∑ d ∈ Finset.range 192, Q r h d * K c h d) (fun i =>
    dotGeneral_real _ none _ 192 rfl rfl q k i (fun d => Q (i (1 : Fin 3)).val (i (0 : Fin 3)).val d) (fun d => K (i (2 : Fin 3)).val (i (0 : Fin 3)).val d)
      (fun _ => hq _) (fun _ => hk _)) scaleA_real fun _ _ _ => (Real.sqrt_pos.mpr (by norm_num)).ne'

theorem mA_real (hq : Is3 (a := 8192) (b := 8) (c := 192) q Q) (hk : Is3 (a := 8192) (b := 8) (c := 192) k K) :
    ∃ M, Is2 (a := 8) (b := 8192) (mA q k) M ∧ Is2 (a := 8) (b := 8192) (mB q k) M := by
  obtain ⟨M, hM⟩ := hostMax3 (sA_real hq hk) (constant (F := Ideal) S_ .f32 0xFF800000#32) bot_real reducesTo_S8x8192x8192_S8x8192_d2 (by decide) h_S_
  exact ⟨M, hM, max_bot2 (fun _ => bot_real _) hM⟩

theorem eA_real (hq : Is3 (a := 8192) (b := 8) (c := 192) q Q) (hk : Is3 (a := 8192) (b := 8) (c := 192) k K)
    {x : FVec Ideal S8x8192 .f32} {M : ℕ → ℕ → ℝ} (hx : Is2 (a := 8) (b := 8192) x M) :
    Is3 (a := 8) (b := 8192) (c := 8192) (eA q k x) fun h r c => Real.exp (sV Q K h r c - M h r) :=
  exp3 (subf3 (sA_real hq hk) (wide_real (tall_real hx)))

theorem exps_pos (Q K : ℕ → ℕ → ℕ → ℝ) (M : ℕ → ℕ → ℝ) (h r : ℕ) : 0 < ∑ c ∈ Finset.range 8192, Real.exp (sV Q K h r c - M h r) :=
  Finset.sum_pos (fun _ _ => Real.exp_pos _) ⟨0, by simp⟩

/-- The logarithm of a row's sum of exponentials. -/
theorem lseA_real (hq : Is3 (a := 8192) (b := 8) (c := 192) q Q) (hk : Is3 (a := 8192) (b := 8) (c := 192) k K) :
    Is3 (a := 8) (b := 8192) (c := 1) (lseA q k) fun h r _ => Real.log (zV Q K h r) := by
  obtain ⟨M, hM, -⟩ := mA_real hq hk
  exact (addf3 (tall_real hM) (log3 (tall_real (sumA_real (eA_real hq hk hM))) fun h r _ => exps_pos Q K M h r)).congr
    fun h r _ => lse_shift Q K h r (M h r)

theorem pA_real (hq : Is3 (a := 8192) (b := 8) (c := 192) q Q) (hk : Is3 (a := 8192) (b := 8) (c := 192) k K) :
    Is3 (a := 8) (b := 8192) (c := 8192) (pA q k) (pV Q K) := by
  obtain ⟨M, -, hM⟩ := mA_real hq hk
  exact (divf3 (eA_real hq hk hM) (wide_real (tall_real (sumA_real (eA_real hq hk hM)))) fun h r _ => (exps_pos Q K M h r).ne').congr
    fun h r c => pV_shift Q K h r c (M h r)

/-- The probabilities against the values. -/
theorem dot_p_real {x : FVec Ideal S8192x8x128 .f32} {w : FVec Ideal S8x8192x8192 .f32} {X V : ℕ → ℕ → ℕ → ℝ} (hx : Is3 (a := 8192) (b := 8) (c := 128) x X)
    (hw : Is3 (a := 8) (b := 8192) (c := 8192) w V) :
    Is3 (a := 8) (b := 128) (c := 8192) (Host.dotGeneral dot_S8192x8x128_S8x8192x8192_S8x128x8192_0_2_2_1_1_0 none x w) fun h e r => ∑ c ∈ Finset.range 8192, V h r c * X c h e := by
  intro i
  have h1 : ∀ y : dot_S8192x8x128_S8x8192x8192_S8x128x8192_0_2_2_1_1_0.contr.Idx, x (dot_S8192x8x128_S8x8192x8192_S8x128x8192_0_2_2_1_1_0.lhsIdx i y)
      = ((X (y ⟨0, by decide⟩).val (i (0 : Fin 3)).val (i (1 : Fin 3)).val : ℝ) : EReal) := fun _ => hx _
  have h2 : ∀ y : dot_S8192x8x128_S8x8192x8192_S8x128x8192_0_2_2_1_1_0.contr.Idx, w (dot_S8192x8x128_S8x8192x8192_S8x128x8192_0_2_2_1_1_0.rhsIdx i y)
      = ((V (i (0 : Fin 3)).val (i (2 : Fin 3)).val (y ⟨0, by decide⟩).val : ℝ) : EReal) := fun _ => hw _
  exact (dotGeneral_real dot_S8192x8x128_S8x8192x8192_S8x128x8192_0_2_2_1_1_0 none _ 8192 rfl rfl x w i
    (fun y => X y (i (0 : Fin 3)).val (i (1 : Fin 3)).val) (fun y => V (i (0 : Fin 3)).val (i (2 : Fin 3)).val y) h1 h2).trans (congrArg _ (Finset.sum_congr rfl fun _ _ => mul_comm _ _))

/-- The probabilities against the output's gradient. -/
theorem dot_d_real {x : FVec Ideal S8x128x8192 .f32} {w : FVec Ideal S8x8192x8192 .f32} {X V : ℕ → ℕ → ℕ → ℝ} (hx : Is3 (a := 8) (b := 128) (c := 8192) x X)
    (hw : Is3 (a := 8) (b := 8192) (c := 8192) w V) :
    Is3 (a := 8) (b := 128) (c := 8192) (Host.dotGeneral dot_S8x128x8192_S8x8192x8192_S8x128x8192_2_1_1_2_0_0 none x w) fun h e c => ∑ r ∈ Finset.range 8192, V h r c * X h e r := by
  intro i
  have h1 : ∀ y : dot_S8x128x8192_S8x8192x8192_S8x128x8192_2_1_1_2_0_0.contr.Idx, x (dot_S8x128x8192_S8x8192x8192_S8x128x8192_2_1_1_2_0_0.lhsIdx i y)
      = ((X (i (0 : Fin 3)).val (i (1 : Fin 3)).val (y ⟨0, by decide⟩).val : ℝ) : EReal) := fun _ => hx _
  have h2 : ∀ y : dot_S8x128x8192_S8x8192x8192_S8x128x8192_2_1_1_2_0_0.contr.Idx, w (dot_S8x128x8192_S8x8192x8192_S8x128x8192_2_1_1_2_0_0.rhsIdx i y)
      = ((V (i (0 : Fin 3)).val (y ⟨0, by decide⟩).val (i (2 : Fin 3)).val : ℝ) : EReal) := fun _ => hw _
  exact (dotGeneral_real dot_S8x128x8192_S8x8192x8192_S8x128x8192_2_1_1_2_0_0 none _ 8192 rfl rfl x w i
    (fun y => X (i (0 : Fin 3)).val (i (1 : Fin 3)).val y) (fun y => V (i (0 : Fin 3)).val y (i (2 : Fin 3)).val) h1 h2).trans (congrArg _ (Finset.sum_congr rfl fun _ _ => mul_comm _ _))

theorem oA_real (hq : Is3 (a := 8192) (b := 8) (c := 192) q Q) (hk : Is3 (a := 8192) (b := 8) (c := 192) k K)
    (hv : Is3 (a := 8192) (b := 8) (c := 128) v W) :
    Is3 (a := 8192) (b := 8) (c := 128) (oA q k v) fun r h e => oV Q K W h r e := by
  have h := dot_p_real hv (pA_real hq hk)
  unfold oA
  exact transpose_201 h _

theorem dT_real (hd : Is3 (a := 8192) (b := 8) (c := 128) d D) : Is3 (a := 8) (b := 128) (c := 8192) (dT d) fun h e r => D r h e :=
  transpose_120 hd _

theorem dvA_real (hq : Is3 (a := 8192) (b := 8) (c := 192) q Q) (hk : Is3 (a := 8192) (b := 8) (c := 192) k K)
    (hd : Is3 (a := 8192) (b := 8) (c := 128) d D) :
    Is3 (a := 8192) (b := 8) (c := 128) (dvA q k d) fun c h e => ∑ r ∈ Finset.range 8192, pV Q K h r c * D r h e := by
  have h := dot_d_real (dT_real hd) (pA_real hq hk)
  unfold dvA
  exact transpose_201 h _

theorem dpA_real (hv : Is3 (a := 8192) (b := 8) (c := 128) v W) (hd : Is3 (a := 8192) (b := 8) (c := 128) d D) :
    Is3 (a := 8) (b := 8192) (c := 8192) (dpA v d) (dpV W D) := fun i =>
  dotGeneral_real _ none _ 128 rfl rfl (dT d) v i (fun e => D (i (1 : Fin 3)).val (i (0 : Fin 3)).val e) (fun e => W (i (2 : Fin 3)).val (i (0 : Fin 3)).val e)
    (fun _ => dT_real hd _) (fun _ => hv _)

theorem dsA_real (hq : Is3 (a := 8192) (b := 8) (c := 192) q Q) (hk : Is3 (a := 8192) (b := 8) (c := 192) k K)
    (hv : Is3 (a := 8192) (b := 8) (c := 128) v W) (hd : Is3 (a := 8192) (b := 8) (c := 128) d D) :
    Is3 (a := 8) (b := 8192) (c := 8192) (dsA q k v d) (dsV Q K W D) := by
  obtain ⟨M, -, hM⟩ := mA_real hq hk
  have hE := eA_real hq hk hM
  have hZ := tall_real (sumA_real hE)
  have hP := dpA_real hv hd
  have h1 : Is3 (a := 8) (b := 8192) (c := 1) (broadcastInDim S8x8192x1 ![] bcast_S_S8x8192x1 (constant (F := Ideal) S_ .f32 0x3F800000#32)) fun _ _ _ => 1 :=
    bcast_const one_real _ _
  have hz : Is2 (a := 8) (b := 8192) (dzA q k v d) _ := hostSum3 (neg3 (unit_real (sumA_real (mulf3 (mulf3 hP (wide_real
    (divf3 h1 (mulf3 hZ hZ) fun h r _ => mul_ne_zero (exps_pos Q K M h r).ne' (exps_pos Q K M h r).ne'))) hE)) _)) _ zero_real _ _
  exact (divf3 (mulf3 (addf3 (divf3 hP (wide_real hZ) fun h r _ => (exps_pos Q K M h r).ne') (bcast_unit hz (by decide) (by decide) _)) hE)
    scaleA_real fun _ _ _ => (Real.sqrt_pos.mpr (by norm_num)).ne').congr fun h r c => ds_shift Q K W D h r c (M h r)

/-- The scores' gradient against the keys. -/
theorem dot_k_real {x : FVec Ideal S8x8192x8192 .f32} {X : ℕ → ℕ → ℕ → ℝ} (hx : Is3 (a := 8) (b := 8192) (c := 8192) x X)
    (hk : Is3 (a := 8192) (b := 8) (c := 192) k K) :
    Is3 (a := 8) (b := 8192) (c := 192) (Host.dotGeneral dot_S8x8192x8192_S8192x8x192_S8x8192x192_2_0_1_2_0_1 none x k) fun h r e => ∑ c ∈ Finset.range 8192, X h r c * K c h e := by
  intro i
  have h1 : ∀ y : dot_S8x8192x8192_S8192x8x192_S8x8192x192_2_0_1_2_0_1.contr.Idx, x (dot_S8x8192x8192_S8192x8x192_S8x8192x192_2_0_1_2_0_1.lhsIdx i y)
      = ((X (i (0 : Fin 3)).val (i (1 : Fin 3)).val (y ⟨0, by decide⟩).val : ℝ) : EReal) := fun _ => hx _
  have h2 : ∀ y : dot_S8x8192x8192_S8192x8x192_S8x8192x192_2_0_1_2_0_1.contr.Idx, k (dot_S8x8192x8192_S8192x8x192_S8x8192x192_2_0_1_2_0_1.rhsIdx i y)
      = ((K (y ⟨0, by decide⟩).val (i (0 : Fin 3)).val (i (2 : Fin 3)).val : ℝ) : EReal) := fun _ => hk _
  exact dotGeneral_real dot_S8x8192x8192_S8192x8x192_S8x8192x192_2_0_1_2_0_1 none _ 8192 rfl rfl x k i
    (fun y => X (i (0 : Fin 3)).val (i (1 : Fin 3)).val y) (fun y => K y (i (0 : Fin 3)).val (i (2 : Fin 3)).val) h1 h2

/-- The scores' gradient against the queries. -/
theorem dot_q_real {x : FVec Ideal S8x8192x8192 .f32} {X : ℕ → ℕ → ℕ → ℝ} (hx : Is3 (a := 8) (b := 8192) (c := 8192) x X)
    (hq : Is3 (a := 8192) (b := 8) (c := 192) q Q) :
    Is3 (a := 8) (b := 8192) (c := 192) (Host.dotGeneral dot_S8x8192x8192_S8192x8x192_S8x8192x192_1_0_2_2_0_1 none x q) fun h c e => ∑ r ∈ Finset.range 8192, X h r c * Q r h e := by
  intro i
  have h1 : ∀ y : dot_S8x8192x8192_S8192x8x192_S8x8192x192_1_0_2_2_0_1.contr.Idx, x (dot_S8x8192x8192_S8192x8x192_S8x8192x192_1_0_2_2_0_1.lhsIdx i y)
      = ((X (i (0 : Fin 3)).val (y ⟨0, by decide⟩).val (i (1 : Fin 3)).val : ℝ) : EReal) := fun _ => hx _
  have h2 : ∀ y : dot_S8x8192x8192_S8192x8x192_S8x8192x192_1_0_2_2_0_1.contr.Idx, q (dot_S8x8192x8192_S8192x8x192_S8x8192x192_1_0_2_2_0_1.rhsIdx i y)
      = ((Q (y ⟨0, by decide⟩).val (i (0 : Fin 3)).val (i (2 : Fin 3)).val : ℝ) : EReal) := fun _ => hq _
  exact dotGeneral_real dot_S8x8192x8192_S8192x8x192_S8x8192x192_1_0_2_2_0_1 none _ 8192 rfl rfl x q i
    (fun y => X (i (0 : Fin 3)).val y (i (1 : Fin 3)).val) (fun y => Q y (i (0 : Fin 3)).val (i (2 : Fin 3)).val) h1 h2

theorem dqA_real (hq : Is3 (a := 8192) (b := 8) (c := 192) q Q) (hk : Is3 (a := 8192) (b := 8) (c := 192) k K)
    (hv : Is3 (a := 8192) (b := 8) (c := 128) v W) (hd : Is3 (a := 8192) (b := 8) (c := 128) d D) :
    Is3 (a := 8192) (b := 8) (c := 192) (dqA q k v d) fun r h e => ∑ c ∈ Finset.range 8192, dsV Q K W D h r c * K c h e := by
  have h := dot_k_real (dsA_real hq hk hv hd) hk
  unfold dqA
  exact transpose_102 h _

theorem dkA_real (hq : Is3 (a := 8192) (b := 8) (c := 192) q Q) (hk : Is3 (a := 8192) (b := 8) (c := 192) k K)
    (hv : Is3 (a := 8192) (b := 8) (c := 128) v W) (hd : Is3 (a := 8192) (b := 8) (c := 128) d D) :
    Is3 (a := 8192) (b := 8) (c := 192) (dkA q k v d) fun c h e => ∑ r ∈ Finset.range 8192, dsV Q K W D h r c * Q r h e := by
  have h := dot_q_real (dsA_real hq hk hv hd) hq
  unfold dkA
  exact transpose_102 h _

end Att

end
-- ==== Proof.Ref.lean ====
/-
  The reference's results: the gradients of the queries, the keys and the values, their heads side by side.
-/
module

public import proofs.«01_k».proof.Proof.Soft

@[expose] public section

set_option maxHeartbeats 1000000
set_option maxRecDepth 8192

noncomputable section

namespace Att

open Idealize.ShloMosaic Idealize.SL.Sem Cert.ReferenceIdeal Cert.ReferenceIdeal.Facts₀
open scoped BigOperators

/-- Heads of 192 lanes, each followed by 64 zeros. -/
def lanes (X : ℕ → ℕ → ℕ → ℝ) (r w : ℕ) : ℝ := if w % 256 < 192 then X r (w / 256) (w % 256) else 0

theorem pad_zero (i : S_.Idx) : sitofp (F := Ideal) .f32 (constantI S_ 32 0#32) i = 0 := by
  show (((BitVec.toInt 0#32 : ℤ) : ℝ) : EReal) = 0
  simp

/-- Padded heads side by side. -/
theorem lanes_real {x : FVec Ideal S8192x8x192 .f32} {X : ℕ → ℕ → ℕ → ℝ} (hx : Is3 (a := 8192) (b := 8) (c := 192) x X) :
    Is2 (a := 8192) (b := 2048) (shapeCast S8192x2048 (pad S8192x8x256 ![0, 0, 0] ![0, 0, 64] ![0, 0, 0] x
      (sitofp (F := Ideal) .f32 (constantI S_ 32 0#32)) pads_S8192x8x192_S8192x8x256_000_000_0640 h_S_) shapeCasts_S8192x8x256_S8192x2048) (lanes X) :=
  join_real (a := 8192) (b := 8) (c := 256) (d := 2048) (pad_real (a := 8192) (b := 8) (c := 192) (d := 256) (e := 64) hx _ pad_zero _ _) rfl _

/-- Heads of 128 lanes side by side. -/
theorem heads_real {x : FVec Ideal S8192x8x128 .f32} {X : ℕ → ℕ → ℕ → ℝ} (hx : Is3 (a := 8192) (b := 8) (c := 128) x X) :
    Is2 (a := 8192) (b := 1024) (shapeCast S8192x1024 x shapeCasts_S8192x8x128_S8192x1024) fun r w => X r (w / 128) (w % 128) :=
  join_real (a := 8192) (b := 8) (c := 128) (d := 1024) hx rfl _

end Att

namespace Cert.ReferenceIdeal

open Idealize.ShloMosaic Idealize.SL.Sem Facts₀ Att
open scoped BigOperators

variable (m : (ℓ : Loc nD τ sig) → Buf (Elt Ideal) ℓ) (c : Dev nD) {Q K W D : ℕ → ℕ → ℕ → ℝ}

theorem dq_eq : Value.res_main_v57 (F := Ideal) m c = shapeCast S8192x2048 (pad S8192x8x256 ![0, 0, 0] ![0, 0, 64] ![0, 0, 0]
    (dqA (m ((c.tc : Thread nD τ).loc main_arg0)) (m ((c.tc : Thread nD τ).loc main_arg1)) (m ((c.tc : Thread nD τ).loc main_arg2)) (m ((c.tc : Thread nD τ).loc main_arg3)))
    (sitofp (F := Ideal) .f32 (constantI S_ 32 0#32)) pads_S8192x8x192_S8192x8x256_000_000_0640 h_S_) shapeCasts_S8192x8x256_S8192x2048 := rfl

theorem dk_eq : Value.res_main_v59 (F := Ideal) m c = shapeCast S8192x2048 (pad S8192x8x256 ![0, 0, 0] ![0, 0, 64] ![0, 0, 0]
    (dkA (m ((c.tc : Thread nD τ).loc main_arg0)) (m ((c.tc : Thread nD τ).loc main_arg1)) (m ((c.tc : Thread nD τ).loc main_arg2)) (m ((c.tc : Thread nD τ).loc main_arg3)))
    (sitofp (F := Ideal) .f32 (constantI S_ 32 0#32)) pads_S8192x8x192_S8192x8x256_000_000_0640 h_S_) shapeCasts_S8192x8x256_S8192x2048 := rfl

end Cert.ReferenceIdeal

end
-- ==== Proof.Equation.lean ====
/-
  The kernel's sums over blocks of heads side by side are the gradients' sums over whole rows.
-/
module

public import proofs.«01_k».proof.Proof.Blocks
public import proofs.«01_k».proof.Proof.Ref

@[expose] public section

set_option maxHeartbeats 1000000

noncomputable section

namespace Att

open scoped BigOperators

/-- Heads of 128 lanes side by side. -/
def heads (X : ℕ → ℕ → ℕ → ℝ) (r w : ℕ) : ℝ := X r (w / 128) (w % 128)
/-- The attention's output and the logarithms of its row sums as arrays of the kernel. -/
def outs (Q K W : ℕ → ℕ → ℕ → ℝ) (r w : ℕ) : ℝ := oV Q K W (w / 128) r (w % 128)
def lses (Q K : ℕ → ℕ → ℕ → ℝ) (g r : ℕ) : ℝ := Real.log (zV Q K g r)

variable (Q K W D : ℕ → ℕ → ℕ → ℝ)

theorem sum_16 (f : ℕ → ℝ) : ∑ j ∈ Finset.range 16, f j = ∑ a ∈ Finset.range 4, ∑ b ∈ Finset.range 4, f (4 * a + b) := by
  simp only [Finset.sum_range_succ, Finset.sum_range_zero, zero_add, Nat.mul_zero, Nat.mul_one, Nat.add_zero, Nat.reduceMul, Nat.reduceAdd]
  ring

theorem sum_4 (f : ℕ → ℝ) : ∑ a ∈ Finset.range 4, ∑ r ∈ Finset.range 2048, f (2048 * a + r) = ∑ r ∈ Finset.range 8192, f r := by
  rw [show 8192 = 6144 + 2048 from rfl, Finset.sum_range_add, show 6144 = 4096 + 2048 from rfl, Finset.sum_range_add,
    show 4096 = 2048 + 2048 from rfl, Finset.sum_range_add]
  simp only [Finset.sum_range_succ _ 3, Finset.sum_range_succ _ 2, Finset.sum_range_succ _ 1, Finset.sum_range_succ _ 0, Finset.sum_range_zero,
    zero_add, Nat.mul_zero, Nat.mul_one, Nat.reduceMul, Nat.reduceAdd]

theorem lanes_at (X : ℕ → ℕ → ℕ → ℝ) (r h d : ℕ) (hd : d < 256) : lanes X r (256 * h + d) = if d < 192 then X r h d else 0 := by
  unfold lanes
  rw [show (256 * h + d) % 256 = d by omega, show (256 * h + d) / 256 = h by omega]

theorem heads_at (X : ℕ → ℕ → ℕ → ℝ) (r h d : ℕ) (hd : d < 128) : heads X r (128 * h + d) = X r h d := by
  unfold heads
  rw [show (128 * h + d) % 128 = d by omega, show (128 * h + d) / 128 = h by omega]

theorem outs_at (r h d : ℕ) (hd : d < 128) : outs Q K W r (128 * h + d) = oV Q K W h r d := by
  unfold outs
  rw [show (128 * h + d) % 128 = d by omega, show (128 * h + d) / 128 = h by omega]

/-- Zeros add nothing to a score. -/
theorem sum_lanes (r c h : ℕ) : ∑ d ∈ Finset.range 256, lanes Q r (256 * h + d) * lanes K c (256 * h + d) = ∑ d ∈ Finset.range 192, Q r h d * K c h d := by
  rw [show 256 = 192 + 64 from rfl, Finset.sum_range_add, Finset.sum_eq_zero (s := Finset.range 64), add_zero]
  · refine Finset.sum_congr rfl fun d hd => ?_
    have := Finset.mem_range.mp hd
    rw [lanes_at _ _ _ _ (by omega), lanes_at _ _ _ _ (by omega), if_pos this, if_pos this]
  · intro d hd
    have := Finset.mem_range.mp hd
    rw [lanes_at _ _ _ _ (by omega), if_neg (by omega), zero_mul]

/-- The probabilities of a block. -/
theorem prR_eq (n r c : ℕ) : prR (bq (lanes Q) n) (bk (lanes K) n) (bl (lses Q K) n) r c
    = pV Q K (n / 16) (2048 * (n % 4) + r) (2048 * (n / 4 % 4) + c) := by
  unfold prR bq bk bl lses pV
  rw [sum_lanes, Real.exp_sub, Real.exp_log (zV_pos _ _ _ _)]
  unfold sV rq rs
  rw [one_div]

/-- The output against its gradient is the probabilities against theirs. -/
theorem delta_eq (h r : ℕ) : ∑ e ∈ Finset.range 128, D r h e * oV Q K W h r e = ∑ j ∈ Finset.range 8192, pV Q K h r j * dpV W D h r j := by
  unfold oV dpV
  simp only [Finset.mul_sum]
  rw [Finset.sum_comm]
  exact Finset.sum_congr rfl fun _ _ => Finset.sum_congr rfl fun _ _ => by ring

/-- The gradients of the scores of a block. -/
theorem dsR_eq (n r c : ℕ) : dsR (bq (lanes Q) n) (bk (lanes K) n) (bv (heads W) n) (bo (heads D) n) (bo (outs Q K W) n) (bl (lses Q K) n) r c
    = dsV Q K W D (n / 16) (2048 * (n % 4) + r) (2048 * (n / 4 % 4) + c) := by
  have h1 : ∑ e ∈ Finset.range 128, bo (heads D) n r e * bv (heads W) n c e = dpV W D (n / 16) (2048 * (n % 4) + r) (2048 * (n / 4 % 4) + c) :=
    Finset.sum_congr rfl fun e he => by
      unfold bo bv; rw [heads_at _ _ _ _ (Finset.mem_range.mp he), heads_at _ _ _ _ (Finset.mem_range.mp he)]
  have h2 : ∑ e ∈ Finset.range 128, bo (heads D) n r e * bo (outs Q K W) n r e
      = ∑ e ∈ Finset.range 128, D (2048 * (n % 4) + r) (n / 16) e * oV Q K W (n / 16) (2048 * (n % 4) + r) e :=
    Finset.sum_congr rfl fun e he => by
      unfold bo; rw [heads_at _ _ _ _ (Finset.mem_range.mp he), outs_at _ _ _ _ _ _ (Finset.mem_range.mp he)]
  unfold dsR dsV rq rs
  rw [prR_eq, h1, h2, delta_eq, one_div]

/-- The gradient of the queries. -/
theorem dq_sum (h r e : ℕ) (hr : r < 8192) (he : e < 256) :
    dqS (lanes Q) (lanes K) (heads W) (outs Q K W) (heads D) (lses Q K) (16 * h + 15) 16 r e
      = if e < 192 then ∑ c ∈ Finset.range 8192, dsV Q K W D h r c * K c h e else 0 := by
  have key : ∀ a ∈ Finset.range 4, ∑ b ∈ Finset.range 4, dqN (lanes Q) (lanes K) (heads W) (outs Q K W) (heads D) (lses Q K) (16 * h + (4 * a + b)) r e
      = ∑ c ∈ Finset.range 2048, dsV Q K W D h r (2048 * a + c) * lanes K (2048 * a + c) (256 * h + e) := by
    intro a ha
    have ha := Finset.mem_range.mp ha
    rw [Finset.sum_eq_single (r / 2048)]
    · have hb : r / 2048 < 4 := by omega
      unfold dqN dqAdd
      rw [show (16 * h + (4 * a + r / 2048)) % 4 = r / 2048 by omega, if_pos ⟨by omega, by omega⟩]
      refine Finset.sum_congr rfl fun c _ => ?_
      rw [dsR_eq, show (16 * h + (4 * a + r / 2048)) % 4 = r / 2048 by omega, show (16 * h + (4 * a + r / 2048)) / 4 % 4 = a by omega,
        show (16 * h + (4 * a + r / 2048)) / 16 = h by omega, show 2048 * (r / 2048) + (r - 2048 * (r / 2048)) = r by omega]
      unfold bk
      rw [show (16 * h + (4 * a + r / 2048)) / 4 % 4 = a by omega, show (16 * h + (4 * a + r / 2048)) / 16 = h by omega]
    · intro b hb hne
      have hb := Finset.mem_range.mp hb
      unfold dqN dqAdd
      rw [show (16 * h + (4 * a + b)) % 4 = b by omega]
      exact if_neg fun hc => hne (by omega)
    · intro hn
      exact absurd (Finset.mem_range.mpr (by omega)) hn
  unfold dqS
  rw [show (16 * h + 15) / 16 = h by omega, sum_16, Finset.sum_congr rfl key, sum_4 fun c => dsV Q K W D h r c * lanes K c (256 * h + e)]
  simp only [lanes_at _ _ _ _ he]
  split_ifs
  · rfl
  · simp only [mul_zero, Finset.sum_const_zero]

/-- The gradient of the keys. -/
theorem dk_sum (h b c e : ℕ) (hb : b < 4) (he : e < 256) :
    dkS (lanes Q) (lanes K) (heads W) (outs Q K W) (heads D) (lses Q K) (16 * h + 4 * b + 3) 4 c e
      = if e < 192 then ∑ r ∈ Finset.range 8192, dsV Q K W D h r (2048 * b + c) * Q r h e else 0 := by
  have key : ∀ a ∈ Finset.range 4, dkN (lanes Q) (lanes K) (heads W) (outs Q K W) (heads D) (lses Q K) (4 * (4 * h + b) + a) c e
      = ∑ r ∈ Finset.range 2048, dsV Q K W D h (2048 * a + r) (2048 * b + c) * lanes Q (2048 * a + r) (256 * h + e) := by
    intro a ha
    have ha := Finset.mem_range.mp ha
    unfold dkN dkAdd
    refine Finset.sum_congr rfl fun r _ => ?_
    rw [dsR_eq]
    unfold bq
    rw [show (4 * (4 * h + b) + a) % 4 = a by omega, show (4 * (4 * h + b) + a) / 4 % 4 = b by omega, show (4 * (4 * h + b) + a) / 16 = h by omega]
  unfold dkS
  rw [show (16 * h + 4 * b + 3) / 4 = 4 * h + b by omega, Finset.sum_congr rfl key,
    sum_4 fun r => dsV Q K W D h r (2048 * b + c) * lanes Q r (256 * h + e)]
  simp only [lanes_at _ _ _ _ he]
  split_ifs
  · rfl
  · simp only [mul_zero, Finset.sum_const_zero]

/-- The gradient of the values. -/
theorem dv_sum (h b c e : ℕ) (hb : b < 4) (he : e < 128) :
    dvS (lanes Q) (lanes K) (heads D) (lses Q K) (16 * h + 4 * b + 3) 4 c e
      = ∑ r ∈ Finset.range 8192, pV Q K h r (2048 * b + c) * D r h e := by
  have key : ∀ a ∈ Finset.range 4, dvN (lanes Q) (lanes K) (heads D) (lses Q K) (4 * (4 * h + b) + a) c e
      = ∑ r ∈ Finset.range 2048, pV Q K h (2048 * a + r) (2048 * b + c) * heads D (2048 * a + r) (128 * h + e) := by
    intro a ha
    have ha := Finset.mem_range.mp ha
    unfold dvN dvAdd
    refine Finset.sum_congr rfl fun r _ => ?_
    rw [prR_eq]
    unfold bo
    rw [show (4 * (4 * h + b) + a) % 4 = a by omega, show (4 * (4 * h + b) + a) / 4 % 4 = b by omega, show (4 * (4 * h + b) + a) / 16 = h by omega]
  unfold dvS
  rw [show (16 * h + 4 * b + 3) / 4 = 4 * h + b by omega, Finset.sum_congr rfl key,
    sum_4 fun r => pV Q K h r (2048 * b + c) * heads D r (128 * h + e)]
  simp only [heads_at _ _ _ _ he]

end Att

end
-- ==== Proof.Host.lean ====
/-
  What the kernel's six operands hold, on real numbers: the padded queries and keys, the values, the output, the logarithms of
  its row sums and its gradient.
-/
module

public import proofs.«01_k».proof.Proof.Equation
public import proofs.«01_k».proof.Proof.Gen.KernelIdeal.Value
public import Idealize.ShloMosaic.Lib.Claim

@[expose] public section

set_option maxHeartbeats 1000000
set_option maxRecDepth 8192

noncomputable section

namespace Att

open Idealize.ShloMosaic Idealize.SL.Sem Cert.KernelIdeal Cert.KernelIdeal.Gen Cert.KernelIdeal.Value
open scoped BigOperators

variable (m : (b : Loc nD τ sig) → Buf (Elt Ideal) b) (c : Dev nD)

theorem v33_eq : V (F := Ideal) m c main_v33 = shapeCast Cert.ReferenceIdeal.S8192x2048 (pad Cert.ReferenceIdeal.S8192x8x256 ![0, 0, 0] ![0, 0, 64] ![0, 0, 0]
    (m (c, Proc.tc.devRef main_arg0)) (sitofp (F := Ideal) .f32 (constantI Cert.ReferenceIdeal.S_ 32 0#32))
    Cert.ReferenceIdeal.Facts₀.pads_S8192x8x192_S8192x8x256_000_000_0640 Cert.ReferenceIdeal.Facts₀.h_S_)
    Cert.ReferenceIdeal.Facts₀.shapeCasts_S8192x8x256_S8192x2048 := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem v36_eq : V (F := Ideal) m c main_v36 = shapeCast Cert.ReferenceIdeal.S8192x2048 (pad Cert.ReferenceIdeal.S8192x8x256 ![0, 0, 0] ![0, 0, 64] ![0, 0, 0]
    (m (c, Proc.tc.devRef main_arg1)) (sitofp (F := Ideal) .f32 (constantI Cert.ReferenceIdeal.S_ 32 0#32))
    Cert.ReferenceIdeal.Facts₀.pads_S8192x8x192_S8192x8x256_000_000_0640 Cert.ReferenceIdeal.Facts₀.h_S_)
    Cert.ReferenceIdeal.Facts₀.shapeCasts_S8192x8x256_S8192x2048 := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem v38_eq : V (F := Ideal) m c main_v38 = shapeCast Cert.ReferenceIdeal.S8192x1024 (m (c, Proc.tc.devRef main_arg2))
    Cert.ReferenceIdeal.Facts₀.shapeCasts_S8192x8x128_S8192x1024 := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem v39_eq : V (F := Ideal) m c main_v39 = shapeCast Cert.ReferenceIdeal.S8192x1024 (m (c, Proc.tc.devRef main_arg3))
    Cert.ReferenceIdeal.Facts₀.shapeCasts_S8192x8x128_S8192x1024 := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem v12_eq : V (F := Ideal) m c main_v12 = lseA (m (c, Proc.tc.devRef main_arg0)) (m (c, Proc.tc.devRef main_arg1)) := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem v30_eq : V (F := Ideal) m c main_v30 = shapeCast Cert.ReferenceIdeal.S8192x1024
    (oA (m (c, Proc.tc.devRef main_arg0)) (m (c, Proc.tc.devRef main_arg1)) (m (c, Proc.tc.devRef main_arg2)))
    Cert.ReferenceIdeal.Facts₀.shapeCasts_S8192x8x128_S8192x1024 := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

end Att

end
-- ==== Proof.Inv.lean ====
/-
  What one grid point does to the sums the four buffers hold, and so what the three results hold at the end, on real numbers.
-/
module

public import proofs.«01_k».proof.Proof.Blocks
public import proofs.«01_k».proof.Proof.Gen.KernelIdeal.Value

@[expose] public section

set_option maxHeartbeats 1000000

noncomputable section

open Idealize.ShloMosaic Cert.KernelIdeal Cert.KernelIdeal.Gen Cert.KernelIdeal.Value

namespace Att

variable (m : (b : Loc nD τ sig) → Buf (Elt Ideal) b) (c : Dev nD)
variable {Q K W O D L : ℕ → ℕ → ℝ}

/-- Equal functions have the same array. -/
theorem Is2.congr {a b : ℕ} {x : (⟨2, ![a, b]⟩ : Shape).Idx → EReal} {X Y : ℕ → ℕ → ℝ} (h : Is2 x X) (e : ∀ r d, X r d = Y r d) : Is2 x Y :=
  fun i => (h i).trans (congrArg _ (e _ _))

theorem dqS_succ {n : ℕ} (r e : ℕ) : dqS Q K W O D L n (n % 16) r e + dqAdd (bq Q n) (bk K n) (bv W n) (bo D n) (bo O n) (bl L n) (n % 4) r e
    = dqS Q K W O D L n (n % 16 + 1) r e := by
  unfold dqS
  rw [Finset.sum_range_succ, show 16 * (n / 16) + n % 16 = n by omega]
  rfl
theorem dqS_zero {n : ℕ} (h : n % 16 = 0) (r e : ℕ) : 0 + dqAdd (bq Q n) (bk K n) (bv W n) (bo D n) (bo O n) (bl L n) (n % 4) r e
    = dqS Q K W O D L n (n % 16 + 1) r e := by
  rw [← dqS_succ, h]; unfold dqS; rw [Finset.sum_range_zero]
theorem dkS_succ {n : ℕ} (r e : ℕ) : dkS Q K W O D L n (n % 4) r e + dkAdd (bq Q n) (bk K n) (bv W n) (bo D n) (bo O n) (bl L n) r e
    = dkS Q K W O D L n (n % 4 + 1) r e := by
  unfold dkS
  rw [Finset.sum_range_succ, show 4 * (n / 4) + n % 4 = n by omega]
  rfl
theorem dkS_zero {n : ℕ} (h : n % 4 = 0) (r e : ℕ) : 0 + dkAdd (bq Q n) (bk K n) (bv W n) (bo D n) (bo O n) (bl L n) r e
    = dkS Q K W O D L n (n % 4 + 1) r e := by
  rw [← dkS_succ, h]; unfold dkS; rw [Finset.sum_range_zero]
theorem dvS_succ {n : ℕ} (r e : ℕ) : dvS Q K D L n (n % 4) r e + dvAdd (bq Q n) (bk K n) (bo D n) (bl L n) r e
    = dvS Q K D L n (n % 4 + 1) r e := by
  unfold dvS
  rw [Finset.sum_range_succ, show 4 * (n / 4) + n % 4 = n by omega]
  rfl
theorem dvS_zero {n : ℕ} (h : n % 4 = 0) (r e : ℕ) : 0 + dvAdd (bq Q n) (bk K n) (bo D n) (bl L n) r e
    = dvS Q K D L n (n % 4 + 1) r e := by
  rw [← dvS_succ, h]; unfold dvS; rw [Finset.sum_range_zero]

/-- The contents of the three results and the two buffers carried along. -/
abbrev State : Type := Vec Ideal S8192x256 .f32 × Vec Ideal S2048x256 .f32 × Vec Ideal S2048x128 .f32 × Vec Ideal S2048x256 .f32 × Vec Ideal S2048x128 .f32

/-- What the buffers hold after point `n`. -/
def Inv (Q K W O D L : ℕ → ℕ → ℝ) (n : ℕ) (st : State) : Prop :=
  Is2 (a := 8192) (b := 256) st.1 (dqS Q K W O D L n (n % 16 + 1))
  ∧ Is2 (a := 2048) (b := 256) st.2.2.2.1 (dkS Q K W O D L n (n % 4 + 1))
  ∧ Is2 (a := 2048) (b := 128) st.2.2.2.2 (dvS Q K D L n (n % 4 + 1))
  ∧ (n % 4 = 3 → Is2 (a := 2048) (b := 256) st.2.1 (dkS Q K W O D L n (n % 4 + 1)) ∧ Is2 (a := 2048) (b := 128) st.2.2.1 (dvS Q K D L n (n % 4 + 1)))

section
variable (hQ : Is2 (a := 8192) (b := 2048) (V (F := Ideal) m c main_v33) Q) (hK : Is2 (a := 8192) (b := 2048) (V (F := Ideal) m c main_v36) K)
  (hW : Is2 (a := 8192) (b := 1024) (V (F := Ideal) m c main_v38) W) (hO : Is2 (a := 8192) (b := 1024) (V (F := Ideal) m c main_v30) O)
  (hL : Is3 (a := 8) (b := 8192) (c := 1) (V (F := Ideal) m c main_v12) fun g r _ => L g r)
  (hD : Is2 (a := 8192) (b := 1024) (V (F := Ideal) m c main_v39) D)
include hQ hK hW hO hL hD

theorem step_A (t : Fin cfg0.N) (acc : State) (h0 : t.val % 16 = 0) (h1 : t.val % 4 = 0) (h2 : ¬t.val % 4 = 3) :
    Inv Q K W O D L t.val (stAt0 m c t.val t.isLt acc) := by
  rw [stAt0_A m c t acc h0 h1 h2]
  unfold Inv
  refine ⟨?_, ?_, ?_, fun h => absurd h h2⟩
  · dsimp only
    refine Is2.congr (A_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (blk_q m c hQ t) (blk_k m c hK t) (blk_v m c hW t) (blk_o m c hO t) (blk_l m c hL t) (blk_d m c hD t)) fun r e => ?_
    rw [coord_i]
    exact dqS_zero h0 r e
  · dsimp only
    refine Is2.congr (A_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (blk_q m c hQ t) (blk_k m c hK t) (blk_v m c hW t) (blk_o m c hO t) (blk_l m c hL t) (blk_d m c hD t)) fun r e => ?_
    exact dkS_zero h1 r e
  · dsimp only
    refine Is2.congr (A_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (blk_q m c hQ t) (blk_k m c hK t) (blk_v m c hW t) (blk_o m c hO t) (blk_l m c hL t) (blk_d m c hD t)) fun r e => ?_
    exact dvS_zero h1 r e

theorem step_B (t : Fin cfg0.N) (acc : State) (h0 : ¬t.val % 16 = 0) (h1 : ¬t.val % 4 = 0) (h2 : ¬t.val % 4 = 3)
    (hq : ¬t.val % 16 = 0 → Is2 (a := 8192) (b := 256) acc.1 (dqS Q K W O D L t.val (t.val % 16)))
    (hk : ¬t.val % 4 = 0 → Is2 (a := 2048) (b := 256) acc.2.2.2.1 (dkS Q K W O D L t.val (t.val % 4)))
    (hv : ¬t.val % 4 = 0 → Is2 (a := 2048) (b := 128) acc.2.2.2.2 (dvS Q K D L t.val (t.val % 4))) :
    Inv Q K W O D L t.val (stAt0 m c t.val t.isLt acc) := by
  rw [stAt0_B m c t acc h0 h1 h2]
  unfold Inv
  refine ⟨?_, ?_, ?_, fun h => absurd h h2⟩
  · dsimp only
    refine Is2.congr (B_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) acc.1 acc.2.2.2.1 acc.2.2.2.2 (blk_q m c hQ t) (blk_k m c hK t) (blk_v m c hW t) (blk_o m c hO t) (blk_l m c hL t) (blk_d m c hD t) (hq h0)) fun r e => ?_
    rw [coord_i]
    exact dqS_succ r e
  · dsimp only
    refine Is2.congr (B_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) acc.1 acc.2.2.2.1 acc.2.2.2.2 (blk_q m c hQ t) (blk_k m c hK t) (blk_v m c hW t) (blk_o m c hO t) (blk_l m c hL t) (blk_d m c hD t) (hk h1)) fun r e => ?_
    exact dkS_succ r e
  · dsimp only
    refine Is2.congr (B_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) acc.1 acc.2.2.2.1 acc.2.2.2.2 (blk_q m c hQ t) (blk_k m c hK t) (blk_v m c hW t) (blk_o m c hO t) (blk_l m c hL t) (blk_d m c hD t) (hv h1)) fun r e => ?_
    exact dvS_succ r e

theorem step_C (t : Fin cfg0.N) (acc : State) (h0 : ¬t.val % 16 = 0) (h1 : ¬t.val % 4 = 0) (h2 : t.val % 4 = 3)
    (hq : ¬t.val % 16 = 0 → Is2 (a := 8192) (b := 256) acc.1 (dqS Q K W O D L t.val (t.val % 16)))
    (hk : ¬t.val % 4 = 0 → Is2 (a := 2048) (b := 256) acc.2.2.2.1 (dkS Q K W O D L t.val (t.val % 4)))
    (hv : ¬t.val % 4 = 0 → Is2 (a := 2048) (b := 128) acc.2.2.2.2 (dvS Q K D L t.val (t.val % 4))) :
    Inv Q K W O D L t.val (stAt0 m c t.val t.isLt acc) := by
  rw [stAt0_C m c t acc h0 h1 h2]
  unfold Inv
  refine ⟨?_, ?_, ?_, fun _ => ⟨?_, ?_⟩⟩
  · dsimp only
    refine Is2.congr (C_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) acc.1 acc.2.2.2.1 acc.2.2.2.2 (blk_q m c hQ t) (blk_k m c hK t) (blk_v m c hW t) (blk_o m c hO t) (blk_l m c hL t) (blk_d m c hD t) (hq h0)) fun r e => ?_
    rw [coord_i]
    exact dqS_succ r e
  · dsimp only
    refine Is2.congr (C_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) acc.1 acc.2.2.2.1 acc.2.2.2.2 (blk_q m c hQ t) (blk_k m c hK t) (blk_v m c hW t) (blk_o m c hO t) (blk_l m c hL t) (blk_d m c hD t) (hk h1)) fun r e => ?_
    exact dkS_succ r e
  · dsimp only
    refine Is2.congr (C_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) acc.1 acc.2.2.2.1 acc.2.2.2.2 (blk_q m c hQ t) (blk_k m c hK t) (blk_v m c hW t) (blk_o m c hO t) (blk_l m c hL t) (blk_d m c hD t) (hv h1)) fun r e => ?_
    exact dvS_succ r e
  · dsimp only
    refine Is2.congr (C_dko c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) acc.1 acc.2.2.2.1 acc.2.2.2.2 (blk_q m c hQ t) (blk_k m c hK t) (blk_v m c hW t) (blk_o m c hO t) (blk_l m c hL t) (blk_d m c hD t) (hk h1)) fun r e => ?_
    exact dkS_succ r e
  · dsimp only
    refine Is2.congr (C_dvo c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) acc.1 acc.2.2.2.1 acc.2.2.2.2 (blk_q m c hQ t) (blk_k m c hK t) (blk_v m c hW t) (blk_o m c hO t) (blk_l m c hL t) (blk_d m c hD t) (hv h1)) fun r e => ?_
    exact dvS_succ r e

theorem step_D (t : Fin cfg0.N) (acc : State) (h0 : ¬t.val % 16 = 0) (h1 : t.val % 4 = 0) (h2 : ¬t.val % 4 = 3)
    (hq : ¬t.val % 16 = 0 → Is2 (a := 8192) (b := 256) acc.1 (dqS Q K W O D L t.val (t.val % 16))) :
    Inv Q K W O D L t.val (stAt0 m c t.val t.isLt acc) := by
  rw [stAt0_D m c t acc h0 h1 h2]
  unfold Inv
  refine ⟨?_, ?_, ?_, fun h => absurd h h2⟩
  · dsimp only
    refine Is2.congr (D_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) acc.1 (blk_q m c hQ t) (blk_k m c hK t) (blk_v m c hW t) (blk_o m c hO t) (blk_l m c hL t) (blk_d m c hD t) (hq h0)) fun r e => ?_
    rw [coord_i]
    exact dqS_succ r e
  · dsimp only
    refine Is2.congr (D_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) acc.1 (blk_q m c hQ t) (blk_k m c hK t) (blk_v m c hW t) (blk_o m c hO t) (blk_l m c hL t) (blk_d m c hD t)) fun r e => ?_
    exact dkS_zero h1 r e
  · dsimp only
    refine Is2.congr (D_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) acc.1 (blk_q m c hQ t) (blk_k m c hK t) (blk_v m c hW t) (blk_o m c hO t) (blk_l m c hL t) (blk_d m c hD t)) fun r e => ?_
    exact dvS_zero h1 r e

/-- One point. -/
theorem step (t : Fin cfg0.N) (acc : State) (hq : ¬t.val % 16 = 0 → Is2 (a := 8192) (b := 256) acc.1 (dqS Q K W O D L t.val (t.val % 16)))
    (hk : ¬t.val % 4 = 0 → Is2 (a := 2048) (b := 256) acc.2.2.2.1 (dkS Q K W O D L t.val (t.val % 4)))
    (hv : ¬t.val % 4 = 0 → Is2 (a := 2048) (b := 128) acc.2.2.2.2 (dvS Q K D L t.val (t.val % 4))) :
    Inv Q K W O D L t.val (stAt0 m c t.val t.isLt acc) := by
  by_cases h0 : t.val % 16 = 0
  · exact step_A m c hQ hK hW hO hL hD t acc h0 (by omega) (by omega)
  · by_cases h1 : t.val % 4 = 0
    · exact step_D m c hQ hK hW hO hL hD t acc h0 h1 (by omega) hq
    · by_cases h2 : t.val % 4 = 3
      · exact step_C m c hQ hK hW hO hL hD t acc h0 h1 h2 hq hk hv
      · exact step_B m c hQ hK hW hO hL hD t acc h0 h1 h2 hq hk hv

/-- Every point. -/
theorem inv_all : ∀ (n : ℕ) (hn : n < cfg0.N), Inv Q K W O D L n (outsAt0 m c n hn)
  | 0, hn => by
    rw [outsAt0_zero m c hn]
    exact step m c hQ hK hW hO hL hD ⟨0, hn⟩ _ (fun h => absurd rfl h) (fun h => absurd rfl h) (fun h => absurd rfl h)
  | n + 1, hn => by
    rw [outsAt0_succ m c n hn]
    obtain ⟨iq, ik, iv, -⟩ := inv_all n (Nat.lt_of_succ_lt hn)
    refine step m c hQ hK hW hO hL hD ⟨n + 1, hn⟩ _ (fun h => iq.congr fun r e => ?_) (fun h => ik.congr fun r e => ?_) (fun h => iv.congr fun r e => ?_)
    · replace h : ¬(n + 1) % 16 = 0 := h
      unfold dqS; rw [show (n + 1) / 16 = n / 16 by omega, show (n + 1) % 16 = n % 16 + 1 by omega]
    · replace h : ¬(n + 1) % 4 = 0 := h
      unfold dkS; rw [show (n + 1) / 4 = n / 4 by omega, show (n + 1) % 4 = n % 4 + 1 by omega]
    · replace h : ¬(n + 1) % 4 = 0 := h
      unfold dvS; rw [show (n + 1) / 4 = n / 4 by omega, show (n + 1) % 4 = n % 4 + 1 by omega]

/-- The three results at an index. -/
theorem G6_real : Is2 (a := 8192) (b := 2048) (G6 (F := Ideal) m c) fun r e => dqS Q K W O D L (16 * (e / 256) + 15) 16 r (e % 256) := by
  intro i
  have b0 : (i (0 : Fin 2)).val < 8192 := (i (0 : Fin 2)).isLt
  have b1 : (i (1 : Fin 2)).val < 2048 := (i (1 : Fin 2)).isLt
  have hp : pt6Of i = 16 * ((i (1 : Fin 2)).val / 256) + 15 := by
    show 16 * (8 * ((i (0 : Fin 2)).val / 8192 - 0) + 1 * ((i (1 : Fin 2)).val / 256 - 0)) + 15 = _
    omega
  have hl : pt6Of i < cfg0.N := by rw [hp, show cfg0.N = 128 from N_0]; omega
  unfold G6
  rw [dif_pos hl, ← outsAt0_sweep m c _ hl]
  refine ((inv_all m c hQ hK hW hO hL hD _ hl).1 _).trans ?_
  show ((dqS Q K W O D L (pt6Of i) (pt6Of i % 16 + 1) ((i (0 : Fin 2)).val % 8192) ((i (1 : Fin 2)).val % 256) : ℝ) : EReal) = _
  rw [hp, Nat.mod_eq_of_lt b0, show (16 * ((i (1 : Fin 2)).val / 256) + 15) % 16 + 1 = 16 by omega]

theorem G7_real : Is2 (a := 8192) (b := 2048) (G7 (F := Ideal) m c) fun r e => dkS Q K W O D L (16 * (e / 256) + 4 * (r / 2048) + 3) 4 (r % 2048) (e % 256) := by
  intro i
  have b0 : (i (0 : Fin 2)).val < 8192 := (i (0 : Fin 2)).isLt
  have b1 : (i (1 : Fin 2)).val < 2048 := (i (1 : Fin 2)).isLt
  have hp : pt7Of i = 16 * ((i (1 : Fin 2)).val / 256) + 4 * ((i (0 : Fin 2)).val / 2048) + 3 := by
    show 4 * (1 * ((i (0 : Fin 2)).val / 2048 - 0) + 4 * ((i (1 : Fin 2)).val / 256 - 0)) + 3 = _
    omega
  have hl : pt7Of i < cfg0.N := by rw [hp, show cfg0.N = 128 from N_0]; omega
  unfold G7
  rw [dif_pos hl, ← outsAt0_sweep m c _ hl]
  refine (((inv_all m c hQ hK hW hO hL hD _ hl).2.2.2 (by omega)).1 _).trans ?_
  show ((dkS Q K W O D L (pt7Of i) (pt7Of i % 4 + 1) ((i (0 : Fin 2)).val % 2048) ((i (1 : Fin 2)).val % 256) : ℝ) : EReal) = _
  rw [show pt7Of i % 4 + 1 = 4 by omega, hp]

theorem G8_real : Is2 (a := 8192) (b := 1024) (G8 (F := Ideal) m c) fun r e => dvS Q K D L (16 * (e / 128) + 4 * (r / 2048) + 3) 4 (r % 2048) (e % 128) := by
  intro i
  have b0 : (i (0 : Fin 2)).val < 8192 := (i (0 : Fin 2)).isLt
  have b1 : (i (1 : Fin 2)).val < 1024 := (i (1 : Fin 2)).isLt
  have hp : pt8Of i = 16 * ((i (1 : Fin 2)).val / 128) + 4 * ((i (0 : Fin 2)).val / 2048) + 3 := by
    show 4 * (1 * ((i (0 : Fin 2)).val / 2048 - 0) + 4 * ((i (1 : Fin 2)).val / 128 - 0)) + 3 = _
    omega
  have hl : pt8Of i < cfg0.N := by rw [hp, show cfg0.N = 128 from N_0]; omega
  unfold G8
  rw [dif_pos hl, ← outsAt0_sweep m c _ hl]
  refine (((inv_all m c hQ hK hW hO hL hD _ hl).2.2.2 (by omega)).2 _).trans ?_
  show ((dvS Q K D L (pt8Of i) (pt8Of i % 4 + 1) ((i (0 : Fin 2)).val % 2048) ((i (1 : Fin 2)).val % 128) : ℝ) : EReal) = _
  rw [show pt8Of i % 4 + 1 = 4 by omega, hp]
end

end Att
end
-- ==== Proof.Alg.lean ====
/-
  The kernel and the reference compute the same gradients of queries, keys and values.
-/
module

public import proofs.«01_k».proof.Defs
public import proofs.«01_k».proof.Proof.Finite
public import proofs.«01_k».proof.Proof.Host
public import proofs.«01_k».proof.Proof.Inv
public import proofs.«01_k».proof.Proof.Ref
public import proofs.«01_k».proof.Proof.Gen.Kernel.Frame
public import Idealize.ShloMosaic.Lib.Quiescent

@[expose] public section

set_option maxHeartbeats 1000000
set_option maxRecDepth 8192

noncomputable section

namespace Att

open Idealize.ShloMosaic Idealize.SL.Sem Cert.KernelIdeal Cert.KernelIdeal.Gen Cert.KernelIdeal.Value
open scoped BigOperators

variable (m : (b : Loc nD τ sig) → Buf (Elt Ideal) b) (c : Dev nD) {Q K W D : ℕ → ℕ → ℕ → ℝ}

section
variable (hq : Is3 (a := 8192) (b := 8) (c := 192) (m (c, Proc.tc.devRef main_arg0)) Q)
  (hk : Is3 (a := 8192) (b := 8) (c := 192) (m (c, Proc.tc.devRef main_arg1)) K)
  (hv : Is3 (a := 8192) (b := 8) (c := 128) (m (c, Proc.tc.devRef main_arg2)) W)
  (hd : Is3 (a := 8192) (b := 8) (c := 128) (m (c, Proc.tc.devRef main_arg3)) D)

include hq in
theorem v33_real : Is2 (a := 8192) (b := 2048) (V (F := Ideal) m c main_v33) (lanes Q) := by
  rw [v33_eq]; exact lanes_real hq
include hk in
theorem v36_real : Is2 (a := 8192) (b := 2048) (V (F := Ideal) m c main_v36) (lanes K) := by
  rw [v36_eq]; exact lanes_real hk
include hv in
theorem v38_real : Is2 (a := 8192) (b := 1024) (V (F := Ideal) m c main_v38) (heads W) := by
  rw [v38_eq]; exact heads_real hv
include hd in
theorem v39_real : Is2 (a := 8192) (b := 1024) (V (F := Ideal) m c main_v39) (heads D) := by
  rw [v39_eq]; exact heads_real hd
include hq hk hv in
theorem v30_real : Is2 (a := 8192) (b := 1024) (V (F := Ideal) m c main_v30) (outs Q K W) := by
  have h := (heads_real (oA_real hq hk hv)).congr (Y := outs Q K W) fun r w => by unfold outs; rfl
  rw [v30_eq]
  exact h
include hq hk in
theorem v12_real : Is3 (a := 8) (b := 8192) (c := 1) (V (F := Ideal) m c main_v12) fun g r _ => lses Q K g r := by
  rw [v12_eq]; exact lseA_real hq hk

include hq hk hv hd

/-- The kernel's gradient of the queries is the host's. -/
theorem dq_same : G6 (F := Ideal) m c = shapeCast Cert.ReferenceIdeal.S8192x2048 (pad Cert.ReferenceIdeal.S8192x8x256 ![0, 0, 0] ![0, 0, 64] ![0, 0, 0]
    (dqA (m (c, Proc.tc.devRef main_arg0)) (m (c, Proc.tc.devRef main_arg1)) (m (c, Proc.tc.devRef main_arg2)) (m (c, Proc.tc.devRef main_arg3)))
    (sitofp (F := Ideal) .f32 (constantI Cert.ReferenceIdeal.S_ 32 0#32))
    Cert.ReferenceIdeal.Facts₀.pads_S8192x8x192_S8192x8x256_000_000_0640 Cert.ReferenceIdeal.Facts₀.h_S_)
    Cert.ReferenceIdeal.Facts₀.shapeCasts_S8192x8x256_S8192x2048 :=
  Is2.ext (G6_real m c (v33_real m c hq) (v36_real m c hk) (v38_real m c hv) (v30_real m c hq hk hv) (v12_real m c hq hk) (v39_real m c hd))
    (lanes_real (dqA_real hq hk hv hd)) fun r e hr he => dq_sum Q K W D (e / 256) r (e % 256) hr (Nat.mod_lt _ (by norm_num))

/-- The kernel's gradient of the keys is the host's. -/
theorem dk_same : G7 (F := Ideal) m c = shapeCast Cert.ReferenceIdeal.S8192x2048 (pad Cert.ReferenceIdeal.S8192x8x256 ![0, 0, 0] ![0, 0, 64] ![0, 0, 0]
    (dkA (m (c, Proc.tc.devRef main_arg0)) (m (c, Proc.tc.devRef main_arg1)) (m (c, Proc.tc.devRef main_arg2)) (m (c, Proc.tc.devRef main_arg3)))
    (sitofp (F := Ideal) .f32 (constantI Cert.ReferenceIdeal.S_ 32 0#32))
    Cert.ReferenceIdeal.Facts₀.pads_S8192x8x192_S8192x8x256_000_000_0640 Cert.ReferenceIdeal.Facts₀.h_S_)
    Cert.ReferenceIdeal.Facts₀.shapeCasts_S8192x8x256_S8192x2048 :=
  Is2.ext (G7_real m c (v33_real m c hq) (v36_real m c hk) (v38_real m c hv) (v30_real m c hq hk hv) (v12_real m c hq hk) (v39_real m c hd))
    (lanes_real (dkA_real hq hk hv hd)) fun r e hr he => by
      rw [dk_sum Q K W D (e / 256) (r / 2048) (r % 2048) (e % 256) (by omega) (Nat.mod_lt _ (by norm_num)), Nat.div_add_mod]
      rfl

/-- The kernel's gradient of the values is the host's. -/
theorem dv_same : G8 (F := Ideal) m c = shapeCast Cert.ReferenceIdeal.S8192x1024
    (dvA (m (c, Proc.tc.devRef main_arg0)) (m (c, Proc.tc.devRef main_arg1)) (m (c, Proc.tc.devRef main_arg3)))
    Cert.ReferenceIdeal.Facts₀.shapeCasts_S8192x8x128_S8192x1024 :=
  Is2.ext (G8_real m c (v33_real m c hq) (v36_real m c hk) (v38_real m c hv) (v30_real m c hq hk hv) (v12_real m c hq hk) (v39_real m c hd))
    (heads_real (dvA_real hq hk hd)) fun r e hr he => by
      rw [dv_sum Q K D (e / 128) (r / 2048) (r % 2048) (e % 128) (by omega) (Nat.mod_lt _ (by norm_num)), Nat.div_add_mod]
end

theorem algebraic : Cert.algebraic_KernelIdeal_ReferenceIdeal_pre_finite := by
  intro m ρ m' ρ' hpre hagree
  refine ⟨_, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨⟨Q, hq⟩, ⟨K, hk⟩, ⟨W, hv⟩, ⟨D, hd⟩⟩ := Cert.Pre_finite.reals _ _ _ _ (hpre c)
  obtain ⟨a0, a1, a2, a3⟩ := hagree c
  obtain ⟨r0, r1, r2, rest⟩ := h c
  refine ⟨r0.trans ?_, r1.trans ?_, r2.trans ?_, rest⟩
  · rw [Cert.ReferenceIdeal.dq_eq, a0, a1, a2, a3]
    exact (dq_same m c hq hk hv hd).symm
  · rw [Cert.ReferenceIdeal.dk_eq, a0, a1, a2, a3]
    exact (dk_same m c hq hk hv hd).symm
  · rw [a0, a1, a3]
    exact (dv_same m c hq hk hv hd).symm

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "log2e" .f32 _ _ rfl,
    IdealRules.named_const.statement Cert.KernelIdeal.κ "scale_log2e" .f32 _ _ rfl,
    IdealRules.named_const.statement Cert.KernelIdeal.κ "scale" .f32 _ _ rfl⟩

end Att

end
-- ==== Proof.Prod.lean ====
/-
  Products of matrices of extended reals, computed a tile of the contracted axis at a time. No entry need be finite: sums
  of extended reals may be regrouped.
-/
module

public import Idealize.ShloMosaic.Lib.Pipeline.Value
public import Idealize.ShloMosaic.Lib.ValueIdx
public import Idealize.ShloMosaic.PureOps.Ideal.Laws
public import Mathlib.Algebra.BigOperators.Intervals

@[expose] public section

noncomputable section

namespace Mm

open Idealize.ShloMosaic Idealize.ShloMosaic.ValueIdx
open scoped BigOperators

/-- A matrix holds the numbers `X`, read at row and column. -/
def Is {a b : ℕ} (x : (⟨2, ![a, b]⟩ : Shape).Idx → EReal) (X : ℕ → ℕ → EReal) : Prop :=
  ∀ i, x i = X (i (0 : Fin 2)).val (i (1 : Fin 2)).val

variable {a b : ℕ}

/-- Every matrix holds some numbers. -/
theorem exists_is (x : (⟨2, ![a, b]⟩ : Shape).Idx → EReal) : ∃ X, Is x X :=
  ⟨fun r c => if h : r < a ∧ c < b then x (ix2 ⟨r, h.1⟩ ⟨c, h.2⟩) else 0, fun i => by
    have h0 : (i (0 : Fin 2)).val < a := (i (0 : Fin 2)).isLt
    have h1 : (i (1 : Fin 2)).val < b := (i (1 : Fin 2)).isLt
    refine Eq.symm ((dif_pos (c := _ ∧ _) ⟨h0, h1⟩).trans ?_)
    congr 1
    funext k
    fin_cases k <;> rfl⟩

/-- At an index with known row and column. -/
theorem Is.at {x : (⟨2, ![a, b]⟩ : Shape).Idx → EReal} {X : ℕ → ℕ → EReal} (h : Is x X) (k : (⟨2, ![a, b]⟩ : Shape).Idx) {r c : ℕ}
    (h0 : (k (0 : Fin 2)).val = r) (h1 : (k (1 : Fin 2)).val = c) : x k = X r c := by
  subst h0 h1; exact h k

theorem Is.congr {x : (⟨2, ![a, b]⟩ : Shape).Idx → EReal} {X Y : ℕ → ℕ → EReal} (h : Is x X) (e : ∀ r c, X r c = Y r c) : Is x Y :=
  fun i => (h i).trans (e _ _)

/-- Two matrices of the same numbers are equal. -/
theorem Is.ext {x y : (⟨2, ![a, b]⟩ : Shape).Idx → EReal} {X Y : ℕ → ℕ → EReal} (hx : Is x X) (hy : Is y Y)
    (e : ∀ r c, r < a → c < b → X r c = Y r c) : x = y :=
  funext fun i => (hx i).trans ((e _ _ (i (0 : Fin 2)).isLt (i (1 : Fin 2)).isLt).trans (hy i).symm)

theorem transpose_is {x : (⟨2, ![a, b]⟩ : Shape).Idx → EReal} {X : ℕ → ℕ → EReal} (hx : Is x X)
    (h : (⟨2, ![a, b]⟩ : Shape).Transposes [1, 0] ⟨2, ![b, a]⟩) :
    Is (transpose ⟨2, ![b, a]⟩ [1, 0] x h) fun r c => X c r := fun i =>
  (transpose_apply [1, 0] x h i (ix2 (i (1 : Fin 2)) (i (0 : Fin 2))) fun k => by fin_cases k <;> rfl).trans (hx _)

/-- A product with one contracted coordinate and a zero accumulator. -/
theorem matmul_sum {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx) (L R : ℕ → EReal)
    (hL : ∀ k : d.contr.Idx, lhs (d.lhsIdx j k) = L (k ⟨0, by omega⟩).val)
    (hR : ∀ k : d.contr.Idx, rhs (d.rhsIdx j k) = R (k ⟨0, by omega⟩).val) :
    FloatOps.matmul d prec lhs rhs (constant so .f32 0x00000000#32) j = ∑ k ∈ Finset.range K, L k * R k := by
  rw [Ideal.matmul_constant_zero_apply, ← Equiv.sum_comp (contrEquiv1 d K hr hs).symm, Finset.sum_range]
  refine Finset.sum_congr rfl fun k _ => ?_
  rw [hL, hR, contrEquiv1_symm_val]

/-- The same of a host product. -/
theorem dotGeneral_sum {sl sr so : Shape} {φ₁ φ₂ : FTy} (d : DotDims sl sr so) (prec : Option ContractPrecision)
    (sched : HostSchedule) (K : ℕ)
    (hr : d.contr.rank = 1) (hs : d.contr.size ⟨0, by omega⟩ = K)
    (lhs : FVec Ideal sl φ₁) (rhs : FVec Ideal sr φ₂) (j : so.Idx) (L R : ℕ → EReal)
    (hL : ∀ k : d.contr.Idx, lhs (d.lhsIdx j k) = L (k ⟨0, by omega⟩).val)
    (hR : ∀ k : d.contr.Idx, rhs (d.rhsIdx j k) = R (k ⟨0, by omega⟩).val) :
    FloatOps.dotGeneral d prec sched lhs rhs j = ∑ k ∈ Finset.range K, L k * R k := by
  rw [Ideal.dotGeneral_apply, ← Equiv.sum_comp (contrEquiv1 d K hr hs).symm, Finset.sum_range]
  refine Finset.sum_congr rfl fun k _ => ?_
  rw [hL, hR, contrEquiv1_symm_val]

/-- The first `n` tiles of `t` positions are the first `t * n` positions. -/
theorem sum_tiles (f : ℕ → EReal) (t n : ℕ) : ∑ q ∈ Finset.range n, ∑ k ∈ Finset.range t, f (t * q + k) = ∑ k ∈ Finset.range (t * n), f k := by
  induction n with
  | zero => simp
  | succ n ih => rw [Finset.sum_range_succ, ih, Nat.mul_succ, Finset.sum_range_add]

/-- What the first `n` tiles of the contracted axis contribute to place `(i, j)` of the tile of rows `R` and columns `C`. -/
def part (f : ℕ → ℕ → ℕ → EReal) (tm tn tk R C n i j : ℕ) : EReal :=
  ∑ q ∈ Finset.range n, ∑ k ∈ Finset.range tk, f (tm * R + i) (tn * C + j) (tk * q + k)

theorem part_one (f : ℕ → ℕ → ℕ → EReal) (tm tn tk R C i j : ℕ) {q : ℕ} (h : q = 0) :
    ∑ k ∈ Finset.range tk, f (tm * R + i) (tn * C + j) (tk * q + k) = part f tm tn tk R C (q + 1) i j := by
  subst h
  unfold part
  rw [Finset.sum_range_succ, Finset.sum_range_zero, zero_add]

theorem part_succ (f : ℕ → ℕ → ℕ → EReal) (tm tn tk R C q i j : ℕ) :
    part f tm tn tk R C q i j + ∑ k ∈ Finset.range tk, f (tm * R + i) (tn * C + j) (tk * q + k) = part f tm tn tk R C (q + 1) i j := by
  unfold part
  rw [Finset.sum_range_succ]

/-- All tiles together, at row `r` and column `c`. -/
theorem part_all (f : ℕ → ℕ → ℕ → EReal) (tm tn tk n r c : ℕ) :
    part f tm tn tk (r / tm) (c / tn) n (r % tm) (c % tn) = ∑ k ∈ Finset.range (tk * n), f r c k := by
  unfold part
  rw [Nat.div_add_mod, Nat.div_add_mod]
  exact sum_tiles _ _ _

theorem hz : (![0, 0] : Fin 2 → Nat) = fun _ => 0 := funext fun a => by fin_cases a <;> rfl

end Mm

end
-- ==== Proof.GuDw.lean ====
/-
  The gradient of the feed-forward's first weights computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.GuDw.Frame
public import proofs.«01_k».proof.Proof.Gen.GuDwIdeal.Value
public import proofs.«01_k».proof.Proof.Gen.GuDwRefIdeal.Run

@[expose] public section

set_option maxRecDepth 16384
set_option maxHeartbeats 1000000

noncomputable section

namespace Mm.GuDw

open Cert.GuDwIdeal Cert.GuDwIdeal.Gen Cert.GuDwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A k r * B k d

section
variable {x0 : Vec Ideal S1024x1024 .f32} {x1 : Vec Ideal S1024x1024 .f32} {xs : Vec Ideal S1024x1024 .f32} {A B T : ℕ → ℕ → EReal}

theorem pay1_num (hA : Is (a := 1024) (b := 1024) x0 A) (hB : Is (a := 1024) (b := 1024) x1 B) :
    Is (a := 1024) (b := 1024) (k0_pay1 (F := Ideal) x0 x1) (tile A B) := fun i => by
  unfold k0_pay1
  dsimp only
  exact matmul_sum _ none 1024 rfl rfl _ _ i (fun k => A k (i (0 : Fin 2)).val) (fun k => B k (i (1 : Fin 2)).val)
    (fun _ => transpose_is hA _ _) (fun _ => hB _)

theorem pay2_num (hA : Is (a := 1024) (b := 1024) x0 A) (hB : Is (a := 1024) (b := 1024) x1 B) :
    Is (a := 1024) (b := 1024) (k0_pay2 (F := Ideal) x0 x1) (tile A B) := by
  unfold k0_pay2
  dsimp only
  rw [shapeCast_self]
  exact pay1_num hA hB

theorem pay4_num (hA : Is (a := 1024) (b := 1024) x0 A) (hB : Is (a := 1024) (b := 1024) x1 B) (hT : Is (a := 1024) (b := 1024) xs T) :
    Is (a := 1024) (b := 1024) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 1024) x0 A) (hB : Is (a := 1024) (b := 1024) x1 B) (hT : Is (a := 1024) (b := 1024) xs T) :
    Is (a := 1024) (b := 1024) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
  (hA : Is (a := 1024) (b := 1024) x0 A) (hB : Is (a := 1024) (b := 1024) x1 B)
include hA hB

section
variable (hc0 : cond0_0 i) (hc1 : ¬cond0_1 i) (hc2 : ¬cond0_2 i)
theorem A_num :
    Is (a := 1024) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]
  exact pay2_num hA hB
end

section
variable (hT : Is (a := 1024) (b := 1024) xs T) (hc0 : ¬cond0_0 i) (hc1 : cond0_1 i) (hc2 : ¬cond0_2 i)
include hT
theorem B_num :
    Is (a := 1024) (b := 1024) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]
  exact pay3_num hA hB hT
end

section
variable (hT : Is (a := 1024) (b := 1024) xs T) (hc0 : ¬cond0_0 i) (hc1 : ¬cond0_1 i) (hc2 : cond0_2 i)
include hT
theorem C_num :
    Is (a := 1024) (b := 1024) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz]
  exact pay4_num hA hB hT
end
end
end

theorem idx_a : ∀ t : Fin grid0.N, win0_0.index t (0 : Fin 2) = t.val % 8 ∧ win0_0.index t (1 : Fin 2) = t.val / 88 := by decide +kernel
theorem idx_b : ∀ t : Fin grid0.N, win0_1.index t (0 : Fin 2) = t.val % 8 ∧ win0_1.index t (1 : Fin 2) = t.val / 8 % 11 := by decide +kernel

variable (m : (b : Loc nD τ sig) → Buf (Elt Ideal) b) (c : Dev nD) {X Y : ℕ → ℕ → EReal}

theorem blk_a (h : Is (a := 8192) (b := 2048) (V (F := Ideal) m c main_arg0) X) (t : Fin cfg0.N) :
    Is (a := 1024) (b := 1024) (iblk (F := Ideal) m c 0 t) (fun r d => X (1024 * (t.val % 8) + r) (1024 * (t.val / 88) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 8192) (b := 11264) (V (F := Ideal) m c main_arg2) Y) (t : Fin cfg0.N) :
    Is (a := 1024) (b := 1024) (iblk (F := Ideal) m c 1 t) (fun r d => Y (1024 * (t.val % 8) + r) (1024 * (t.val / 8 % 11) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_arg2 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X k r * Y k c) 1024 1024 1024 (n / 88) (n / 8 % 11) q

/-- The contents of the result's tile and of the buffer carried along. -/
abbrev State : Type := Vec Ideal S1024x1024 .f32 × Vec Ideal S1024x1024 .f32

/-- What the buffers hold after point `n`. -/
def Inv (X Y : ℕ → ℕ → EReal) (n : ℕ) (st : State) : Prop :=
  (¬n % 8 = 7 → Is (a := 1024) (b := 1024) st.2 (sums X Y n (n % 8 + 1))) ∧ (n % 8 = 7 → Is (a := 1024) (b := 1024) st.1 (sums X Y n (n % 8 + 1)))

section
variable (hX : Is (a := 8192) (b := 2048) (V (F := Ideal) m c main_arg0) X) (hY : Is (a := 8192) (b := 11264) (V (F := Ideal) m c main_arg2) Y)
include hX hY

theorem step (t : Fin cfg0.N) (acc : State) (hacc : ¬t.val % 8 = 0 → Is (a := 1024) (b := 1024) acc.2 (sums X Y t.val (t.val % 8))) :
    Inv X Y t.val (stAt0 m c t.val t.isLt acc) := by
  by_cases h0 : t.val % 8 = 0
  · have h1 : ¬(1 ≤ t.val % 8 ∧ t.val % 8 ≤ 6) := by omega
    have h2 : ¬t.val % 8 = 7 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X k r * Y k c) 1024 1024 1024 (t.val / 88) (t.val / 8 % 11) r d h0
  · by_cases h2 : t.val % 8 = 7
    · have h1 : ¬(1 ≤ t.val % 8 ∧ t.val % 8 ≤ 6) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X k r * Y k c) 1024 1024 1024 _ _ _ r d
    · have h1 : 1 ≤ t.val % 8 ∧ t.val % 8 ≤ 6 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X k r * Y k c) 1024 1024 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 8 = 0 := h
    refine ((inv_all n (Nat.lt_of_succ_lt hn)).1 (by omega)).congr fun r d => ?_
    show sums X Y n (n % 8 + 1) r d = sums X Y (n + 1) ((n + 1) % 8) r d
    unfold sums
    rw [show (n + 1) / 88 = n / 88 by omega, show (n + 1) / 8 = n / 8 by omega, show (n + 1) % 8 = n % 8 + 1 by omega]

/-- The result at an index. -/
theorem G_num : Is (a := 2048) (b := 11264) (G2 (F := Ideal) m c) fun r c => ∑ k ∈ Finset.range 8192, X k r * Y k c := by
  intro i
  have b0 : (i (0 : Fin 2)).val < 2048 := (i (0 : Fin 2)).isLt
  have b1 : (i (1 : Fin 2)).val < 11264 := (i (1 : Fin 2)).isLt
  have hp : pt2Of i = 8 * (11 * ((i (0 : Fin 2)).val / 1024) + (i (1 : Fin 2)).val / 1024) + 7 := by
    show 8 * (11 * ((i (0 : Fin 2)).val / 1024 - 0) + 1 * ((i (1 : Fin 2)).val / 1024 - 0)) + 7 = _
    omega
  have hl : pt2Of i < cfg0.N := by rw [hp, show cfg0.N = 176 from N_0]; omega
  unfold G2
  rw [dif_pos hl, ← outsAt0_sweep m c _ hl]
  refine ((inv_all m c hX hY _ hl).2 (by omega) _).trans ?_
  show sums X Y (pt2Of i) (pt2Of i % 8 + 1) ((i (0 : Fin 2)).val % 1024) ((i (1 : Fin 2)).val % 1024) = _
  unfold sums
  rw [show pt2Of i / 88 = (i (0 : Fin 2)).val / 1024 by omega, show pt2Of i / 8 % 11 = (i (1 : Fin 2)).val / 1024 by omega,
    show pt2Of i % 8 + 1 = 8 by omega]
  exact part_all (fun r c k => X k r * Y k c) 1024 1024 1024 8 _ _
end

/-- The reference at row `r` and column `c`: the sum over all rows of the step's tokens. -/
theorem ref_num (x : FVec Ideal Cert.GuDwRefIdeal.S8192x2048 .f32) (y : FVec Ideal Cert.GuDwRefIdeal.S8192x11264 .f32)
    (hX : Is (a := 8192) (b := 2048) x X) (hY : Is (a := 8192) (b := 11264) y Y) :
    Is (a := 2048) (b := 11264) (transpose Cert.GuDwRefIdeal.S2048x11264 [1, 0]
      (Host.dotGeneral (F := Ideal) Cert.GuDwRefIdeal.dot_S8192x11264_S8192x2048_S11264x2048_0_0_1_1_n_n none y x)
      Cert.GuDwRefIdeal.Facts₀.transposes_S11264x2048_S2048x11264_1_0)
      fun r c => ∑ k ∈ Finset.range 8192, X k r * Y k c :=
  (transpose_is (X := fun c r => ∑ k ∈ Finset.range 8192, Y k c * X k r) (fun i =>
    dotGeneral_sum _ none _ 8192 rfl rfl y x i (fun k => Y k (i (0 : Fin 2)).val) (fun k => X k (i (1 : Fin 2)).val)
      (fun _ => hY _) (fun _ => hX _)) _).congr fun r c => Finset.sum_congr rfl fun k _ => mul_comm _ _

theorem algebraic : Cert.algebraic_GuDwIdeal_GuDwRefIdeal := by
  intro m ρ m' ρ' _ hagree
  refine ⟨_, Cert.GuDwIdeal.Value.run (F := Ideal) m ρ, ?_⟩
  refine (θ_run Cert.GuDwRefIdeal.defs _ _).mono (fun _ h c => ?_) (Cert.GuDwRefIdeal.Value.run (F := Ideal) m' ρ')
  obtain ⟨X, hX⟩ := exists_is (a := 8192) (b := 2048) (m ((c : Thread nD τ).loc main_arg0))
  obtain ⟨Y, hY⟩ := exists_is (a := 8192) (b := 11264) (m ((c : Thread nD τ).loc main_arg2))
  obtain ⟨a0, a1, a2⟩ := hagree c
  obtain ⟨r0, rest⟩ := h c
  refine ⟨r0.trans ?_, rest⟩
  rw [a0, a2]
  exact Is.ext (ref_num _ _ hX hY) (G_num m c hX hY) fun _ _ _ _ => rfl

theorem frame_p : Cert.quiescent_GuDw := fun m ρ _ => Cert.GuDw.Gen.frame m ρ
theorem frame_pi : Cert.quiescent_GuDwIdeal := fun m ρ _ => Cert.GuDwIdeal.Gen.frame m ρ
theorem frame_ri : Cert.quiescent_GuDwRefIdeal := fun m ρ _ =>
  (θ_run Cert.GuDwRefIdeal.defs _ _).mono (fun r h => ⟨fun c => (h c).2,
      Idealize.ShloMosaic.sem_eq_zero_of_no_sems (by decide) r.2⟩)
    (Cert.GuDwRefIdeal.Value.run (F := Ideal) m ρ)

end Mm.GuDw

end
-- ==== Proof.GuDx.lean ====
/-
  The gradient of the input of the feed-forward's first product computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.GuDx.Frame
public import proofs.«01_k».proof.Proof.Gen.GuDxIdeal.Value
public import proofs.«01_k».proof.Proof.Gen.GuDxRefIdeal.Run

@[expose] public section

set_option maxRecDepth 16384
set_option maxHeartbeats 1000000

noncomputable section

namespace Mm.GuDx

open Cert.GuDxIdeal Cert.GuDxIdeal.Gen Cert.GuDxIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A r k * B d k

section
variable {x0 : Vec Ideal S1024x1024 .f32} {x1 : Vec Ideal S1024x1024 .bf16} {xs : Vec Ideal S1024x1024 .f32} {A B T : ℕ → ℕ → EReal}

theorem pay1_num (hA : Is (a := 1024) (b := 1024) x0 A) (hB : Is (a := 1024) (b := 1024) x1 B) :
    Is (a := 1024) (b := 1024) (k0_pay1 (F := Ideal) x0 x1) (tile A B) := fun i => by
  unfold k0_pay1
  dsimp only
  rw [shapeCast_self]
  exact matmul_sum _ none 1024 rfl rfl _ _ i (fun k => A (i (0 : Fin 2)).val k) (fun k => B (i (1 : Fin 2)).val k)
    (fun _ => hA _) (fun _ => hB _)

theorem pay2_num (hA : Is (a := 1024) (b := 1024) x0 A) (hB : Is (a := 1024) (b := 1024) x1 B) :
    Is (a := 1024) (b := 1024) (k0_pay2 (F := Ideal) x0 x1) (tile A B) := by
  unfold k0_pay2
  dsimp only
  rw [shapeCast_self]
  exact pay1_num hA hB

theorem pay4_num (hA : Is (a := 1024) (b := 1024) x0 A) (hB : Is (a := 1024) (b := 1024) x1 B) (hT : Is (a := 1024) (b := 1024) xs T) :
    Is (a := 1024) (b := 1024) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 1024) x0 A) (hB : Is (a := 1024) (b := 1024) x1 B) (hT : Is (a := 1024) (b := 1024) xs T) :
    Is (a := 1024) (b := 1024) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (hA : Is (a := 1024) (b := 1024) x0 A) (hB : Is (a := 1024) (b := 1024) x1 B)
include hA hB

section
variable (hc0 : cond0_0 i) (hc1 : ¬cond0_1 i) (hc2 : ¬cond0_2 i)
theorem A_num :
    Is (a := 1024) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]
  exact pay2_num hA hB
end

section
variable (hT : Is (a := 1024) (b := 1024) xs T) (hc0 : ¬cond0_0 i) (hc1 : cond0_1 i) (hc2 : ¬cond0_2 i)
include hT
theorem B_num :
    Is (a := 1024) (b := 1024) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]
  exact pay3_num hA hB hT
end

section
variable (hT : Is (a := 1024) (b := 1024) xs T) (hc0 : ¬cond0_0 i) (hc1 : ¬cond0_1 i) (hc2 : cond0_2 i)
include hT
theorem C_num :
    Is (a := 1024) (b := 1024) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz]
  exact pay4_num hA hB hT
end
end
end

theorem idx_a : ∀ t : Fin grid0.N, win0_0.index t (0 : Fin 2) = t.val / 22 ∧ win0_0.index t (1 : Fin 2) = t.val % 11 := by decide +kernel
theorem idx_b : ∀ t : Fin grid0.N, win0_1.index t (0 : Fin 2) = t.val / 11 % 2 ∧ win0_1.index t (1 : Fin 2) = t.val % 11 := by decide +kernel

variable (m : (b : Loc nD τ sig) → Buf (Elt Ideal) b) (c : Dev nD) {X Y : ℕ → ℕ → EReal}

theorem blk_a (h : Is (a := 8192) (b := 11264) (V (F := Ideal) m c main_arg2) X) (t : Fin cfg0.N) :
    Is (a := 1024) (b := 1024) (iblk (F := Ideal) m c 0 t) (fun r d => X (1024 * (t.val / 22) + r) (1024 * (t.val % 11) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg2 (((cfg0.win 0).blk t).view.emb i) = _
  exact h.at _ hb0 hb1

theorem blk_b (h : Is (a := 2048) (b := 11264) (V (F := Ideal) m c main_v0) Y) (t : Fin cfg0.N) :
    Is (a := 1024) (b := 1024) (iblk (F := Ideal) m c 1 t) (fun r d => Y (1024 * (t.val / 11 % 2) + r) (1024 * (t.val % 11) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X r k * Y c k) 1024 1024 1024 (n / 22) (n / 11 % 2) q

/-- The contents of the result's tile and of the buffer carried along. -/
abbrev State : Type := Vec Ideal S1024x1024 .f32 × Vec Ideal S1024x1024 .f32

/-- What the buffers hold after point `n`. -/
def Inv (X Y : ℕ → ℕ → EReal) (n : ℕ) (st : State) : Prop :=
  (¬n % 11 = 10 → Is (a := 1024) (b := 1024) st.2 (sums X Y n (n % 11 + 1))) ∧ (n % 11 = 10 → Is (a := 1024) (b := 1024) st.1 (sums X Y n (n % 11 + 1)))

section
variable (hX : Is (a := 8192) (b := 11264) (V (F := Ideal) m c main_arg2) X) (hY : Is (a := 2048) (b := 11264) (V (F := Ideal) m c main_v0) Y)
include hX hY

theorem step (t : Fin cfg0.N) (acc : State) (hacc : ¬t.val % 11 = 0 → Is (a := 1024) (b := 1024) acc.2 (sums X Y t.val (t.val % 11))) :
    Inv X Y t.val (stAt0 m c t.val t.isLt acc) := by
  by_cases h0 : t.val % 11 = 0
  · have h1 : ¬(1 ≤ t.val % 11 ∧ t.val % 11 ≤ 9) := by omega
    have h2 : ¬t.val % 11 = 10 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X r k * Y c k) 1024 1024 1024 (t.val / 22) (t.val / 11 % 2) r d h0
  · by_cases h2 : t.val % 11 = 10
    · have h1 : ¬(1 ≤ t.val % 11 ∧ t.val % 11 ≤ 9) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X r k * Y c k) 1024 1024 1024 _ _ _ r d
    · have h1 : 1 ≤ t.val % 11 ∧ t.val % 11 ≤ 9 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X r k * Y c k) 1024 1024 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 11 = 0 := h
    refine ((inv_all n (Nat.lt_of_succ_lt hn)).1 (by omega)).congr fun r d => ?_
    show sums X Y n (n % 11 + 1) r d = sums X Y (n + 1) ((n + 1) % 11) r d
    unfold sums
    rw [show (n + 1) / 22 = n / 22 by omega, show (n + 1) / 11 = n / 11 by omega, show (n + 1) % 11 = n % 11 + 1 by omega]

/-- The result at an index. -/
theorem G_num : Is (a := 8192) (b := 2048) (G2 (F := Ideal) m c) fun r c => ∑ k ∈ Finset.range 11264, X r k * Y c k := by
  intro i
  have b0 : (i (0 : Fin 2)).val < 8192 := (i (0 : Fin 2)).isLt
  have b1 : (i (1 : Fin 2)).val < 2048 := (i (1 : Fin 2)).isLt
  have hp : pt2Of i = 11 * (2 * ((i (0 : Fin 2)).val / 1024) + (i (1 : Fin 2)).val / 1024) + 10 := by
    show 11 * (2 * ((i (0 : Fin 2)).val / 1024 - 0) + 1 * ((i (1 : Fin 2)).val / 1024 - 0)) + 10 = _
    omega
  have hl : pt2Of i < cfg0.N := by rw [hp, show cfg0.N = 176 from N_0]; omega
  unfold G2
  rw [dif_pos hl, ← outsAt0_sweep m c _ hl]
  refine ((inv_all m c hX hY _ hl).2 (by omega) _).trans ?_
  show sums X Y (pt2Of i) (pt2Of i % 11 + 1) ((i (0 : Fin 2)).val % 1024) ((i (1 : Fin 2)).val % 1024) = _
  unfold sums
  rw [show pt2Of i / 22 = (i (0 : Fin 2)).val / 1024 by omega, show pt2Of i / 11 % 2 = (i (1 : Fin 2)).val / 1024 by omega,
    show pt2Of i % 11 + 1 = 11 by omega]
  exact part_all (fun r c k => X r k * Y c k) 1024 1024 1024 11 _ _
end

/-- The weights the call reads are the given ones: a cast of extended reals changes nothing. -/
theorem v0_eq : V (F := Ideal) m c main_v0 = (m ((c : Thread nD τ).loc main_arg1) : S2048x11264.Idx → EReal) := by
  simp -implicitDefEqProofs only [V, hostOps0, List.flatten_cons, List.flatten_nil, List.append_nil, List.cons_append, List.nil_append]
  after_results_simp
  rfl

/-- The reference at row `r` and column `c`: the sum over all columns of the cotangent. -/
theorem ref_num (x : FVec Ideal Cert.GuDxRefIdeal.S8192x11264 .f32) (y : FVec Ideal Cert.GuDxRefIdeal.S2048x11264 .f32)
    (hX : Is (a := 8192) (b := 11264) x X) (hY : Is (a := 2048) (b := 11264) y Y) :
    Is (a := 8192) (b := 2048) (Host.dotGeneral (F := Ideal) Cert.GuDxRefIdeal.dot_S8192x11264_S2048x11264_S8192x2048_1_1_0_0_n_n none x y)
      fun r c => ∑ k ∈ Finset.range 11264, X r k * Y c k := fun i =>
  dotGeneral_sum _ none _ 11264 rfl rfl x y i (fun k => X (i (0 : Fin 2)).val k) (fun k => Y (i (1 : Fin 2)).val k)
    (fun _ => hX _) (fun _ => hY _)

theorem algebraic : Cert.algebraic_GuDxIdeal_GuDxRefIdeal := by
  intro m ρ m' ρ' _ hagree
  refine ⟨_, Cert.GuDxIdeal.Value.run (F := Ideal) m ρ, ?_⟩
  refine (θ_run Cert.GuDxRefIdeal.defs _ _).mono (fun _ h c => ?_) (Cert.GuDxRefIdeal.Value.run (F := Ideal) m' ρ')
  obtain ⟨X, hX⟩ := exists_is (a := 8192) (b := 11264) (m ((c : Thread nD τ).loc main_arg2))
  obtain ⟨Y, hY⟩ := exists_is (a := 2048) (b := 11264) (m ((c : Thread nD τ).loc main_arg1))
  obtain ⟨a0, a1, a2⟩ := hagree c
  obtain ⟨r0, rest⟩ := h c
  refine ⟨r0.trans ?_, rest⟩
  rw [a1, a2]
  refine Is.ext (ref_num _ _ hX hY) (G_num m c ?_ ?_) fun _ _ _ _ => rfl
  · rw [V_main_arg2]; exact hX
  · rw [v0_eq]; exact hY

theorem frame_p : Cert.quiescent_GuDx := fun m ρ _ => Cert.GuDx.Gen.frame m ρ
theorem frame_pi : Cert.quiescent_GuDxIdeal := fun m ρ _ => Cert.GuDxIdeal.Gen.frame m ρ
theorem frame_ri : Cert.quiescent_GuDxRefIdeal := fun m ρ _ =>
  (θ_run Cert.GuDxRefIdeal.defs _ _).mono (fun r h => ⟨fun c => (h c).2,
      Idealize.ShloMosaic.sem_eq_zero_of_no_sems (by decide) r.2⟩)
    (Cert.GuDxRefIdeal.Value.run (F := Ideal) m ρ)

end Mm.GuDx

end
-- ==== Proof.DownDw.lean ====
/-
  The gradient of the feed-forward's second weights computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.DownDw.Frame
public import proofs.«01_k».proof.Proof.Gen.DownDwIdeal.Value
public import proofs.«01_k».proof.Proof.Gen.DownDwRefIdeal.Run

@[expose] public section

set_option maxRecDepth 16384
set_option maxHeartbeats 1000000

noncomputable section

namespace Mm.DownDw

open Cert.DownDwIdeal Cert.DownDwIdeal.Gen Cert.DownDwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A k r * B k d

section
variable {x0 : Vec Ideal S1024x512 .f32} {x1 : Vec Ideal S1024x1024 .f32} {xs : Vec Ideal S512x1024 .f32} {A B T : ℕ → ℕ → EReal}

theorem pay1_num (hA : Is (a := 1024) (b := 512) x0 A) (hB : Is (a := 1024) (b := 1024) x1 B) :
    Is (a := 512) (b := 1024) (k0_pay1 (F := Ideal) x0 x1) (tile A B) := fun i => by
  unfold k0_pay1
  dsimp only
  exact matmul_sum _ none 1024 rfl rfl _ _ i (fun k => A k (i (0 : Fin 2)).val) (fun k => B k (i (1 : Fin 2)).val)
    (fun _ => transpose_is hA _ _) (fun _ => hB _)

theorem pay2_num (hA : Is (a := 1024) (b := 512) x0 A) (hB : Is (a := 1024) (b := 1024) x1 B) :
    Is (a := 512) (b := 1024) (k0_pay2 (F := Ideal) x0 x1) (tile A B) := by
  unfold k0_pay2
  dsimp only
  rw [shapeCast_self]
  exact pay1_num hA hB

theorem pay4_num (hA : Is (a := 1024) (b := 512) x0 A) (hB : Is (a := 1024) (b := 1024) x1 B) (hT : Is (a := 512) (b := 1024) xs T) :
    Is (a := 512) (b := 1024) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 512) x0 A) (hB : Is (a := 1024) (b := 1024) x1 B) (hT : Is (a := 512) (b := 1024) xs T) :
    Is (a := 512) (b := 1024) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x512 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
  (hA : Is (a := 1024) (b := 512) x0 A) (hB : Is (a := 1024) (b := 1024) x1 B)
include hA hB

section
variable (hc0 : cond0_0 i) (hc1 : ¬cond0_1 i) (hc2 : ¬cond0_2 i)
theorem A_num :
    Is (a := 512) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]
  exact pay2_num hA hB
end

section
variable (hT : Is (a := 512) (b := 1024) xs T) (hc0 : ¬cond0_0 i) (hc1 : cond0_1 i) (hc2 : ¬cond0_2 i)
include hT
theorem B_num :
    Is (a := 512) (b := 1024) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]
  exact pay3_num hA hB hT
end

section
variable (hT : Is (a := 512) (b := 1024) xs T) (hc0 : ¬cond0_0 i) (hc1 : ¬cond0_1 i) (hc2 : cond0_2 i)
include hT
theorem C_num :
    Is (a := 512) (b := 1024) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]
  exact pay4_num hA hB hT
end
end
end

theorem idx_a : ∀ t : Fin grid0.N, win0_0.index t (0 : Fin 2) = t.val % 8 ∧ win0_0.index t (1 : Fin 2) = t.val / 16 := by decide +kernel
theorem idx_b : ∀ t : Fin grid0.N, win0_1.index t (0 : Fin 2) = t.val % 8 ∧ win0_1.index t (1 : Fin 2) = t.val / 8 % 2 := by decide +kernel

variable (m : (b : Loc nD τ sig) → Buf (Elt Ideal) b) (c : Dev nD) {X Y : ℕ → ℕ → EReal}

theorem blk_a (h : Is (a := 8192) (b := 5632) (V (F := Ideal) m c main_arg0) X) (t : Fin cfg0.N) :
    Is (a := 1024) (b := 512) (iblk (F := Ideal) m c 0 t) (fun r d => X (1024 * (t.val % 8) + r) (512 * (t.val / 16) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 512 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 8192) (b := 2048) (V (F := Ideal) m c main_arg2) Y) (t : Fin cfg0.N) :
    Is (a := 1024) (b := 1024) (iblk (F := Ideal) m c 1 t) (fun r d => Y (1024 * (t.val % 8) + r) (1024 * (t.val / 8 % 2) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_arg2 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X k r * Y k c) 512 1024 1024 (n / 16) (n / 8 % 2) q

/-- The contents of the result's tile and of the buffer carried along. -/
abbrev State : Type := Vec Ideal S512x1024 .f32 × Vec Ideal S512x1024 .f32

/-- What the buffers hold after point `n`. -/
def Inv (X Y : ℕ → ℕ → EReal) (n : ℕ) (st : State) : Prop :=
  (¬n % 8 = 7 → Is (a := 512) (b := 1024) st.2 (sums X Y n (n % 8 + 1))) ∧ (n % 8 = 7 → Is (a := 512) (b := 1024) st.1 (sums X Y n (n % 8 + 1)))

section
variable (hX : Is (a := 8192) (b := 5632) (V (F := Ideal) m c main_arg0) X) (hY : Is (a := 8192) (b := 2048) (V (F := Ideal) m c main_arg2) Y)
include hX hY

theorem step (t : Fin cfg0.N) (acc : State) (hacc : ¬t.val % 8 = 0 → Is (a := 512) (b := 1024) acc.2 (sums X Y t.val (t.val % 8))) :
    Inv X Y t.val (stAt0 m c t.val t.isLt acc) := by
  by_cases h0 : t.val % 8 = 0
  · have h1 : ¬(1 ≤ t.val % 8 ∧ t.val % 8 ≤ 6) := by omega
    have h2 : ¬t.val % 8 = 7 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X k r * Y k c) 512 1024 1024 (t.val / 16) (t.val / 8 % 2) r d h0
  · by_cases h2 : t.val % 8 = 7
    · have h1 : ¬(1 ≤ t.val % 8 ∧ t.val % 8 ≤ 6) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X k r * Y k c) 512 1024 1024 _ _ _ r d
    · have h1 : 1 ≤ t.val % 8 ∧ t.val % 8 ≤ 6 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X k r * Y k c) 512 1024 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 8 = 0 := h
    refine ((inv_all n (Nat.lt_of_succ_lt hn)).1 (by omega)).congr fun r d => ?_
    show sums X Y n (n % 8 + 1) r d = sums X Y (n + 1) ((n + 1) % 8) r d
    unfold sums
    rw [show (n + 1) / 16 = n / 16 by omega, show (n + 1) / 8 = n / 8 by omega, show (n + 1) % 8 = n % 8 + 1 by omega]

/-- The result at an index. -/
theorem G_num : Is (a := 5632) (b := 2048) (G2 (F := Ideal) m c) fun r c => ∑ k ∈ Finset.range 8192, X k r * Y k c := by
  intro i
  have b0 : (i (0 : Fin 2)).val < 5632 := (i (0 : Fin 2)).isLt
  have b1 : (i (1 : Fin 2)).val < 2048 := (i (1 : Fin 2)).isLt
  have hp : pt2Of i = 8 * (2 * ((i (0 : Fin 2)).val / 512) + (i (1 : Fin 2)).val / 1024) + 7 := by
    show 8 * (2 * ((i (0 : Fin 2)).val / 512 - 0) + 1 * ((i (1 : Fin 2)).val / 1024 - 0)) + 7 = _
    omega
  have hl : pt2Of i < cfg0.N := by rw [hp, show cfg0.N = 176 from N_0]; omega
  unfold G2
  rw [dif_pos hl, ← outsAt0_sweep m c _ hl]
  refine ((inv_all m c hX hY _ hl).2 (by omega) _).trans ?_
  show sums X Y (pt2Of i) (pt2Of i % 8 + 1) ((i (0 : Fin 2)).val % 512) ((i (1 : Fin 2)).val % 1024) = _
  unfold sums
  rw [show pt2Of i / 16 = (i (0 : Fin 2)).val / 512 by omega, show pt2Of i / 8 % 2 = (i (1 : Fin 2)).val / 1024 by omega,
    show pt2Of i % 8 + 1 = 8 by omega]
  exact part_all (fun r c k => X k r * Y k c) 512 1024 1024 8 _ _
end

/-- The reference at row `r` and column `c`: the sum over all rows of the step's tokens. -/
theorem ref_num (x : FVec Ideal Cert.DownDwRefIdeal.S8192x5632 .f32) (y : FVec Ideal Cert.DownDwRefIdeal.S8192x2048 .f32)
    (hX : Is (a := 8192) (b := 5632) x X) (hY : Is (a := 8192) (b := 2048) y Y) :
    Is (a := 5632) (b := 2048) (transpose Cert.DownDwRefIdeal.S5632x2048 [1, 0]
      (Host.dotGeneral (F := Ideal) Cert.DownDwRefIdeal.dot_S8192x2048_S8192x5632_S2048x5632_0_0_1_1_n_n none y x)
      Cert.DownDwRefIdeal.Facts₀.transposes_S2048x5632_S5632x2048_1_0)
      fun r c => ∑ k ∈ Finset.range 8192, X k r * Y k c :=
  (transpose_is (X := fun c r => ∑ k ∈ Finset.range 8192, Y k c * X k r) (fun i =>
    dotGeneral_sum _ none _ 8192 rfl rfl y x i (fun k => Y k (i (0 : Fin 2)).val) (fun k => X k (i (1 : Fin 2)).val)
      (fun _ => hY _) (fun _ => hX _)) _).congr fun r c => Finset.sum_congr rfl fun k _ => mul_comm _ _

theorem algebraic : Cert.algebraic_DownDwIdeal_DownDwRefIdeal := by
  intro m ρ m' ρ' _ hagree
  refine ⟨_, Cert.DownDwIdeal.Value.run (F := Ideal) m ρ, ?_⟩
  refine (θ_run Cert.DownDwRefIdeal.defs _ _).mono (fun _ h c => ?_) (Cert.DownDwRefIdeal.Value.run (F := Ideal) m' ρ')
  obtain ⟨X, hX⟩ := exists_is (a := 8192) (b := 5632) (m ((c : Thread nD τ).loc main_arg0))
  obtain ⟨Y, hY⟩ := exists_is (a := 8192) (b := 2048) (m ((c : Thread nD τ).loc main_arg2))
  obtain ⟨a0, a1, a2⟩ := hagree c
  obtain ⟨r0, rest⟩ := h c
  refine ⟨r0.trans ?_, rest⟩
  rw [a0, a2]
  exact Is.ext (ref_num _ _ hX hY) (G_num m c hX hY) fun _ _ _ _ => rfl

theorem frame_p : Cert.quiescent_DownDw := fun m ρ _ => Cert.DownDw.Gen.frame m ρ
theorem frame_pi : Cert.quiescent_DownDwIdeal := fun m ρ _ => Cert.DownDwIdeal.Gen.frame m ρ
theorem frame_ri : Cert.quiescent_DownDwRefIdeal := fun m ρ _ =>
  (θ_run Cert.DownDwRefIdeal.defs _ _).mono (fun r h => ⟨fun c => (h c).2,
      Idealize.ShloMosaic.sem_eq_zero_of_no_sems (by decide) r.2⟩)
    (Cert.DownDwRefIdeal.Value.run (F := Ideal) m ρ)

end Mm.DownDw

end
-- ==== Proof.InDw.lean ====
/-
  The gradient of the input projection's weights computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.InDw.Frame
public import proofs.«01_k».proof.Proof.Gen.InDwIdeal.Value
public import proofs.«01_k».proof.Proof.Gen.InDwRefIdeal.Run

@[expose] public section

set_option maxRecDepth 16384
set_option maxHeartbeats 1000000

noncomputable section

namespace Mm.InDw

open Cert.InDwIdeal Cert.InDwIdeal.Gen Cert.InDwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A k r * B k d

section
variable {x0 : Vec Ideal S1024x1024 .f32} {x1 : Vec Ideal S1024x896 .f32} {xs : Vec Ideal S1024x896 .f32} {A B T : ℕ → ℕ → EReal}

theorem pay1_num (hA : Is (a := 1024) (b := 1024) x0 A) (hB : Is (a := 1024) (b := 896) x1 B) :
    Is (a := 1024) (b := 896) (k0_pay1 (F := Ideal) x0 x1) (tile A B) := fun i => by
  unfold k0_pay1
  dsimp only
  exact matmul_sum _ none 1024 rfl rfl _ _ i (fun k => A k (i (0 : Fin 2)).val) (fun k => B k (i (1 : Fin 2)).val)
    (fun _ => transpose_is hA _ _) (fun _ => hB _)

theorem pay2_num (hA : Is (a := 1024) (b := 1024) x0 A) (hB : Is (a := 1024) (b := 896) x1 B) :
    Is (a := 1024) (b := 896) (k0_pay2 (F := Ideal) x0 x1) (tile A B) := by
  unfold k0_pay2
  dsimp only
  rw [shapeCast_self]
  exact pay1_num hA hB

theorem pay4_num (hA : Is (a := 1024) (b := 1024) x0 A) (hB : Is (a := 1024) (b := 896) x1 B) (hT : Is (a := 1024) (b := 896) xs T) :
    Is (a := 1024) (b := 896) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 1024) x0 A) (hB : Is (a := 1024) (b := 896) x1 B) (hT : Is (a := 1024) (b := 896) xs T) :
    Is (a := 1024) (b := 896) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x1024 .f32) (harg3 : arg3.IsWhole) (arg4 : Memref sig .tc .vmem S1024x896 .f32) (harg4 : arg4.IsWhole) (arg5 : Memref sig .tc .vmem S1024x896 .f32) (harg5 : arg5.IsWhole) (arg6 : Memref sig .tc .vmem S1024x896 .f32) (harg6 : arg6.IsWhole)
  (hA : Is (a := 1024) (b := 1024) x0 A) (hB : Is (a := 1024) (b := 896) x1 B)
include hA hB

section
variable (hc0 : cond0_0 i) (hc1 : ¬cond0_1 i) (hc2 : ¬cond0_2 i)
theorem A_num :
    Is (a := 1024) (b := 896) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz, View.ld_unit_zero (S := S1024x896) hz]
  exact pay2_num hA hB
end

section
variable (hT : Is (a := 1024) (b := 896) xs T) (hc0 : ¬cond0_0 i) (hc1 : cond0_1 i) (hc2 : ¬cond0_2 i)
include hT
theorem B_num :
    Is (a := 1024) (b := 896) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x896) hz]
  exact pay3_num hA hB hT
end

section
variable (hT : Is (a := 1024) (b := 896) xs T) (hc0 : ¬cond0_0 i) (hc1 : ¬cond0_1 i) (hc2 : cond0_2 i)
include hT
theorem C_num :
    Is (a := 1024) (b := 896) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x896) hz]
  exact pay4_num hA hB hT
end
end
end

theorem idx_a : ∀ t : Fin grid0.N, win0_0.index t (0 : Fin 2) = t.val % 8 ∧ win0_0.index t (1 : Fin 2) = t.val / 120 := by decide +kernel
theorem idx_b : ∀ t : Fin grid0.N, win0_1.index t (0 : Fin 2) = t.val % 8 ∧ win0_1.index t (1 : Fin 2) = t.val / 8 % 15 := by decide +kernel

variable (m : (b : Loc nD τ sig) → Buf (Elt Ideal) b) (c : Dev nD) {X Y : ℕ → ℕ → EReal}

theorem blk_a (h : Is (a := 8192) (b := 2048) (V (F := Ideal) m c main_arg0) X) (t : Fin cfg0.N) :
    Is (a := 1024) (b := 1024) (iblk (F := Ideal) m c 0 t) (fun r d => X (1024 * (t.val % 8) + r) (1024 * (t.val / 120) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 8192) (b := 13440) (V (F := Ideal) m c main_arg2) Y) (t : Fin cfg0.N) :
    Is (a := 1024) (b := 896) (iblk (F := Ideal) m c 1 t) (fun r d => Y (1024 * (t.val % 8) + r) (896 * (t.val / 8 % 15) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 896 + 1 * (i (1 : Fin 2)).val := rfl
  rw [e0, one_mul, mul_comm] at hb0
  rw [e1, one_mul, mul_comm] at hb1
  show V (F := Ideal) m c main_arg2 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X k r * Y k c) 1024 896 1024 (n / 120) (n / 8 % 15) q

/-- The contents of the result's tile and of the buffer carried along. -/
abbrev State : Type := Vec Ideal S1024x896 .f32 × Vec Ideal S1024x896 .f32

/-- What the buffers hold after point `n`. -/
def Inv (X Y : ℕ → ℕ → EReal) (n : ℕ) (st : State) : Prop :=
  (¬n % 8 = 7 → Is (a := 1024) (b := 896) st.2 (sums X Y n (n % 8 + 1))) ∧ (n % 8 = 7 → Is (a := 1024) (b := 896) st.1 (sums X Y n (n % 8 + 1)))

section
variable (hX : Is (a := 8192) (b := 2048) (V (F := Ideal) m c main_arg0) X) (hY : Is (a := 8192) (b := 13440) (V (F := Ideal) m c main_arg2) Y)
include hX hY

theorem step (t : Fin cfg0.N) (acc : State) (hacc : ¬t.val % 8 = 0 → Is (a := 1024) (b := 896) acc.2 (sums X Y t.val (t.val % 8))) :
    Inv X Y t.val (stAt0 m c t.val t.isLt acc) := by
  by_cases h0 : t.val % 8 = 0
  · have h1 : ¬(1 ≤ t.val % 8 ∧ t.val % 8 ≤ 6) := by omega
    have h2 : ¬t.val % 8 = 7 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X k r * Y k c) 1024 896 1024 (t.val / 120) (t.val / 8 % 15) r d h0
  · by_cases h2 : t.val % 8 = 7
    · have h1 : ¬(1 ≤ t.val % 8 ∧ t.val % 8 ≤ 6) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X k r * Y k c) 1024 896 1024 _ _ _ r d
    · have h1 : 1 ≤ t.val % 8 ∧ t.val % 8 ≤ 6 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X k r * Y k c) 1024 896 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 8 = 0 := h
    refine ((inv_all n (Nat.lt_of_succ_lt hn)).1 (by omega)).congr fun r d => ?_
    show sums X Y n (n % 8 + 1) r d = sums X Y (n + 1) ((n + 1) % 8) r d
    unfold sums
    rw [show (n + 1) / 120 = n / 120 by omega, show (n + 1) / 8 = n / 8 by omega, show (n + 1) % 8 = n % 8 + 1 by omega]

/-- The result at an index. -/
theorem G_num : Is (a := 2048) (b := 13440) (G2 (F := Ideal) m c) fun r c => ∑ k ∈ Finset.range 8192, X k r * Y k c := by
  intro i
  have b0 : (i (0 : Fin 2)).val < 2048 := (i (0 : Fin 2)).isLt
  have b1 : (i (1 : Fin 2)).val < 13440 := (i (1 : Fin 2)).isLt
  have hp : pt2Of i = 8 * (15 * ((i (0 : Fin 2)).val / 1024) + (i (1 : Fin 2)).val / 896) + 7 := by
    show 8 * (15 * ((i (0 : Fin 2)).val / 1024 - 0) + 1 * ((i (1 : Fin 2)).val / 896 - 0)) + 7 = _
    omega
  have hl : pt2Of i < cfg0.N := by rw [hp, show cfg0.N = 240 from N_0]; omega
  unfold G2
  rw [dif_pos hl, ← outsAt0_sweep m c _ hl]
  refine ((inv_all m c hX hY _ hl).2 (by omega) _).trans ?_
  show sums X Y (pt2Of i) (pt2Of i % 8 + 1) ((i (0 : Fin 2)).val % 1024) ((i (1 : Fin 2)).val % 896) = _
  unfold sums
  rw [show pt2Of i / 120 = (i (0 : Fin 2)).val / 1024 by omega, show pt2Of i / 8 % 15 = (i (1 : Fin 2)).val / 896 by omega,
    show pt2Of i % 8 + 1 = 8 by omega]
  exact part_all (fun r c k => X k r * Y k c) 1024 896 1024 8 _ _
end

/-- The reference at row `r` and column `c`: the sum over all rows of the step's tokens. -/
theorem ref_num (x : FVec Ideal Cert.InDwRefIdeal.S8192x2048 .f32) (y : FVec Ideal Cert.InDwRefIdeal.S8192x13440 .f32)
    (hX : Is (a := 8192) (b := 2048) x X) (hY : Is (a := 8192) (b := 13440) y Y) :
    Is (a := 2048) (b := 13440) (transpose Cert.InDwRefIdeal.S2048x13440 [1, 0]
      (Host.dotGeneral (F := Ideal) Cert.InDwRefIdeal.dot_S8192x13440_S8192x2048_S13440x2048_0_0_1_1_n_n none y x)
      Cert.InDwRefIdeal.Facts₀.transposes_S13440x2048_S2048x13440_1_0)
      fun r c => ∑ k ∈ Finset.range 8192, X k r * Y k c :=
  (transpose_is (X := fun c r => ∑ k ∈ Finset.range 8192, Y k c * X k r) (fun i =>
    dotGeneral_sum _ none _ 8192 rfl rfl y x i (fun k => Y k (i (0 : Fin 2)).val) (fun k => X k (i (1 : Fin 2)).val)
      (fun _ => hY _) (fun _ => hX _)) _).congr fun r c => Finset.sum_congr rfl fun k _ => mul_comm _ _

theorem algebraic : Cert.algebraic_InDwIdeal_InDwRefIdeal := by
  intro m ρ m' ρ' _ hagree
  refine ⟨_, Cert.InDwIdeal.Value.run (F := Ideal) m ρ, ?_⟩
  refine (θ_run Cert.InDwRefIdeal.defs _ _).mono (fun _ h c => ?_) (Cert.InDwRefIdeal.Value.run (F := Ideal) m' ρ')
  obtain ⟨X, hX⟩ := exists_is (a := 8192) (b := 2048) (m ((c : Thread nD τ).loc main_arg0))
  obtain ⟨Y, hY⟩ := exists_is (a := 8192) (b := 13440) (m ((c : Thread nD τ).loc main_arg2))
  obtain ⟨a0, a1, a2⟩ := hagree c
  obtain ⟨r0, rest⟩ := h c
  refine ⟨r0.trans ?_, rest⟩
  rw [a0, a2]
  exact Is.ext (ref_num _ _ hX hY) (G_num m c hX hY) fun _ _ _ _ => rfl

theorem frame_p : Cert.quiescent_InDw := fun m ρ _ => Cert.InDw.Gen.frame m ρ
theorem frame_pi : Cert.quiescent_InDwIdeal := fun m ρ _ => Cert.InDwIdeal.Gen.frame m ρ
theorem frame_ri : Cert.quiescent_InDwRefIdeal := fun m ρ _ =>
  (θ_run Cert.InDwRefIdeal.defs _ _).mono (fun r h => ⟨fun c => (h c).2,
      Idealize.ShloMosaic.sem_eq_zero_of_no_sems (by decide) r.2⟩)
    (Cert.InDwRefIdeal.Value.run (F := Ideal) m ρ)

end Mm.InDw

end
-- ==== Proof.InDx.lean ====
/-
  The gradient of the input projection's input computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.InDx.Frame
public import proofs.«01_k».proof.Proof.Gen.InDxIdeal.Value
public import proofs.«01_k».proof.Proof.Gen.InDxRefIdeal.Run

@[expose] public section

set_option maxRecDepth 16384
set_option maxHeartbeats 1000000

noncomputable section

namespace Mm.InDx

open Cert.InDxIdeal Cert.InDxIdeal.Gen Cert.InDxIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1920, A r k * B d k

section
variable {x0 : Vec Ideal S1024x1920 .f32} {x1 : Vec Ideal S1024x1920 .bf16} {xs : Vec Ideal S1024x1024 .f32} {A B T : ℕ → ℕ → EReal}

theorem pay1_num (hA : Is (a := 1024) (b := 1920) x0 A) (hB : Is (a := 1024) (b := 1920) x1 B) :
    Is (a := 1024) (b := 1024) (k0_pay1 (F := Ideal) x0 x1) (tile A B) := fun i => by
  unfold k0_pay1
  dsimp only
  rw [shapeCast_self]
  exact matmul_sum _ none 1920 rfl rfl _ _ i (fun k => A (i (0 : Fin 2)).val k) (fun k => B (i (1 : Fin 2)).val k)
    (fun _ => hA _) (fun _ => hB _)

theorem pay2_num (hA : Is (a := 1024) (b := 1920) x0 A) (hB : Is (a := 1024) (b := 1920) x1 B) :
    Is (a := 1024) (b := 1024) (k0_pay2 (F := Ideal) x0 x1) (tile A B) := by
  unfold k0_pay2
  dsimp only
  rw [shapeCast_self]
  exact pay1_num hA hB

theorem pay4_num (hA : Is (a := 1024) (b := 1920) x0 A) (hB : Is (a := 1024) (b := 1920) x1 B) (hT : Is (a := 1024) (b := 1024) xs T) :
    Is (a := 1024) (b := 1024) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 1920) x0 A) (hB : Is (a := 1024) (b := 1920) x1 B) (hT : Is (a := 1024) (b := 1024) xs T) :
    Is (a := 1024) (b := 1024) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x1920 .f32) (harg3 : arg3.IsWhole) (arg4 : Memref sig .tc .vmem S1024x1920 .bf16) (harg4 : arg4.IsWhole) (arg5 : Memref sig .tc .vmem S1024x1024 .f32) (harg5 : arg5.IsWhole) (arg6 : Memref sig .tc .vmem S1024x1024 .f32) (harg6 : arg6.IsWhole)
  (hA : Is (a := 1024) (b := 1920) x0 A) (hB : Is (a := 1024) (b := 1920) x1 B)
include hA hB

section
variable (hc0 : cond0_0 i) (hc1 : ¬cond0_1 i) (hc2 : ¬cond0_2 i)
theorem A_num :
    Is (a := 1024) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1920) hz, View.ld_unit_zero (S := S1024x1024) hz]
  exact pay2_num hA hB
end

section
variable (hT : Is (a := 1024) (b := 1024) xs T) (hc0 : ¬cond0_0 i) (hc1 : cond0_1 i) (hc2 : ¬cond0_2 i)
include hT
theorem B_num :
    Is (a := 1024) (b := 1024) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1920) hz, View.ld_unit_zero (S := S1024x1024) hz]
  exact pay3_num hA hB hT
end

section
variable (hT : Is (a := 1024) (b := 1024) xs T) (hc0 : ¬cond0_0 i) (hc1 : ¬cond0_1 i) (hc2 : cond0_2 i)
include hT
theorem C_num :
    Is (a := 1024) (b := 1024) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1920) hz, View.ld_unit_zero (S := S1024x1024) hz]
  exact pay4_num hA hB hT
end
end
end

theorem idx_a : ∀ t : Fin grid0.N, win0_0.index t (0 : Fin 2) = t.val / 14 ∧ win0_0.index t (1 : Fin 2) = t.val % 7 := by decide +kernel
theorem idx_b : ∀ t : Fin grid0.N, win0_1.index t (0 : Fin 2) = t.val / 7 % 2 ∧ win0_1.index t (1 : Fin 2) = t.val % 7 := by decide +kernel

variable (m : (b : Loc nD τ sig) → Buf (Elt Ideal) b) (c : Dev nD) {X Y : ℕ → ℕ → EReal}

theorem blk_a (h : Is (a := 8192) (b := 13440) (V (F := Ideal) m c main_arg2) X) (t : Fin cfg0.N) :
    Is (a := 1024) (b := 1920) (iblk (F := Ideal) m c 0 t) (fun r d => X (1024 * (t.val / 14) + r) (1920 * (t.val % 7) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1920 + 1 * (i (1 : Fin 2)).val := rfl
  rw [e0, one_mul, mul_comm] at hb0
  rw [e1, one_mul, mul_comm] at hb1
  show V (F := Ideal) m c main_arg2 (((cfg0.win 0).blk t).view.emb i) = _
  exact h.at _ hb0 hb1

theorem blk_b (h : Is (a := 2048) (b := 13440) (V (F := Ideal) m c main_v0) Y) (t : Fin cfg0.N) :
    Is (a := 1024) (b := 1920) (iblk (F := Ideal) m c 1 t) (fun r d => Y (1024 * (t.val / 7 % 2) + r) (1920 * (t.val % 7) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1920 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X r k * Y c k) 1024 1024 1920 (n / 14) (n / 7 % 2) q

/-- The contents of the result's tile and of the buffer carried along. -/
abbrev State : Type := Vec Ideal S1024x1024 .f32 × Vec Ideal S1024x1024 .f32

/-- What the buffers hold after point `n`. -/
def Inv (X Y : ℕ → ℕ → EReal) (n : ℕ) (st : State) : Prop :=
  (¬n % 7 = 6 → Is (a := 1024) (b := 1024) st.2 (sums X Y n (n % 7 + 1))) ∧ (n % 7 = 6 → Is (a := 1024) (b := 1024) st.1 (sums X Y n (n % 7 + 1)))

section
variable (hX : Is (a := 8192) (b := 13440) (V (F := Ideal) m c main_arg2) X) (hY : Is (a := 2048) (b := 13440) (V (F := Ideal) m c main_v0) Y)
include hX hY

theorem step (t : Fin cfg0.N) (acc : State) (hacc : ¬t.val % 7 = 0 → Is (a := 1024) (b := 1024) acc.2 (sums X Y t.val (t.val % 7))) :
    Inv X Y t.val (stAt0 m c t.val t.isLt acc) := by
  by_cases h0 : t.val % 7 = 0
  · have h1 : ¬(1 ≤ t.val % 7 ∧ t.val % 7 ≤ 5) := by omega
    have h2 : ¬t.val % 7 = 6 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X r k * Y c k) 1024 1024 1920 (t.val / 14) (t.val / 7 % 2) r d h0
  · by_cases h2 : t.val % 7 = 6
    · have h1 : ¬(1 ≤ t.val % 7 ∧ t.val % 7 ≤ 5) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X r k * Y c k) 1024 1024 1920 _ _ _ r d
    · have h1 : 1 ≤ t.val % 7 ∧ t.val % 7 ≤ 5 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X r k * Y c k) 1024 1024 1920 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 7 = 0 := h
    refine ((inv_all n (Nat.lt_of_succ_lt hn)).1 (by omega)).congr fun r d => ?_
    show sums X Y n (n % 7 + 1) r d = sums X Y (n + 1) ((n + 1) % 7) r d
    unfold sums
    rw [show (n + 1) / 14 = n / 14 by omega, show (n + 1) / 7 = n / 7 by omega, show (n + 1) % 7 = n % 7 + 1 by omega]

/-- The result at an index. -/
theorem G_num : Is (a := 8192) (b := 2048) (G2 (F := Ideal) m c) fun r c => ∑ k ∈ Finset.range 13440, X r k * Y c k := by
  intro i
  have b0 : (i (0 : Fin 2)).val < 8192 := (i (0 : Fin 2)).isLt
  have b1 : (i (1 : Fin 2)).val < 2048 := (i (1 : Fin 2)).isLt
  have hp : pt2Of i = 7 * (2 * ((i (0 : Fin 2)).val / 1024) + (i (1 : Fin 2)).val / 1024) + 6 := by
    show 7 * (2 * ((i (0 : Fin 2)).val / 1024 - 0) + 1 * ((i (1 : Fin 2)).val / 1024 - 0)) + 6 = _
    omega
  have hl : pt2Of i < cfg0.N := by rw [hp, show cfg0.N = 112 from N_0]; omega
  unfold G2
  rw [dif_pos hl, ← outsAt0_sweep m c _ hl]
  refine ((inv_all m c hX hY _ hl).2 (by omega) _).trans ?_
  show sums X Y (pt2Of i) (pt2Of i % 7 + 1) ((i (0 : Fin 2)).val % 1024) ((i (1 : Fin 2)).val % 1024) = _
  unfold sums
  rw [show pt2Of i / 14 = (i (0 : Fin 2)).val / 1024 by omega, show pt2Of i / 7 % 2 = (i (1 : Fin 2)).val / 1024 by omega,
    show pt2Of i % 7 + 1 = 7 by omega]
  exact part_all (fun r c k => X r k * Y c k) 1024 1024 1920 7 _ _
end

/-- The weights the call reads are the given ones: a cast of extended reals changes nothing. -/
theorem v0_eq : V (F := Ideal) m c main_v0 = (m ((c : Thread nD τ).loc main_arg1) : S2048x13440.Idx → EReal) := by
  simp -implicitDefEqProofs only [V, hostOps0, List.flatten_cons, List.flatten_nil, List.append_nil, List.cons_append, List.nil_append]
  after_results_simp
  rfl

/-- The reference at row `r` and column `c`: the sum over all columns of the cotangent. -/
theorem ref_num (x : FVec Ideal Cert.InDxRefIdeal.S8192x13440 .f32) (y : FVec Ideal Cert.InDxRefIdeal.S2048x13440 .f32)
    (hX : Is (a := 8192) (b := 13440) x X) (hY : Is (a := 2048) (b := 13440) y Y) :
    Is (a := 8192) (b := 2048) (Host.dotGeneral (F := Ideal) Cert.InDxRefIdeal.dot_S8192x13440_S2048x13440_S8192x2048_1_1_0_0_n_n none x y)
      fun r c => ∑ k ∈ Finset.range 13440, X r k * Y c k := fun i =>
  dotGeneral_sum _ none _ 13440 rfl rfl x y i (fun k => X (i (0 : Fin 2)).val k) (fun k => Y (i (1 : Fin 2)).val k)
    (fun _ => hX _) (fun _ => hY _)

theorem algebraic : Cert.algebraic_InDxIdeal_InDxRefIdeal := by
  intro m ρ m' ρ' _ hagree
  refine ⟨_, Cert.InDxIdeal.Value.run (F := Ideal) m ρ, ?_⟩
  refine (θ_run Cert.InDxRefIdeal.defs _ _).mono (fun _ h c => ?_) (Cert.InDxRefIdeal.Value.run (F := Ideal) m' ρ')
  obtain ⟨X, hX⟩ := exists_is (a := 8192) (b := 13440) (m ((c : Thread nD τ).loc main_arg2))
  obtain ⟨Y, hY⟩ := exists_is (a := 2048) (b := 13440) (m ((c : Thread nD τ).loc main_arg1))
  obtain ⟨a0, a1, a2⟩ := hagree c
  obtain ⟨r0, rest⟩ := h c
  refine ⟨r0.trans ?_, rest⟩
  rw [a1, a2]
  refine Is.ext (ref_num _ _ hX hY) (G_num m c ?_ ?_) fun _ _ _ _ => rfl
  · rw [V_main_arg2]; exact hX
  · rw [v0_eq]; exact hY

theorem frame_p : Cert.quiescent_InDx := fun m ρ _ => Cert.InDx.Gen.frame m ρ
theorem frame_pi : Cert.quiescent_InDxIdeal := fun m ρ _ => Cert.InDxIdeal.Gen.frame m ρ
theorem frame_ri : Cert.quiescent_InDxRefIdeal := fun m ρ _ =>
  (θ_run Cert.InDxRefIdeal.defs _ _).mono (fun r h => ⟨fun c => (h c).2,
      Idealize.ShloMosaic.sem_eq_zero_of_no_sems (by decide) r.2⟩)
    (Cert.InDxRefIdeal.Value.run (F := Ideal) m ρ)

end Mm.InDx

end
-- ==== Proof.InFw.lean ====
/-
  The input projection computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.InFw.Frame
public import proofs.«01_k».proof.Proof.Gen.InFwIdeal.Value
public import proofs.«01_k».proof.Proof.Gen.InFwRefIdeal.Run

@[expose] public section

set_option maxRecDepth 16384
set_option maxHeartbeats 1000000

noncomputable section

namespace Mm.InFw

open Cert.InFwIdeal Cert.InFwIdeal.Gen Cert.InFwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A r k * B k d

section
variable {x0 : Vec Ideal S1024x1024 .f32} {x1 : Vec Ideal S1024x896 .bf16} {xs : Vec Ideal S1024x896 .f32} {A B T : ℕ → ℕ → EReal}

theorem pay1_num (hA : Is (a := 1024) (b := 1024) x0 A) (hB : Is (a := 1024) (b := 896) x1 B) :
    Is (a := 1024) (b := 896) (k0_pay1 (F := Ideal) x0 x1) (tile A B) := fun i => by
  unfold k0_pay1
  dsimp only
  rw [shapeCast_self]
  exact matmul_sum _ none 1024 rfl rfl _ _ i (fun k => A (i (0 : Fin 2)).val k) (fun k => B k (i (1 : Fin 2)).val)
    (fun _ => hA _) (fun _ => hB _)

theorem pay2_num (hA : Is (a := 1024) (b := 1024) x0 A) (hB : Is (a := 1024) (b := 896) x1 B) :
    Is (a := 1024) (b := 896) (k0_pay2 (F := Ideal) x0 x1) (tile A B) := by
  unfold k0_pay2
  dsimp only
  rw [shapeCast_self]
  exact pay1_num hA hB

theorem pay4_num (hA : Is (a := 1024) (b := 1024) x0 A) (hB : Is (a := 1024) (b := 896) x1 B) (hT : Is (a := 1024) (b := 896) xs T) :
    Is (a := 1024) (b := 896) (k0_pay4 (F := Ideal) x0 x1 xs) fun r d => T r d + tile A B r d := fun i => by
  unfold k0_pay4
  dsimp only
  show xs i + k0_pay1 (F := Ideal) x0 x1 i = _
  rw [hT i, pay1_num hA hB i]

/-! What a point leaves: the first of a tile of the result (A) the product of its tiles in the buffer carried along, the
second (B) the sum of both in the result. -/

section
variable (c : Dev nD) (i : grid0.Coords) (arg3 : Memref sig .tc .vmem S1024x1024 .f32) (harg3 : arg3.IsWhole) (arg4 : Memref sig .tc .vmem S1024x896 .bf16) (harg4 : arg4.IsWhole) (arg5 : Memref sig .tc .vmem S1024x896 .f32) (harg5 : arg5.IsWhole) (arg6 : Memref sig .tc .vmem S1024x896 .f32) (harg6 : arg6.IsWhole)
  (hA : Is (a := 1024) (b := 1024) x0 A) (hB : Is (a := 1024) (b := 896) x1 B)
include hA hB

section
variable (hc0 : cond0_0 i) (hc1 : ¬cond0_1 i) (hc2 : ¬cond0_2 i)
theorem A_num :
    Is (a := 1024) (b := 896) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz, View.ld_unit_zero (S := S1024x896) hz]
  exact pay2_num hA hB
end

section
variable (hT : Is (a := 1024) (b := 896) xs T) (hc0 : ¬cond0_0 i) (hc1 : ¬cond0_1 i) (hc2 : cond0_2 i)
include hT
theorem B_num :
    Is (a := 1024) (b := 896) (out0_B_2 c i arg3 harg3 arg4 harg4 arg5 harg5 arg6 harg6 hc0 hc1 hc2 x0 x1 xs) fun r d => T r d + tile A B r d := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x896) hz]
  exact pay4_num hA hB hT
end
end
end

theorem idx_a : ∀ t : Fin grid0.N, win0_0.index t (0 : Fin 2) = t.val / 30 ∧ win0_0.index t (1 : Fin 2) = t.val % 2 := by decide +kernel
theorem idx_b : ∀ t : Fin grid0.N, win0_1.index t (0 : Fin 2) = t.val % 2 ∧ win0_1.index t (1 : Fin 2) = t.val / 2 % 15 := by decide +kernel

variable (m : (b : Loc nD τ sig) → Buf (Elt Ideal) b) (c : Dev nD) {X Y : ℕ → ℕ → EReal}

theorem blk_a (h : Is (a := 8192) (b := 2048) (V (F := Ideal) m c main_arg0) X) (t : Fin cfg0.N) :
    Is (a := 1024) (b := 1024) (iblk (F := Ideal) m c 0 t) (fun r d => X (1024 * (t.val / 30) + r) (1024 * (t.val % 2) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 2048) (b := 13440) (V (F := Ideal) m c main_v0) Y) (t : Fin cfg0.N) :
    Is (a := 1024) (b := 896) (iblk (F := Ideal) m c 1 t) (fun r d => Y (1024 * (t.val % 2) + r) (896 * (t.val / 2 % 15) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 896 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X r k * Y k c) 1024 896 1024 (n / 30) (n / 2 % 15) q

/-- The contents of the result's tile and of the buffer carried along. -/
abbrev State : Type := Vec Ideal S1024x896 .f32 × Vec Ideal S1024x896 .f32

/-- What the buffers hold after point `n`. -/
def Inv (X Y : ℕ → ℕ → EReal) (n : ℕ) (st : State) : Prop :=
  (¬n % 2 = 1 → Is (a := 1024) (b := 896) st.2 (sums X Y n (n % 2 + 1))) ∧ (n % 2 = 1 → Is (a := 1024) (b := 896) st.1 (sums X Y n (n % 2 + 1)))

section
variable (hX : Is (a := 8192) (b := 2048) (V (F := Ideal) m c main_arg0) X) (hY : Is (a := 2048) (b := 13440) (V (F := Ideal) m c main_v0) Y)
include hX hY

theorem step (t : Fin cfg0.N) (acc : State) (hacc : ¬t.val % 2 = 0 → Is (a := 1024) (b := 896) acc.2 (sums X Y t.val (t.val % 2))) :
    Inv X Y t.val (stAt0 m c t.val t.isLt acc) := by
  by_cases h0 : t.val % 2 = 0
  · have h2 : ¬t.val % 2 = 1 := by omega
    rw [stAt0_A m c t acc h0 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (hcond0_1 t) (fun h => h2 ((hcond0_2 t).mp h))).congr
      fun r d => part_one (fun r c k => X r k * Y k c) 1024 896 1024 (t.val / 30) (t.val / 2 % 15) r d h0
  · have h2 : t.val % 2 = 1 := by omega
    rw [stAt0_B m c t acc h0 h2]
    refine ⟨fun h => absurd h2 h, fun _ => ?_⟩
    dsimp only
    exact (B_num c (grid0.coords t) (ms0_0 t) (hs0_0 t) (ms0_1 t) (hs0_1 t) (ms0_2 t) (hs0_2 t) scM0_0 (Memref.isWhole_whole _)
      (blk_a m c hX t) (blk_b m c hY t) (hacc h0) (fun h => h0 ((hcond0_0 t).mp h)) (hcond0_1 t) ((hcond0_2 t).mpr h2)).congr
      fun r d => part_succ (fun r c k => X r k * Y k c) 1024 896 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 2 = 0 := h
    refine ((inv_all n (Nat.lt_of_succ_lt hn)).1 (by omega)).congr fun r d => ?_
    show sums X Y n (n % 2 + 1) r d = sums X Y (n + 1) ((n + 1) % 2) r d
    unfold sums
    rw [show (n + 1) / 30 = n / 30 by omega, show (n + 1) / 2 = n / 2 by omega, show (n + 1) % 2 = n % 2 + 1 by omega]

/-- The result at an index. -/
theorem G_num : Is (a := 8192) (b := 13440) (G2 (F := Ideal) m c) fun r c => ∑ k ∈ Finset.range 2048, X r k * Y k c := by
  intro i
  have b0 : (i (0 : Fin 2)).val < 8192 := (i (0 : Fin 2)).isLt
  have b1 : (i (1 : Fin 2)).val < 13440 := (i (1 : Fin 2)).isLt
  have hp : pt2Of i = 2 * (15 * ((i (0 : Fin 2)).val / 1024) + (i (1 : Fin 2)).val / 896) + 1 := by
    show 2 * (15 * ((i (0 : Fin 2)).val / 1024 - 0) + 1 * ((i (1 : Fin 2)).val / 896 - 0)) + 1 = _
    omega
  have hl : pt2Of i < cfg0.N := by rw [hp, show cfg0.N = 240 from N_0]; omega
  unfold G2
  rw [dif_pos hl, ← outsAt0_sweep m c _ hl]
  refine ((inv_all m c hX hY _ hl).2 (by omega) _).trans ?_
  show sums X Y (pt2Of i) (pt2Of i % 2 + 1) ((i (0 : Fin 2)).val % 1024) ((i (1 : Fin 2)).val % 896) = _
  unfold sums
  rw [show pt2Of i / 30 = (i (0 : Fin 2)).val / 1024 by omega, show pt2Of i / 2 % 15 = (i (1 : Fin 2)).val / 896 by omega,
    show pt2Of i % 2 + 1 = 2 by omega]
  exact part_all (fun r c k => X r k * Y k c) 1024 896 1024 2 _ _
end

/-- The weights the call reads are the given ones: a cast of extended reals changes nothing. -/
theorem v0_eq : V (F := Ideal) m c main_v0 = (m ((c : Thread nD τ).loc main_arg1) : S2048x13440.Idx → EReal) := by
  simp -implicitDefEqProofs only [V, hostOps0, List.flatten_cons, List.flatten_nil, List.append_nil, List.cons_append, List.nil_append]
  after_results_simp
  rfl

/-- The reference at row `r` and column `c`: the sum over all columns of the input. -/
theorem ref_num (x : FVec Ideal Cert.InFwRefIdeal.S8192x2048 .f32) (y : FVec Ideal Cert.InFwRefIdeal.S2048x13440 .f32)
    (hX : Is (a := 8192) (b := 2048) x X) (hY : Is (a := 2048) (b := 13440) y Y) :
    Is (a := 8192) (b := 13440) (Host.dotGeneral (F := Ideal) Cert.InFwRefIdeal.dot_S8192x2048_S2048x13440_S8192x13440_1_0_0_1_n_n none x y)
      fun r c => ∑ k ∈ Finset.range 2048, X r k * Y k c := fun i =>
  dotGeneral_sum _ none _ 2048 rfl rfl x y i (fun k => X (i (0 : Fin 2)).val k) (fun k => Y k (i (1 : Fin 2)).val)
    (fun _ => hX _) (fun _ => hY _)

theorem algebraic : Cert.algebraic_InFwIdeal_InFwRefIdeal := by
  intro m ρ m' ρ' _ hagree
  refine ⟨_, Cert.InFwIdeal.Value.run (F := Ideal) m ρ, ?_⟩
  refine (θ_run Cert.InFwRefIdeal.defs _ _).mono (fun _ h c => ?_) (Cert.InFwRefIdeal.Value.run (F := Ideal) m' ρ')
  obtain ⟨X, hX⟩ := exists_is (a := 8192) (b := 2048) (m ((c : Thread nD τ).loc main_arg0))
  obtain ⟨Y, hY⟩ := exists_is (a := 2048) (b := 13440) (m ((c : Thread nD τ).loc main_arg1))
  obtain ⟨a2, a1⟩ := hagree c
  obtain ⟨r0, rest⟩ := h c
  refine ⟨r0.trans ?_, rest⟩
  rw [a1, a2]
  refine Is.ext (ref_num _ _ hX hY) (G_num m c ?_ ?_) fun _ _ _ _ => rfl
  · rw [V_main_arg0]; exact hX
  · rw [v0_eq]; exact hY

theorem frame_p : Cert.quiescent_InFw := fun m ρ _ => Cert.InFw.Gen.frame m ρ
theorem frame_pi : Cert.quiescent_InFwIdeal := fun m ρ _ => Cert.InFwIdeal.Gen.frame m ρ
theorem frame_ri : Cert.quiescent_InFwRefIdeal := fun m ρ _ =>
  (θ_run Cert.InFwRefIdeal.defs _ _).mono (fun r h => ⟨fun c => (h c).2,
      Idealize.ShloMosaic.sem_eq_zero_of_no_sems (by decide) r.2⟩)
    (Cert.InFwRefIdeal.Value.run (F := Ideal) m ρ)

end Mm.InFw

end
-- ==== Proof.DownFw.lean ====
/-
  The feed-forward's second product computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.DownFw.Frame
public import proofs.«01_k».proof.Proof.Gen.DownFwIdeal.Value
public import proofs.«01_k».proof.Proof.Gen.DownFwRefIdeal.Run

@[expose] public section

set_option maxRecDepth 16384
set_option maxHeartbeats 1000000

noncomputable section

namespace Mm.DownFw

open Cert.DownFwIdeal Cert.DownFwIdeal.Gen Cert.DownFwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1408, A r k * B k d

section
variable {x0 : Vec Ideal S1024x1408 .f32} {x1 : Vec Ideal S1408x1024 .bf16} {xs : Vec Ideal S1024x1024 .f32} {A B T : ℕ → ℕ → EReal}

theorem pay1_num (hA : Is (a := 1024) (b := 1408) x0 A) (hB : Is (a := 1408) (b := 1024) x1 B) :
    Is (a := 1024) (b := 1024) (k0_pay1 (F := Ideal) x0 x1) (tile A B) := fun i => by
  unfold k0_pay1
  dsimp only
  rw [shapeCast_self]
  exact matmul_sum _ none 1408 rfl rfl _ _ i (fun k => A (i (0 : Fin 2)).val k) (fun k => B k (i (1 : Fin 2)).val)
    (fun _ => hA _) (fun _ => hB _)

theorem pay2_num (hA : Is (a := 1024) (b := 1408) x0 A) (hB : Is (a := 1408) (b := 1024) x1 B) :
    Is (a := 1024) (b := 1024) (k0_pay2 (F := Ideal) x0 x1) (tile A B) := by
  unfold k0_pay2
  dsimp only
  rw [shapeCast_self]
  exact pay1_num hA hB

theorem pay4_num (hA : Is (a := 1024) (b := 1408) x0 A) (hB : Is (a := 1408) (b := 1024) x1 B) (hT : Is (a := 1024) (b := 1024) xs T) :
    Is (a := 1024) (b := 1024) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 1408) x0 A) (hB : Is (a := 1408) (b := 1024) x1 B) (hT : Is (a := 1024) (b := 1024) xs T) :
    Is (a := 1024) (b := 1024) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x1408 .f32) (harg3 : arg3.IsWhole) (arg4 : Memref sig .tc .vmem S1408x1024 .bf16) (harg4 : arg4.IsWhole) (arg5 : Memref sig .tc .vmem S1024x1024 .f32) (harg5 : arg5.IsWhole) (arg6 : Memref sig .tc .vmem S1024x1024 .f32) (harg6 : arg6.IsWhole)
  (hA : Is (a := 1024) (b := 1408) x0 A) (hB : Is (a := 1408) (b := 1024) x1 B)
include hA hB

section
variable (hc0 : cond0_0 i) (hc1 : ¬cond0_1 i) (hc2 : ¬cond0_2 i)
theorem A_num :
    Is (a := 1024) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1408) hz, View.ld_unit_zero (S := S1408x1024) hz, View.ld_unit_zero (S := S1024x1024) hz]
  exact pay2_num hA hB
end

section
variable (hT : Is (a := 1024) (b := 1024) xs T) (hc0 : ¬cond0_0 i) (hc1 : cond0_1 i) (hc2 : ¬cond0_2 i)
include hT
theorem B_num :
    Is (a := 1024) (b := 1024) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1408) hz, View.ld_unit_zero (S := S1408x1024) hz, View.ld_unit_zero (S := S1024x1024) hz]
  exact pay3_num hA hB hT
end

section
variable (hT : Is (a := 1024) (b := 1024) xs T) (hc0 : ¬cond0_0 i) (hc1 : ¬cond0_1 i) (hc2 : cond0_2 i)
include hT
theorem C_num :
    Is (a := 1024) (b := 1024) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1408) hz, View.ld_unit_zero (S := S1408x1024) hz, View.ld_unit_zero (S := S1024x1024) hz]
  exact pay4_num hA hB hT
end
end
end

theorem idx_a : ∀ t : Fin grid0.N, win0_0.index t (0 : Fin 2) = t.val / 8 ∧ win0_0.index t (1 : Fin 2) = t.val % 4 := by decide +kernel
theorem idx_b : ∀ t : Fin grid0.N, win0_1.index t (0 : Fin 2) = t.val % 4 ∧ win0_1.index t (1 : Fin 2) = t.val / 4 % 2 := by decide +kernel

variable (m : (b : Loc nD τ sig) → Buf (Elt Ideal) b) (c : Dev nD) {X Y : ℕ → ℕ → EReal}

theorem blk_a (h : Is (a := 8192) (b := 5632) (V (F := Ideal) m c main_arg0) X) (t : Fin cfg0.N) :
    Is (a := 1024) (b := 1408) (iblk (F := Ideal) m c 0 t) (fun r d => X (1024 * (t.val / 8) + r) (1408 * (t.val % 4) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1408 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 5632) (b := 2048) (V (F := Ideal) m c main_v0) Y) (t : Fin cfg0.N) :
    Is (a := 1408) (b := 1024) (iblk (F := Ideal) m c 1 t) (fun r d => Y (1408 * (t.val % 4) + r) (1024 * (t.val / 4 % 2) + d)) := by
  intro i
  unfold iblk
  rw [View.read_apply]
  obtain ⟨e0, e1⟩ := idx_b t
  have hb0 : (((cfg0.win 1).blk t).view.emb i (0 : Fin 2)).val = win0_1.index t (0 : Fin 2) * 1408 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X r k * Y k c) 1024 1024 1408 (n / 8) (n / 4 % 2) q

/-- The contents of the result's tile and of the buffer carried along. -/
abbrev State : Type := Vec Ideal S1024x1024 .f32 × Vec Ideal S1024x1024 .f32

/-- What the buffers hold after point `n`. -/
def Inv (X Y : ℕ → ℕ → EReal) (n : ℕ) (st : State) : Prop :=
  (¬n % 4 = 3 → Is (a := 1024) (b := 1024) st.2 (sums X Y n (n % 4 + 1))) ∧ (n % 4 = 3 → Is (a := 1024) (b := 1024) st.1 (sums X Y n (n % 4 + 1)))

section
variable (hX : Is (a := 8192) (b := 5632) (V (F := Ideal) m c main_arg0) X) (hY : Is (a := 5632) (b := 2048) (V (F := Ideal) m c main_v0) Y)
include hX hY

theorem step (t : Fin cfg0.N) (acc : State) (hacc : ¬t.val % 4 = 0 → Is (a := 1024) (b := 1024) acc.2 (sums X Y t.val (t.val % 4))) :
    Inv X Y t.val (stAt0 m c t.val t.isLt acc) := by
  by_cases h0 : t.val % 4 = 0
  · have h1 : ¬(1 ≤ t.val % 4 ∧ t.val % 4 ≤ 2) := by omega
    have h2 : ¬t.val % 4 = 3 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X r k * Y k c) 1024 1024 1408 (t.val / 8) (t.val / 4 % 2) r d h0
  · by_cases h2 : t.val % 4 = 3
    · have h1 : ¬(1 ≤ t.val % 4 ∧ t.val % 4 ≤ 2) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X r k * Y k c) 1024 1024 1408 _ _ _ r d
    · have h1 : 1 ≤ t.val % 4 ∧ t.val % 4 ≤ 2 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X r k * Y k c) 1024 1024 1408 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 4 = 0 := h
    refine ((inv_all n (Nat.lt_of_succ_lt hn)).1 (by omega)).congr fun r d => ?_
    show sums X Y n (n % 4 + 1) r d = sums X Y (n + 1) ((n + 1) % 4) r d
    unfold sums
    rw [show (n + 1) / 8 = n / 8 by omega, show (n + 1) / 4 = n / 4 by omega, show (n + 1) % 4 = n % 4 + 1 by omega]

/-- The result at an index. -/
theorem G_num : Is (a := 8192) (b := 2048) (G2 (F := Ideal) m c) fun r c => ∑ k ∈ Finset.range 5632, X r k * Y k c := by
  intro i
  have b0 : (i (0 : Fin 2)).val < 8192 := (i (0 : Fin 2)).isLt
  have b1 : (i (1 : Fin 2)).val < 2048 := (i (1 : Fin 2)).isLt
  have hp : pt2Of i = 4 * (2 * ((i (0 : Fin 2)).val / 1024) + (i (1 : Fin 2)).val / 1024) + 3 := by
    show 4 * (2 * ((i (0 : Fin 2)).val / 1024 - 0) + 1 * ((i (1 : Fin 2)).val / 1024 - 0)) + 3 = _
    omega
  have hl : pt2Of i < cfg0.N := by rw [hp, show cfg0.N = 64 from N_0]; omega
  unfold G2
  rw [dif_pos hl, ← outsAt0_sweep m c _ hl]
  refine ((inv_all m c hX hY _ hl).2 (by omega) _).trans ?_
  show sums X Y (pt2Of i) (pt2Of i % 4 + 1) ((i (0 : Fin 2)).val % 1024) ((i (1 : Fin 2)).val % 1024) = _
  unfold sums
  rw [show pt2Of i / 8 = (i (0 : Fin 2)).val / 1024 by omega, show pt2Of i / 4 % 2 = (i (1 : Fin 2)).val / 1024 by omega,
    show pt2Of i % 4 + 1 = 4 by omega]
  exact part_all (fun r c k => X r k * Y k c) 1024 1024 1408 4 _ _
end

/-- The weights the call reads are the given ones: a cast of extended reals changes nothing. -/
theorem v0_eq : V (F := Ideal) m c main_v0 = (m ((c : Thread nD τ).loc main_arg1) : S5632x2048.Idx → EReal) := by
  simp -implicitDefEqProofs only [V, hostOps0, List.flatten_cons, List.flatten_nil, List.append_nil, List.cons_append, List.nil_append]
  after_results_simp
  rfl

/-- The reference at row `r` and column `c`: the sum over all columns of the input. -/
theorem ref_num (x : FVec Ideal Cert.DownFwRefIdeal.S8192x5632 .f32) (y : FVec Ideal Cert.DownFwRefIdeal.S5632x2048 .f32)
    (hX : Is (a := 8192) (b := 5632) x X) (hY : Is (a := 5632) (b := 2048) y Y) :
    Is (a := 8192) (b := 2048) (Host.dotGeneral (F := Ideal) Cert.DownFwRefIdeal.dot_S8192x5632_S5632x2048_S8192x2048_1_0_0_1_n_n none x y)
      fun r c => ∑ k ∈ Finset.range 5632, X r k * Y k c := fun i =>
  dotGeneral_sum _ none _ 5632 rfl rfl x y i (fun k => X (i (0 : Fin 2)).val k) (fun k => Y k (i (1 : Fin 2)).val)
    (fun _ => hX _) (fun _ => hY _)

theorem algebraic : Cert.algebraic_DownFwIdeal_DownFwRefIdeal := by
  intro m ρ m' ρ' _ hagree
  refine ⟨_, Cert.DownFwIdeal.Value.run (F := Ideal) m ρ, ?_⟩
  refine (θ_run Cert.DownFwRefIdeal.defs _ _).mono (fun _ h c => ?_) (Cert.DownFwRefIdeal.Value.run (F := Ideal) m' ρ')
  obtain ⟨X, hX⟩ := exists_is (a := 8192) (b := 5632) (m ((c : Thread nD τ).loc main_arg0))
  obtain ⟨Y, hY⟩ := exists_is (a := 5632) (b := 2048) (m ((c : Thread nD τ).loc main_arg1))
  obtain ⟨a2, a1⟩ := hagree c
  obtain ⟨r0, rest⟩ := h c
  refine ⟨r0.trans ?_, rest⟩
  rw [a1, a2]
  refine Is.ext (ref_num _ _ hX hY) (G_num m c ?_ ?_) fun _ _ _ _ => rfl
  · rw [V_main_arg0]; exact hX
  · rw [v0_eq]; exact hY

theorem frame_p : Cert.quiescent_DownFw := fun m ρ _ => Cert.DownFw.Gen.frame m ρ
theorem frame_pi : Cert.quiescent_DownFwIdeal := fun m ρ _ => Cert.DownFwIdeal.Gen.frame m ρ
theorem frame_ri : Cert.quiescent_DownFwRefIdeal := fun m ρ _ =>
  (θ_run Cert.DownFwRefIdeal.defs _ _).mono (fun r h => ⟨fun c => (h c).2,
      Idealize.ShloMosaic.sem_eq_zero_of_no_sems (by decide) r.2⟩)
    (Cert.DownFwRefIdeal.Value.run (F := Ideal) m ρ)

end Mm.DownFw

end
-- ==== Proof.OutFw.lean ====
/-
  The output projection computes its product a tile of the result at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.OutFw.Frame
public import proofs.«01_k».proof.Proof.Gen.OutFwIdeal.Value
public import proofs.«01_k».proof.Proof.Gen.OutFwRefIdeal.Run

@[expose] public section

set_option maxRecDepth 16384
set_option maxHeartbeats 1000000

noncomputable section

namespace Mm.OutFw

open Cert.OutFwIdeal Cert.OutFwIdeal.Gen Cert.OutFwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 2048, A r k * B k d

section
variable {x0 : Vec Ideal S1024x2048 .f32} {x1 : Vec Ideal S2048x1024 .bf16} {A B : ℕ → ℕ → EReal}

theorem pay1_num (hA : Is (a := 1024) (b := 2048) x0 A) (hB : Is (a := 2048) (b := 1024) x1 B) :
    Is (a := 1024) (b := 1024) (k0_pay1 (F := Ideal) x0 x1) (tile A B) := fun i => by
  unfold k0_pay1
  dsimp only
  rw [shapeCast_self]
  exact matmul_sum _ none 2048 rfl rfl _ _ i (fun k => A (i (0 : Fin 2)).val k) (fun k => B k (i (1 : Fin 2)).val)
    (fun _ => hA _) (fun _ => hB _)

/-- What a point leaves in the result's tile. -/
theorem A_num (c : Dev nD) (i : grid0.Coords) (arg3 : Memref sig .tc .vmem S1024x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
    (hA : Is (a := 1024) (b := 2048) x0 A) (hB : Is (a := 2048) (b := 1024) x1 B) :
    Is (a := 1024) (b := 1024) (out0_A_2 c i arg3 harg3 arg4 harg4 arg5 harg5 arg6 harg6 x0 x1) (tile A B) := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero hz]
  simp only [View.readAt_eq_ld, harg3.read_unread, harg4.read_unread, View.ld_unit_zero (S := S1024x2048) hz, View.ld_unit_zero (S := S2048x1024) hz]
  exact pay1_num hA hB
end

theorem idx_a : ∀ t : Fin grid0.N, win0_0.index t (0 : Fin 2) = t.val / 2 ∧ win0_0.index t (1 : Fin 2) = 0 := by decide +kernel
theorem idx_b : ∀ t : Fin grid0.N, win0_1.index t (0 : Fin 2) = 0 ∧ win0_1.index t (1 : Fin 2) = t.val % 2 := by decide +kernel

variable (m : (b : Loc nD τ sig) → Buf (Elt Ideal) b) (c : Dev nD) {X Y : ℕ → ℕ → EReal}

theorem blk_a (h : Is (a := 8192) (b := 2048) (V (F := Ideal) m c main_arg0) X) (t : Fin cfg0.N) :
    Is (a := 1024) (b := 2048) (iblk (F := Ideal) m c 0 t) (fun r d => X (1024 * (t.val / 2) + r) (2048 * (0) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 2048 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 2048) (b := 2048) (V (F := Ideal) m c main_v0) Y) (t : Fin cfg0.N) :
    Is (a := 2048) (b := 1024) (iblk (F := Ideal) m c 1 t) (fun r d => Y (2048 * (0) + r) (1024 * (t.val % 2) + d)) := by
  intro i
  unfold iblk
  rw [View.read_apply]
  obtain ⟨e0, e1⟩ := idx_b t
  have hb0 : (((cfg0.win 1).blk t).view.emb i (0 : Fin 2)).val = win0_1.index t (0 : Fin 2) * 2048 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

theorem idx_o : ∀ t : Fin grid0.N, win0_2.index t (0 : Fin 2) = t.val / 2 ∧ win0_2.index t (1 : Fin 2) = t.val % 2 := by decide +kernel
theorem flush_o : ∀ t : Fin grid0.N, win0_2.flush t = true := by decide +kernel

/-- The result at an index: the point that writes its tile leaves the whole sum there. -/
theorem out_num (hX : Is (a := 8192) (b := 2048) (V (F := Ideal) m c main_arg0) X) (hY : Is (a := 2048) (b := 2048) (V (F := Ideal) m c main_v0) Y) :
    Is (a := 8192) (b := 2048) ((dats (F := Ideal) m 0 c).arrAt 2 cfg0.N) fun r c => ∑ k ∈ Finset.range 2048, X r k * Y k c := by
  intro i
  have b0 : (i (0 : Fin 2)).val < 8192 := (i (0 : Fin 2)).isLt
  have b1 : (i (1 : Fin 2)).val < 2048 := (i (1 : Fin 2)).isLt
  have hl : 2 * ((i (0 : Fin 2)).val / 1024) + (i (1 : Fin 2)).val / 1024 < cfg0.N := by rw [show cfg0.N = 16 from N_0]; omega
  let t : Fin cfg0.N := ⟨_, hl⟩
  have e : t.val = 2 * ((i (0 : Fin 2)).val / 1024) + (i (1 : Fin 2)).val / 1024 := rfl
  clear_value t
  let y : S1024x1024.Idx := ValueIdx.ix2 ⟨(i (0 : Fin 2)).val % 1024, Nat.mod_lt _ (by decide)⟩ ⟨(i (1 : Fin 2)).val % 1024, Nat.mod_lt _ (by decide)⟩
  obtain ⟨e0, e1⟩ := idx_o t
  have hb0 : (((cfg0.win 2).blk t).view.emb y (0 : Fin 2)).val = win0_2.index t (0 : Fin 2) * 1024 + 1 * ((i (0 : Fin 2)).val % 1024) := rfl
  have hb1 : (((cfg0.win 2).blk t).view.emb y (1 : Fin 2)).val = win0_2.index t (1 : Fin 2) * 1024 + 1 * ((i (1 : Fin 2)).val % 1024) := rfl
  have hy : ((cfg0.win 2).blk t).view.emb y = i := by
    funext a
    apply Fin.ext
    match a with
    | ⟨0, _⟩ => refine hb0.trans ?_; rw [e0]; show _ = (i (0 : Fin 2)).val; omega
    | ⟨1, _⟩ => refine hb1.trans ?_; rw [e1]; show _ = (i (1 : Fin 2)).val; omega
  have hb := congrFun (blocks2 m c t (flush_o t)) y
  rw [View.read_apply, hy, flushed2_A] at hb
  refine hb.trans ?_
  refine (A_num c (grid0.coords t) (ms0_0 t) (hs0_0 t) (ms0_1 t) (hs0_1 t) (ms0_2 t) (hs0_2 t) scM0_0 (Memref.isWhole_whole _)
    (blk_a m c hX t) (blk_b m c hY t) y).trans ?_
  show tile _ _ ((i (0 : Fin 2)).val % 1024) ((i (1 : Fin 2)).val % 1024) = _
  refine (part_one (fun r c k => X r k * Y k c) 1024 1024 2048 (t.val / 2) (t.val % 2) _ _ rfl).trans ?_
  rw [show t.val / 2 = (i (0 : Fin 2)).val / 1024 by omega, show t.val % 2 = (i (1 : Fin 2)).val / 1024 by omega]
  exact part_all (fun r c k => X r k * Y k c) 1024 1024 2048 1 _ _

/-- The weights the call reads are the given ones: a cast of extended reals changes nothing. -/
theorem v0_eq : V (F := Ideal) m c main_v0 = (m ((c : Thread nD τ).loc main_arg1) : S2048x2048.Idx → EReal) := by
  simp -implicitDefEqProofs only [V, hostOps0, List.flatten_cons, List.flatten_nil, List.append_nil, List.cons_append, List.nil_append]
  after_results_simp
  rfl

/-- The reference at row `r` and column `c`: the sum over all columns of the input. -/
theorem ref_num (x : FVec Ideal Cert.OutFwRefIdeal.S8192x2048 .f32) (y : FVec Ideal Cert.OutFwRefIdeal.S2048x2048 .f32)
    (hX : Is (a := 8192) (b := 2048) x X) (hY : Is (a := 2048) (b := 2048) y Y) :
    Is (a := 8192) (b := 2048) (Host.dotGeneral (F := Ideal) Cert.OutFwRefIdeal.dot_S8192x2048_S2048x2048_S8192x2048_1_0_0_1_n_n none x y)
      fun r c => ∑ k ∈ Finset.range 2048, X r k * Y k c := fun i =>
  dotGeneral_sum _ none _ 2048 rfl rfl x y i (fun k => X (i (0 : Fin 2)).val k) (fun k => Y k (i (1 : Fin 2)).val)
    (fun _ => hX _) (fun _ => hY _)

theorem algebraic : Cert.algebraic_OutFwIdeal_OutFwRefIdeal := by
  intro m ρ m' ρ' _ hagree
  refine ⟨_, Cert.OutFwIdeal.Value.run_blocks (F := Ideal) m ρ, ?_⟩
  refine (θ_run Cert.OutFwRefIdeal.defs _ _).mono (fun _ h c => ?_) (Cert.OutFwRefIdeal.Value.run (F := Ideal) m' ρ')
  obtain ⟨X, hX⟩ := exists_is (a := 8192) (b := 2048) (m ((c : Thread nD τ).loc main_arg0))
  obtain ⟨Y, hY⟩ := exists_is (a := 2048) (b := 2048) (m ((c : Thread nD τ).loc main_arg1))
  obtain ⟨a2, a1⟩ := hagree c
  obtain ⟨r0, rest⟩ := h c
  refine ⟨r0.trans ?_, rest⟩
  rw [a1, a2]
  refine Is.ext (ref_num _ _ hX hY) (out_num m c ?_ ?_) fun _ _ _ _ => rfl
  · rw [V_main_arg0]; exact hX
  · rw [v0_eq]; exact hY

theorem frame_p : Cert.quiescent_OutFw := fun m ρ _ => Cert.OutFw.Gen.frame m ρ
theorem frame_pi : Cert.quiescent_OutFwIdeal := fun m ρ _ => Cert.OutFwIdeal.Gen.frame m ρ
theorem frame_ri : Cert.quiescent_OutFwRefIdeal := fun m ρ _ =>
  (θ_run Cert.OutFwRefIdeal.defs _ _).mono (fun r h => ⟨fun c => (h c).2,
      Idealize.ShloMosaic.sem_eq_zero_of_no_sems (by decide) r.2⟩)
    (Cert.OutFwRefIdeal.Value.run (F := Ideal) m ρ)

end Mm.OutFw

end
-- ==== Proof.OutDx.lean ====
/-
  The gradient of the output projection's input computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.OutDx.Frame
public import proofs.«01_k».proof.Proof.Gen.OutDxIdeal.Value
public import proofs.«01_k».proof.Proof.Gen.OutDxRefIdeal.Run

@[expose] public section

set_option maxRecDepth 16384
set_option maxHeartbeats 1000000

noncomputable section

namespace Mm.OutDx

open Cert.OutDxIdeal Cert.OutDxIdeal.Gen Cert.OutDxIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A r k * B d k

section
variable {x0 : Vec Ideal S1024x1024 .f32} {x1 : Vec Ideal S1024x1024 .bf16} {xs : Vec Ideal S1024x1024 .f32} {A B T : ℕ → ℕ → EReal}

theorem pay1_num (hA : Is (a := 1024) (b := 1024) x0 A) (hB : Is (a := 1024) (b := 1024) x1 B) :
    Is (a := 1024) (b := 1024) (k0_pay1 (F := Ideal) x0 x1) (tile A B) := fun i => by
  unfold k0_pay1
  dsimp only
  rw [shapeCast_self]
  exact matmul_sum _ none 1024 rfl rfl _ _ i (fun k => A (i (0 : Fin 2)).val k) (fun k => B (i (1 : Fin 2)).val k)
    (fun _ => hA _) (fun _ => hB _)

theorem pay2_num (hA : Is (a := 1024) (b := 1024) x0 A) (hB : Is (a := 1024) (b := 1024) x1 B) :
    Is (a := 1024) (b := 1024) (k0_pay2 (F := Ideal) x0 x1) (tile A B) := by
  unfold k0_pay2
  dsimp only
  rw [shapeCast_self]
  exact pay1_num hA hB

theorem pay4_num (hA : Is (a := 1024) (b := 1024) x0 A) (hB : Is (a := 1024) (b := 1024) x1 B) (hT : Is (a := 1024) (b := 1024) xs T) :
    Is (a := 1024) (b := 1024) (k0_pay4 (F := Ideal) x0 x1 xs) fun r d => T r d + tile A B r d := fun i => by
  unfold k0_pay4
  dsimp only
  show xs i + k0_pay1 (F := Ideal) x0 x1 i = _
  rw [hT i, pay1_num hA hB i]

/-! What a point leaves: the first of a tile of the result (A) the product of its tiles in the buffer carried along, the
second (B) the sum of both in the result. -/

section
variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (hA : Is (a := 1024) (b := 1024) x0 A) (hB : Is (a := 1024) (b := 1024) x1 B)
include hA hB

section
variable (hc0 : cond0_0 i) (hc1 : ¬cond0_1 i) (hc2 : ¬cond0_2 i)
theorem A_num :
    Is (a := 1024) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]
  exact pay2_num hA hB
end

section
variable (hT : Is (a := 1024) (b := 1024) xs T) (hc0 : ¬cond0_0 i) (hc1 : ¬cond0_1 i) (hc2 : cond0_2 i)
include hT
theorem B_num :
    Is (a := 1024) (b := 1024) (out0_B_2 c i arg3 harg3 arg4 harg4 arg5 harg5 arg6 harg6 hc0 hc1 hc2 x0 x1 xs) fun r d => T r d + tile A B r d := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]
  exact pay4_num hA hB hT
end
end
end

theorem idx_a : ∀ t : Fin grid0.N, win0_0.index t (0 : Fin 2) = t.val / 4 ∧ win0_0.index t (1 : Fin 2) = t.val % 2 := by decide +kernel
theorem idx_b : ∀ t : Fin grid0.N, win0_1.index t (0 : Fin 2) = t.val / 2 % 2 ∧ win0_1.index t (1 : Fin 2) = t.val % 2 := by decide +kernel

variable (m : (b : Loc nD τ sig) → Buf (Elt Ideal) b) (c : Dev nD) {X Y : ℕ → ℕ → EReal}

theorem blk_a (h : Is (a := 8192) (b := 2048) (V (F := Ideal) m c main_arg2) X) (t : Fin cfg0.N) :
    Is (a := 1024) (b := 1024) (iblk (F := Ideal) m c 0 t) (fun r d => X (1024 * (t.val / 4) + r) (1024 * (t.val % 2) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg2 (((cfg0.win 0).blk t).view.emb i) = _
  exact h.at _ hb0 hb1

theorem blk_b (h : Is (a := 2048) (b := 2048) (V (F := Ideal) m c main_v0) Y) (t : Fin cfg0.N) :
    Is (a := 1024) (b := 1024) (iblk (F := Ideal) m c 1 t) (fun r d => Y (1024 * (t.val / 2 % 2) + r) (1024 * (t.val % 2) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X r k * Y c k) 1024 1024 1024 (n / 4) (n / 2 % 2) q

/-- The contents of the result's tile and of the buffer carried along. -/
abbrev State : Type := Vec Ideal S1024x1024 .f32 × Vec Ideal S1024x1024 .f32

/-- What the buffers hold after point `n`. -/
def Inv (X Y : ℕ → ℕ → EReal) (n : ℕ) (st : State) : Prop :=
  (¬n % 2 = 1 → Is (a := 1024) (b := 1024) st.2 (sums X Y n (n % 2 + 1))) ∧ (n % 2 = 1 → Is (a := 1024) (b := 1024) st.1 (sums X Y n (n % 2 + 1)))

section
variable (hX : Is (a := 8192) (b := 2048) (V (F := Ideal) m c main_arg2) X) (hY : Is (a := 2048) (b := 2048) (V (F := Ideal) m c main_v0) Y)
include hX hY

theorem step (t : Fin cfg0.N) (acc : State) (hacc : ¬t.val % 2 = 0 → Is (a := 1024) (b := 1024) acc.2 (sums X Y t.val (t.val % 2))) :
    Inv X Y t.val (stAt0 m c t.val t.isLt acc) := by
  by_cases h0 : t.val % 2 = 0
  · have h2 : ¬t.val % 2 = 1 := by omega
    rw [stAt0_A m c t acc h0 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (hcond0_1 t) (fun h => h2 ((hcond0_2 t).mp h))).congr
      fun r d => part_one (fun r c k => X r k * Y c k) 1024 1024 1024 (t.val / 4) (t.val / 2 % 2) r d h0
  · have h2 : t.val % 2 = 1 := by omega
    rw [stAt0_B m c t acc h0 h2]
    refine ⟨fun h => absurd h2 h, fun _ => ?_⟩
    dsimp only
    exact (B_num c (grid0.coords t) (ms0_0 t) (hs0_0 t) (ms0_1 t) (hs0_1 t) (ms0_2 t) (hs0_2 t) scM0_0 (Memref.isWhole_whole _)
      (blk_a m c hX t) (blk_b m c hY t) (hacc h0) (fun h => h0 ((hcond0_0 t).mp h)) (hcond0_1 t) ((hcond0_2 t).mpr h2)).congr
      fun r d => part_succ (fun r c k => X r k * Y c k) 1024 1024 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 2 = 0 := h
    refine ((inv_all n (Nat.lt_of_succ_lt hn)).1 (by omega)).congr fun r d => ?_
    show sums X Y n (n % 2 + 1) r d = sums X Y (n + 1) ((n + 1) % 2) r d
    unfold sums
    rw [show (n + 1) / 4 = n / 4 by omega, show (n + 1) / 2 = n / 2 by omega, show (n + 1) % 2 = n % 2 + 1 by omega]

/-- The result at an index. -/
theorem G_num : Is (a := 8192) (b := 2048) (G2 (F := Ideal) m c) fun r c => ∑ k ∈ Finset.range 2048, X r k * Y c k := by
  intro i
  have b0 : (i (0 : Fin 2)).val < 8192 := (i (0 : Fin 2)).isLt
  have b1 : (i (1 : Fin 2)).val < 2048 := (i (1 : Fin 2)).isLt
  have hp : pt2Of i = 2 * (2 * ((i (0 : Fin 2)).val / 1024) + (i (1 : Fin 2)).val / 1024) + 1 := by
    show 2 * (2 * ((i (0 : Fin 2)).val / 1024 - 0) + 1 * ((i (1 : Fin 2)).val / 1024 - 0)) + 1 = _
    omega
  have hl : pt2Of i < cfg0.N := by rw [hp, show cfg0.N = 32 from N_0]; omega
  unfold G2
  rw [dif_pos hl, ← outsAt0_sweep m c _ hl]
  refine ((inv_all m c hX hY _ hl).2 (by omega) _).trans ?_
  show sums X Y (pt2Of i) (pt2Of i % 2 + 1) ((i (0 : Fin 2)).val % 1024) ((i (1 : Fin 2)).val % 1024) = _
  unfold sums
  rw [show pt2Of i / 4 = (i (0 : Fin 2)).val / 1024 by omega, show pt2Of i / 2 % 2 = (i (1 : Fin 2)).val / 1024 by omega,
    show pt2Of i % 2 + 1 = 2 by omega]
  exact part_all (fun r c k => X r k * Y c k) 1024 1024 1024 2 _ _
end

/-- The weights the call reads are the given ones: a cast of extended reals changes nothing. -/
theorem v0_eq : V (F := Ideal) m c main_v0 = (m ((c : Thread nD τ).loc main_arg1) : S2048x2048.Idx → EReal) := by
  simp -implicitDefEqProofs only [V, hostOps0, List.flatten_cons, List.flatten_nil, List.append_nil, List.cons_append, List.nil_append]
  after_results_simp
  rfl

/-- The reference at row `r` and column `c`: the sum over all columns of the cotangent. -/
theorem ref_num (x : FVec Ideal Cert.OutDxRefIdeal.S8192x2048 .f32) (y : FVec Ideal Cert.OutDxRefIdeal.S2048x2048 .f32)
    (hX : Is (a := 8192) (b := 2048) x X) (hY : Is (a := 2048) (b := 2048) y Y) :
    Is (a := 8192) (b := 2048) (Host.dotGeneral (F := Ideal) Cert.OutDxRefIdeal.dot_S8192x2048_S2048x2048_S8192x2048_1_1_0_0_n_n none x y)
      fun r c => ∑ k ∈ Finset.range 2048, X r k * Y c k := fun i =>
  dotGeneral_sum _ none _ 2048 rfl rfl x y i (fun k => X (i (0 : Fin 2)).val k) (fun k => Y (i (1 : Fin 2)).val k)
    (fun _ => hX _) (fun _ => hY _)

theorem algebraic : Cert.algebraic_OutDxIdeal_OutDxRefIdeal := by
  intro m ρ m' ρ' _ hagree
  refine ⟨_, Cert.OutDxIdeal.Value.run (F := Ideal) m ρ, ?_⟩
  refine (θ_run Cert.OutDxRefIdeal.defs _ _).mono (fun _ h c => ?_) (Cert.OutDxRefIdeal.Value.run (F := Ideal) m' ρ')
  obtain ⟨X, hX⟩ := exists_is (a := 8192) (b := 2048) (m ((c : Thread nD τ).loc main_arg2))
  obtain ⟨Y, hY⟩ := exists_is (a := 2048) (b := 2048) (m ((c : Thread nD τ).loc main_arg1))
  obtain ⟨a0, a1, a2⟩ := hagree c
  obtain ⟨r0, rest⟩ := h c
  refine ⟨r0.trans ?_, rest⟩
  rw [a1, a2]
  refine Is.ext (ref_num _ _ hX hY) (G_num m c ?_ ?_) fun _ _ _ _ => rfl
  · rw [V_main_arg2]; exact hX
  · rw [v0_eq]; exact hY

theorem frame_p : Cert.quiescent_OutDx := fun m ρ _ => Cert.OutDx.Gen.frame m ρ
theorem frame_pi : Cert.quiescent_OutDxIdeal := fun m ρ _ => Cert.OutDxIdeal.Gen.frame m ρ
theorem frame_ri : Cert.quiescent_OutDxRefIdeal := fun m ρ _ =>
  (θ_run Cert.OutDxRefIdeal.defs _ _).mono (fun r h => ⟨fun c => (h c).2,
      Idealize.ShloMosaic.sem_eq_zero_of_no_sems (by decide) r.2⟩)
    (Cert.OutDxRefIdeal.Value.run (F := Ideal) m ρ)

end Mm.OutDx

end
-- ==== Proof.OutDw.lean ====
/-
  The gradient of the output projection's weights computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.OutDw.Frame
public import proofs.«01_k».proof.Proof.Gen.OutDwIdeal.Value
public import proofs.«01_k».proof.Proof.Gen.OutDwRefIdeal.Run

@[expose] public section

set_option maxRecDepth 16384
set_option maxHeartbeats 1000000

noncomputable section

namespace Mm.OutDw

open Cert.OutDwIdeal Cert.OutDwIdeal.Gen Cert.OutDwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A k r * B k d

section
variable {x0 : Vec Ideal S1024x1024 .f32} {x1 : Vec Ideal S1024x1024 .f32} {xs : Vec Ideal S1024x1024 .f32} {A B T : ℕ → ℕ → EReal}

theorem pay1_num (hA : Is (a := 1024) (b := 1024) x0 A) (hB : Is (a := 1024) (b := 1024) x1 B) :
    Is (a := 1024) (b := 1024) (k0_pay1 (F := Ideal) x0 x1) (tile A B) := fun i => by
  unfold k0_pay1
  dsimp only
  exact matmul_sum _ none 1024 rfl rfl _ _ i (fun k => A k (i (0 : Fin 2)).val) (fun k => B k (i (1 : Fin 2)).val)
    (fun _ => transpose_is hA _ _) (fun _ => hB _)

theorem pay2_num (hA : Is (a := 1024) (b := 1024) x0 A) (hB : Is (a := 1024) (b := 1024) x1 B) :
    Is (a := 1024) (b := 1024) (k0_pay2 (F := Ideal) x0 x1) (tile A B) := by
  unfold k0_pay2
  dsimp only
  rw [shapeCast_self]
  exact pay1_num hA hB

theorem pay4_num (hA : Is (a := 1024) (b := 1024) x0 A) (hB : Is (a := 1024) (b := 1024) x1 B) (hT : Is (a := 1024) (b := 1024) xs T) :
    Is (a := 1024) (b := 1024) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 1024) x0 A) (hB : Is (a := 1024) (b := 1024) x1 B) (hT : Is (a := 1024) (b := 1024) xs T) :
    Is (a := 1024) (b := 1024) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
  (hA : Is (a := 1024) (b := 1024) x0 A) (hB : Is (a := 1024) (b := 1024) x1 B)
include hA hB

section
variable (hc0 : cond0_0 i) (hc1 : ¬cond0_1 i) (hc2 : ¬cond0_2 i)
theorem A_num :
    Is (a := 1024) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]
  exact pay2_num hA hB
end

section
variable (hT : Is (a := 1024) (b := 1024) xs T) (hc0 : ¬cond0_0 i) (hc1 : cond0_1 i) (hc2 : ¬cond0_2 i)
include hT
theorem B_num :
    Is (a := 1024) (b := 1024) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]
  exact pay3_num hA hB hT
end

section
variable (hT : Is (a := 1024) (b := 1024) xs T) (hc0 : ¬cond0_0 i) (hc1 : ¬cond0_1 i) (hc2 : cond0_2 i)
include hT
theorem C_num :
    Is (a := 1024) (b := 1024) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz]
  exact pay4_num hA hB hT
end
end
end

theorem idx_a : ∀ t : Fin grid0.N, win0_0.index t (0 : Fin 2) = t.val % 8 ∧ win0_0.index t (1 : Fin 2) = t.val / 16 := by decide +kernel
theorem idx_b : ∀ t : Fin grid0.N, win0_1.index t (0 : Fin 2) = t.val % 8 ∧ win0_1.index t (1 : Fin 2) = t.val / 8 % 2 := by decide +kernel

variable (m : (b : Loc nD τ sig) → Buf (Elt Ideal) b) (c : Dev nD) {X Y : ℕ → ℕ → EReal}

theorem blk_a (h : Is (a := 8192) (b := 2048) (V (F := Ideal) m c main_arg0) X) (t : Fin cfg0.N) :
    Is (a := 1024) (b := 1024) (iblk (F := Ideal) m c 0 t) (fun r d => X (1024 * (t.val % 8) + r) (1024 * (t.val / 16) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 8192) (b := 2048) (V (F := Ideal) m c main_arg2) Y) (t : Fin cfg0.N) :
    Is (a := 1024) (b := 1024) (iblk (F := Ideal) m c 1 t) (fun r d => Y (1024 * (t.val % 8) + r) (1024 * (t.val / 8 % 2) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_arg2 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X k r * Y k c) 1024 1024 1024 (n / 16) (n / 8 % 2) q

/-- The contents of the result's tile and of the buffer carried along. -/
abbrev State : Type := Vec Ideal S1024x1024 .f32 × Vec Ideal S1024x1024 .f32

/-- What the buffers hold after point `n`. -/
def Inv (X Y : ℕ → ℕ → EReal) (n : ℕ) (st : State) : Prop :=
  (¬n % 8 = 7 → Is (a := 1024) (b := 1024) st.2 (sums X Y n (n % 8 + 1))) ∧ (n % 8 = 7 → Is (a := 1024) (b := 1024) st.1 (sums X Y n (n % 8 + 1)))

section
variable (hX : Is (a := 8192) (b := 2048) (V (F := Ideal) m c main_arg0) X) (hY : Is (a := 8192) (b := 2048) (V (F := Ideal) m c main_arg2) Y)
include hX hY

theorem step (t : Fin cfg0.N) (acc : State) (hacc : ¬t.val % 8 = 0 → Is (a := 1024) (b := 1024) acc.2 (sums X Y t.val (t.val % 8))) :
    Inv X Y t.val (stAt0 m c t.val t.isLt acc) := by
  by_cases h0 : t.val % 8 = 0
  · have h1 : ¬(1 ≤ t.val % 8 ∧ t.val % 8 ≤ 6) := by omega
    have h2 : ¬t.val % 8 = 7 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X k r * Y k c) 1024 1024 1024 (t.val / 16) (t.val / 8 % 2) r d h0
  · by_cases h2 : t.val % 8 = 7
    · have h1 : ¬(1 ≤ t.val % 8 ∧ t.val % 8 ≤ 6) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X k r * Y k c) 1024 1024 1024 _ _ _ r d
    · have h1 : 1 ≤ t.val % 8 ∧ t.val % 8 ≤ 6 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X k r * Y k c) 1024 1024 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 8 = 0 := h
    refine ((inv_all n (Nat.lt_of_succ_lt hn)).1 (by omega)).congr fun r d => ?_
    show sums X Y n (n % 8 + 1) r d = sums X Y (n + 1) ((n + 1) % 8) r d
    unfold sums
    rw [show (n + 1) / 16 = n / 16 by omega, show (n + 1) / 8 = n / 8 by omega, show (n + 1) % 8 = n % 8 + 1 by omega]

/-- The result at an index. -/
theorem G_num : Is (a := 2048) (b := 2048) (G2 (F := Ideal) m c) fun r c => ∑ k ∈ Finset.range 8192, X k r * Y k c := by
  intro i
  have b0 : (i (0 : Fin 2)).val < 2048 := (i (0 : Fin 2)).isLt
  have b1 : (i (1 : Fin 2)).val < 2048 := (i (1 : Fin 2)).isLt
  have hp : pt2Of i = 8 * (2 * ((i (0 : Fin 2)).val / 1024) + (i (1 : Fin 2)).val / 1024) + 7 := by
    show 8 * (2 * ((i (0 : Fin 2)).val / 1024 - 0) + 1 * ((i (1 : Fin 2)).val / 1024 - 0)) + 7 = _
    omega
  have hl : pt2Of i < cfg0.N := by rw [hp, show cfg0.N = 32 from N_0]; omega
  unfold G2
  rw [dif_pos hl, ← outsAt0_sweep m c _ hl]
  refine ((inv_all m c hX hY _ hl).2 (by omega) _).trans ?_
  show sums X Y (pt2Of i) (pt2Of i % 8 + 1) ((i (0 : Fin 2)).val % 1024) ((i (1 : Fin 2)).val % 1024) = _
  unfold sums
  rw [show pt2Of i / 16 = (i (0 : Fin 2)).val / 1024 by omega, show pt2Of i / 8 % 2 = (i (1 : Fin 2)).val / 1024 by omega,
    show pt2Of i % 8 + 1 = 8 by omega]
  exact part_all (fun r c k => X k r * Y k c) 1024 1024 1024 8 _ _
end

/-- The reference at row `r` and column `c`: the sum over all rows of the step's tokens. -/
theorem ref_num (x : FVec Ideal Cert.OutDwRefIdeal.S8192x2048 .f32) (y : FVec Ideal Cert.OutDwRefIdeal.S8192x2048 .f32)
    (hX : Is (a := 8192) (b := 2048) x X) (hY : Is (a := 8192) (b := 2048) y Y) :
    Is (a := 2048) (b := 2048) (transpose Cert.OutDwRefIdeal.S2048x2048 [1, 0]
      (Host.dotGeneral (F := Ideal) Cert.OutDwRefIdeal.dot_S8192x2048_S8192x2048_S2048x2048_0_0_1_1_n_n none y x)
      Cert.OutDwRefIdeal.Facts₀.transposes_S2048x2048_S2048x2048_1_0)
      fun r c => ∑ k ∈ Finset.range 8192, X k r * Y k c :=
  (transpose_is (X := fun c r => ∑ k ∈ Finset.range 8192, Y k c * X k r) (fun i =>
    dotGeneral_sum _ none _ 8192 rfl rfl y x i (fun k => Y k (i (0 : Fin 2)).val) (fun k => X k (i (1 : Fin 2)).val)
      (fun _ => hY _) (fun _ => hX _)) _).congr fun r c => Finset.sum_congr rfl fun k _ => mul_comm _ _

theorem algebraic : Cert.algebraic_OutDwIdeal_OutDwRefIdeal := by
  intro m ρ m' ρ' _ hagree
  refine ⟨_, Cert.OutDwIdeal.Value.run (F := Ideal) m ρ, ?_⟩
  refine (θ_run Cert.OutDwRefIdeal.defs _ _).mono (fun _ h c => ?_) (Cert.OutDwRefIdeal.Value.run (F := Ideal) m' ρ')
  obtain ⟨X, hX⟩ := exists_is (a := 8192) (b := 2048) (m ((c : Thread nD τ).loc main_arg0))
  obtain ⟨Y, hY⟩ := exists_is (a := 8192) (b := 2048) (m ((c : Thread nD τ).loc main_arg2))
  obtain ⟨a0, a1, a2⟩ := hagree c
  obtain ⟨r0, rest⟩ := h c
  refine ⟨r0.trans ?_, rest⟩
  rw [a0, a2]
  exact Is.ext (ref_num _ _ hX hY) (G_num m c hX hY) fun _ _ _ _ => rfl

theorem frame_p : Cert.quiescent_OutDw := fun m ρ _ => Cert.OutDw.Gen.frame m ρ
theorem frame_pi : Cert.quiescent_OutDwIdeal := fun m ρ _ => Cert.OutDwIdeal.Gen.frame m ρ
theorem frame_ri : Cert.quiescent_OutDwRefIdeal := fun m ρ _ =>
  (θ_run Cert.OutDwRefIdeal.defs _ _).mono (fun r h => ⟨fun c => (h c).2,
      Idealize.ShloMosaic.sem_eq_zero_of_no_sems (by decide) r.2⟩)
    (Cert.OutDwRefIdeal.Value.run (F := Ideal) m ρ)

end Mm.OutDw

end
-- ==== Proof.BrFw.lean ====
/-
  A branch's product computes its product a tile of the result at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.BrFw.Frame
public import proofs.«01_k».proof.Proof.Gen.BrFwIdeal.Value
public import proofs.«01_k».proof.Proof.Gen.BrFwRefIdeal.Run

@[expose] public section

set_option maxRecDepth 16384
set_option maxHeartbeats 1000000

noncomputable section

namespace Mm.BrFw

open Cert.BrFwIdeal Cert.BrFwIdeal.Gen Cert.BrFwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A r k * B k d

section
variable {x0 : Vec Ideal S1024x1024 .f32} {x1 : Vec Ideal S1024x1024 .bf16} {A B : ℕ → ℕ → EReal}

theorem pay1_num (hA : Is (a := 1024) (b := 1024) x0 A) (hB : Is (a := 1024) (b := 1024) x1 B) :
    Is (a := 1024) (b := 1024) (k0_pay1 (F := Ideal) x0 x1) (tile A B) := fun i => by
  unfold k0_pay1
  dsimp only
  rw [shapeCast_self]
  exact matmul_sum _ none 1024 rfl rfl _ _ i (fun k => A (i (0 : Fin 2)).val k) (fun k => B k (i (1 : Fin 2)).val)
    (fun _ => hA _) (fun _ => hB _)

/-- What a point leaves in the result's tile. -/
theorem A_num (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (hA : Is (a := 1024) (b := 1024) x0 A) (hB : Is (a := 1024) (b := 1024) x1 B) :
    Is (a := 1024) (b := 1024) (out0_A_2 c i arg3 harg3 arg4 harg4 arg5 harg5 arg6 harg6 x0 x1) (tile A B) := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero hz]
  simp only [View.readAt_eq_ld, harg3.read_unread, harg4.read_unread, View.ld_unit_zero (S := S1024x1024) hz]
  exact pay1_num hA hB
end

theorem idx_a : ∀ t : Fin grid0.N, win0_0.index t (0 : Fin 2) = t.val / 2 ∧ win0_0.index t (1 : Fin 2) = 0 := by decide +kernel
theorem idx_b : ∀ t : Fin grid0.N, win0_1.index t (0 : Fin 2) = 0 ∧ win0_1.index t (1 : Fin 2) = t.val % 2 := by decide +kernel

variable (m : (b : Loc nD τ sig) → Buf (Elt Ideal) b) (c : Dev nD) {X Y : ℕ → ℕ → EReal}

theorem blk_a (h : Is (a := 8192) (b := 1024) (V (F := Ideal) m c main_arg0) X) (t : Fin cfg0.N) :
    Is (a := 1024) (b := 1024) (iblk (F := Ideal) m c 0 t) (fun r d => X (1024 * (t.val / 2) + r) (1024 * (0) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 1024) (b := 2048) (V (F := Ideal) m c main_v0) Y) (t : Fin cfg0.N) :
    Is (a := 1024) (b := 1024) (iblk (F := Ideal) m c 1 t) (fun r d => Y (1024 * (0) + r) (1024 * (t.val % 2) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

theorem idx_o : ∀ t : Fin grid0.N, win0_2.index t (0 : Fin 2) = t.val / 2 ∧ win0_2.index t (1 : Fin 2) = t.val % 2 := by decide +kernel
theorem flush_o : ∀ t : Fin grid0.N, win0_2.flush t = true := by decide +kernel

/-- The result at an index: the point that writes its tile leaves the whole sum there. -/
theorem out_num (hX : Is (a := 8192) (b := 1024) (V (F := Ideal) m c main_arg0) X) (hY : Is (a := 1024) (b := 2048) (V (F := Ideal) m c main_v0) Y) :
    Is (a := 8192) (b := 2048) ((dats (F := Ideal) m 0 c).arrAt 2 cfg0.N) fun r c => ∑ k ∈ Finset.range 1024, X r k * Y k c := by
  intro i
  have b0 : (i (0 : Fin 2)).val < 8192 := (i (0 : Fin 2)).isLt
  have b1 : (i (1 : Fin 2)).val < 2048 := (i (1 : Fin 2)).isLt
  have hl : 2 * ((i (0 : Fin 2)).val / 1024) + (i (1 : Fin 2)).val / 1024 < cfg0.N := by rw [show cfg0.N = 16 from N_0]; omega
  let t : Fin cfg0.N := ⟨_, hl⟩
  have e : t.val = 2 * ((i (0 : Fin 2)).val / 1024) + (i (1 : Fin 2)).val / 1024 := rfl
  clear_value t
  let y : S1024x1024.Idx := ValueIdx.ix2 ⟨(i (0 : Fin 2)).val % 1024, Nat.mod_lt _ (by decide)⟩ ⟨(i (1 : Fin 2)).val % 1024, Nat.mod_lt _ (by decide)⟩
  obtain ⟨e0, e1⟩ := idx_o t
  have hb0 : (((cfg0.win 2).blk t).view.emb y (0 : Fin 2)).val = win0_2.index t (0 : Fin 2) * 1024 + 1 * ((i (0 : Fin 2)).val % 1024) := rfl
  have hb1 : (((cfg0.win 2).blk t).view.emb y (1 : Fin 2)).val = win0_2.index t (1 : Fin 2) * 1024 + 1 * ((i (1 : Fin 2)).val % 1024) := rfl
  have hy : ((cfg0.win 2).blk t).view.emb y = i := by
    funext a
    apply Fin.ext
    match a with
    | ⟨0, _⟩ => refine hb0.trans ?_; rw [e0]; show _ = (i (0 : Fin 2)).val; omega
    | ⟨1, _⟩ => refine hb1.trans ?_; rw [e1]; show _ = (i (1 : Fin 2)).val; omega
  have hb := congrFun (blocks2 m c t (flush_o t)) y
  rw [View.read_apply, hy, flushed2_A] at hb
  refine hb.trans ?_
  refine (A_num c (grid0.coords t) (ms0_0 t) (hs0_0 t) (ms0_1 t) (hs0_1 t) (ms0_2 t) (hs0_2 t) scM0_0 (Memref.isWhole_whole _)
    (blk_a m c hX t) (blk_b m c hY t) y).trans ?_
  show tile _ _ ((i (0 : Fin 2)).val % 1024) ((i (1 : Fin 2)).val % 1024) = _
  refine (part_one (fun r c k => X r k * Y k c) 1024 1024 1024 (t.val / 2) (t.val % 2) _ _ rfl).trans ?_
  rw [show t.val / 2 = (i (0 : Fin 2)).val / 1024 by omega, show t.val % 2 = (i (1 : Fin 2)).val / 1024 by omega]
  exact part_all (fun r c k => X r k * Y k c) 1024 1024 1024 1 _ _

/-- The weights the call reads are the given ones: a cast of extended reals changes nothing. -/
theorem v0_eq : V (F := Ideal) m c main_v0 = (m ((c : Thread nD τ).loc main_arg1) : S1024x2048.Idx → EReal) := by
  simp -implicitDefEqProofs only [V, hostOps0, List.flatten_cons, List.flatten_nil, List.append_nil, List.cons_append, List.nil_append]
  after_results_simp
  rfl

/-- The reference at row `r` and column `c`: the sum over all columns of the input. -/
theorem ref_num (x : FVec Ideal Cert.BrFwRefIdeal.S8192x1024 .f32) (y : FVec Ideal Cert.BrFwRefIdeal.S1024x2048 .f32)
    (hX : Is (a := 8192) (b := 1024) x X) (hY : Is (a := 1024) (b := 2048) y Y) :
    Is (a := 8192) (b := 2048) (Host.dotGeneral (F := Ideal) Cert.BrFwRefIdeal.dot_S8192x1024_S1024x2048_S8192x2048_1_0_0_1_n_n none x y)
      fun r c => ∑ k ∈ Finset.range 1024, X r k * Y k c := fun i =>
  dotGeneral_sum _ none _ 1024 rfl rfl x y i (fun k => X (i (0 : Fin 2)).val k) (fun k => Y k (i (1 : Fin 2)).val)
    (fun _ => hX _) (fun _ => hY _)

theorem algebraic : Cert.algebraic_BrFwIdeal_BrFwRefIdeal := by
  intro m ρ m' ρ' _ hagree
  refine ⟨_, Cert.BrFwIdeal.Value.run_blocks (F := Ideal) m ρ, ?_⟩
  refine (θ_run Cert.BrFwRefIdeal.defs _ _).mono (fun _ h c => ?_) (Cert.BrFwRefIdeal.Value.run (F := Ideal) m' ρ')
  obtain ⟨X, hX⟩ := exists_is (a := 8192) (b := 1024) (m ((c : Thread nD τ).loc main_arg0))
  obtain ⟨Y, hY⟩ := exists_is (a := 1024) (b := 2048) (m ((c : Thread nD τ).loc main_arg1))
  obtain ⟨a2, a1⟩ := hagree c
  obtain ⟨r0, rest⟩ := h c
  refine ⟨r0.trans ?_, rest⟩
  rw [a1, a2]
  refine Is.ext (ref_num _ _ hX hY) (out_num m c ?_ ?_) fun _ _ _ _ => rfl
  · rw [V_main_arg0]; exact hX
  · rw [v0_eq]; exact hY

theorem frame_p : Cert.quiescent_BrFw := fun m ρ _ => Cert.BrFw.Gen.frame m ρ
theorem frame_pi : Cert.quiescent_BrFwIdeal := fun m ρ _ => Cert.BrFwIdeal.Gen.frame m ρ
theorem frame_ri : Cert.quiescent_BrFwRefIdeal := fun m ρ _ =>
  (θ_run Cert.BrFwRefIdeal.defs _ _).mono (fun r h => ⟨fun c => (h c).2,
      Idealize.ShloMosaic.sem_eq_zero_of_no_sems (by decide) r.2⟩)
    (Cert.BrFwRefIdeal.Value.run (F := Ideal) m ρ)

end Mm.BrFw

end
-- ==== Proof.BrDx.lean ====
/-
  The gradient of a branch product's input computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.BrDx.Frame
public import proofs.«01_k».proof.Proof.Gen.BrDxIdeal.Value
public import proofs.«01_k».proof.Proof.Gen.BrDxRefIdeal.Run

@[expose] public section

set_option maxRecDepth 16384
set_option maxHeartbeats 1000000

noncomputable section

namespace Mm.BrDx

open Cert.BrDxIdeal Cert.BrDxIdeal.Gen Cert.BrDxIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A r k * B d k

section
variable {x0 : Vec Ideal S1024x1024 .f32} {x1 : Vec Ideal S1024x1024 .bf16} {xs : Vec Ideal S1024x1024 .f32} {A B T : ℕ → ℕ → EReal}

theorem pay1_num (hA : Is (a := 1024) (b := 1024) x0 A) (hB : Is (a := 1024) (b := 1024) x1 B) :
    Is (a := 1024) (b := 1024) (k0_pay1 (F := Ideal) x0 x1) (tile A B) := fun i => by
  unfold k0_pay1
  dsimp only
  rw [shapeCast_self]
  exact matmul_sum _ none 1024 rfl rfl _ _ i (fun k => A (i (0 : Fin 2)).val k) (fun k => B (i (1 : Fin 2)).val k)
    (fun _ => hA _) (fun _ => hB _)

theorem pay2_num (hA : Is (a := 1024) (b := 1024) x0 A) (hB : Is (a := 1024) (b := 1024) x1 B) :
    Is (a := 1024) (b := 1024) (k0_pay2 (F := Ideal) x0 x1) (tile A B) := by
  unfold k0_pay2
  dsimp only
  rw [shapeCast_self]
  exact pay1_num hA hB

theorem pay4_num (hA : Is (a := 1024) (b := 1024) x0 A) (hB : Is (a := 1024) (b := 1024) x1 B) (hT : Is (a := 1024) (b := 1024) xs T) :
    Is (a := 1024) (b := 1024) (k0_pay4 (F := Ideal) x0 x1 xs) fun r d => T r d + tile A B r d := fun i => by
  unfold k0_pay4
  dsimp only
  show xs i + k0_pay1 (F := Ideal) x0 x1 i = _
  rw [hT i, pay1_num hA hB i]

/-! What a point leaves: the first of a tile of the result (A) the product of its tiles in the buffer carried along, the
second (B) the sum of both in the result. -/

section
variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (hA : Is (a := 1024) (b := 1024) x0 A) (hB : Is (a := 1024) (b := 1024) x1 B)
include hA hB

section
variable (hc0 : cond0_0 i) (hc1 : ¬cond0_1 i) (hc2 : ¬cond0_2 i)
theorem A_num :
    Is (a := 1024) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]
  exact pay2_num hA hB
end

section
variable (hT : Is (a := 1024) (b := 1024) xs T) (hc0 : ¬cond0_0 i) (hc1 : ¬cond0_1 i) (hc2 : cond0_2 i)
include hT
theorem B_num :
    Is (a := 1024) (b := 1024) (out0_B_2 c i arg3 harg3 arg4 harg4 arg5 harg5 arg6 harg6 hc0 hc1 hc2 x0 x1 xs) fun r d => T r d + tile A B r d := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]
  exact pay4_num hA hB hT
end
end
end

theorem idx_a : ∀ t : Fin grid0.N, win0_0.index t (0 : Fin 2) = t.val / 2 ∧ win0_0.index t (1 : Fin 2) = t.val % 2 := by decide +kernel
theorem idx_b : ∀ t : Fin grid0.N, win0_1.index t (0 : Fin 2) = t.val / 2 % 1 ∧ win0_1.index t (1 : Fin 2) = t.val % 2 := by decide +kernel

variable (m : (b : Loc nD τ sig) → Buf (Elt Ideal) b) (c : Dev nD) {X Y : ℕ → ℕ → EReal}

theorem blk_a (h : Is (a := 8192) (b := 2048) (V (F := Ideal) m c main_arg2) X) (t : Fin cfg0.N) :
    Is (a := 1024) (b := 1024) (iblk (F := Ideal) m c 0 t) (fun r d => X (1024 * (t.val / 2) + r) (1024 * (t.val % 2) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg2 (((cfg0.win 0).blk t).view.emb i) = _
  exact h.at _ hb0 hb1

theorem blk_b (h : Is (a := 1024) (b := 2048) (V (F := Ideal) m c main_v0) Y) (t : Fin cfg0.N) :
    Is (a := 1024) (b := 1024) (iblk (F := Ideal) m c 1 t) (fun r d => Y (1024 * (t.val / 2 % 1) + r) (1024 * (t.val % 2) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X r k * Y c k) 1024 1024 1024 (n / 2) (n / 2 % 1) q

/-- The contents of the result's tile and of the buffer carried along. -/
abbrev State : Type := Vec Ideal S1024x1024 .f32 × Vec Ideal S1024x1024 .f32

/-- What the buffers hold after point `n`. -/
def Inv (X Y : ℕ → ℕ → EReal) (n : ℕ) (st : State) : Prop :=
  (¬n % 2 = 1 → Is (a := 1024) (b := 1024) st.2 (sums X Y n (n % 2 + 1))) ∧ (n % 2 = 1 → Is (a := 1024) (b := 1024) st.1 (sums X Y n (n % 2 + 1)))

section
variable (hX : Is (a := 8192) (b := 2048) (V (F := Ideal) m c main_arg2) X) (hY : Is (a := 1024) (b := 2048) (V (F := Ideal) m c main_v0) Y)
include hX hY

theorem step (t : Fin cfg0.N) (acc : State) (hacc : ¬t.val % 2 = 0 → Is (a := 1024) (b := 1024) acc.2 (sums X Y t.val (t.val % 2))) :
    Inv X Y t.val (stAt0 m c t.val t.isLt acc) := by
  by_cases h0 : t.val % 2 = 0
  · have h2 : ¬t.val % 2 = 1 := by omega
    rw [stAt0_A m c t acc h0 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (hcond0_1 t) (fun h => h2 ((hcond0_2 t).mp h))).congr
      fun r d => part_one (fun r c k => X r k * Y c k) 1024 1024 1024 (t.val / 2) (t.val / 2 % 1) r d h0
  · have h2 : t.val % 2 = 1 := by omega
    rw [stAt0_B m c t acc h0 h2]
    refine ⟨fun h => absurd h2 h, fun _ => ?_⟩
    dsimp only
    exact (B_num c (grid0.coords t) (ms0_0 t) (hs0_0 t) (ms0_1 t) (hs0_1 t) (ms0_2 t) (hs0_2 t) scM0_0 (Memref.isWhole_whole _)
      (blk_a m c hX t) (blk_b m c hY t) (hacc h0) (fun h => h0 ((hcond0_0 t).mp h)) (hcond0_1 t) ((hcond0_2 t).mpr h2)).congr
      fun r d => part_succ (fun r c k => X r k * Y c k) 1024 1024 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 2 = 0 := h
    refine ((inv_all n (Nat.lt_of_succ_lt hn)).1 (by omega)).congr fun r d => ?_
    show sums X Y n (n % 2 + 1) r d = sums X Y (n + 1) ((n + 1) % 2) r d
    unfold sums
    rw [show (n + 1) / 2 = n / 2 by omega, show (n + 1) % 2 = n % 2 + 1 by omega]

/-- The result at an index. -/
theorem G_num : Is (a := 8192) (b := 1024) (G2 (F := Ideal) m c) fun r c => ∑ k ∈ Finset.range 2048, X r k * Y c k := by
  intro i
  have b0 : (i (0 : Fin 2)).val < 8192 := (i (0 : Fin 2)).isLt
  have b1 : (i (1 : Fin 2)).val < 1024 := (i (1 : Fin 2)).isLt
  have hp : pt2Of i = 2 * (1 * ((i (0 : Fin 2)).val / 1024) + (i (1 : Fin 2)).val / 1024) + 1 := by
    show 2 * (1 * ((i (0 : Fin 2)).val / 1024 - 0) + 1 * ((i (1 : Fin 2)).val / 1024 - 0)) + 1 = _
    omega
  have hl : pt2Of i < cfg0.N := by rw [hp, show cfg0.N = 16 from N_0]; omega
  unfold G2
  rw [dif_pos hl, ← outsAt0_sweep m c _ hl]
  refine ((inv_all m c hX hY _ hl).2 (by omega) _).trans ?_
  show sums X Y (pt2Of i) (pt2Of i % 2 + 1) ((i (0 : Fin 2)).val % 1024) ((i (1 : Fin 2)).val % 1024) = _
  unfold sums
  rw [show pt2Of i / 2 = (i (0 : Fin 2)).val / 1024 by omega, show (i (0 : Fin 2)).val / 1024 % 1 = (i (1 : Fin 2)).val / 1024 by omega,
    show pt2Of i % 2 + 1 = 2 by omega]
  exact part_all (fun r c k => X r k * Y c k) 1024 1024 1024 2 _ _
end

/-- The weights the call reads are the given ones: a cast of extended reals changes nothing. -/
theorem v0_eq : V (F := Ideal) m c main_v0 = (m ((c : Thread nD τ).loc main_arg1) : S1024x2048.Idx → EReal) := by
  simp -implicitDefEqProofs only [V, hostOps0, List.flatten_cons, List.flatten_nil, List.append_nil, List.cons_append, List.nil_append]
  after_results_simp
  rfl

/-- The reference at row `r` and column `c`: the sum over all columns of the cotangent. -/
theorem ref_num (x : FVec Ideal Cert.BrDxRefIdeal.S8192x2048 .f32) (y : FVec Ideal Cert.BrDxRefIdeal.S1024x2048 .f32)
    (hX : Is (a := 8192) (b := 2048) x X) (hY : Is (a := 1024) (b := 2048) y Y) :
    Is (a := 8192) (b := 1024) (Host.dotGeneral (F := Ideal) Cert.BrDxRefIdeal.dot_S8192x2048_S1024x2048_S8192x1024_1_1_0_0_n_n none x y)
      fun r c => ∑ k ∈ Finset.range 2048, X r k * Y c k := fun i =>
  dotGeneral_sum _ none _ 2048 rfl rfl x y i (fun k => X (i (0 : Fin 2)).val k) (fun k => Y (i (1 : Fin 2)).val k)
    (fun _ => hX _) (fun _ => hY _)

theorem algebraic : Cert.algebraic_BrDxIdeal_BrDxRefIdeal := by
  intro m ρ m' ρ' _ hagree
  refine ⟨_, Cert.BrDxIdeal.Value.run (F := Ideal) m ρ, ?_⟩
  refine (θ_run Cert.BrDxRefIdeal.defs _ _).mono (fun _ h c => ?_) (Cert.BrDxRefIdeal.Value.run (F := Ideal) m' ρ')
  obtain ⟨X, hX⟩ := exists_is (a := 8192) (b := 2048) (m ((c : Thread nD τ).loc main_arg2))
  obtain ⟨Y, hY⟩ := exists_is (a := 1024) (b := 2048) (m ((c : Thread nD τ).loc main_arg1))
  obtain ⟨a0, a1, a2⟩ := hagree c
  obtain ⟨r0, rest⟩ := h c
  refine ⟨r0.trans ?_, rest⟩
  rw [a1, a2]
  refine Is.ext (ref_num _ _ hX hY) (G_num m c ?_ ?_) fun _ _ _ _ => rfl
  · rw [V_main_arg2]; exact hX
  · rw [v0_eq]; exact hY

theorem frame_p : Cert.quiescent_BrDx := fun m ρ _ => Cert.BrDx.Gen.frame m ρ
theorem frame_pi : Cert.quiescent_BrDxIdeal := fun m ρ _ => Cert.BrDxIdeal.Gen.frame m ρ
theorem frame_ri : Cert.quiescent_BrDxRefIdeal := fun m ρ _ =>
  (θ_run Cert.BrDxRefIdeal.defs _ _).mono (fun r h => ⟨fun c => (h c).2,
      Idealize.ShloMosaic.sem_eq_zero_of_no_sems (by decide) r.2⟩)
    (Cert.BrDxRefIdeal.Value.run (F := Ideal) m ρ)

end Mm.BrDx

end
-- ==== Proof.BrDw.lean ====
/-
  The gradient of a branch's weights computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.BrDw.Frame
public import proofs.«01_k».proof.Proof.Gen.BrDwIdeal.Value
public import proofs.«01_k».proof.Proof.Gen.BrDwRefIdeal.Run

@[expose] public section

set_option maxRecDepth 16384
set_option maxHeartbeats 1000000

noncomputable section

namespace Mm.BrDw

open Cert.BrDwIdeal Cert.BrDwIdeal.Gen Cert.BrDwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A k r * B k d

section
variable {x0 : Vec Ideal S1024x1024 .f32} {x1 : Vec Ideal S1024x1024 .f32} {xs : Vec Ideal S1024x1024 .f32} {A B T : ℕ → ℕ → EReal}

theorem pay1_num (hA : Is (a := 1024) (b := 1024) x0 A) (hB : Is (a := 1024) (b := 1024) x1 B) :
    Is (a := 1024) (b := 1024) (k0_pay1 (F := Ideal) x0 x1) (tile A B) := fun i => by
  unfold k0_pay1
  dsimp only
  exact matmul_sum _ none 1024 rfl rfl _ _ i (fun k => A k (i (0 : Fin 2)).val) (fun k => B k (i (1 : Fin 2)).val)
    (fun _ => transpose_is hA _ _) (fun _ => hB _)

theorem pay2_num (hA : Is (a := 1024) (b := 1024) x0 A) (hB : Is (a := 1024) (b := 1024) x1 B) :
    Is (a := 1024) (b := 1024) (k0_pay2 (F := Ideal) x0 x1) (tile A B) := by
  unfold k0_pay2
  dsimp only
  rw [shapeCast_self]
  exact pay1_num hA hB

theorem pay4_num (hA : Is (a := 1024) (b := 1024) x0 A) (hB : Is (a := 1024) (b := 1024) x1 B) (hT : Is (a := 1024) (b := 1024) xs T) :
    Is (a := 1024) (b := 1024) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 1024) x0 A) (hB : Is (a := 1024) (b := 1024) x1 B) (hT : Is (a := 1024) (b := 1024) xs T) :
    Is (a := 1024) (b := 1024) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
  (hA : Is (a := 1024) (b := 1024) x0 A) (hB : Is (a := 1024) (b := 1024) x1 B)
include hA hB

section
variable (hc0 : cond0_0 i) (hc1 : ¬cond0_1 i) (hc2 : ¬cond0_2 i)
theorem A_num :
    Is (a := 1024) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]
  exact pay2_num hA hB
end

section
variable (hT : Is (a := 1024) (b := 1024) xs T) (hc0 : ¬cond0_0 i) (hc1 : cond0_1 i) (hc2 : ¬cond0_2 i)
include hT
theorem B_num :
    Is (a := 1024) (b := 1024) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]
  exact pay3_num hA hB hT
end

section
variable (hT : Is (a := 1024) (b := 1024) xs T) (hc0 : ¬cond0_0 i) (hc1 : ¬cond0_1 i) (hc2 : cond0_2 i)
include hT
theorem C_num :
    Is (a := 1024) (b := 1024) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz]
  exact pay4_num hA hB hT
end
end
end

theorem idx_a : ∀ t : Fin grid0.N, win0_0.index t (0 : Fin 2) = t.val % 8 ∧ win0_0.index t (1 : Fin 2) = t.val / 16 := by decide +kernel
theorem idx_b : ∀ t : Fin grid0.N, win0_1.index t (0 : Fin 2) = t.val % 8 ∧ win0_1.index t (1 : Fin 2) = t.val / 8 % 2 := by decide +kernel

variable (m : (b : Loc nD τ sig) → Buf (Elt Ideal) b) (c : Dev nD) {X Y : ℕ → ℕ → EReal}

theorem blk_a (h : Is (a := 8192) (b := 1024) (V (F := Ideal) m c main_arg0) X) (t : Fin cfg0.N) :
    Is (a := 1024) (b := 1024) (iblk (F := Ideal) m c 0 t) (fun r d => X (1024 * (t.val % 8) + r) (1024 * (t.val / 16) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 8192) (b := 2048) (V (F := Ideal) m c main_arg2) Y) (t : Fin cfg0.N) :
    Is (a := 1024) (b := 1024) (iblk (F := Ideal) m c 1 t) (fun r d => Y (1024 * (t.val % 8) + r) (1024 * (t.val / 8 % 2) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_arg2 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X k r * Y k c) 1024 1024 1024 (n / 16) (n / 8 % 2) q

/-- The contents of the result's tile and of the buffer carried along. -/
abbrev State : Type := Vec Ideal S1024x1024 .f32 × Vec Ideal S1024x1024 .f32

/-- What the buffers hold after point `n`. -/
def Inv (X Y : ℕ → ℕ → EReal) (n : ℕ) (st : State) : Prop :=
  (¬n % 8 = 7 → Is (a := 1024) (b := 1024) st.2 (sums X Y n (n % 8 + 1))) ∧ (n % 8 = 7 → Is (a := 1024) (b := 1024) st.1 (sums X Y n (n % 8 + 1)))

section
variable (hX : Is (a := 8192) (b := 1024) (V (F := Ideal) m c main_arg0) X) (hY : Is (a := 8192) (b := 2048) (V (F := Ideal) m c main_arg2) Y)
include hX hY

theorem step (t : Fin cfg0.N) (acc : State) (hacc : ¬t.val % 8 = 0 → Is (a := 1024) (b := 1024) acc.2 (sums X Y t.val (t.val % 8))) :
    Inv X Y t.val (stAt0 m c t.val t.isLt acc) := by
  by_cases h0 : t.val % 8 = 0
  · have h1 : ¬(1 ≤ t.val % 8 ∧ t.val % 8 ≤ 6) := by omega
    have h2 : ¬t.val % 8 = 7 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X k r * Y k c) 1024 1024 1024 (t.val / 16) (t.val / 8 % 2) r d h0
  · by_cases h2 : t.val % 8 = 7
    · have h1 : ¬(1 ≤ t.val % 8 ∧ t.val % 8 ≤ 6) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X k r * Y k c) 1024 1024 1024 _ _ _ r d
    · have h1 : 1 ≤ t.val % 8 ∧ t.val % 8 ≤ 6 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X k r * Y k c) 1024 1024 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 8 = 0 := h
    refine ((inv_all n (Nat.lt_of_succ_lt hn)).1 (by omega)).congr fun r d => ?_
    show sums X Y n (n % 8 + 1) r d = sums X Y (n + 1) ((n + 1) % 8) r d
    unfold sums
    rw [show (n + 1) / 16 = n / 16 by omega, show (n + 1) / 8 = n / 8 by omega, show (n + 1) % 8 = n % 8 + 1 by omega]

/-- The result at an index. -/
theorem G_num : Is (a := 1024) (b := 2048) (G2 (F := Ideal) m c) fun r c => ∑ k ∈ Finset.range 8192, X k r * Y k c := by
  intro i
  have b0 : (i (0 : Fin 2)).val < 1024 := (i (0 : Fin 2)).isLt
  have b1 : (i (1 : Fin 2)).val < 2048 := (i (1 : Fin 2)).isLt
  have hp : pt2Of i = 8 * (2 * ((i (0 : Fin 2)).val / 1024) + (i (1 : Fin 2)).val / 1024) + 7 := by
    show 8 * (2 * ((i (0 : Fin 2)).val / 1024 - 0) + 1 * ((i (1 : Fin 2)).val / 1024 - 0)) + 7 = _
    omega
  have hl : pt2Of i < cfg0.N := by rw [hp, show cfg0.N = 16 from N_0]; omega
  unfold G2
  rw [dif_pos hl, ← outsAt0_sweep m c _ hl]
  refine ((inv_all m c hX hY _ hl).2 (by omega) _).trans ?_
  show sums X Y (pt2Of i) (pt2Of i % 8 + 1) ((i (0 : Fin 2)).val % 1024) ((i (1 : Fin 2)).val % 1024) = _
  unfold sums
  rw [show pt2Of i / 16 = (i (0 : Fin 2)).val / 1024 by omega, show pt2Of i / 8 % 2 = (i (1 : Fin 2)).val / 1024 by omega,
    show pt2Of i % 8 + 1 = 8 by omega]
  exact part_all (fun r c k => X k r * Y k c) 1024 1024 1024 8 _ _
end

/-- The reference at row `r` and column `c`: the sum over all rows of the step's tokens. -/
theorem ref_num (x : FVec Ideal Cert.BrDwRefIdeal.S8192x1024 .f32) (y : FVec Ideal Cert.BrDwRefIdeal.S8192x2048 .f32)
    (hX : Is (a := 8192) (b := 1024) x X) (hY : Is (a := 8192) (b := 2048) y Y) :
    Is (a := 1024) (b := 2048) (transpose Cert.BrDwRefIdeal.S1024x2048 [1, 0]
      (Host.dotGeneral (F := Ideal) Cert.BrDwRefIdeal.dot_S8192x2048_S8192x1024_S2048x1024_0_0_1_1_n_n none y x)
      Cert.BrDwRefIdeal.Facts₀.transposes_S2048x1024_S1024x2048_1_0)
      fun r c => ∑ k ∈ Finset.range 8192, X k r * Y k c :=
  (transpose_is (X := fun c r => ∑ k ∈ Finset.range 8192, Y k c * X k r) (fun i =>
    dotGeneral_sum _ none _ 8192 rfl rfl y x i (fun k => Y k (i (0 : Fin 2)).val) (fun k => X k (i (1 : Fin 2)).val)
      (fun _ => hY _) (fun _ => hX _)) _).congr fun r c => Finset.sum_congr rfl fun k _ => mul_comm _ _

theorem algebraic : Cert.algebraic_BrDwIdeal_BrDwRefIdeal := by
  intro m ρ m' ρ' _ hagree
  refine ⟨_, Cert.BrDwIdeal.Value.run (F := Ideal) m ρ, ?_⟩
  refine (θ_run Cert.BrDwRefIdeal.defs _ _).mono (fun _ h c => ?_) (Cert.BrDwRefIdeal.Value.run (F := Ideal) m' ρ')
  obtain ⟨X, hX⟩ := exists_is (a := 8192) (b := 1024) (m ((c : Thread nD τ).loc main_arg0))
  obtain ⟨Y, hY⟩ := exists_is (a := 8192) (b := 2048) (m ((c : Thread nD τ).loc main_arg2))
  obtain ⟨a0, a1, a2⟩ := hagree c
  obtain ⟨r0, rest⟩ := h c
  refine ⟨r0.trans ?_, rest⟩
  rw [a0, a2]
  exact Is.ext (ref_num _ _ hX hY) (G_num m c hX hY) fun _ _ _ _ => rfl

theorem frame_p : Cert.quiescent_BrDw := fun m ρ _ => Cert.BrDw.Gen.frame m ρ
theorem frame_pi : Cert.quiescent_BrDwIdeal := fun m ρ _ => Cert.BrDwIdeal.Gen.frame m ρ
theorem frame_ri : Cert.quiescent_BrDwRefIdeal := fun m ρ _ =>
  (θ_run Cert.BrDwRefIdeal.defs _ _).mono (fun r h => ⟨fun c => (h c).2,
      Idealize.ShloMosaic.sem_eq_zero_of_no_sems (by decide) r.2⟩)
    (Cert.BrDwRefIdeal.Value.run (F := Ideal) m ρ)

end Mm.BrDw

end
-- ==== Proof.UpFw.lean ====
/-
  The attention's up-projection computes its product a tile of the result at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.UpFw.Frame
public import proofs.«01_k».proof.Proof.Gen.UpFwIdeal.Value
public import proofs.«01_k».proof.Proof.Gen.UpFwRefIdeal.Run

@[expose] public section

set_option maxRecDepth 16384
set_option maxHeartbeats 1000000

noncomputable section

namespace Mm.UpFw

open Cert.UpFwIdeal Cert.UpFwIdeal.Gen Cert.UpFwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 512, A r k * B k d

section
variable {x0 : Vec Ideal S1024x512 .f32} {x1 : Vec Ideal S512x1024 .bf16} {A B : ℕ → ℕ → EReal}

theorem pay1_num (hA : Is (a := 1024) (b := 512) x0 A) (hB : Is (a := 512) (b := 1024) x1 B) :
    Is (a := 1024) (b := 1024) (k0_pay1 (F := Ideal) x0 x1) (tile A B) := fun i => by
  unfold k0_pay1
  dsimp only
  rw [shapeCast_self]
  exact matmul_sum _ none 512 rfl rfl _ _ i (fun k => A (i (0 : Fin 2)).val k) (fun k => B k (i (1 : Fin 2)).val)
    (fun _ => hA _) (fun _ => hB _)

/-- What a point leaves in the result's tile. -/
theorem A_num (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole)
    (hA : Is (a := 1024) (b := 512) x0 A) (hB : Is (a := 512) (b := 1024) x1 B) :
    Is (a := 1024) (b := 1024) (out0_A_2 c i arg3 harg3 arg4 harg4 arg5 harg5 arg6 harg6 x0 x1) (tile A B) := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero hz]
  simp only [View.readAt_eq_ld, harg3.read_unread, harg4.read_unread, View.ld_unit_zero (S := S1024x512) hz, View.ld_unit_zero (S := S512x1024) hz]
  exact pay1_num hA hB
end

theorem idx_a : ∀ t : Fin grid0.N, win0_0.index t (0 : Fin 2) = t.val / 2 ∧ win0_0.index t (1 : Fin 2) = 0 := by decide +kernel
theorem idx_b : ∀ t : Fin grid0.N, win0_1.index t (0 : Fin 2) = 0 ∧ win0_1.index t (1 : Fin 2) = t.val % 2 := by decide +kernel

variable (m : (b : Loc nD τ sig) → Buf (Elt Ideal) b) (c : Dev nD) {X Y : ℕ → ℕ → EReal}

theorem blk_a (h : Is (a := 8192) (b := 512) (V (F := Ideal) m c main_arg0) X) (t : Fin cfg0.N) :
    Is (a := 1024) (b := 512) (iblk (F := Ideal) m c 0 t) (fun r d => X (1024 * (t.val / 2) + r) (512 * (0) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 512 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 512) (b := 2048) (V (F := Ideal) m c main_v0) Y) (t : Fin cfg0.N) :
    Is (a := 512) (b := 1024) (iblk (F := Ideal) m c 1 t) (fun r d => Y (512 * (0) + r) (1024 * (t.val % 2) + d)) := by
  intro i
  unfold iblk
  rw [View.read_apply]
  obtain ⟨e0, e1⟩ := idx_b t
  have hb0 : (((cfg0.win 1).blk t).view.emb i (0 : Fin 2)).val = win0_1.index t (0 : Fin 2) * 512 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

theorem idx_o : ∀ t : Fin grid0.N, win0_2.index t (0 : Fin 2) = t.val / 2 ∧ win0_2.index t (1 : Fin 2) = t.val % 2 := by decide +kernel
theorem flush_o : ∀ t : Fin grid0.N, win0_2.flush t = true := by decide +kernel

/-- The result at an index: the point that writes its tile leaves the whole sum there. -/
theorem out_num (hX : Is (a := 8192) (b := 512) (V (F := Ideal) m c main_arg0) X) (hY : Is (a := 512) (b := 2048) (V (F := Ideal) m c main_v0) Y) :
    Is (a := 8192) (b := 2048) ((dats (F := Ideal) m 0 c).arrAt 2 cfg0.N) fun r c => ∑ k ∈ Finset.range 512, X r k * Y k c := by
  intro i
  have b0 : (i (0 : Fin 2)).val < 8192 := (i (0 : Fin 2)).isLt
  have b1 : (i (1 : Fin 2)).val < 2048 := (i (1 : Fin 2)).isLt
  have hl : 2 * ((i (0 : Fin 2)).val / 1024) + (i (1 : Fin 2)).val / 1024 < cfg0.N := by rw [show cfg0.N = 16 from N_0]; omega
  let t : Fin cfg0.N := ⟨_, hl⟩
  have e : t.val = 2 * ((i (0 : Fin 2)).val / 1024) + (i (1 : Fin 2)).val / 1024 := rfl
  clear_value t
  let y : S1024x1024.Idx := ValueIdx.ix2 ⟨(i (0 : Fin 2)).val % 1024, Nat.mod_lt _ (by decide)⟩ ⟨(i (1 : Fin 2)).val % 1024, Nat.mod_lt _ (by decide)⟩
  obtain ⟨e0, e1⟩ := idx_o t
  have hb0 : (((cfg0.win 2).blk t).view.emb y (0 : Fin 2)).val = win0_2.index t (0 : Fin 2) * 1024 + 1 * ((i (0 : Fin 2)).val % 1024) := rfl
  have hb1 : (((cfg0.win 2).blk t).view.emb y (1 : Fin 2)).val = win0_2.index t (1 : Fin 2) * 1024 + 1 * ((i (1 : Fin 2)).val % 1024) := rfl
  have hy : ((cfg0.win 2).blk t).view.emb y = i := by
    funext a
    apply Fin.ext
    match a with
    | ⟨0, _⟩ => refine hb0.trans ?_; rw [e0]; show _ = (i (0 : Fin 2)).val; omega
    | ⟨1, _⟩ => refine hb1.trans ?_; rw [e1]; show _ = (i (1 : Fin 2)).val; omega
  have hb := congrFun (blocks2 m c t (flush_o t)) y
  rw [View.read_apply, hy, flushed2_A] at hb
  refine hb.trans ?_
  refine (A_num c (grid0.coords t) (ms0_0 t) (hs0_0 t) (ms0_1 t) (hs0_1 t) (ms0_2 t) (hs0_2 t) scM0_0 (Memref.isWhole_whole _)
    (blk_a m c hX t) (blk_b m c hY t) y).trans ?_
  show tile _ _ ((i (0 : Fin 2)).val % 1024) ((i (1 : Fin 2)).val % 1024) = _
  refine (part_one (fun r c k => X r k * Y k c) 1024 1024 512 (t.val / 2) (t.val % 2) _ _ rfl).trans ?_
  rw [show t.val / 2 = (i (0 : Fin 2)).val / 1024 by omega, show t.val % 2 = (i (1 : Fin 2)).val / 1024 by omega]
  exact part_all (fun r c k => X r k * Y k c) 1024 1024 512 1 _ _

/-- The weights the call reads are the given ones: a cast of extended reals changes nothing. -/
theorem v0_eq : V (F := Ideal) m c main_v0 = (m ((c : Thread nD τ).loc main_arg1) : S512x2048.Idx → EReal) := by
  simp -implicitDefEqProofs only [V, hostOps0, List.flatten_cons, List.flatten_nil, List.append_nil, List.cons_append, List.nil_append]
  after_results_simp
  rfl

/-- The reference at row `r` and column `c`: the sum over all columns of the input. -/
theorem ref_num (x : FVec Ideal Cert.UpFwRefIdeal.S8192x512 .f32) (y : FVec Ideal Cert.UpFwRefIdeal.S512x2048 .f32)
    (hX : Is (a := 8192) (b := 512) x X) (hY : Is (a := 512) (b := 2048) y Y) :
    Is (a := 8192) (b := 2048) (Host.dotGeneral (F := Ideal) Cert.UpFwRefIdeal.dot_S8192x512_S512x2048_S8192x2048_1_0_0_1_n_n none x y)
      fun r c => ∑ k ∈ Finset.range 512, X r k * Y k c := fun i =>
  dotGeneral_sum _ none _ 512 rfl rfl x y i (fun k => X (i (0 : Fin 2)).val k) (fun k => Y k (i (1 : Fin 2)).val)
    (fun _ => hX _) (fun _ => hY _)

theorem algebraic : Cert.algebraic_UpFwIdeal_UpFwRefIdeal := by
  intro m ρ m' ρ' _ hagree
  refine ⟨_, Cert.UpFwIdeal.Value.run_blocks (F := Ideal) m ρ, ?_⟩
  refine (θ_run Cert.UpFwRefIdeal.defs _ _).mono (fun _ h c => ?_) (Cert.UpFwRefIdeal.Value.run (F := Ideal) m' ρ')
  obtain ⟨X, hX⟩ := exists_is (a := 8192) (b := 512) (m ((c : Thread nD τ).loc main_arg0))
  obtain ⟨Y, hY⟩ := exists_is (a := 512) (b := 2048) (m ((c : Thread nD τ).loc main_arg1))
  obtain ⟨a2, a1⟩ := hagree c
  obtain ⟨r0, rest⟩ := h c
  refine ⟨r0.trans ?_, rest⟩
  rw [a1, a2]
  refine Is.ext (ref_num _ _ hX hY) (out_num m c ?_ ?_) fun _ _ _ _ => rfl
  · rw [V_main_arg0]; exact hX
  · rw [v0_eq]; exact hY

theorem frame_p : Cert.quiescent_UpFw := fun m ρ _ => Cert.UpFw.Gen.frame m ρ
theorem frame_pi : Cert.quiescent_UpFwIdeal := fun m ρ _ => Cert.UpFwIdeal.Gen.frame m ρ
theorem frame_ri : Cert.quiescent_UpFwRefIdeal := fun m ρ _ =>
  (θ_run Cert.UpFwRefIdeal.defs _ _).mono (fun r h => ⟨fun c => (h c).2,
      Idealize.ShloMosaic.sem_eq_zero_of_no_sems (by decide) r.2⟩)
    (Cert.UpFwRefIdeal.Value.run (F := Ideal) m ρ)

end Mm.UpFw

end
-- ==== Proof.UpDx.lean ====
/-
  The gradient of the input of the attention's up-projection computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.UpDx.Frame
public import proofs.«01_k».proof.Proof.Gen.UpDxIdeal.Value
public import proofs.«01_k».proof.Proof.Gen.UpDxRefIdeal.Run

@[expose] public section

set_option maxRecDepth 16384
set_option maxHeartbeats 1000000

noncomputable section

namespace Mm.UpDx

open Cert.UpDxIdeal Cert.UpDxIdeal.Gen Cert.UpDxIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A r k * B d k

section
variable {x0 : Vec Ideal S1024x1024 .f32} {x1 : Vec Ideal S512x1024 .bf16} {xs : Vec Ideal S1024x512 .f32} {A B T : ℕ → ℕ → EReal}

theorem pay1_num (hA : Is (a := 1024) (b := 1024) x0 A) (hB : Is (a := 512) (b := 1024) x1 B) :
    Is (a := 1024) (b := 512) (k0_pay1 (F := Ideal) x0 x1) (tile A B) := fun i => by
  unfold k0_pay1
  dsimp only
  rw [shapeCast_self]
  exact matmul_sum _ none 1024 rfl rfl _ _ i (fun k => A (i (0 : Fin 2)).val k) (fun k => B (i (1 : Fin 2)).val k)
    (fun _ => hA _) (fun _ => hB _)

theorem pay2_num (hA : Is (a := 1024) (b := 1024) x0 A) (hB : Is (a := 512) (b := 1024) x1 B) :
    Is (a := 1024) (b := 512) (k0_pay2 (F := Ideal) x0 x1) (tile A B) := by
  unfold k0_pay2
  dsimp only
  rw [shapeCast_self]
  exact pay1_num hA hB

theorem pay4_num (hA : Is (a := 1024) (b := 1024) x0 A) (hB : Is (a := 512) (b := 1024) x1 B) (hT : Is (a := 1024) (b := 512) xs T) :
    Is (a := 1024) (b := 512) (k0_pay4 (F := Ideal) x0 x1 xs) fun r d => T r d + tile A B r d := fun i => by
  unfold k0_pay4
  dsimp only
  show xs i + k0_pay1 (F := Ideal) x0 x1 i = _
  rw [hT i, pay1_num hA hB i]

/-! What a point leaves: the first of a tile of the result (A) the product of its tiles in the buffer carried along, the
second (B) the sum of both in the result. -/

section
variable (c : Dev nD) (i : grid0.Coords) (arg3 : Memref sig .tc .vmem S1024x1024 .f32) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x512 .f32) (harg6 : arg6.IsWhole)
  (hA : Is (a := 1024) (b := 1024) x0 A) (hB : Is (a := 512) (b := 1024) x1 B)
include hA hB

section
variable (hc0 : cond0_0 i) (hc1 : ¬cond0_1 i) (hc2 : ¬cond0_2 i)
theorem A_num :
    Is (a := 1024) (b := 512) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz, View.ld_unit_zero (S := S512x1024) hz, View.ld_unit_zero (S := S1024x512) hz]
  exact pay2_num hA hB
end

section
variable (hT : Is (a := 1024) (b := 512) xs T) (hc0 : ¬cond0_0 i) (hc1 : ¬cond0_1 i) (hc2 : cond0_2 i)
include hT
theorem B_num :
    Is (a := 1024) (b := 512) (out0_B_2 c i arg3 harg3 arg4 harg4 arg5 harg5 arg6 harg6 hc0 hc1 hc2 x0 x1 xs) fun r d => T r d + tile A B r d := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S512x1024) hz, View.ld_unit_zero (S := S1024x512) hz]
  exact pay4_num hA hB hT
end
end
end

theorem idx_a : ∀ t : Fin grid0.N, win0_0.index t (0 : Fin 2) = t.val / 2 ∧ win0_0.index t (1 : Fin 2) = t.val % 2 := by decide +kernel
theorem idx_b : ∀ t : Fin grid0.N, win0_1.index t (0 : Fin 2) = t.val / 2 % 1 ∧ win0_1.index t (1 : Fin 2) = t.val % 2 := by decide +kernel

variable (m : (b : Loc nD τ sig) → Buf (Elt Ideal) b) (c : Dev nD) {X Y : ℕ → ℕ → EReal}

theorem blk_a (h : Is (a := 8192) (b := 2048) (V (F := Ideal) m c main_arg2) X) (t : Fin cfg0.N) :
    Is (a := 1024) (b := 1024) (iblk (F := Ideal) m c 0 t) (fun r d => X (1024 * (t.val / 2) + r) (1024 * (t.val % 2) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg2 (((cfg0.win 0).blk t).view.emb i) = _
  exact h.at _ hb0 hb1

theorem blk_b (h : Is (a := 512) (b := 2048) (V (F := Ideal) m c main_v0) Y) (t : Fin cfg0.N) :
    Is (a := 512) (b := 1024) (iblk (F := Ideal) m c 1 t) (fun r d => Y (512 * (t.val / 2 % 1) + r) (1024 * (t.val % 2) + d)) := by
  intro i
  unfold iblk
  rw [View.read_apply]
  obtain ⟨e0, e1⟩ := idx_b t
  have hb0 : (((cfg0.win 1).blk t).view.emb i (0 : Fin 2)).val = win0_1.index t (0 : Fin 2) * 512 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X r k * Y c k) 1024 512 1024 (n / 2) (n / 2 % 1) q

/-- The contents of the result's tile and of the buffer carried along. -/
abbrev State : Type := Vec Ideal S1024x512 .f32 × Vec Ideal S1024x512 .f32

/-- What the buffers hold after point `n`. -/
def Inv (X Y : ℕ → ℕ → EReal) (n : ℕ) (st : State) : Prop :=
  (¬n % 2 = 1 → Is (a := 1024) (b := 512) st.2 (sums X Y n (n % 2 + 1))) ∧ (n % 2 = 1 → Is (a := 1024) (b := 512) st.1 (sums X Y n (n % 2 + 1)))

section
variable (hX : Is (a := 8192) (b := 2048) (V (F := Ideal) m c main_arg2) X) (hY : Is (a := 512) (b := 2048) (V (F := Ideal) m c main_v0) Y)
include hX hY

theorem step (t : Fin cfg0.N) (acc : State) (hacc : ¬t.val % 2 = 0 → Is (a := 1024) (b := 512) acc.2 (sums X Y t.val (t.val % 2))) :
    Inv X Y t.val (stAt0 m c t.val t.isLt acc) := by
  by_cases h0 : t.val % 2 = 0
  · have h2 : ¬t.val % 2 = 1 := by omega
    rw [stAt0_A m c t acc h0 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (hcond0_1 t) (fun h => h2 ((hcond0_2 t).mp h))).congr
      fun r d => part_one (fun r c k => X r k * Y c k) 1024 512 1024 (t.val / 2) (t.val / 2 % 1) r d h0
  · have h2 : t.val % 2 = 1 := by omega
    rw [stAt0_B m c t acc h0 h2]
    refine ⟨fun h => absurd h2 h, fun _ => ?_⟩
    dsimp only
    exact (B_num c (grid0.coords t) (ms0_0 t) (hs0_0 t) (ms0_1 t) (hs0_1 t) (ms0_2 t) (hs0_2 t) scM0_0 (Memref.isWhole_whole _)
      (blk_a m c hX t) (blk_b m c hY t) (hacc h0) (fun h => h0 ((hcond0_0 t).mp h)) (hcond0_1 t) ((hcond0_2 t).mpr h2)).congr
      fun r d => part_succ (fun r c k => X r k * Y c k) 1024 512 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 2 = 0 := h
    refine ((inv_all n (Nat.lt_of_succ_lt hn)).1 (by omega)).congr fun r d => ?_
    show sums X Y n (n % 2 + 1) r d = sums X Y (n + 1) ((n + 1) % 2) r d
    unfold sums
    rw [show (n + 1) / 2 = n / 2 by omega, show (n + 1) % 2 = n % 2 + 1 by omega]

/-- The result at an index. -/
theorem G_num : Is (a := 8192) (b := 512) (G2 (F := Ideal) m c) fun r c => ∑ k ∈ Finset.range 2048, X r k * Y c k := by
  intro i
  have b0 : (i (0 : Fin 2)).val < 8192 := (i (0 : Fin 2)).isLt
  have b1 : (i (1 : Fin 2)).val < 512 := (i (1 : Fin 2)).isLt
  have hp : pt2Of i = 2 * (1 * ((i (0 : Fin 2)).val / 1024) + (i (1 : Fin 2)).val / 512) + 1 := by
    show 2 * (1 * ((i (0 : Fin 2)).val / 1024 - 0) + 1 * ((i (1 : Fin 2)).val / 512 - 0)) + 1 = _
    omega
  have hl : pt2Of i < cfg0.N := by rw [hp, show cfg0.N = 16 from N_0]; omega
  unfold G2
  rw [dif_pos hl, ← outsAt0_sweep m c _ hl]
  refine ((inv_all m c hX hY _ hl).2 (by omega) _).trans ?_
  show sums X Y (pt2Of i) (pt2Of i % 2 + 1) ((i (0 : Fin 2)).val % 1024) ((i (1 : Fin 2)).val % 512) = _
  unfold sums
  rw [show pt2Of i / 2 = (i (0 : Fin 2)).val / 1024 by omega, show (i (0 : Fin 2)).val / 1024 % 1 = (i (1 : Fin 2)).val / 512 by omega,
    show pt2Of i % 2 + 1 = 2 by omega]
  exact part_all (fun r c k => X r k * Y c k) 1024 512 1024 2 _ _
end

/-- The weights the call reads are the given ones: a cast of extended reals changes nothing. -/
theorem v0_eq : V (F := Ideal) m c main_v0 = (m ((c : Thread nD τ).loc main_arg1) : S512x2048.Idx → EReal) := by
  simp -implicitDefEqProofs only [V, hostOps0, List.flatten_cons, List.flatten_nil, List.append_nil, List.cons_append, List.nil_append]
  after_results_simp
  rfl

/-- The reference at row `r` and column `c`: the sum over all columns of the cotangent. -/
theorem ref_num (x : FVec Ideal Cert.UpDxRefIdeal.S8192x2048 .f32) (y : FVec Ideal Cert.UpDxRefIdeal.S512x2048 .f32)
    (hX : Is (a := 8192) (b := 2048) x X) (hY : Is (a := 512) (b := 2048) y Y) :
    Is (a := 8192) (b := 512) (Host.dotGeneral (F := Ideal) Cert.UpDxRefIdeal.dot_S8192x2048_S512x2048_S8192x512_1_1_0_0_n_n none x y)
      fun r c => ∑ k ∈ Finset.range 2048, X r k * Y c k := fun i =>
  dotGeneral_sum _ none _ 2048 rfl rfl x y i (fun k => X (i (0 : Fin 2)).val k) (fun k => Y (i (1 : Fin 2)).val k)
    (fun _ => hX _) (fun _ => hY _)

theorem algebraic : Cert.algebraic_UpDxIdeal_UpDxRefIdeal := by
  intro m ρ m' ρ' _ hagree
  refine ⟨_, Cert.UpDxIdeal.Value.run (F := Ideal) m ρ, ?_⟩
  refine (θ_run Cert.UpDxRefIdeal.defs _ _).mono (fun _ h c => ?_) (Cert.UpDxRefIdeal.Value.run (F := Ideal) m' ρ')
  obtain ⟨X, hX⟩ := exists_is (a := 8192) (b := 2048) (m ((c : Thread nD τ).loc main_arg2))
  obtain ⟨Y, hY⟩ := exists_is (a := 512) (b := 2048) (m ((c : Thread nD τ).loc main_arg1))
  obtain ⟨a0, a1, a2⟩ := hagree c
  obtain ⟨r0, rest⟩ := h c
  refine ⟨r0.trans ?_, rest⟩
  rw [a1, a2]
  refine Is.ext (ref_num _ _ hX hY) (G_num m c ?_ ?_) fun _ _ _ _ => rfl
  · rw [V_main_arg2]; exact hX
  · rw [v0_eq]; exact hY

theorem frame_p : Cert.quiescent_UpDx := fun m ρ _ => Cert.UpDx.Gen.frame m ρ
theorem frame_pi : Cert.quiescent_UpDxIdeal := fun m ρ _ => Cert.UpDxIdeal.Gen.frame m ρ
theorem frame_ri : Cert.quiescent_UpDxRefIdeal := fun m ρ _ =>
  (θ_run Cert.UpDxRefIdeal.defs _ _).mono (fun r h => ⟨fun c => (h c).2,
      Idealize.ShloMosaic.sem_eq_zero_of_no_sems (by decide) r.2⟩)
    (Cert.UpDxRefIdeal.Value.run (F := Ideal) m ρ)

end Mm.UpDx

end
-- ==== Proof.UpDw.lean ====
/-
  The gradient of the weights of the attention's up-projection computes its product a tile of the contracted axis at a time, and its reference is the whole product; they agree
  for every input.
-/
module

public import Idealize.ShloMosaic.Lib.WritesUnit
public import Idealize.ShloMosaic.Lib.Quiescent
public import proofs.«01_k».proof.Defs
public import proofs.«01_k».proof.Proof.Prod
public import proofs.«01_k».proof.Proof.Gen.UpDw.Frame
public import proofs.«01_k».proof.Proof.Gen.UpDwIdeal.Value
public import proofs.«01_k».proof.Proof.Gen.UpDwRefIdeal.Run

@[expose] public section

set_option maxRecDepth 16384
set_option maxHeartbeats 1000000

noncomputable section

namespace Mm.UpDw

open Cert.UpDwIdeal Cert.UpDwIdeal.Gen Cert.UpDwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A k r * B k d

section
variable {x0 : Vec Ideal S1024x512 .f32} {x1 : Vec Ideal S1024x1024 .f32} {xs : Vec Ideal S512x1024 .f32} {A B T : ℕ → ℕ → EReal}

theorem pay1_num (hA : Is (a := 1024) (b := 512) x0 A) (hB : Is (a := 1024) (b := 1024) x1 B) :
    Is (a := 512) (b := 1024) (k0_pay1 (F := Ideal) x0 x1) (tile A B) := fun i => by
  unfold k0_pay1
  dsimp only
  exact matmul_sum _ none 1024 rfl rfl _ _ i (fun k => A k (i (0 : Fin 2)).val) (fun k => B k (i (1 : Fin 2)).val)
    (fun _ => transpose_is hA _ _) (fun _ => hB _)

theorem pay2_num (hA : Is (a := 1024) (b := 512) x0 A) (hB : Is (a := 1024) (b := 1024) x1 B) :
    Is (a := 512) (b := 1024) (k0_pay2 (F := Ideal) x0 x1) (tile A B) := by
  unfold k0_pay2
  dsimp only
  rw [shapeCast_self]
  exact pay1_num hA hB

theorem pay4_num (hA : Is (a := 1024) (b := 512) x0 A) (hB : Is (a := 1024) (b := 1024) x1 B) (hT : Is (a := 512) (b := 1024) xs T) :
    Is (a := 512) (b := 1024) (k0_pay4 (F := Ideal) x0 x1 xs) fun r d => T r d + tile A B r d := fun i => by
  unfold k0_pay4
  dsimp only
  show xs i + k0_pay1 (F := Ideal) x0 x1 i = _
  rw [hT i, pay1_num hA hB i]

theorem pay3_num (hA : Is (a := 1024) (b := 512) x0 A) (hB : Is (a := 1024) (b := 1024) x1 B) (hT : Is (a := 512) (b := 1024) xs T) :
    Is (a := 512) (b := 1024) (k0_pay3 (F := Ideal) x0 x1 xs) fun r d => T r d + tile A B r d := by
  unfold k0_pay3
  dsimp only
  rw [shapeCast_self]
  exact pay4_num hA hB hT

/-! What a point leaves: the first of a tile of the result (A) the product of its tiles, a later one (B) the running sum
in the buffer carried along, the last (C) the sum in the result. -/

section
variable (c : Dev nD) (i : grid0.Coords) (arg3 : Memref sig .tc .vmem S1024x512 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
  (hA : Is (a := 1024) (b := 512) x0 A) (hB : Is (a := 1024) (b := 1024) x1 B)
include hA hB

section
variable (hc0 : cond0_0 i) (hc1 : ¬cond0_1 i) (hc2 : ¬cond0_2 i)
theorem A_num :
    Is (a := 512) (b := 1024) (sout0_A_0 c i arg3 harg3 arg4 harg4 arg5 harg5 arg6 harg6 hc0 hc1 hc2 x0 x1) (tile A B) := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]
  exact pay2_num hA hB
end

section
variable (hT : Is (a := 512) (b := 1024) xs T) (hc0 : ¬cond0_0 i) (hc1 : cond0_1 i) (hc2 : ¬cond0_2 i)
include hT
theorem B_num :
    Is (a := 512) (b := 1024) (sout0_B_0 c i arg3 harg3 arg4 harg4 arg5 harg5 arg6 harg6 hc0 hc1 hc2 x0 x1 xs) fun r d => T r d + tile A B r d := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]
  exact pay3_num hA hB hT
end

section
variable (hT : Is (a := 512) (b := 1024) xs T) (hc0 : ¬cond0_0 i) (hc1 : ¬cond0_1 i) (hc2 : cond0_2 i)
include hT
theorem C_num :
    Is (a := 512) (b := 1024) (out0_C_2 c i arg3 harg3 arg4 harg4 arg5 harg5 arg6 harg6 hc0 hc1 hc2 x0 x1 xs) fun r d => T r d + tile A B r d := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]
  exact pay4_num hA hB hT
end
end
end

theorem idx_a : ∀ t : Fin grid0.N, win0_0.index t (0 : Fin 2) = t.val % 8 ∧ win0_0.index t (1 : Fin 2) = t.val / 16 := by decide +kernel
theorem idx_b : ∀ t : Fin grid0.N, win0_1.index t (0 : Fin 2) = t.val % 8 ∧ win0_1.index t (1 : Fin 2) = t.val / 8 % 2 := by decide +kernel

variable (m : (b : Loc nD τ sig) → Buf (Elt Ideal) b) (c : Dev nD) {X Y : ℕ → ℕ → EReal}

theorem blk_a (h : Is (a := 8192) (b := 512) (V (F := Ideal) m c main_arg0) X) (t : Fin cfg0.N) :
    Is (a := 1024) (b := 512) (iblk (F := Ideal) m c 0 t) (fun r d => X (1024 * (t.val % 8) + r) (512 * (t.val / 16) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 512 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 8192) (b := 2048) (V (F := Ideal) m c main_arg2) Y) (t : Fin cfg0.N) :
    Is (a := 1024) (b := 1024) (iblk (F := Ideal) m c 1 t) (fun r d => Y (1024 * (t.val % 8) + r) (1024 * (t.val / 8 % 2) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_arg2 (((cfg0.win 1).blk t).view.emb i) = _
  exact h.at _ hb0 hb1

/-- The sum of the first `q` tiles for the tile of the result point `n` works on. -/
def sums (X Y : ℕ → ℕ → EReal) (n q : ℕ) : ℕ → ℕ → EReal :=
  part (fun r c k => X k r * Y k c) 512 1024 1024 (n / 16) (n / 8 % 2) q

/-- The contents of the result's tile and of the buffer carried along. -/
abbrev State : Type := Vec Ideal S512x1024 .f32 × Vec Ideal S512x1024 .f32

/-- What the buffers hold after point `n`. -/
def Inv (X Y : ℕ → ℕ → EReal) (n : ℕ) (st : State) : Prop :=
  (¬n % 8 = 7 → Is (a := 512) (b := 1024) st.2 (sums X Y n (n % 8 + 1))) ∧ (n % 8 = 7 → Is (a := 512) (b := 1024) st.1 (sums X Y n (n % 8 + 1)))

section
variable (hX : Is (a := 8192) (b := 512) (V (F := Ideal) m c main_arg0) X) (hY : Is (a := 8192) (b := 2048) (V (F := Ideal) m c main_arg2) Y)
include hX hY

theorem step (t : Fin cfg0.N) (acc : State) (hacc : ¬t.val % 8 = 0 → Is (a := 512) (b := 1024) acc.2 (sums X Y t.val (t.val % 8))) :
    Inv X Y t.val (stAt0 m c t.val t.isLt acc) := by
  by_cases h0 : t.val % 8 = 0
  · have h1 : ¬(1 ≤ t.val % 8 ∧ t.val % 8 ≤ 6) := by omega
    have h2 : ¬t.val % 8 = 7 := by omega
    rw [stAt0_A m c t acc h0 h1 h2]
    refine ⟨fun _ => ?_, fun h => absurd h h2⟩
    dsimp only
    exact (A_num c (grid0.coords t) (ms0_0 t) (hs0_0 t) (ms0_1 t) (hs0_1 t) (ms0_2 t) (hs0_2 t) scM0_0 (Memref.isWhole_whole _)
      (blk_a m c hX t) (blk_b m c hY t) ((hcond0_0 t).mpr h0) (fun h => h1 ((hcond0_1 t).mp h)) (fun h => h2 ((hcond0_2 t).mp h))).congr
      fun r d => part_one (fun r c k => X k r * Y k c) 512 1024 1024 (t.val / 16) (t.val / 8 % 2) r d h0
  · by_cases h2 : t.val % 8 = 7
    · have h1 : ¬(1 ≤ t.val % 8 ∧ t.val % 8 ≤ 6) := by omega
      rw [stAt0_C m c t acc h0 h1 h2]
      refine ⟨fun h => absurd h2 h, fun _ => ?_⟩
      dsimp only
      exact (C_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) (fun h => h1 ((hcond0_1 t).mp h)) ((hcond0_2 t).mpr h2)).congr
        fun r d => part_succ (fun r c k => X k r * Y k c) 512 1024 1024 _ _ _ r d
    · have h1 : 1 ≤ t.val % 8 ∧ t.val % 8 ≤ 6 := by omega
      rw [stAt0_B m c t acc h0 h1 h2]
      refine ⟨fun _ => ?_, fun h => absurd h h2⟩
      dsimp only
      exact (B_num c (grid0.coords t) (ms0_0 t) (hs0_0 t) (ms0_1 t) (hs0_1 t) (ms0_2 t) (hs0_2 t) scM0_0 (Memref.isWhole_whole _)
        (blk_a m c hX t) (blk_b m c hY t) (hacc h0) (fun h => h0 ((hcond0_0 t).mp h)) ((hcond0_1 t).mpr h1) (fun h => h2 ((hcond0_2 t).mp h))).congr
        fun r d => part_succ (fun r c k => X k r * Y k c) 512 1024 1024 _ _ _ r d

theorem inv_all : ∀ (n : ℕ) (hn : n < cfg0.N), Inv X Y n (outsAt0 m c n hn)
  | 0, hn => by
    rw [outsAt0_zero m c hn]
    exact step m c hX hY ⟨0, hn⟩ _ fun h => absurd rfl h
  | n + 1, hn => by
    rw [outsAt0_succ m c n hn]
    refine step m c hX hY ⟨n + 1, hn⟩ _ fun h => ?_
    replace h : ¬(n + 1) % 8 = 0 := h
    refine ((inv_all n (Nat.lt_of_succ_lt hn)).1 (by omega)).congr fun r d => ?_
    show sums X Y n (n % 8 + 1) r d = sums X Y (n + 1) ((n + 1) % 8) r d
    unfold sums
    rw [show (n + 1) / 16 = n / 16 by omega, show (n + 1) / 8 = n / 8 by omega, show (n + 1) % 8 = n % 8 + 1 by omega]

/-- The result at an index. -/
theorem G_num : Is (a := 512) (b := 2048) (G2 (F := Ideal) m c) fun r c => ∑ k ∈ Finset.range 8192, X k r * Y k c := by
  intro i
  have b0 : (i (0 : Fin 2)).val < 512 := (i (0 : Fin 2)).isLt
  have b1 : (i (1 : Fin 2)).val < 2048 := (i (1 : Fin 2)).isLt
  have hp : pt2Of i = 8 * (2 * ((i (0 : Fin 2)).val / 512) + (i (1 : Fin 2)).val / 1024) + 7 := by
    show 8 * (2 * ((i (0 : Fin 2)).val / 512 - 0) + 1 * ((i (1 : Fin 2)).val / 1024 - 0)) + 7 = _
    omega
  have hl : pt2Of i < cfg0.N := by rw [hp, show cfg0.N = 16 from N_0]; omega
  unfold G2
  rw [dif_pos hl, ← outsAt0_sweep m c _ hl]
  refine ((inv_all m c hX hY _ hl).2 (by omega) _).trans ?_
  show sums X Y (pt2Of i) (pt2Of i % 8 + 1) ((i (0 : Fin 2)).val % 512) ((i (1 : Fin 2)).val % 1024) = _
  unfold sums
  rw [show pt2Of i / 16 = (i (0 : Fin 2)).val / 512 by omega, show pt2Of i / 8 % 2 = (i (1 : Fin 2)).val / 1024 by omega,
    show pt2Of i % 8 + 1 = 8 by omega]
  exact part_all (fun r c k => X k r * Y k c) 512 1024 1024 8 _ _
end

/-- The reference at row `r` and column `c`: the sum over all rows of the step's tokens. -/
theorem ref_num (x : FVec Ideal Cert.UpDwRefIdeal.S8192x512 .f32) (y : FVec Ideal Cert.UpDwRefIdeal.S8192x2048 .f32)
    (hX : Is (a := 8192) (b := 512) x X) (hY : Is (a := 8192) (b := 2048) y Y) :
    Is (a := 512) (b := 2048) (transpose Cert.UpDwRefIdeal.S512x2048 [1, 0]
      (Host.dotGeneral (F := Ideal) Cert.UpDwRefIdeal.dot_S8192x2048_S8192x512_S2048x512_0_0_1_1_n_n none y x)
      Cert.UpDwRefIdeal.Facts₀.transposes_S2048x512_S512x2048_1_0)
      fun r c => ∑ k ∈ Finset.range 8192, X k r * Y k c :=
  (transpose_is (X := fun c r => ∑ k ∈ Finset.range 8192, Y k c * X k r) (fun i =>
    dotGeneral_sum _ none _ 8192 rfl rfl y x i (fun k => Y k (i (0 : Fin 2)).val) (fun k => X k (i (1 : Fin 2)).val)
      (fun _ => hY _) (fun _ => hX _)) _).congr fun r c => Finset.sum_congr rfl fun k _ => mul_comm _ _

theorem algebraic : Cert.algebraic_UpDwIdeal_UpDwRefIdeal := by
  intro m ρ m' ρ' _ hagree
  refine ⟨_, Cert.UpDwIdeal.Value.run (F := Ideal) m ρ, ?_⟩
  refine (θ_run Cert.UpDwRefIdeal.defs _ _).mono (fun _ h c => ?_) (Cert.UpDwRefIdeal.Value.run (F := Ideal) m' ρ')
  obtain ⟨X, hX⟩ := exists_is (a := 8192) (b := 512) (m ((c : Thread nD τ).loc main_arg0))
  obtain ⟨Y, hY⟩ := exists_is (a := 8192) (b := 2048) (m ((c : Thread nD τ).loc main_arg2))
  obtain ⟨a0, a1, a2⟩ := hagree c
  obtain ⟨r0, rest⟩ := h c
  refine ⟨r0.trans ?_, rest⟩
  rw [a0, a2]
  exact Is.ext (ref_num _ _ hX hY) (G_num m c hX hY) fun _ _ _ _ => rfl

theorem frame_p : Cert.quiescent_UpDw := fun m ρ _ => Cert.UpDw.Gen.frame m ρ
theorem frame_pi : Cert.quiescent_UpDwIdeal := fun m ρ _ => Cert.UpDwIdeal.Gen.frame m ρ
theorem frame_ri : Cert.quiescent_UpDwRefIdeal := fun m ρ _ =>
  (θ_run Cert.UpDwRefIdeal.defs _ _).mono (fun r h => ⟨fun c => (h c).2,
      Idealize.ShloMosaic.sem_eq_zero_of_no_sems (by decide) r.2⟩)
    (Cert.UpDwRefIdeal.Value.run (F := Ideal) m ρ)

end Mm.UpDw

end
-- ==== Proof.Gate.lean ====
/-
  The gate of the feed-forward on extended reals, and the coordinates of an array whose columns hold 512 gates, the 512 numbers
  they gate, the next 512 gates, and so on: column `1024 * q + l` is gate `512 * q + l`, column `1024 * q + 512 + l` its number.
-/
module

public import proofs.«01_k».proof.Proof.Prod
public import Idealize.ShloMosaic.Lib.IdealHost
public import Idealize.ShloMosaic.Lib.KernelVsHost

@[expose] public section

noncomputable section

namespace Mm

open Idealize.ShloMosaic Idealize.ShloMosaic.ValueIdx

/-- The logistic function. -/
def logistic (a : EReal) : EReal := Ideal.div 1 (1 + Ideal.exp (-a))

/-- A number and its gate. -/
def gate (a b : EReal) : EReal := a * logistic a * b

/-- An array of three axes holds the numbers `X`. -/
def Is3 {a b c : ℕ} (x : (⟨3, ![a, b, c]⟩ : Shape).Idx → EReal) (X : ℕ → ℕ → ℕ → EReal) : Prop :=
  ∀ i, x i = X (i (0 : Fin 3)).val (i (1 : Fin 3)).val (i (2 : Fin 3)).val

/-- The logistic function as the kernel writes it. -/
theorem kernel_logistic {s : Shape} (x : s.Idx → EReal) (i : s.Idx) :
    divf (F := Ideal) (φ := .f32) (broadcast s (Scalar.ofBits .f32 0x3F800000#32))
      (addf (broadcast s (Scalar.ofBits .f32 0x3F800000#32)) (exp (subf (broadcast s (Scalar.ofBits .f32 0x00000000#32)) x))) i = logistic (x i) := by
  show Ideal.div (Ideal.ofBits .f32 0x3F800000#32) (Ideal.ofBits .f32 0x3F800000#32 + Ideal.exp (Ideal.ofBits .f32 0x00000000#32 - x i)) = _
  rw [Ideal.ofBits_one_f32, Ideal.ofBits_zero_f32, zero_sub, logistic]

/-- The logistic function as the reference writes it. -/
theorem host_logistic {t : Shape} (x : t.Idx → EReal) (b : (⟨0, ![]⟩ : Shape).BroadcastsInDim t ![]) (i : t.Idx) :
    Host.divf (F := Ideal) (φ := .f32) (broadcastInDim t ![] b (constant (⟨0, ![]⟩ : Shape) .f32 0x3F800000#32))
      (addf (broadcastInDim t ![] b (constant (⟨0, ![]⟩ : Shape) .f32 0x3F800000#32)) (Host.exp (Host.negf x))) i = logistic (x i) := by
  show Ideal.div (Ideal.ofBits .f32 0x3F800000#32) (Ideal.ofBits .f32 0x3F800000#32 + Ideal.exp (-(x i))) = _
  rw [Ideal.ofBits_one_f32, logistic]

/-- The gradient of a gate, as the kernel groups it. -/
def dgate (a b c : EReal) : EReal := c * b * logistic a * (1 + a * (1 - logistic a))

/-- The gradient of a gated number. -/
def dnum (a c : EReal) : EReal := c * a * logistic a

/-- The logistic function of a real is real. -/
theorem logistic_real (a : ℝ) : logistic (a : EReal) = ((1 / (1 + Real.exp (-a)) : ℝ) : EReal) := by
  have h : 1 + Real.exp (-a) ≠ 0 := (add_pos one_pos (Real.exp_pos _)).ne'
  unfold logistic
  rw [← EReal.coe_neg, Ideal.exp_coe, ← EReal.coe_one, ← EReal.coe_add, Ideal.div_coe h, ← EReal.coe_mul, one_mul]

/-- Of reals, the kernel's gradient of a gate is the sum the product rule gives. -/
theorem dgate_real (a b c : ℝ) :
    (c : EReal) * b * logistic a + a * (c * b) * (logistic a * (1 - logistic a)) = dgate a b c := by
  unfold dgate
  rw [logistic_real]
  generalize 1 / (1 + Real.exp (-a)) = s
  simp only [← EReal.coe_one, ← EReal.coe_mul, ← EReal.coe_sub, ← EReal.coe_add]
  congr 1
  ring

/-- The gradient of a gated number in the reference's order. -/
theorem dnum_comm (a c : EReal) : a * logistic a * c = dnum a c := by
  unfold dnum
  rw [mul_comm, ← mul_assoc]

section
variable {s : Shape} {x y d : s.Idx → EReal} {i : s.Idx} {a b c : EReal}

/-- The gradient of a gate as the kernel's operations write it. -/
theorem kernel_dgate (hx : x i = a) (hy : y i = b) (hd : d i = c) :
    mulf (F := Ideal) (φ := .f32) (mulf (mulf d y) (divf (broadcast s (Scalar.ofBits .f32 0x3F800000#32))
        (addf (broadcast s (Scalar.ofBits .f32 0x3F800000#32)) (exp (subf (broadcast s (Scalar.ofBits .f32 0x00000000#32)) x)))))
      (addf (broadcast s (Scalar.ofBits .f32 0x3F800000#32)) (mulf x (subf (broadcast s (Scalar.ofBits .f32 0x3F800000#32))
        (divf (broadcast s (Scalar.ofBits .f32 0x3F800000#32))
          (addf (broadcast s (Scalar.ofBits .f32 0x3F800000#32)) (exp (subf (broadcast s (Scalar.ofBits .f32 0x00000000#32)) x))))))) i
      = dgate a b c := by
  have hs := kernel_logistic x i
  generalize divf (F := Ideal) (φ := .f32) (broadcast s (Scalar.ofBits .f32 0x3F800000#32))
    (addf (broadcast s (Scalar.ofBits .f32 0x3F800000#32)) (exp (subf (broadcast s (Scalar.ofBits .f32 0x00000000#32)) x))) = z at hs ⊢
  show d i * y i * z i * (Ideal.ofBits .f32 0x3F800000#32 + x i * (Ideal.ofBits .f32 0x3F800000#32 - z i)) = _
  rw [hs, hx, hy, hd, Ideal.ofBits_one_f32, dgate]

/-- The gradient of a gated number as the kernel's operations write it. -/
theorem kernel_dnum (hx : x i = a) (hd : d i = c) :
    mulf (F := Ideal) (φ := .f32) (mulf d x) (divf (broadcast s (Scalar.ofBits .f32 0x3F800000#32))
        (addf (broadcast s (Scalar.ofBits .f32 0x3F800000#32)) (exp (subf (broadcast s (Scalar.ofBits .f32 0x00000000#32)) x)))) i
      = dnum a c := by
  have hs := kernel_logistic x i
  generalize divf (F := Ideal) (φ := .f32) (broadcast s (Scalar.ofBits .f32 0x3F800000#32))
    (addf (broadcast s (Scalar.ofBits .f32 0x3F800000#32)) (exp (subf (broadcast s (Scalar.ofBits .f32 0x00000000#32)) x))) = z at hs ⊢
  show d i * x i * z i = _
  rw [hs, hx, hd, dnum]

/-- The gradient of a gate as the reference's operations write it. -/
theorem host_dgate (r : (⟨0, ![]⟩ : Shape).BroadcastsInDim s ![]) (hx : x i = a) (hy : y i = b) (hd : d i = c) :
    addf (F := Ideal) (φ := .f32) (mulf (mulf d y) (Host.divf (broadcastInDim s ![] r (constant (⟨0, ![]⟩ : Shape) .f32 0x3F800000#32))
        (addf (broadcastInDim s ![] r (constant (⟨0, ![]⟩ : Shape) .f32 0x3F800000#32)) (Host.exp (Host.negf x)))))
      (mulf (mulf x (mulf d y)) (mulf (Host.divf (broadcastInDim s ![] r (constant (⟨0, ![]⟩ : Shape) .f32 0x3F800000#32))
        (addf (broadcastInDim s ![] r (constant (⟨0, ![]⟩ : Shape) .f32 0x3F800000#32)) (Host.exp (Host.negf x))))
        (subf (broadcastInDim s ![] r (constant (⟨0, ![]⟩ : Shape) .f32 0x3F800000#32))
          (Host.divf (broadcastInDim s ![] r (constant (⟨0, ![]⟩ : Shape) .f32 0x3F800000#32))
            (addf (broadcastInDim s ![] r (constant (⟨0, ![]⟩ : Shape) .f32 0x3F800000#32)) (Host.exp (Host.negf x))))))) i
      = c * b * logistic a + a * (c * b) * (logistic a * (1 - logistic a)) := by
  have hs := host_logistic x r i
  generalize Host.divf (F := Ideal) (φ := .f32) (broadcastInDim s ![] r (constant (⟨0, ![]⟩ : Shape) .f32 0x3F800000#32))
    (addf (broadcastInDim s ![] r (constant (⟨0, ![]⟩ : Shape) .f32 0x3F800000#32)) (Host.exp (Host.negf x))) = z at hs ⊢
  show d i * y i * z i + x i * (d i * y i) * (z i * (Ideal.ofBits .f32 0x3F800000#32 - z i)) = _
  rw [hs, hx, hy, hd, Ideal.ofBits_one_f32]

/-- The gradient of a gated number as the reference's operations write it. -/
theorem host_dnum (r : (⟨0, ![]⟩ : Shape).BroadcastsInDim s ![]) (hx : x i = a) (hd : d i = c) :
    mulf (F := Ideal) (φ := .f32) (mulf x (Host.divf (broadcastInDim s ![] r (constant (⟨0, ![]⟩ : Shape) .f32 0x3F800000#32))
        (addf (broadcastInDim s ![] r (constant (⟨0, ![]⟩ : Shape) .f32 0x3F800000#32)) (Host.exp (Host.negf x))))) d i
      = a * logistic a * c := by
  have hs := host_logistic x r i
  generalize Host.divf (F := Ideal) (φ := .f32) (broadcastInDim s ![] r (constant (⟨0, ![]⟩ : Shape) .f32 0x3F800000#32))
    (addf (broadcastInDim s ![] r (constant (⟨0, ![]⟩ : Shape) .f32 0x3F800000#32)) (Host.exp (Host.negf x))) = z at hs ⊢
  show x i * z i * d i = _
  rw [hs, hx, hd]
end

/-- Some columns of a matrix. -/
theorem cols_is {a b b' : ℕ} {x : (⟨2, ![a, b]⟩ : Shape).Idx → EReal} {X : ℕ → ℕ → EReal} (hx : Is x X) (o : ℕ)
    (h : (⟨2, ![a, b]⟩ : Shape).Slices ![0, o] ⟨2, ![a, b']⟩) (i : (⟨2, ![a, b']⟩ : Shape).Idx) :
    extractStridedSlice ⟨2, ![a, b']⟩ ![0, o] x h i = X (i (0 : Fin 2)).val (o + (i (1 : Fin 2)).val) := by
  unfold extractStridedSlice
  exact hx.at _ (Nat.zero_add _) rfl

/-- The gates (`h = 0`) or the numbers they gate (`h = 1`). -/
theorem half_is {x : (⟨2, ![8192, 11264]⟩ : Shape).Idx → EReal} {X : ℕ → ℕ → EReal} (hx : Is x X) (h : ℕ) (hh : h < 2)
    (h1 : (⟨2, ![8192, 11264]⟩ : Shape).ShapeCasts ⟨4, ![8192, 11, 2, 512]⟩)
    (h2 : (⟨4, ![8192, 11, 2, 512]⟩ : Shape).Slices ![0, 0, h, 0] ⟨4, ![8192, 11, 1, 512]⟩)
    (h3 : (⟨4, ![8192, 11, 1, 512]⟩ : Shape).ShapeCasts ⟨3, ![8192, 11, 512]⟩) :
    Is3 (a := 8192) (b := 11) (c := 512) (shapeCast ⟨3, ![8192, 11, 512]⟩ (extractStridedSlice ⟨4, ![8192, 11, 1, 512]⟩ ![0, 0, h, 0]
      (shapeCast ⟨4, ![8192, 11, 2, 512]⟩ x h1) h2) h3) fun r q l => X r (1024 * q + 512 * h + l) := by
  intro i
  have b0 : (i (0 : Fin 3)).val < 8192 := (i (0 : Fin 3)).isLt
  have b1 : (i (1 : Fin 3)).val < 11 := (i (1 : Fin 3)).isLt
  have b2 : (i (2 : Fin 3)).val < 512 := (i (2 : Fin 3)).isLt
  rw [shapeCast_apply _ h3 i (ix4 (i (0 : Fin 3)) (i (1 : Fin 3)) ⟨0, by decide⟩ (i (2 : Fin 3))) (by
    rw [Shape.rowMajor_val_four, Shape.rowMajor_val_three]
    show (((i (0 : Fin 3)).val * 11 + (i (1 : Fin 3)).val) * 1 + 0) * 512 + (i (2 : Fin 3)).val
      = ((i (0 : Fin 3)).val * 11 + (i (1 : Fin 3)).val) * 512 + (i (2 : Fin 3)).val
    omega)]
  rw [extractStridedSlice_apply _ _ h2 _ (ix4 (i (0 : Fin 3)) (i (1 : Fin 3)) ⟨h, hh⟩ (i (2 : Fin 3))) (by
    intro a; fin_cases a
    · exact (Nat.zero_add _).symm
    · exact (Nat.zero_add _).symm
    · rfl
    · exact (Nat.zero_add _).symm)]
  rw [shapeCast_apply _ h1 _ (ix2 (i (0 : Fin 3)) ⟨1024 * (i (1 : Fin 3)).val + 512 * h + (i (2 : Fin 3)).val, by omega⟩) (by
    rw [Shape.rowMajor_val_four, Shape.rowMajor_val_two]
    show (i (0 : Fin 3)).val * 11264 + (1024 * (i (1 : Fin 3)).val + 512 * h + (i (2 : Fin 3)).val)
      = (((i (0 : Fin 3)).val * 11 + (i (1 : Fin 3)).val) * 2 + h) * 512 + (i (2 : Fin 3)).val
    omega)]
  exact hx _

/-- Groups of 512 columns side by side. -/
theorem join_is {x : (⟨3, ![8192, 11, 512]⟩ : Shape).Idx → EReal} {X : ℕ → ℕ → ℕ → EReal} (hx : Is3 (a := 8192) (b := 11) (c := 512) x X)
    (h : (⟨3, ![8192, 11, 512]⟩ : Shape).ShapeCasts ⟨2, ![8192, 5632]⟩) :
    Is (a := 8192) (b := 5632) (shapeCast ⟨2, ![8192, 5632]⟩ x h) fun r c => X r (c / 512) (c % 512) := by
  intro i
  have b1 : (i (1 : Fin 2)).val < 5632 := (i (1 : Fin 2)).isLt
  rw [shapeCast_apply _ h i (ix3 (i (0 : Fin 2)) ⟨(i (1 : Fin 2)).val / 512, by omega⟩
    ⟨(i (1 : Fin 2)).val % 512, Nat.mod_lt _ (by decide)⟩) (by
    rw [Shape.rowMajor_val_three, Shape.rowMajor_val_two]
    show ((i (0 : Fin 2)).val * 11 + (i (1 : Fin 2)).val / 512) * 512 + (i (1 : Fin 2)).val % 512 = (i (0 : Fin 2)).val * 5632 + (i (1 : Fin 2)).val
    omega)]
  exact hx _

/-- Columns in groups of 512. -/
theorem group_is {x : (⟨2, ![8192, 5632]⟩ : Shape).Idx → EReal} {X : ℕ → ℕ → EReal} (hx : Is x X)
    (h : (⟨2, ![8192, 5632]⟩ : Shape).ShapeCasts ⟨3, ![8192, 11, 512]⟩) :
    Is3 (a := 8192) (b := 11) (c := 512) (shapeCast ⟨3, ![8192, 11, 512]⟩ x h) fun r q l => X r (512 * q + l) := by
  intro i
  have b1 : (i (1 : Fin 3)).val < 11 := (i (1 : Fin 3)).isLt
  have b2 : (i (2 : Fin 3)).val < 512 := (i (2 : Fin 3)).isLt
  rw [shapeCast_apply _ h i (ix2 (i (0 : Fin 3)) ⟨512 * (i (1 : Fin 3)).val + (i (2 : Fin 3)).val, by omega⟩) (by
    rw [Shape.rowMajor_val_three, Shape.rowMajor_val_two]
    show (i (0 : Fin 3)).val * 5632 + (512 * (i (1 : Fin 3)).val + (i (2 : Fin 3)).val)
      = ((i (0 : Fin 3)).val * 11 + (i (1 : Fin 3)).val) * 512 + (i (2 : Fin 3)).val
    omega)]
  exact hx _

/-- The two halves of every group of 1024 columns, each padded with zeros over the other's place and added up. -/
theorem halves_is {x y : (⟨3, ![8192, 11, 512]⟩ : Shape).Idx → EReal} {X Y : ℕ → ℕ → ℕ → EReal}
    (hx : Is3 (a := 8192) (b := 11) (c := 512) x X) (hy : Is3 (a := 8192) (b := 11) (c := 512) y Y)
    (hb : (⟨3, ![8192, 11, 512]⟩ : Shape).BroadcastsInDim ⟨4, ![8192, 11, 1, 512]⟩ ![0, 1, 3])
    (p1 : (⟨4, ![8192, 11, 1, 512]⟩ : Shape).Pads ![0, 0, 1, 0] ![0, 0, 0, 0] ![0, 0, 0, 0] ⟨4, ![8192, 11, 2, 512]⟩)
    (p0 : (⟨4, ![8192, 11, 1, 512]⟩ : Shape).Pads ![0, 0, 0, 0] ![0, 0, 1, 0] ![0, 0, 0, 0] ⟨4, ![8192, 11, 2, 512]⟩)
    (hu : 0 < (⟨0, ![]⟩ : Shape).numel) (h : (⟨4, ![8192, 11, 2, 512]⟩ : Shape).ShapeCasts ⟨2, ![8192, 11264]⟩) :
    Is (a := 8192) (b := 11264) (shapeCast ⟨2, ![8192, 11264]⟩ (addf (F := Ideal) (φ := .f32)
      (pad ⟨4, ![8192, 11, 2, 512]⟩ ![0, 0, 1, 0] ![0, 0, 0, 0] ![0, 0, 0, 0] (broadcastInDim ⟨4, ![8192, 11, 1, 512]⟩ ![0, 1, 3] hb y)
        (constant (F := Ideal) (⟨0, ![]⟩ : Shape) .f32 0x00000000#32) p1 hu)
      (pad ⟨4, ![8192, 11, 2, 512]⟩ ![0, 0, 0, 0] ![0, 0, 1, 0] ![0, 0, 0, 0] (broadcastInDim ⟨4, ![8192, 11, 1, 512]⟩ ![0, 1, 3] hb x)
        (constant (F := Ideal) (⟨0, ![]⟩ : Shape) .f32 0x00000000#32) p0 hu)) h)
      fun r c => if c % 1024 < 512 then X r (c / 1024) (c % 1024) else Y r (c / 1024) (c % 1024 - 512) := by
  intro i
  have b1 : (i (1 : Fin 2)).val < 11264 := (i (1 : Fin 2)).isLt
  have hz : ∀ e : (⟨0, ![]⟩ : Shape).Idx, constant (F := Ideal) (⟨0, ![]⟩ : Shape) .f32 0x00000000#32 e = (0 : EReal) := fun _ => Ideal.ofBits_zero_f32
  have hl : ∀ (z : (⟨3, ![8192, 11, 512]⟩ : Shape).Idx → EReal) (Z : ℕ → ℕ → ℕ → EReal), Is3 (a := 8192) (b := 11) (c := 512) z Z →
      ∀ k : (⟨4, ![8192, 11, 1, 512]⟩ : Shape).Idx, broadcastInDim ⟨4, ![8192, 11, 1, 512]⟩ ![0, 1, 3] hb z k
        = Z (k (0 : Fin 4)).val (k (1 : Fin 4)).val (k (3 : Fin 4)).val := fun z Z hz k =>
    (broadcastInDim_apply ![0, 1, 3] hb z k (ix3 (k (0 : Fin 4)) (k (1 : Fin 4)) (k (3 : Fin 4))) (by
      intro a; fin_cases a <;> rfl)).trans (hz _)
  rw [shapeCast_apply _ h i (ix4 (i (0 : Fin 2)) ⟨(i (1 : Fin 2)).val / 1024, by omega⟩
    ⟨(i (1 : Fin 2)).val % 1024 / 512, by omega⟩ ⟨(i (1 : Fin 2)).val % 512, Nat.mod_lt _ (by decide)⟩) (by
    rw [Shape.rowMajor_val_four, Shape.rowMajor_val_two]
    show (((i (0 : Fin 2)).val * 11 + (i (1 : Fin 2)).val / 1024) * 2 + (i (1 : Fin 2)).val % 1024 / 512) * 512 + (i (1 : Fin 2)).val % 512
      = (i (0 : Fin 2)).val * 11264 + (i (1 : Fin 2)).val
    omega)]
  show pad _ _ _ _ _ _ p1 hu _ + pad _ _ _ _ _ _ p0 hu _ = (_ : EReal)
  by_cases hc : (i (1 : Fin 2)).val % 1024 < 512
  · rw [pad_apply_of_not_inside _ _ _ _ _ p1 hu _ (2 : Fin 4) (by
        rintro ⟨h, -⟩
        replace h : 1 ≤ (i (1 : Fin 2)).val % 1024 / 512 := h
        omega),
      pad_apply_of_inside _ _ _ _ _ p0 hu _ (ix4 (i (0 : Fin 2)) ⟨(i (1 : Fin 2)).val / 1024, by omega⟩
        ⟨0, by decide⟩ ⟨(i (1 : Fin 2)).val % 1024, hc⟩) (by
        intro a; fin_cases a
        · show (i (0 : Fin 2)).val = 0 + (i (0 : Fin 2)).val * (0 + 1); omega
        · show (i (1 : Fin 2)).val / 1024 = 0 + (i (1 : Fin 2)).val / 1024 * (0 + 1); omega
        · show (i (1 : Fin 2)).val % 1024 / 512 = 0 + 0 * (0 + 1); omega
        · show (i (1 : Fin 2)).val % 512 = 0 + (i (1 : Fin 2)).val % 1024 * (0 + 1); omega),
      hz, zero_add, hl _ _ hx]
    exact (if_pos hc).symm
  · rw [pad_apply_of_not_inside _ _ _ _ _ p0 hu _ (2 : Fin 4) (by
        rintro ⟨-, -, h⟩
        replace h : ((i (1 : Fin 2)).val % 1024 / 512 - 0) / (0 + 1) < 1 := h
        omega),
      pad_apply_of_inside _ _ _ _ _ p1 hu _ (ix4 (i (0 : Fin 2)) ⟨(i (1 : Fin 2)).val / 1024, by omega⟩
        ⟨0, by decide⟩ ⟨(i (1 : Fin 2)).val % 1024 - 512, by omega⟩) (by
        intro a; fin_cases a
        · show (i (0 : Fin 2)).val = 0 + (i (0 : Fin 2)).val * (0 + 1); omega
        · show (i (1 : Fin 2)).val / 1024 = 0 + (i (1 : Fin 2)).val / 1024 * (0 + 1); omega
        · show (i (1 : Fin 2)).val % 1024 / 512 = 1 + 0 * (0 + 1); omega
        · show (i (1 : Fin 2)).val % 512 = 0 + ((i (1 : Fin 2)).val % 1024 - 512) * (0 + 1); omega),
      hz, add_zero, hl _ _ hy]
    exact (if_neg hc).symm

end Mm

end
-- ==== Proof.GuFw.lean ====
/-
  The feed-forward's first product writes a tile of the product at a time, and beside it the tile's gated numbers; its reference is
  the whole product, and the gated numbers of the whole. They agree for every input.
-/
module

public import Idealize.ShloMosaic.Lib.WritesUnit
public import Idealize.ShloMosaic.Lib.Quiescent
public import proofs.«01_k».proof.Defs
public import proofs.«01_k».proof.Proof.Prod
public import proofs.«01_k».proof.Proof.Gate
public import proofs.«01_k».proof.Proof.Gen.GuFw.Frame
public import proofs.«01_k».proof.Proof.Gen.GuFwIdeal.Value
public import proofs.«01_k».proof.Proof.Gen.GuFwRefIdeal.Run

@[expose] public section

set_option maxRecDepth 16384
set_option maxHeartbeats 1000000

noncomputable section

namespace Mm.GuFw

open Cert.GuFwIdeal Cert.GuFwIdeal.Gen Cert.GuFwIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 2048, A r k * B k d

section
variable {x0 : Vec Ideal S1024x2048 .f32} {x1 : Vec Ideal S2048x1024 .bf16} {A B : ℕ → ℕ → EReal}

theorem pay1_num (hA : Is (a := 1024) (b := 2048) x0 A) (hB : Is (a := 2048) (b := 1024) x1 B) :
    Is (a := 1024) (b := 1024) (k0_pay1 (F := Ideal) x0 x1) (tile A B) := fun i => by
  unfold k0_pay1
  dsimp only
  rw [shapeCast_self]
  exact matmul_sum _ none 2048 rfl rfl _ _ i (fun k => A (i (0 : Fin 2)).val k) (fun k => B k (i (1 : Fin 2)).val)
    (fun _ => hA _) (fun _ => hB _)

theorem pay2_num (hA : Is (a := 1024) (b := 2048) x0 A) (hB : Is (a := 2048) (b := 1024) x1 B) :
    Is (a := 1024) (b := 512) (k0_pay2 (F := Ideal) x0 x1) fun r d => gate (tile A B r d) (tile A B r (512 + d)) := fun i => by
  have h := pay1_num hA hB
  unfold k0_pay2
  dsimp only
  refine (congrArg₂ (fun a b : EReal => a * b) (congrArg₂ (fun a b : EReal => a * b) rfl (kernel_logistic _ i)) rfl).trans ?_
  rw [cols_is (a := 1024) (b := 1024) (b' := 512) h 0, cols_is (a := 1024) (b := 1024) (b' := 512) h 512, Nat.zero_add]
  rfl

/-- What a point leaves in the result's tile. -/
theorem A_num (c : Dev nD) (i : grid0.Coords) (arg3 : Memref sig .tc .vmem S1024x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x1024 .f32) (harg7 : arg7.IsWhole)
    (hA : Is (a := 1024) (b := 2048) x0 A) (hB : Is (a := 2048) (b := 1024) x1 B) :
    Is (a := 1024) (b := 1024) (out0_A_2 c i arg3 harg3 arg4 harg4 arg5 harg5 arg6 harg6 arg7 harg7 x0 x1) (tile A B) := by
  unfold out0_A_2
  rw [View.read_writes_eq_canon _ _ _ (cover0_A_2 c i arg3 harg3 arg4 harg4 arg5 harg5 arg6 harg6 arg7 harg7 x0 x1)]
  unfold kernelRun0_A
  dsimp only
  sl_unfold_words
  rw [View.canon_unit_zero hz]
  simp only [View.readAt_eq_ld, harg3.read_unread, harg4.read_unread, View.ld_unit_zero (S := S1024x2048) hz, View.ld_unit_zero (S := S2048x1024) hz]
  exact pay1_num hA hB

/-- What a point leaves in the tile of gated numbers. -/
theorem S_num (c : Dev nD) (i : grid0.Coords) (arg3 : Memref sig .tc .vmem S1024x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x1024 .f32) (harg7 : arg7.IsWhole)
    (hA : Is (a := 1024) (b := 2048) x0 A) (hB : Is (a := 2048) (b := 1024) x1 B) :
    Is (a := 1024) (b := 512) (out0_A_3 c i arg3 harg3 arg4 harg4 arg5 harg5 arg6 harg6 arg7 harg7 x0 x1) fun r d => gate (tile A B r d) (tile A B r (512 + d)) := by
  unfold out0_A_3
  rw [View.read_writes_eq_canon _ _ _ (cover0_A_3 c i arg3 harg3 arg4 harg4 arg5 harg5 arg6 harg6 arg7 harg7 x0 x1)]
  unfold kernelRun0_A
  dsimp only
  sl_unfold_words
  rw [View.canon_unit_zero hz]
  simp only [View.readAt_eq_ld, harg3.read_unread, harg4.read_unread, View.ld_unit_zero (S := S1024x2048) hz, View.ld_unit_zero (S := S2048x1024) hz]
  exact pay2_num hA hB
end

theorem idx_a : ∀ t : Fin grid0.N, win0_0.index t (0 : Fin 2) = t.val / 11 ∧ win0_0.index t (1 : Fin 2) = 0 := by decide +kernel
theorem idx_b : ∀ t : Fin grid0.N, win0_1.index t (0 : Fin 2) = 0 ∧ win0_1.index t (1 : Fin 2) = t.val % 11 := by decide +kernel

variable (m : (b : Loc nD τ sig) → Buf (Elt Ideal) b) (c : Dev nD) {X Y : ℕ → ℕ → EReal}

theorem blk_a (h : Is (a := 8192) (b := 2048) (V (F := Ideal) m c main_arg0) X) (t : Fin cfg0.N) :
    Is (a := 1024) (b := 2048) (iblk (F := Ideal) m c 0 t) (fun r d => X (1024 * (t.val / 11) + r) (2048 * (0) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 2048 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 2048) (b := 11264) (V (F := Ideal) m c main_v0) Y) (t : Fin cfg0.N) :
    Is (a := 2048) (b := 1024) (iblk (F := Ideal) m c 1 t) (fun r d => Y (2048 * (0) + r) (1024 * (t.val % 11) + d)) := by
  intro i
  unfold iblk
  rw [View.read_apply]
  obtain ⟨e0, e1⟩ := idx_b t
  have hb0 : (((cfg0.win 1).blk t).view.emb i (0 : Fin 2)).val = win0_1.index t (0 : Fin 2) * 2048 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

theorem idx_o : ∀ t : Fin grid0.N, win0_2.index t (0 : Fin 2) = t.val / 11 ∧ win0_2.index t (1 : Fin 2) = t.val % 11 := by decide +kernel
theorem flush_o : ∀ t : Fin grid0.N, win0_2.flush t = true := by decide +kernel

theorem idx_s : ∀ t : Fin grid0.N, win0_3.index t (0 : Fin 2) = t.val / 11 ∧ win0_3.index t (1 : Fin 2) = t.val % 11 := by decide +kernel
theorem flush_s : ∀ t : Fin grid0.N, win0_3.flush t = true := by decide +kernel

/-- The whole product. -/
def prod (X Y : ℕ → ℕ → EReal) (r c : ℕ) : EReal := ∑ k ∈ Finset.range 2048, X r k * Y k c

theorem tile_eq (X Y : ℕ → ℕ → EReal) (t r d : ℕ) :
    tile (fun r d => X (1024 * (t / 11) + r) (2048 * (0) + d)) (fun r d => Y (2048 * (0) + r) (1024 * (t % 11) + d)) r d
      = prod X Y (1024 * (t / 11) + r) (1024 * (t % 11) + d) := by
  unfold tile prod
  simp only [Nat.mul_zero, Nat.zero_add]

/-- The result at an index: the point that writes its tile leaves the whole sum there. -/
theorem out_num (hX : Is (a := 8192) (b := 2048) (V (F := Ideal) m c main_arg0) X) (hY : Is (a := 2048) (b := 11264) (V (F := Ideal) m c main_v0) Y) :
    Is (a := 8192) (b := 11264) ((dats (F := Ideal) m 0 c).arrAt 2 cfg0.N) (prod X Y) := by
  intro i
  have b0 : (i (0 : Fin 2)).val < 8192 := (i (0 : Fin 2)).isLt
  have b1 : (i (1 : Fin 2)).val < 11264 := (i (1 : Fin 2)).isLt
  have hl : 11 * ((i (0 : Fin 2)).val / 1024) + (i (1 : Fin 2)).val / 1024 < cfg0.N := by rw [show cfg0.N = 88 from N_0]; omega
  let t : Fin cfg0.N := ⟨_, hl⟩
  have e : t.val = 11 * ((i (0 : Fin 2)).val / 1024) + (i (1 : Fin 2)).val / 1024 := rfl
  clear_value t
  let y : S1024x1024.Idx := ValueIdx.ix2 ⟨(i (0 : Fin 2)).val % 1024, Nat.mod_lt _ (by decide)⟩ ⟨(i (1 : Fin 2)).val % 1024, Nat.mod_lt _ (by decide)⟩
  obtain ⟨e0, e1⟩ := idx_o t
  have hb0 : (((cfg0.win 2).blk t).view.emb y (0 : Fin 2)).val = win0_2.index t (0 : Fin 2) * 1024 + 1 * ((i (0 : Fin 2)).val % 1024) := rfl
  have hb1 : (((cfg0.win 2).blk t).view.emb y (1 : Fin 2)).val = win0_2.index t (1 : Fin 2) * 1024 + 1 * ((i (1 : Fin 2)).val % 1024) := rfl
  have hy : ((cfg0.win 2).blk t).view.emb y = i := by
    funext a
    apply Fin.ext
    match a with
    | ⟨0, _⟩ => refine hb0.trans ?_; rw [e0]; show _ = (i (0 : Fin 2)).val; omega
    | ⟨1, _⟩ => refine hb1.trans ?_; rw [e1]; show _ = (i (1 : Fin 2)).val; omega
  have hb := congrFun (blocks2 m c t (flush_o t)) y
  rw [View.read_apply, hy, flushed2_A] at hb
  refine hb.trans ?_
  refine (A_num c (grid0.coords t) (ms0_0 t) (hs0_0 t) (ms0_1 t) (hs0_1 t) (ms0_2 t) (hs0_2 t) (ms0_3 t) (hs0_3 t) scM0_0 (Memref.isWhole_whole _)
    (blk_a m c hX t) (blk_b m c hY t) y).trans ?_
  refine (tile_eq X Y t.val _ _).trans ?_
  rw [show 1024 * (t.val / 11) + (i (0 : Fin 2)).val % 1024 = (i (0 : Fin 2)).val by omega,
    show 1024 * (t.val % 11) + (i (1 : Fin 2)).val % 1024 = (i (1 : Fin 2)).val by omega]

/-- The gated numbers at an index: the point that writes its tile leaves the whole sum there. -/
theorem gate_num (hX : Is (a := 8192) (b := 2048) (V (F := Ideal) m c main_arg0) X) (hY : Is (a := 2048) (b := 11264) (V (F := Ideal) m c main_v0) Y) :
    Is (a := 8192) (b := 5632) ((dats (F := Ideal) m 0 c).arrAt 3 cfg0.N) fun r c => gate (prod X Y r (1024 * (c / 512) + c % 512)) (prod X Y r (1024 * (c / 512) + 512 + c % 512)) := by
  intro i
  have b0 : (i (0 : Fin 2)).val < 8192 := (i (0 : Fin 2)).isLt
  have b1 : (i (1 : Fin 2)).val < 5632 := (i (1 : Fin 2)).isLt
  have hl : 11 * ((i (0 : Fin 2)).val / 1024) + (i (1 : Fin 2)).val / 512 < cfg0.N := by rw [show cfg0.N = 88 from N_0]; omega
  let t : Fin cfg0.N := ⟨_, hl⟩
  have e : t.val = 11 * ((i (0 : Fin 2)).val / 1024) + (i (1 : Fin 2)).val / 512 := rfl
  clear_value t
  let y : S1024x512.Idx := ValueIdx.ix2 ⟨(i (0 : Fin 2)).val % 1024, Nat.mod_lt _ (by decide)⟩ ⟨(i (1 : Fin 2)).val % 512, Nat.mod_lt _ (by decide)⟩
  obtain ⟨e0, e1⟩ := idx_s t
  have hb0 : (((cfg0.win 3).blk t).view.emb y (0 : Fin 2)).val = win0_3.index t (0 : Fin 2) * 1024 + 1 * ((i (0 : Fin 2)).val % 1024) := rfl
  have hb1 : (((cfg0.win 3).blk t).view.emb y (1 : Fin 2)).val = win0_3.index t (1 : Fin 2) * 512 + 1 * ((i (1 : Fin 2)).val % 512) := rfl
  have hy : ((cfg0.win 3).blk t).view.emb y = i := by
    funext a
    apply Fin.ext
    match a with
    | ⟨0, _⟩ => refine hb0.trans ?_; rw [e0]; show _ = (i (0 : Fin 2)).val; omega
    | ⟨1, _⟩ => refine hb1.trans ?_; rw [e1]; show _ = (i (1 : Fin 2)).val; omega
  have hb := congrFun (blocks3 m c t (flush_s t)) y
  rw [View.read_apply, hy, flushed3_A] at hb
  refine hb.trans ?_
  refine (S_num c (grid0.coords t) (ms0_0 t) (hs0_0 t) (ms0_1 t) (hs0_1 t) (ms0_2 t) (hs0_2 t) (ms0_3 t) (hs0_3 t) scM0_0 (Memref.isWhole_whole _)
    (blk_a m c hX t) (blk_b m c hY t) y).trans ?_
  show gate (tile _ _ _ _) (tile _ _ _ _) = gate _ _
  rw [tile_eq, tile_eq, show 1024 * (t.val / 11) + (i (0 : Fin 2)).val % 1024 = (i (0 : Fin 2)).val by omega,
    show t.val % 11 = (i (1 : Fin 2)).val / 512 by omega, Nat.add_assoc]

/-- The weights the call reads are the given ones: a cast of extended reals changes nothing. -/
theorem v0_eq : V (F := Ideal) m c main_v0 = (m ((c : Thread nD τ).loc main_arg1) : S2048x11264.Idx → EReal) := by
  simp -implicitDefEqProofs only [V, hostOps0, List.flatten_cons, List.flatten_nil, List.append_nil, List.cons_append, List.nil_append]
  after_results_simp
  rfl

/-- The reference's product. -/
theorem ref_num (x : FVec Ideal Cert.GuFwRefIdeal.S8192x2048 .f32) (y : FVec Ideal Cert.GuFwRefIdeal.S2048x11264 .f32)
    (hX : Is (a := 8192) (b := 2048) x X) (hY : Is (a := 2048) (b := 11264) y Y) :
    Is (a := 8192) (b := 11264) (Host.dotGeneral (F := Ideal) Cert.GuFwRefIdeal.dot_S8192x2048_S2048x11264_S8192x11264_1_0_0_1_n_n none x y)
      (prod X Y) := fun i =>
  dotGeneral_sum _ none _ 2048 rfl rfl x y i (fun k => X (i (0 : Fin 2)).val k) (fun k => Y k (i (1 : Fin 2)).val)
    (fun _ => hX _) (fun _ => hY _)

/-- The reference's gates as its operations write them. -/
abbrev half (x : FVec Ideal Cert.GuFwRefIdeal.S8192x11264 .f32) : FVec Ideal Cert.GuFwRefIdeal.S8192x11x512 .f32 :=
  shapeCast Cert.GuFwRefIdeal.S8192x11x512 (extractStridedSlice Cert.GuFwRefIdeal.S8192x11x1x512 ![0, 0, 0, 0]
    (shapeCast Cert.GuFwRefIdeal.S8192x11x2x512 x Cert.GuFwRefIdeal.Facts₀.shapeCasts_S8192x11264_S8192x11x2x512)
    Cert.GuFwRefIdeal.Facts₀.slices_S8192x11x2x512_S8192x11x1x512_0_0_0_0) Cert.GuFwRefIdeal.Facts₀.shapeCasts_S8192x11x1x512_S8192x11x512

/-- The reference's gated numbers as its operations write them. -/
abbrev ref (x : FVec Ideal Cert.GuFwRefIdeal.S8192x11264 .f32) : FVec Ideal Cert.GuFwRefIdeal.S8192x5632 .f32 :=
  shapeCast Cert.GuFwRefIdeal.S8192x5632 (mulf (mulf (half x) (Host.divf
      (broadcastInDim Cert.GuFwRefIdeal.S8192x11x512 ![] Cert.GuFwRefIdeal.Facts₀.bcast_S_S8192x11x512 (constant Cert.GuFwRefIdeal.S_ .f32 0x3F800000#32))
      (addf (broadcastInDim Cert.GuFwRefIdeal.S8192x11x512 ![] Cert.GuFwRefIdeal.Facts₀.bcast_S_S8192x11x512 (constant Cert.GuFwRefIdeal.S_ .f32 0x3F800000#32))
        (Host.exp (Host.negf (half x))))))
    (shapeCast Cert.GuFwRefIdeal.S8192x11x512 (extractStridedSlice Cert.GuFwRefIdeal.S8192x11x1x512 ![0, 0, 1, 0]
      (shapeCast Cert.GuFwRefIdeal.S8192x11x2x512 x Cert.GuFwRefIdeal.Facts₀.shapeCasts_S8192x11264_S8192x11x2x512)
      Cert.GuFwRefIdeal.Facts₀.slices_S8192x11x2x512_S8192x11x1x512_0_0_1_0) Cert.GuFwRefIdeal.Facts₀.shapeCasts_S8192x11x1x512_S8192x11x512))
    Cert.GuFwRefIdeal.Facts₀.shapeCasts_S8192x11x512_S8192x5632

/-- The reference's gated numbers, of any product. -/
theorem ref_gate {x : FVec Ideal Cert.GuFwRefIdeal.S8192x11264 .f32} {X : ℕ → ℕ → EReal} (hX : Is (a := 8192) (b := 11264) x X) :
    Is (a := 8192) (b := 5632) (ref x) fun r c => gate (X r (1024 * (c / 512) + c % 512)) (X r (1024 * (c / 512) + 512 + c % 512)) := by
  have h0 := half_is hX 0 (by decide) Cert.GuFwRefIdeal.Facts₀.shapeCasts_S8192x11264_S8192x11x2x512
    Cert.GuFwRefIdeal.Facts₀.slices_S8192x11x2x512_S8192x11x1x512_0_0_0_0 Cert.GuFwRefIdeal.Facts₀.shapeCasts_S8192x11x1x512_S8192x11x512
  have h1 := half_is hX 1 (by decide) Cert.GuFwRefIdeal.Facts₀.shapeCasts_S8192x11264_S8192x11x2x512
    Cert.GuFwRefIdeal.Facts₀.slices_S8192x11x2x512_S8192x11x1x512_0_0_1_0 Cert.GuFwRefIdeal.Facts₀.shapeCasts_S8192x11x1x512_S8192x11x512
  refine (join_is (X := fun r q l => gate (X r (1024 * q + 512 * 0 + l)) (X r (1024 * q + 512 * 1 + l))) (fun i => ?_) _).congr fun r c => ?_
  · refine (congrArg₂ (fun a b : EReal => a * b) (congrArg₂ (fun a b : EReal => a * b) (h0 i) ((host_logistic _ _ i).trans (congrArg logistic (h0 i)))) (h1 i)).trans ?_
    rfl
  · rfl

theorem algebraic : Cert.algebraic_GuFwIdeal_GuFwRefIdeal := by
  intro m ρ m' ρ' _ hagree
  refine ⟨_, _, Cert.GuFwIdeal.Value.run_blocks (F := Ideal) m ρ, ?_⟩
  refine (θ_run Cert.GuFwRefIdeal.defs _ _).mono (fun _ h c => ?_) (Cert.GuFwRefIdeal.Value.run (F := Ideal) m' ρ')
  obtain ⟨X, hX⟩ := exists_is (a := 8192) (b := 2048) (m ((c : Thread nD τ).loc main_arg0))
  obtain ⟨Y, hY⟩ := exists_is (a := 2048) (b := 11264) (m ((c : Thread nD τ).loc main_arg1))
  obtain ⟨a2, a1⟩ := hagree c
  obtain ⟨r0, r1, rest⟩ := h c
  have hX' : Is (a := 8192) (b := 2048) (V (F := Ideal) m c main_arg0) X := by rw [V_main_arg0]; exact hX
  have hY' : Is (a := 2048) (b := 11264) (V (F := Ideal) m c main_v0) Y := by rw [v0_eq]; exact hY
  rw [a1, a2] at r0 r1
  exact ⟨r0.trans (Is.ext (ref_num _ _ hX hY) (out_num m c hX' hY') fun _ _ _ _ => rfl),
    r1.trans (Is.ext (ref_gate (ref_num _ _ hX hY)) (gate_num m c hX' hY') fun _ _ _ _ => rfl), rest⟩

theorem frame_p : Cert.quiescent_GuFw := fun m ρ _ => Cert.GuFw.Gen.frame m ρ
theorem frame_pi : Cert.quiescent_GuFwIdeal := fun m ρ _ => Cert.GuFwIdeal.Gen.frame m ρ
theorem frame_ri : Cert.quiescent_GuFwRefIdeal := fun m ρ _ =>
  (θ_run Cert.GuFwRefIdeal.defs _ _).mono (fun r h => ⟨fun c => (h c).2.2,
      Idealize.ShloMosaic.sem_eq_zero_of_no_sems (by decide) r.2⟩)
    (Cert.GuFwRefIdeal.Value.run (F := Ideal) m ρ)

end Mm.GuFw

end
-- ==== Proof.FiniteMlp.lean ====
/-
  The precondition of the feed-forward's input gradient makes every number of its three arguments real.
-/
module

public import proofs.«01_k».proof.Proof.Finite

@[expose] public section

set_option maxHeartbeats 1000000

noncomputable section

namespace Cert.Pre_finite_mlp

open Idealize.ShloMosaic

instance facts : Facts := ⟨by decide, by decide, by decide, by decide, by decide, by decide, by decide⟩

/-- Every entry of the three arrays is real. -/
theorem reals (w : FVec Ideal S8192x11264 .f32) (y : FVec Ideal S5632x2048 .f32) (x : FVec Ideal S8192x2048 .f32) (h : fn (F := Ideal) w y x = fun _ => 1#1) :
    (∃ W, Att.Is2 (a := 8192) (b := 11264) w W) ∧ (∃ Y, Att.Is2 (a := 5632) (b := 2048) y Y) ∧ ∃ X, Att.Is2 (a := 8192) (b := 2048) x X := by
  let j : S_.Idx := fun k => k.elim0
  have e := congrFun h j
  obtain ⟨e, h2⟩ := Cert.Pre_finite.and_one e
  obtain ⟨h0, h1⟩ := Cert.Pre_finite.and_one e
  exact ⟨Att.exists_real2 w (Cert.Pre_finite.reals_of_all (u := S_) w _ _ _ _ j h0), Att.exists_real2 y (Cert.Pre_finite.reals_of_all (u := S_) y _ _ _ _ j h1),
    Att.exists_real2 x (Cert.Pre_finite.reals_of_all (u := S_) x _ _ _ _ j h2)⟩

end Cert.Pre_finite_mlp

end
-- ==== Proof.DownDx.lean ====
/-
  The gradient of the input of the feed-forward's second product, carried on to the gates and the numbers they gate: computed a
  tile of the contracted axis at a time, the gates' gradients at the last. The reference takes them from the whole product; they
  agree where all arguments are finite.
-/
module

public import Idealize.ShloMosaic.Lib.WritesUnit
public import Idealize.ShloMosaic.Lib.Quiescent
public import proofs.«01_k».proof.Defs
public import proofs.«01_k».proof.Proof.Prod
public import proofs.«01_k».proof.Proof.Gate
public import proofs.«01_k».proof.Proof.FiniteMlp
public import proofs.«01_k».proof.Proof.Gen.DownDx.Frame
public import proofs.«01_k».proof.Proof.Gen.DownDxIdeal.Value
public import proofs.«01_k».proof.Proof.Gen.DownDxRefIdeal.Run

@[expose] public section

set_option maxRecDepth 16384
set_option maxHeartbeats 1000000

noncomputable section

namespace Mm.DownDx

open Cert.DownDxIdeal Cert.DownDxIdeal.Gen Cert.DownDxIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A r k * B d k

section
variable {x0 : Vec Ideal S1024x1024 .f32} {x1 : Vec Ideal S512x1024 .bf16} {x2 : Vec Ideal S1024x1024 .f32} {xs : Vec Ideal S1024x512 .f32} {A B C T : ℕ → ℕ → EReal}

theorem pay1_num (hA : Is (a := 1024) (b := 1024) x0 A) (hB : Is (a := 512) (b := 1024) x1 B) :
    Is (a := 1024) (b := 512) (k0_pay1 (F := Ideal) x0 x1) (tile A B) := fun i => by
  unfold k0_pay1
  dsimp only
  rw [shapeCast_self]
  exact matmul_sum _ none 1024 rfl rfl _ _ i (fun k => A (i (0 : Fin 2)).val k) (fun k => B (i (1 : Fin 2)).val k)
    (fun _ => hA _) (fun _ => hB _)

theorem pay2_num (hA : Is (a := 1024) (b := 1024) x0 A) (hB : Is (a := 512) (b := 1024) x1 B) :
    Is (a := 1024) (b := 512) (k0_pay2 (F := Ideal) x0 x1) (tile A B) := by
  unfold k0_pay2
  dsimp only
  rw [shapeCast_self]
  exact pay1_num hA hB

/-- The gradients of a tile's gates and of its gated numbers, from those of their products. -/
def grads (C T : ℕ → ℕ → EReal) (r d : ℕ) : EReal :=
  if d < 512 then dgate (C r d) (C r (512 + d)) (T r d) else dnum (C r (d - 512)) (T r (d - 512))

theorem pay4_num (hA : Is (a := 1024) (b := 1024) x0 A) (hB : Is (a := 512) (b := 1024) x1 B) (hC : Is (a := 1024) (b := 1024) x2 C)
    (hT : Is (a := 1024) (b := 512) xs T) :
    Is (a := 1024) (b := 1024) (k0_pay4 (F := Ideal) x0 x1 xs x2) (grads C fun r d => T r d + tile A B r d) := fun i => by
  have h := pay1_num hA hB
  have b1 : (i (1 : Fin 2)).val < 1024 := (i (1 : Fin 2)).isLt
  have hd : ∀ y, addf (F := Ideal) (φ := .f32) xs (k0_pay1 (F := Ideal) x0 x1) y = T (y (0 : Fin 2)).val (y (1 : Fin 2)).val
      + tile A B (y (0 : Fin 2)).val (y (1 : Fin 2)).val := fun y => by
    show xs y + k0_pay1 (F := Ideal) x0 x1 y = _
    rw [hT y, h y]
  unfold k0_pay4 grads
  dsimp only
  by_cases hl : (i (1 : Fin 2)).val < 512
  · rw [if_pos hl, concatenate_pair_apply_left (t := S1024x1024) (s₁ := S1024x512) (s₂ := S1024x512) (1 : Fin 2) _ _ _ i rfl (ValueIdx.ix2 (i (0 : Fin 2)) ⟨(i (1 : Fin 2)).val, hl⟩)
      (by intro b; fin_cases b <;> rfl)]
    refine kernel_dgate ?_ ?_ ?_
    · rw [cols_is (a := 1024) (b := 1024) (b' := 512) hC 0, Nat.zero_add]
    · rw [cols_is (a := 1024) (b := 1024) (b' := 512) hC 512]
    · exact hd _
  · rw [if_neg hl, concatenate_pair_apply_right (t := S1024x1024) (s₁ := S1024x512) (s₂ := S1024x512) (1 : Fin 2) _ _ _ i rfl rfl (ValueIdx.ix2 (i (0 : Fin 2)) ⟨(i (1 : Fin 2)).val - 512, by omega⟩)
      (by intro b hb; fin_cases b; · rfl
          · exact absurd rfl hb) (by show (i (1 : Fin 2)).val - 512 + 512 = (i (1 : Fin 2)).val; omega)]
    refine kernel_dnum ?_ ?_
    · rw [cols_is (a := 1024) (b := 1024) (b' := 512) hC 0, Nat.zero_add]
    · exact hd _

/-! What a point leaves: the first of a tile of the result (A) the product of its tiles in the buffer carried along, the
second (B) the gradients of the gates, from the sum of both. -/

section
variable (c : Dev nD) (i : grid0.Coords) (arg3 : Memref sig .tc .vmem S1024x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole)
  (hA : Is (a := 1024) (b := 1024) x0 A) (hB : Is (a := 512) (b := 1024) x1 B)
include hA hB

section
variable (hc0 : cond0_0 i) (hc1 : ¬cond0_1 i) (hc2 : ¬cond0_2 i)
theorem A_num :
    Is (a := 1024) (b := 512) (sout0_A_0 c i arg3 harg3 arg4 harg4 arg5 harg5 arg6 harg6 arg7 harg7 hc0 hc1 hc2 x0 x1 x2) (tile A B) := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S512x1024) hz, View.ld_unit_zero (S := S1024x512) hz]
  exact pay2_num hA hB
end

section
variable (hT : Is (a := 1024) (b := 512) xs T) (hC : Is (a := 1024) (b := 1024) x2 C) (hc0 : ¬cond0_0 i) (hc1 : ¬cond0_1 i) (hc2 : cond0_2 i)
include hT hC
theorem B_num :
    Is (a := 1024) (b := 1024) (out0_B_3 c i arg3 harg3 arg4 harg4 arg5 harg5 arg6 harg6 arg7 harg7 hc0 hc1 hc2 x0 x1 x2 xs) (grads C fun r d => T r d + tile A B r d) := by
  unfold out0_B_3
  rw [View.read_writes_eq_canon _ _ _ (cover0_B_3 c i arg3 harg3 arg4 harg4 arg5 harg5 arg6 harg6 arg7 harg7 hc0 hc1 hc2 x0 x1 x2 xs)]
  unfold kernelRun0_B
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S512x1024) hz, View.ld_unit_zero (S := S1024x512) hz]
  exact pay4_num hA hB hC hT
end
end
end

theorem idx_a : ∀ t : Fin grid0.N, win0_0.index t (0 : Fin 2) = t.val / 22 ∧ win0_0.index t (1 : Fin 2) = t.val % 2 := by decide +kernel
theorem idx_c : ∀ t : Fin grid0.N, win0_2.index t (0 : Fin 2) = t.val / 22 ∧ win0_2.index t (1 : Fin 2) = t.val / 2 % 11 := by decide +kernel
theorem idx_b : ∀ t : Fin grid0.N, win0_1.index t (0 : Fin 2) = t.val / 2 % 11 ∧ win0_1.index t (1 : Fin 2) = t.val % 2 := by decide +kernel

variable (m : (b : Loc nD τ sig) → Buf (Elt Ideal) b) (c : Dev nD) {X Y W : ℕ → ℕ → EReal}

theorem blk_a (h : Is (a := 8192) (b := 2048) (V (F := Ideal) m c main_arg2) X) (t : Fin cfg0.N) :
    Is (a := 1024) (b := 1024) (iblk (F := Ideal) m c 0 t) (fun r d => X (1024 * (t.val / 22) + r) (1024 * (t.val % 2) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg2 (((cfg0.win 0).blk t).view.emb i) = _
  exact h.at _ hb0 hb1

theorem blk_b (h : Is (a := 5632) (b := 2048) (V (F := Ideal) m c main_v0) Y) (t : Fin cfg0.N) :
    Is (a := 512) (b := 1024) (iblk (F := Ideal) m c 1 t) (fun r d => Y (512 * (t.val / 2 % 11) + r) (1024 * (t.val % 2) + d)) := by
  intro i
  unfold iblk
  rw [View.read_apply]
  obtain ⟨e0, e1⟩ := idx_b t
  have hb0 : (((cfg0.win 1).blk t).view.emb i (0 : Fin 2)).val = win0_1.index t (0 : Fin 2) * 512 + 1 * (i (0 : Fin 2)).val := rfl
  have hb1 : (((cfg0.win 1).blk t).view.emb i (1 : Fin 2)).val = win0_1.index t (1 : Fin 2) * 1024 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

theorem blk_c (h : Is (a := 8192) (b := 11264) (V (F := Ideal) m c main_arg0) W) (t : Fin cfg0.N) :
    Is (a := 1024) (b := 1024) (iblk (F := Ideal) m c 2 t) (fun r d => W (1024 * (t.val / 22) + r) (1024 * (t.val / 2 % 11) + d)) := by
  intro i
  unfold iblk
  rw [View.read_apply]
  obtain ⟨e0, e1⟩ := idx_c t
  have hb0 : (((cfg0.win 2).blk t).view.emb i (0 : Fin 2)).val = win0_2.index t (0 : Fin 2) * 1024 + 1 * (i (0 : Fin 2)).val := rfl
  have hb1 : (((cfg0.win 2).blk t).view.emb i (1 : Fin 2)).val = win0_2.index t (1 : Fin 2) * 1024 + 1 * (i (1 : Fin 2)).val := rfl
  rw [e0, one_mul, mul_comm] at hb0
  rw [e1, one_mul, mul_comm] at hb1
  show V (F := Ideal) m c main_arg0 (((cfg0.win 2).blk t).view.emb i) = _
  exact h.at _ hb0 hb1

/-- The sum of the first `q` tiles for the tile of the result point `n` works on. -/
def sums (X Y : ℕ → ℕ → EReal) (n q : ℕ) : ℕ → ℕ → EReal :=
  part (fun r c k => X r k * Y c k) 1024 512 1024 (n / 22) (n / 2 % 11) q

/-- The gradient of the gated product's input. -/
def prod (X Y : ℕ → ℕ → EReal) (r c : ℕ) : EReal := ∑ k ∈ Finset.range 2048, X r k * Y c k

/-- The gradients of the gates and of the numbers they gate, in the order of the columns. -/
def whole (X Y W : ℕ → ℕ → EReal) (r c : ℕ) : EReal :=
  if c % 1024 < 512 then dgate (W r (1024 * (c / 1024) + c % 1024)) (W r (1024 * (c / 1024) + (512 + c % 1024))) (prod X Y r (512 * (c / 1024) + c % 1024))
  else dnum (W r (1024 * (c / 1024) + (c % 1024 - 512))) (prod X Y r (512 * (c / 1024) + (c % 1024 - 512)))

theorem sums_eq (n r d : ℕ) (hn : n % 2 = 1) :
    sums X Y n (n % 2 + 1) r d = prod X Y (1024 * (n / 22) + r) (512 * (n / 2 % 11) + d) := by
  unfold sums prod part
  rw [hn]
  exact sum_tiles (fun k => X (1024 * (n / 22) + r) k * Y (512 * (n / 2 % 11) + d) k) 1024 2

/-- The contents of the result's tile and of the buffer carried along. -/
abbrev State : Type := Vec Ideal S1024x1024 .f32 × Vec Ideal S1024x512 .f32

/-- What the buffers hold after point `n`. -/
def Inv (X Y W : ℕ → ℕ → EReal) (n : ℕ) (st : State) : Prop :=
  (¬n % 2 = 1 → Is (a := 1024) (b := 512) st.2 (sums X Y n (n % 2 + 1))) ∧ (n % 2 = 1 → Is (a := 1024) (b := 1024) st.1
    (grads (fun r d => W (1024 * (n / 22) + r) (1024 * (n / 2 % 11) + d)) (sums X Y n (n % 2 + 1))))

section
variable (hX : Is (a := 8192) (b := 2048) (V (F := Ideal) m c main_arg2) X) (hY : Is (a := 5632) (b := 2048) (V (F := Ideal) m c main_v0) Y)
  (hW : Is (a := 8192) (b := 11264) (V (F := Ideal) m c main_arg0) W)
include hX hY hW

theorem step (t : Fin cfg0.N) (acc : State) (hacc : ¬t.val % 2 = 0 → Is (a := 1024) (b := 512) acc.2 (sums X Y t.val (t.val % 2))) :
    Inv X Y W t.val (stAt0 m c t.val t.isLt acc) := by
  by_cases h0 : t.val % 2 = 0
  · have h2 : ¬t.val % 2 = 1 := by omega
    rw [stAt0_A m c t acc h0 h2]
    refine ⟨fun _ => ?_, fun h => absurd h h2⟩
    dsimp only
    exact (A_num c (grid0.coords t) (ms0_0 t) (hs0_0 t) (ms0_1 t) (hs0_1 t) (ms0_2 t) (hs0_2 t) (ms0_3 t) (hs0_3 t) scM0_0 (Memref.isWhole_whole _)
      (blk_a m c hX t) (blk_b m c hY t) ((hcond0_0 t).mpr h0) (hcond0_1 t) (fun h => h2 ((hcond0_2 t).mp h))).congr
      fun r d => part_one (fun r c k => X r k * Y c k) 1024 512 1024 (t.val / 22) (t.val / 2 % 11) r d h0
  · have h2 : t.val % 2 = 1 := by omega
    rw [stAt0_B m c t acc h0 h2]
    refine ⟨fun h => absurd h2 h, fun _ => ?_⟩
    dsimp only
    refine (B_num c (grid0.coords t) (ms0_0 t) (hs0_0 t) (ms0_1 t) (hs0_1 t) (ms0_2 t) (hs0_2 t) (ms0_3 t) (hs0_3 t) scM0_0 (Memref.isWhole_whole _)
      (blk_a m c hX t) (blk_b m c hY t) (hacc h0) (blk_c m c hW t) (fun h => h0 ((hcond0_0 t).mp h)) (hcond0_1 t) ((hcond0_2 t).mpr h2)).congr
      fun r d => ?_
    have hp : ∀ r d, sums X Y t.val (t.val % 2) r d + tile (fun r d => X (1024 * (t.val / 22) + r) (1024 * (t.val % 2) + d))
        (fun r d => Y (512 * (t.val / 2 % 11) + r) (1024 * (t.val % 2) + d)) r d = sums X Y t.val (t.val % 2 + 1) r d := fun r d =>
        part_succ (fun r c k => X r k * Y c k) 1024 512 1024 _ _ _ r d
    unfold grads
    simp only [hp]

theorem inv_all : ∀ (n : ℕ) (hn : n < cfg0.N), Inv X Y W n (outsAt0 m c n hn)
  | 0, hn => by
    rw [outsAt0_zero m c hn]
    exact step m c hX hY hW ⟨0, hn⟩ _ fun h => absurd rfl h
  | n + 1, hn => by
    rw [outsAt0_succ m c n hn]
    refine step m c hX hY hW ⟨n + 1, hn⟩ _ fun h => ?_
    replace h : ¬(n + 1) % 2 = 0 := h
    refine ((inv_all n (Nat.lt_of_succ_lt hn)).1 (by omega)).congr fun r d => ?_
    show sums X Y n (n % 2 + 1) r d = sums X Y (n + 1) ((n + 1) % 2) r d
    unfold sums
    rw [show (n + 1) / 22 = n / 22 by omega, show (n + 1) / 2 = n / 2 by omega, show (n + 1) % 2 = n % 2 + 1 by omega]

/-- The result at an index. -/
theorem G_num : Is (a := 8192) (b := 11264) (G3 (F := Ideal) m c) (whole X Y W) := by
  intro i
  have b0 : (i (0 : Fin 2)).val < 8192 := (i (0 : Fin 2)).isLt
  have b1 : (i (1 : Fin 2)).val < 11264 := (i (1 : Fin 2)).isLt
  have hp : pt3Of i = 2 * (11 * ((i (0 : Fin 2)).val / 1024) + (i (1 : Fin 2)).val / 1024) + 1 := by
    show 2 * (11 * ((i (0 : Fin 2)).val / 1024 - 0) + 1 * ((i (1 : Fin 2)).val / 1024 - 0)) + 1 = _
    omega
  have hl : pt3Of i < cfg0.N := by rw [hp, show cfg0.N = 176 from N_0]; omega
  have hn : pt3Of i % 2 = 1 := by omega
  unfold G3
  rw [dif_pos hl, ← outsAt0_sweep m c _ hl]
  refine ((inv_all m c hX hY hW _ hl).2 hn _).trans ?_
  show grads _ _ ((i (0 : Fin 2)).val % 1024) ((i (1 : Fin 2)).val % 1024) = _
  have b2 : (i (1 : Fin 2)).val % 1024 < 1024 := Nat.mod_lt _ (by decide)
  unfold grads whole
  by_cases hc : (i (1 : Fin 2)).val % 1024 < 512
  · rw [if_pos hc, if_pos hc, sums_eq _ _ _ hn, show pt3Of i / 22 = (i (0 : Fin 2)).val / 1024 by omega,
      show pt3Of i / 2 % 11 = (i (1 : Fin 2)).val / 1024 by omega]
    simp only [Nat.div_add_mod]
  · rw [if_neg hc, if_neg hc, sums_eq _ _ _ hn, show pt3Of i / 22 = (i (0 : Fin 2)).val / 1024 by omega,
      show pt3Of i / 2 % 11 = (i (1 : Fin 2)).val / 1024 by omega]
    simp only [Nat.div_add_mod]
end

/-- The weights the call reads are the given ones: a cast of extended reals changes nothing. -/
theorem v0_eq : V (F := Ideal) m c main_v0 = (m ((c : Thread nD τ).loc main_arg1) : S5632x2048.Idx → EReal) := by
  simp -implicitDefEqProofs only [V, hostOps0, List.flatten_cons, List.flatten_nil, List.append_nil, List.cons_append, List.nil_append]
  after_results_simp
  rfl

/-- The reference's product. -/
theorem ref_num (x : FVec Ideal Cert.DownDxRefIdeal.S8192x2048 .f32) (y : FVec Ideal Cert.DownDxRefIdeal.S5632x2048 .f32)
    (hX : Is (a := 8192) (b := 2048) x X) (hY : Is (a := 5632) (b := 2048) y Y) :
    Is (a := 8192) (b := 5632) (Host.dotGeneral (F := Ideal) Cert.DownDxRefIdeal.dot_S8192x2048_S5632x2048_S8192x5632_1_1_0_0_n_n none x y)
      (prod X Y) := fun i =>
  dotGeneral_sum _ none _ 2048 rfl rfl x y i (fun k => X (i (0 : Fin 2)).val k) (fun k => Y (i (1 : Fin 2)).val k)
    (fun _ => hX _) (fun _ => hY _)

/-- The product rule for a gate. -/
def sum_rule (a b c : EReal) : EReal := c * b * logistic a + a * (c * b) * (logistic a * (1 - logistic a))

/-- The gradients by the product rule, in the order of the columns. -/
def rule (X Y W : ℕ → ℕ → EReal) (r c : ℕ) : EReal :=
  if c % 1024 < 512 then sum_rule (W r (1024 * (c / 1024) + 512 * 0 + c % 1024)) (W r (1024 * (c / 1024) + 512 * 1 + c % 1024)) (prod X Y r (512 * (c / 1024) + c % 1024))
  else W r (1024 * (c / 1024) + 512 * 0 + (c % 1024 - 512)) * logistic (W r (1024 * (c / 1024) + 512 * 0 + (c % 1024 - 512))) * prod X Y r (512 * (c / 1024) + (c % 1024 - 512))

theorem rule_real (X Y W : ℕ → ℕ → ℝ) (r c : ℕ) :
    rule (fun r k => (X r k : EReal)) (fun r k => (Y r k : EReal)) (fun r k => (W r k : EReal)) r c
      = whole (fun r k => (X r k : EReal)) (fun r k => (Y r k : EReal)) (fun r k => (W r k : EReal)) r c := by
  unfold rule whole
  have hP : ∀ c, prod (fun r k => (X r k : EReal)) (fun r k => (Y r k : EReal)) r c = ((∑ k ∈ Finset.range 2048, X r k * Y c k : ℝ) : EReal) := fun c => by
    unfold prod
    simp only [← EReal.coe_mul]
    exact Att.sum_real _ _
  split_ifs
  · rw [hP, sum_rule, dgate_real, Nat.add_assoc (1024 * (c / 1024)) (512 * 1)]
    rfl
  · exact dnum_comm _ _

/-- The reference's gradients: the product rule, of whatever the arguments hold. -/
theorem ref_grads (m' : (ℓ : Loc Cert.DownDxRefIdeal.nD Cert.DownDxRefIdeal.τ Cert.DownDxRefIdeal.sig) → Buf (Elt Ideal) ℓ) (c : Dev Cert.DownDxRefIdeal.nD)
    (hX : Is (a := 8192) (b := 2048) (m' ((c.tc : Thread Cert.DownDxRefIdeal.nD Cert.DownDxRefIdeal.τ).loc Cert.DownDxRefIdeal.main_arg2)) X)
    (hY : Is (a := 5632) (b := 2048) (m' ((c.tc : Thread Cert.DownDxRefIdeal.nD Cert.DownDxRefIdeal.τ).loc Cert.DownDxRefIdeal.main_arg1)) Y)
    (hW : Is (a := 8192) (b := 11264) (m' ((c.tc : Thread Cert.DownDxRefIdeal.nD Cert.DownDxRefIdeal.τ).loc Cert.DownDxRefIdeal.main_arg0)) W) :
    Is (a := 8192) (b := 11264) (Cert.DownDxRefIdeal.Value.res_main_v19 (F := Ideal) m' c) (rule X Y W) := by
  have h0 := half_is hW 0 (by decide) Cert.DownDxRefIdeal.Facts₀.shapeCasts_S8192x11264_S8192x11x2x512
    Cert.DownDxRefIdeal.Facts₀.slices_S8192x11x2x512_S8192x11x1x512_0_0_0_0 Cert.DownDxRefIdeal.Facts₀.shapeCasts_S8192x11x1x512_S8192x11x512
  have h1 := half_is hW 1 (by decide) Cert.DownDxRefIdeal.Facts₀.shapeCasts_S8192x11264_S8192x11x2x512
    Cert.DownDxRefIdeal.Facts₀.slices_S8192x11x2x512_S8192x11x1x512_0_0_1_0 Cert.DownDxRefIdeal.Facts₀.shapeCasts_S8192x11x1x512_S8192x11x512
  have h2 := group_is (ref_num _ _ hX hY) Cert.DownDxRefIdeal.Facts₀.shapeCasts_S8192x5632_S8192x11x512
  unfold Cert.DownDxRefIdeal.Value.res_main_v19
  exact halves_is (X := fun r q l => sum_rule (W r (1024 * q + 512 * 0 + l)) (W r (1024 * q + 512 * 1 + l)) (prod X Y r (512 * q + l)))
    (Y := fun r q l => W r (1024 * q + 512 * 0 + l) * logistic (W r (1024 * q + 512 * 0 + l)) * prod X Y r (512 * q + l))
    (fun i => host_dgate _ (h0 i) (h1 i) (h2 i)) (fun i => host_dnum _ (h0 i) (h2 i)) _ _ _ _ _

theorem algebraic : Cert.algebraic_DownDxIdeal_DownDxRefIdeal_pre_finite_mlp := by
  intro m ρ m' ρ' hpre hagree
  refine ⟨_, Cert.DownDxIdeal.Value.run (F := Ideal) m ρ, ?_⟩
  refine (θ_run Cert.DownDxRefIdeal.defs _ _).mono (fun _ h c => ?_) (Cert.DownDxRefIdeal.Value.run (F := Ideal) m' ρ')
  obtain ⟨⟨W, hW⟩, ⟨Y, hY⟩, ⟨X, hX⟩⟩ := Cert.Pre_finite_mlp.reals _ _ _ (hpre c)
  obtain ⟨a0, a1, a2⟩ := hagree c
  obtain ⟨r0, rest⟩ := h c
  refine ⟨r0.trans ?_, rest⟩
  refine Is.ext (ref_grads m' c (X := fun r k => (X r k : EReal)) (Y := fun r k => (Y r k : EReal)) (W := fun r k => (W r k : EReal)) ?_ ?_ ?_)
    (G_num m c (X := fun r k => (X r k : EReal)) (Y := fun r k => (Y r k : EReal)) (W := fun r k => (W r k : EReal)) ?_ ?_ ?_)
    fun r d _ _ => rule_real X Y W r d
  · rw [a2]; exact hX
  · rw [a1]; exact hY
  · rw [a0]; exact hW
  · rw [V_main_arg2]; exact hX
  · rw [v0_eq]; exact hY
  · rw [V_main_arg0]; exact hW

theorem frame_p : Cert.quiescent_DownDx := fun m ρ _ => Cert.DownDx.Gen.frame m ρ
theorem frame_pi : Cert.quiescent_DownDxIdeal := fun m ρ _ => Cert.DownDxIdeal.Gen.frame m ρ
theorem frame_ri : Cert.quiescent_DownDxRefIdeal := fun m ρ _ =>
  (θ_run Cert.DownDxRefIdeal.defs _ _).mono (fun r h => ⟨fun c => (h c).2,
      Idealize.ShloMosaic.sem_eq_zero_of_no_sems (by decide) r.2⟩)
    (Cert.DownDxRefIdeal.Value.run (F := Ideal) m ρ)

end Mm.DownDx

end
-- ==== Proof.InTop.lean ====
/-
  The first half of the input projection computes its product a tile of the result at a time, and its reference is the whole product; they agree
  for every input.
-/
module

public import Idealize.ShloMosaic.Lib.WritesUnit
public import Idealize.ShloMosaic.Lib.Quiescent
public import proofs.«01_k».proof.Defs
public import proofs.«01_k».proof.Proof.Gate
public import proofs.«01_k».proof.Proof.Gen.InTop.Frame
public import proofs.«01_k».proof.Proof.Gen.InTopIdeal.Value
public import proofs.«01_k».proof.Proof.Gen.InTopRefIdeal.Run

@[expose] public section

set_option maxRecDepth 16384
set_option maxHeartbeats 1000000

noncomputable section

namespace Mm.InTop

open Cert.InTopIdeal Cert.InTopIdeal.Gen Cert.InTopIdeal.Value Idealize.ShloMosaic Idealize.ShloMosaic.TcCoe Idealize.ShloMosaic.Tactic
open Idealize.SL.Sem
open scoped BigOperators

/-- The product of one pair of tiles. -/
def tile (A B : ℕ → ℕ → EReal) (r d : ℕ) : EReal := ∑ k ∈ Finset.range 1024, A r k * B k d

section
variable {x0 : Vec Ideal S1024x1024 .f32} {x1 : Vec Ideal S1024x896 .bf16} {A B : ℕ → ℕ → EReal}

theorem pay1_num (hA : Is (a := 1024) (b := 1024) x0 A) (hB : Is (a := 1024) (b := 896) x1 B) :
    Is (a := 1024) (b := 896) (k0_pay1 (F := Ideal) x0 x1) (tile A B) := fun i => by
  unfold k0_pay1
  dsimp only
  rw [shapeCast_self]
  exact matmul_sum _ none 1024 rfl rfl _ _ i (fun k => A (i (0 : Fin 2)).val k) (fun k => B k (i (1 : Fin 2)).val)
    (fun _ => hA _) (fun _ => hB _)

/-- What a point leaves in the result's tile. -/
theorem A_num (c : Dev nD) (i : grid0.Coords) (arg3 : Memref sig .tc .vmem S1024x1024 .f32) (harg3 : arg3.IsWhole) (arg4 : Memref sig .tc .vmem S1024x896 .bf16) (harg4 : arg4.IsWhole) (arg5 : Memref sig .tc .vmem S1024x896 .f32) (harg5 : arg5.IsWhole) (arg6 : Memref sig .tc .vmem S1024x896 .f32) (harg6 : arg6.IsWhole)
    (hA : Is (a := 1024) (b := 1024) x0 A) (hB : Is (a := 1024) (b := 896) x1 B) :
    Is (a := 1024) (b := 896) (out0_A_2 c i arg3 harg3 arg4 harg4 arg5 harg5 arg6 harg6 x0 x1) (tile A B) := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero hz]
  simp only [View.readAt_eq_ld, harg3.read_unread, harg4.read_unread, View.ld_unit_zero (S := S1024x1024) hz, View.ld_unit_zero (S := S1024x896) hz]
  exact pay1_num hA hB
end

theorem idx_a : ∀ t : Fin grid0.N, win0_0.index t (0 : Fin 2) = t.val / 15 ∧ win0_0.index t (1 : Fin 2) = 0 := by decide +kernel
theorem idx_b : ∀ t : Fin grid0.N, win0_1.index t (0 : Fin 2) = 0 ∧ win0_1.index t (1 : Fin 2) = t.val % 15 := by decide +kernel

variable (m : (b : Loc nD τ sig) → Buf (Elt Ideal) b) (c : Dev nD) {X Y : ℕ → ℕ → EReal}

theorem blk_a (h : Is (a := 8192) (b := 2048) (V (F := Ideal) m c main_arg0) X) (t : Fin cfg0.N) :
    Is (a := 1024) (b := 1024) (iblk (F := Ideal) m c 0 t) (fun r d => X (1024 * (t.val / 15) + r) (1024 * (0) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1, one_mul, mul_comm] at hb1
  show V (F := Ideal) m c main_arg0 (((cfg0.win 0).blk t).view.emb i) = _
  exact h.at _ hb0 hb1

theorem blk_b (h : Is (a := 1024) (b := 13440) (V (F := Ideal) m c main_v0) Y) (t : Fin cfg0.N) :
    Is (a := 1024) (b := 896) (iblk (F := Ideal) m c 1 t) (fun r d => Y (1024 * (0) + r) (896 * (t.val % 15) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 896 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

theorem idx_o : ∀ t : Fin grid0.N, win0_2.index t (0 : Fin 2) = t.val / 15 ∧ win0_2.index t (1 : Fin 2) = t.val % 15 := by decide +kernel
theorem flush_o : ∀ t : Fin grid0.N, win0_2.flush t = true := by decide +kernel

/-- The result at an index: the point that writes its tile leaves the whole sum there. -/
theorem out_num (hX : Is (a := 8192) (b := 2048) (V (F := Ideal) m c main_arg0) X) (hY : Is (a := 1024) (b := 13440) (V (F := Ideal) m c main_v0) Y) :
    Is (a := 8192) (b := 13440) ((dats (F := Ideal) m 0 c).arrAt 2 cfg0.N) fun r c => ∑ k ∈ Finset.range 1024, X r k * Y k c := by
  intro i
  have b0 : (i (0 : Fin 2)).val < 8192 := (i (0 : Fin 2)).isLt
  have b1 : (i (1 : Fin 2)).val < 13440 := (i (1 : Fin 2)).isLt
  have hl : 15 * ((i (0 : Fin 2)).val / 1024) + (i (1 : Fin 2)).val / 896 < cfg0.N := by rw [show cfg0.N = 120 from N_0]; omega
  let t : Fin cfg0.N := ⟨_, hl⟩
  have e : t.val = 15 * ((i (0 : Fin 2)).val / 1024) + (i (1 : Fin 2)).val / 896 := rfl
  clear_value t
  let y : S1024x896.Idx := ValueIdx.ix2 ⟨(i (0 : Fin 2)).val % 1024, Nat.mod_lt _ (by decide)⟩ ⟨(i (1 : Fin 2)).val % 896, Nat.mod_lt _ (by decide)⟩
  obtain ⟨e0, e1⟩ := idx_o t
  have hb0 : (((cfg0.win 2).blk t).view.emb y (0 : Fin 2)).val = win0_2.index t (0 : Fin 2) * 1024 + 1 * ((i (0 : Fin 2)).val % 1024) := rfl
  have hb1 : (((cfg0.win 2).blk t).view.emb y (1 : Fin 2)).val = win0_2.index t (1 : Fin 2) * 896 + 1 * ((i (1 : Fin 2)).val % 896) := rfl
  have hy : ((cfg0.win 2).blk t).view.emb y = i := by
    funext a
    apply Fin.ext
    match a with
    | ⟨0, _⟩ => refine hb0.trans ?_; rw [e0]; show _ = (i (0 : Fin 2)).val; omega
    | ⟨1, _⟩ => refine hb1.trans ?_; rw [e1]; show _ = (i (1 : Fin 2)).val; omega
  have hb := congrFun (blocks2 m c t (flush_o t)) y
  rw [View.read_apply, hy, flushed2_A] at hb
  refine hb.trans ?_
  refine (A_num c (grid0.coords t) (ms0_0 t) (hs0_0 t) (ms0_1 t) (hs0_1 t) (ms0_2 t) (hs0_2 t) scM0_0 (Memref.isWhole_whole _)
    (blk_a m c hX t) (blk_b m c hY t) y).trans ?_
  show tile _ _ ((i (0 : Fin 2)).val % 1024) ((i (1 : Fin 2)).val % 896) = _
  refine (part_one (fun r c k => X r k * Y k c) 1024 896 1024 (t.val / 15) (t.val % 15) _ _ rfl).trans ?_
  rw [show t.val / 15 = (i (0 : Fin 2)).val / 1024 by omega, show t.val % 15 = (i (1 : Fin 2)).val / 896 by omega]
  exact part_all (fun r c k => X r k * Y k c) 1024 896 1024 1 _ _

/-- The weights the call reads are the given ones: a cast of extended reals changes nothing. -/
theorem v0_eq : V (F := Ideal) m c main_v0 = (m ((c : Thread nD τ).loc main_arg1) : S1024x13440.Idx → EReal) := by
  simp -implicitDefEqProofs only [V, hostOps0, List.flatten_cons, List.flatten_nil, List.append_nil, List.cons_append, List.nil_append]
  after_results_simp
  rfl

/-- The reference at row `r` and column `c`: the sum over the first half of the columns of the input. -/
theorem ref_num (x : FVec Ideal Cert.InTopRefIdeal.S8192x2048 .f32) (y : FVec Ideal Cert.InTopRefIdeal.S1024x13440 .f32)
    (hX : Is (a := 8192) (b := 2048) x X) (hY : Is (a := 1024) (b := 13440) y Y) :
    Is (a := 8192) (b := 13440) (Host.dotGeneral (F := Ideal) Cert.InTopRefIdeal.dot_S8192x1024_S1024x13440_S8192x13440_1_0_0_1_n_n none
      (extractStridedSlice Cert.InTopRefIdeal.S8192x1024 ![0, 0] x Cert.InTopRefIdeal.Facts₀.slices_S8192x2048_S8192x1024_0_0) y)
      fun r c => ∑ k ∈ Finset.range 1024, X r k * Y k c := fun i =>
  dotGeneral_sum _ none _ 1024 rfl rfl _ y i (fun k => X (i (0 : Fin 2)).val k) (fun k => Y k (i (1 : Fin 2)).val)
    (fun _ => (cols_is hX 0 _ _).trans (by rw [Nat.zero_add]; rfl)) (fun _ => hY _)

theorem algebraic : Cert.algebraic_InTopIdeal_InTopRefIdeal := by
  intro m ρ m' ρ' _ hagree
  refine ⟨_, Cert.InTopIdeal.Value.run_blocks (F := Ideal) m ρ, ?_⟩
  refine (θ_run Cert.InTopRefIdeal.defs _ _).mono (fun _ h c => ?_) (Cert.InTopRefIdeal.Value.run (F := Ideal) m' ρ')
  obtain ⟨X, hX⟩ := exists_is (a := 8192) (b := 2048) (m ((c : Thread nD τ).loc main_arg0))
  obtain ⟨Y, hY⟩ := exists_is (a := 1024) (b := 13440) (m ((c : Thread nD τ).loc main_arg1))
  obtain ⟨a2, a1⟩ := hagree c
  obtain ⟨r0, rest⟩ := h c
  refine ⟨r0.trans ?_, rest⟩
  rw [a1, a2]
  refine Is.ext (ref_num _ _ hX hY) (out_num m c ?_ ?_) fun _ _ _ _ => rfl
  · rw [V_main_arg0]; exact hX
  · rw [v0_eq]; exact hY

theorem frame_p : Cert.quiescent_InTop := fun m ρ _ => Cert.InTop.Gen.frame m ρ
theorem frame_pi : Cert.quiescent_InTopIdeal := fun m ρ _ => Cert.InTopIdeal.Gen.frame m ρ
theorem frame_ri : Cert.quiescent_InTopRefIdeal := fun m ρ _ =>
  (θ_run Cert.InTopRefIdeal.defs _ _).mono (fun r h => ⟨fun c => (h c).2,
      Idealize.ShloMosaic.sem_eq_zero_of_no_sems (by decide) r.2⟩)
    (Cert.InTopRefIdeal.Value.run (F := Ideal) m ρ)

end Mm.InTop

end
-- ==== Proof.InBot.lean ====
/-
  The second half of the input projection adds its product to that of the first half a tile of the result at a time, and its
  reference adds the whole products; they agree for every input.
-/
module

public import Idealize.ShloMosaic.Lib.WritesUnit
public import Idealize.ShloMosaic.Lib.Quiescent
public import proofs.«01_k».proof.Defs
public import proofs.«01_k».proof.Proof.Gate
public import proofs.«01_k».proof.Proof.Gen.InBot.Frame
public import proofs.«01_k».proof.Proof.Gen.InBotIdeal.Value
public import proofs.«01_k».proof.Proof.Gen.InBotRefIdeal.Run

@[expose] public section

set_option maxRecDepth 16384
set_option maxHeartbeats 1000000

noncomputable section

namespace Mm.InBot

open Cert.InBotIdeal Cert.InBotIdeal.Gen Cert.InBotIdeal.Value Idealize.ShloMosaic Idealize.ShloMosaic.TcCoe Idealize.ShloMosaic.Tactic
open Idealize.SL.Sem
open scoped BigOperators

/-- The product of one pair of tiles, added to a third. -/
def tile (A B C : ℕ → ℕ → EReal) (r d : ℕ) : EReal := (∑ k ∈ Finset.range 1024, A r k * B k d) + C r d

section
variable {x0 : Vec Ideal S1024x1024 .f32} {x1 : Vec Ideal S1024x896 .bf16} {x2 : Vec Ideal S1024x896 .f32} {A B C : ℕ → ℕ → EReal}

theorem pay1_num (hA : Is (a := 1024) (b := 1024) x0 A) (hB : Is (a := 1024) (b := 896) x1 B)
    (hC : Is (a := 1024) (b := 896) x2 C) :
    Is (a := 1024) (b := 896) (k0_pay1 (F := Ideal) x0 x1 x2) (tile A B C) := fun i => by
  unfold k0_pay1
  dsimp only
  rw [shapeCast_self]
  exact congrArg₂ (· + ·) (matmul_sum _ none 1024 rfl rfl _ _ i (fun k => A (i (0 : Fin 2)).val k) (fun k => B k (i (1 : Fin 2)).val)
    (fun _ => hA _) (fun _ => hB _)) (hC i)

/-- What a point leaves in the result's tile. -/
theorem A_num (c : Dev nD) (i : grid0.Coords) (arg3 : Memref sig .tc .vmem S1024x1024 .f32) (harg3 : arg3.IsWhole) (arg4 : Memref sig .tc .vmem S1024x896 .bf16) (harg4 : arg4.IsWhole) (arg5 : Memref sig .tc .vmem S1024x896 .f32) (harg5 : arg5.IsWhole) (arg6 : Memref sig .tc .vmem S1024x896 .f32) (harg6 : arg6.IsWhole) (arg7 : Memref sig .tc .vmem S1024x896 .f32) (harg7 : arg7.IsWhole)
    (hA : Is (a := 1024) (b := 1024) x0 A) (hB : Is (a := 1024) (b := 896) x1 B)
    (hC : Is (a := 1024) (b := 896) x2 C) :
    Is (a := 1024) (b := 896) (out0_A_3 c i arg3 harg3 arg4 harg4 arg5 harg5 arg6 harg6 arg7 harg7 x0 x1 x2) (tile A B C) := by
  unfold out0_A_3
  rw [View.read_writes_eq_canon _ _ _ (cover0_A_3 c i arg3 harg3 arg4 harg4 arg5 harg5 arg6 harg6 arg7 harg7 x0 x1 x2)]
  unfold kernelRun0_A
  dsimp only
  sl_unfold_words
  rw [View.canon_unit_zero hz]
  simp only [View.readAt_eq_ld, harg3.read_unread, harg4.read_unread, harg5.read_unread, View.ld_unit_zero (S := S1024x1024) hz, View.ld_unit_zero (S := S1024x896) hz]
  exact pay1_num hA hB hC
end

theorem idx_a : ∀ t : Fin grid0.N, win0_0.index t (0 : Fin 2) = t.val / 15 ∧ win0_0.index t (1 : Fin 2) = 1 := by decide +kernel
theorem idx_b : ∀ t : Fin grid0.N, win0_1.index t (0 : Fin 2) = 0 ∧ win0_1.index t (1 : Fin 2) = t.val % 15 := by decide +kernel

variable (m : (b : Loc nD τ sig) → Buf (Elt Ideal) b) (c : Dev nD) {X Y Z : ℕ → ℕ → EReal}

theorem blk_a (h : Is (a := 8192) (b := 2048) (V (F := Ideal) m c main_arg0) X) (t : Fin cfg0.N) :
    Is (a := 1024) (b := 1024) (iblk (F := Ideal) m c 0 t) (fun r d => X (1024 * (t.val / 15) + r) (1024 * (1) + d)) := by
  intro i
  unfold iblk
  rw [View.read_apply]
  obtain ⟨e0, e1⟩ := idx_a t
  have hb0 : (((cfg0.win 0).blk t).view.emb i (0 : Fin 2)).val = win0_0.index t (0 : Fin 2) * 1024 + 1 * (i (0 : Fin 2)).val := rfl
  have hb1 : (((cfg0.win 0).blk t).view.emb i (1 : Fin 2)).val = win0_0.index t (1 : Fin 2) * 1024 + 1 * (i (1 : Fin 2)).val := rfl
  rw [e0, one_mul, mul_comm] at hb0
  rw [e1] at hb1
  show V (F := Ideal) m c main_arg0 (((cfg0.win 0).blk t).view.emb i) = _
  exact h.at _ hb0 (hb1.trans (by omega))

theorem blk_b (h : Is (a := 1024) (b := 13440) (V (F := Ideal) m c main_v0) Y) (t : Fin cfg0.N) :
    Is (a := 1024) (b := 896) (iblk (F := Ideal) m c 1 t) (fun r d => Y (1024 * (0) + r) (896 * (t.val % 15) + d)) := by
  intro i
  unfold iblk
  rw [View.read_apply]
  obtain ⟨e0, e1⟩ := idx_b t
  have hb0 : (((cfg0.win 1).blk t).view.emb i (0 : Fin 2)).val = win0_1.index t (0 : Fin 2) * 1024 + 1 * (i (0 : Fin 2)).val := rfl
  have hb1 : (((cfg0.win 1).blk t).view.emb i (1 : Fin 2)).val = win0_1.index t (1 : Fin 2) * 896 + 1 * (i (1 : Fin 2)).val := rfl
  rw [e0, one_mul, mul_comm] at hb0
  rw [e1, one_mul, mul_comm] at hb1
  show V (F := Ideal) m c main_v0 (((cfg0.win 1).blk t).view.emb i) = _
  exact h.at _ hb0 hb1

theorem idx_c : ∀ t : Fin grid0.N, win0_2.index t (0 : Fin 2) = t.val / 15 ∧ win0_2.index t (1 : Fin 2) = t.val % 15 := by decide +kernel

theorem blk_c (h : Is (a := 8192) (b := 13440) (V (F := Ideal) m c main_arg2) Z) (t : Fin cfg0.N) :
    Is (a := 1024) (b := 896) (iblk (F := Ideal) m c 2 t) (fun r d => Z (1024 * (t.val / 15) + r) (896 * (t.val % 15) + d)) := by
  intro i
  unfold iblk
  rw [View.read_apply]
  obtain ⟨e0, e1⟩ := idx_c t
  have hb0 : (((cfg0.win 2).blk t).view.emb i (0 : Fin 2)).val = win0_2.index t (0 : Fin 2) * 1024 + 1 * (i (0 : Fin 2)).val := rfl
  have hb1 : (((cfg0.win 2).blk t).view.emb i (1 : Fin 2)).val = win0_2.index t (1 : Fin 2) * 896 + 1 * (i (1 : Fin 2)).val := rfl
  rw [e0, one_mul, mul_comm] at hb0
  rw [e1, one_mul, mul_comm] at hb1
  show V (F := Ideal) m c main_arg2 (((cfg0.win 2).blk t).view.emb i) = _
  exact h.at _ hb0 hb1

theorem idx_o : ∀ t : Fin grid0.N, win0_3.index t (0 : Fin 2) = t.val / 15 ∧ win0_3.index t (1 : Fin 2) = t.val % 15 := by decide +kernel
theorem flush_o : ∀ t : Fin grid0.N, win0_3.flush t = true := by decide +kernel

/-- The result at an index: the point that writes its tile leaves the whole sum there. -/
theorem out_num (hX : Is (a := 8192) (b := 2048) (V (F := Ideal) m c main_arg0) X) (hY : Is (a := 1024) (b := 13440) (V (F := Ideal) m c main_v0) Y)
    (hZ : Is (a := 8192) (b := 13440) (V (F := Ideal) m c main_arg2) Z) :
    Is (a := 8192) (b := 13440) ((dats (F := Ideal) m 0 c).arrAt 3 cfg0.N) fun r c => (∑ k ∈ Finset.range 1024, X r (1024 + k) * Y k c) + Z r c := by
  intro i
  have b0 : (i (0 : Fin 2)).val < 8192 := (i (0 : Fin 2)).isLt
  have b1 : (i (1 : Fin 2)).val < 13440 := (i (1 : Fin 2)).isLt
  have hl : 15 * ((i (0 : Fin 2)).val / 1024) + (i (1 : Fin 2)).val / 896 < cfg0.N := by rw [show cfg0.N = 120 from N_0]; omega
  let t : Fin cfg0.N := ⟨_, hl⟩
  have e : t.val = 15 * ((i (0 : Fin 2)).val / 1024) + (i (1 : Fin 2)).val / 896 := rfl
  clear_value t
  let y : S1024x896.Idx := ValueIdx.ix2 ⟨(i (0 : Fin 2)).val % 1024, Nat.mod_lt _ (by decide)⟩ ⟨(i (1 : Fin 2)).val % 896, Nat.mod_lt _ (by decide)⟩
  obtain ⟨e0, e1⟩ := idx_o t
  have hb0 : (((cfg0.win 3).blk t).view.emb y (0 : Fin 2)).val = win0_3.index t (0 : Fin 2) * 1024 + 1 * ((i (0 : Fin 2)).val % 1024) := rfl
  have hb1 : (((cfg0.win 3).blk t).view.emb y (1 : Fin 2)).val = win0_3.index t (1 : Fin 2) * 896 + 1 * ((i (1 : Fin 2)).val % 896) := rfl
  have hy : ((cfg0.win 3).blk t).view.emb y = i := by
    funext a
    apply Fin.ext
    match a with
    | ⟨0, _⟩ => refine hb0.trans ?_; rw [e0]; show _ = (i (0 : Fin 2)).val; omega
    | ⟨1, _⟩ => refine hb1.trans ?_; rw [e1]; show _ = (i (1 : Fin 2)).val; omega
  have hb := congrFun (blocks3 m c t (flush_o t)) y
  rw [View.read_apply, hy, flushed3_A] at hb
  refine hb.trans ?_
  refine (A_num c (grid0.coords t) (ms0_0 t) (hs0_0 t) (ms0_1 t) (hs0_1 t) (ms0_2 t) (hs0_2 t) (ms0_3 t) (hs0_3 t) scM0_0 (Memref.isWhole_whole _)
    (blk_a m c hX t) (blk_b m c hY t) (blk_c m c hZ t) y).trans ?_
  show tile _ _ _ ((i (0 : Fin 2)).val % 1024) ((i (1 : Fin 2)).val % 896) = _
  unfold tile
  dsimp only
  rw [show t.val / 15 = (i (0 : Fin 2)).val / 1024 by omega, show t.val % 15 = (i (1 : Fin 2)).val / 896 by omega]
  simp only [Nat.div_add_mod, mul_one, mul_zero, zero_add]

/-- The weights the call reads are the given ones: a cast of extended reals changes nothing. -/
theorem v0_eq : V (F := Ideal) m c main_v0 = (m ((c : Thread nD τ).loc main_arg1) : S1024x13440.Idx → EReal) := by
  simp -implicitDefEqProofs only [V, hostOps0, List.flatten_cons, List.flatten_nil, List.append_nil, List.cons_append, List.nil_append]
  after_results_simp
  rfl

/-- The reference at row `r` and column `c`: what is given there, and the sum over the second half of the columns of the input. -/
theorem ref_num (x : FVec Ideal Cert.InBotRefIdeal.S8192x2048 .f32) (y : FVec Ideal Cert.InBotRefIdeal.S1024x13440 .f32)
    (z : FVec Ideal Cert.InBotRefIdeal.S8192x13440 .f32)
    (hX : Is (a := 8192) (b := 2048) x X) (hY : Is (a := 1024) (b := 13440) y Y) (hZ : Is (a := 8192) (b := 13440) z Z) :
    Is (a := 8192) (b := 13440) (addf (F := Ideal) (φ := .f32) z (Host.dotGeneral (F := Ideal) Cert.InBotRefIdeal.dot_S8192x1024_S1024x13440_S8192x13440_1_0_0_1_n_n none
      (extractStridedSlice Cert.InBotRefIdeal.S8192x1024 ![0, 1024] x Cert.InBotRefIdeal.Facts₀.slices_S8192x2048_S8192x1024_0_1024) y))
      fun r c => (∑ k ∈ Finset.range 1024, X r (1024 + k) * Y k c) + Z r c := fun i =>
  (congrArg₂ (· + ·) (hZ i) (dotGeneral_sum _ none _ 1024 rfl rfl _ y i (fun k => X (i (0 : Fin 2)).val (1024 + k)) (fun k => Y k (i (1 : Fin 2)).val)
    (fun _ => cols_is hX 1024 _ _) (fun _ => hY _))).trans (add_comm _ _)

theorem algebraic : Cert.algebraic_InBotIdeal_InBotRefIdeal := by
  intro m ρ m' ρ' _ hagree
  refine ⟨_, Cert.InBotIdeal.Value.run_blocks (F := Ideal) m ρ, ?_⟩
  refine (θ_run Cert.InBotRefIdeal.defs _ _).mono (fun _ h c => ?_) (Cert.InBotRefIdeal.Value.run (F := Ideal) m' ρ')
  obtain ⟨X, hX⟩ := exists_is (a := 8192) (b := 2048) (m ((c : Thread nD τ).loc main_arg0))
  obtain ⟨Y, hY⟩ := exists_is (a := 1024) (b := 13440) (m ((c : Thread nD τ).loc main_arg1))
  obtain ⟨Z, hZ⟩ := exists_is (a := 8192) (b := 13440) (m ((c : Thread nD τ).loc main_arg2))
  obtain ⟨a1, a2, a3⟩ := hagree c
  obtain ⟨r0, rest⟩ := h c
  refine ⟨r0.trans ?_, rest⟩
  rw [a1, a2, a3]
  refine Is.ext (ref_num _ _ _ hX hY hZ) (out_num m c ?_ ?_ ?_) fun _ _ _ _ => rfl
  · rw [V_main_arg0]; exact hX
  · rw [v0_eq]; exact hY
  · rw [V_main_arg2]; exact hZ

theorem frame_p : Cert.quiescent_InBot := fun m ρ _ => Cert.InBot.Gen.frame m ρ
theorem frame_pi : Cert.quiescent_InBotIdeal := fun m ρ _ => Cert.InBotIdeal.Gen.frame m ρ
theorem frame_ri : Cert.quiescent_InBotRefIdeal := fun m ρ _ =>
  (θ_run Cert.InBotRefIdeal.defs _ _).mono (fun r h => ⟨fun c => (h c).2,
      Idealize.ShloMosaic.sem_eq_zero_of_no_sems (by decide) r.2⟩)
    (Cert.InBotRefIdeal.Value.run (F := Ideal) m ρ)

end Mm.InBot

end
-- ==== Proof.FwTile.lean ====
/-
  The forward pass on one slab of 512 query positions against one block of 2048 key positions: the running maximum, the
  running sum and the running output, each row carried as a power of two times what is stored.
-/
module

public import proofs.«01_k».proof.Proof.Equation
public import proofs.«01_k».proof.Proof.Arr
public import proofs.«01_k».proof.Proof.Gen.AttFwIdeal
public import proofs.«01_k».proof.Proof.Gen.AttFwIdeal.Skeleton

@[expose] public section

set_option maxHeartbeats 1000000

noncomputable section

namespace Fwd

open Cert.AttFwIdeal Cert.AttFwIdeal.Gen Idealize.ShloMosaic.ValueIdx
open Idealize.ShloMosaic hiding ix1 ix2
open Att (Is2 Is3 rs matmul_real sum_fin_real exists_real2 fold_max_real exp2_scaled)
open scoped BigOperators

theorem named_log2e : (Named.named (F := Ideal) κ "log2e" (φ := .f32) 0x3FB8AA3B#32 : EReal) = (((Real.log 2)⁻¹ : ℝ) : EReal) :=
  IdealRules.named_const.ideal_named_scalar _ _ _ _ rfl
theorem named_log_2 : (Named.named (F := Ideal) κ "log_2" (φ := .f32) 0x3F317218#32 : EReal) = ((Real.log 2 : ℝ) : EReal) :=
  IdealRules.named_const.ideal_named_scalar _ _ _ _ rfl
theorem named_both : (Named.named (F := Ideal) κ "scale_log2e" (φ := .f32) 0x3DD53B95#32 : EReal) = (((Real.log 2)⁻¹ * rs : ℝ) : EReal) :=
  IdealRules.named_const.ideal_named_scalar _ _ _ _ rfl

/-! ## One stored entry -/

/-- Two to the power of a stored maximum. -/
def P (x : EReal) : ℝ := (Ideal.exp2 x).toReal

theorem P_bot : P ⊥ = 0 := by unfold P; rw [Ideal.exp2_bot]; exact EReal.toReal_zero
theorem P_coe (M : ℝ) : P (M : EReal) = (2 : ℝ) ^ M := by unfold P; rw [Ideal.exp2_coe]; exact EReal.toReal_coe _

/-- The stored maximum, sum and output of an entry stand for the sum `z` and the output `y`. -/
def Pt (m l a : EReal) (z y : ℝ) : Prop := m ≠ ⊤ ∧ ∃ L A : ℝ, l = (L : EReal) ∧ a = (A : EReal) ∧ P m * L = z ∧ P m * A = y

theorem pt_zero : Pt ⊥ 0 0 0 0 :=
  ⟨bot_ne_top, 0, 0, rfl, rfl, mul_zero _, mul_zero _⟩

theorem max_real {m : EReal} (hm : m ≠ ⊤) (x : ℝ) : ∃ R : ℝ, max m (x : EReal) = (R : EReal) := by
  induction m with
  | bot => exact ⟨x, bot_sup_eq _⟩
  | top => exact absurd rfl hm
  | coe r => exact ⟨max r x, (EReal.coe_strictMono.monotone.map_max (a := r) (b := x)).symm⟩

theorem corr_real {m : EReal} (hm : m ≠ ⊤) (R : ℝ) : ∃ C : ℝ, Ideal.exp2 (m - (R : EReal)) = (C : EReal) ∧ (2 : ℝ) ^ R * C = P m := by
  induction m with
  | bot => exact ⟨0, by rw [EReal.bot_sub, Ideal.exp2_bot]; rfl, by rw [P_bot, mul_zero]⟩
  | top => exact absurd rfl hm
  | coe r =>
    refine ⟨(2 : ℝ) ^ (r - R), by rw [← EReal.coe_sub, Ideal.exp2_coe]; rfl, ?_⟩
    rw [P_coe, ← Real.rpow_add two_pos, add_sub_cancel]

/-- A stored entry whose sum is positive: the quotient and the logarithm. -/
theorem pt_div {m l a : EReal} {z y : ℝ} (h : Pt m l a z y) (hz : 0 < z) : Ideal.div a l = ((y / z : ℝ) : EReal) := by
  obtain ⟨-, L, A, rfl, rfl, hL, hA⟩ := h
  have hl : L ≠ 0 := fun e => by rw [e, mul_zero] at hL; exact hz.ne hL
  have hp : P m ≠ 0 := fun e => by rw [e, zero_mul] at hL; exact hz.ne hL
  rw [Ideal.div_coe hl, ← EReal.coe_mul, ← hL, ← hA, mul_div_mul_left _ _ hp, mul_one_div]

theorem pt_log {m l a : EReal} {z y : ℝ} (h : Pt m l a z y) (hz : 0 < z) :
    (m + Ideal.log l * (((Real.log 2)⁻¹ : ℝ) : EReal)) * ((Real.log 2 : ℝ) : EReal) = ((Real.log z : ℝ) : EReal) := by
  obtain ⟨hm, L, A, rfl, -, hL, -⟩ := h
  have h2 : Real.log 2 ≠ 0 := (Real.log_pos one_lt_two).ne'
  induction m with
  | bot => rw [P_bot, zero_mul] at hL; exact absurd hL hz.ne
  | top => exact absurd rfl hm
  | coe M =>
    rw [P_coe] at hL
    have hp : 0 < (2 : ℝ) ^ M := Real.rpow_pos_of_pos two_pos M
    have hl : 0 < L := by
      by_contra hc
      have := mul_nonpos_of_nonneg_of_nonpos hp.le (not_lt.mp hc)
      linarith
    rw [Ideal.log_coe, if_neg (not_le.mpr hl), ← EReal.coe_mul, ← EReal.coe_add, ← EReal.coe_mul, ← hL,
      Real.log_mul hp.ne' hl.ne', Real.log_rpow two_pos]
    congr 1
    field_simp

/-! ## One slab -/

/-- Scores as powers of two. -/
def slabS (k : FVec Ideal S2048x256 .bf16) (q : FVec Ideal S512x256 .bf16) : FVec Ideal S512x2048 .f32 :=
  mulf (matmul dot_S512x256_S2048x256_S512x2048_1_1_0_0_n_n none q k (constant S512x2048 .f32 0x00000000#32))
    (broadcast S512x2048 (Named.named κ "scale_log2e" 0x3DD53B95#32))

/-- The new maximum. -/
def slabM (m : FVec Ideal S512x128 .f32) (k : FVec Ideal S2048x256 .bf16) (q : FVec Ideal S512x256 .bf16) : FVec Ideal S512x128 .f32 :=
  maximumf m (broadcastTo S512x128 (shapeCast S512x1 (multiReduction .maximumf [1] S512 (slabS k q) 0xFF800000#32 Facts₀.reduces_S512x2048_S512 (.inl rfl) rfl)
    Facts₀.shapeCasts_S512_S512x1) Facts₀.broadcasts_S512x1_S512x128)

/-- What the stored sums are multiplied with. -/
def slabC (m : FVec Ideal S512x128 .f32) (k : FVec Ideal S2048x256 .bf16) (q : FVec Ideal S512x256 .bf16) : FVec Ideal S512x128 .f32 :=
  exp2 (subf m (slabM m k q))

/-- Sixteen copies side by side. -/
def wide (x : FVec Ideal S512x128 .f32) : FVec Ideal S512x2048 .f32 :=
  concatenate S512x2048 1 [⟨S512x128, x⟩, ⟨S512x128, x⟩, ⟨S512x128, x⟩, ⟨S512x128, x⟩, ⟨S512x128, x⟩, ⟨S512x128, x⟩, ⟨S512x128, x⟩, ⟨S512x128, x⟩,
    ⟨S512x128, x⟩, ⟨S512x128, x⟩, ⟨S512x128, x⟩, ⟨S512x128, x⟩, ⟨S512x128, x⟩, ⟨S512x128, x⟩, ⟨S512x128, x⟩, ⟨S512x128, x⟩]
    Facts₀.concatenates_S512x128_S512x128_S512x128_S512x128_S512x128_S512x128_S512x128_S512x128_S512x128_S512x128_S512x128_S512x128_S512x128_S512x128_S512x128_S512x128_S512x2048_d1

/-- The weights. -/
def slabP (m : FVec Ideal S512x128 .f32) (k : FVec Ideal S2048x256 .bf16) (q : FVec Ideal S512x256 .bf16) : FVec Ideal S512x2048 .f32 :=
  exp2 (subf (slabS k q) (wide (slabM m k q)))

/-- The new sum. -/
def slabL (m l : FVec Ideal S512x128 .f32) (k : FVec Ideal S2048x256 .bf16) (q : FVec Ideal S512x256 .bf16) : FVec Ideal S512x128 .f32 :=
  addf (mulf (slabC m k q) l) (broadcastTo S512x128 (shapeCast S512x1 (multiReduction .add [1] S512 (slabP m k q) 0x00000000#32 Facts₀.reduces_S512x2048_S512 (.inl rfl) rfl)
    Facts₀.shapeCasts_S512_S512x1) Facts₀.broadcasts_S512x1_S512x128)

/-- The new output. -/
def slabA (m a : FVec Ideal S512x128 .f32) (k : FVec Ideal S2048x256 .bf16) (v : FVec Ideal S2048x128 .bf16) (q : FVec Ideal S512x256 .bf16) : FVec Ideal S512x128 .f32 :=
  addf (mulf (slabC m k q) a) (matmul dot_S512x2048_S2048x128_S512x128_1_0_0_1_n_n none (truncf .bf16 (slabP m k q) Facts₀.bitsLt_bf16_f32) v
    (constant S512x128 .f32 0x00000000#32))

/-- The three stored arrays stand for the sums `z` and the outputs `y`; the maxima are the same in all lanes. -/
def St (n : ℕ) (m l a : (⟨2, ![n, 128]⟩ : Shape).Idx → EReal) (z : ℕ → ℝ) (y : ℕ → ℕ → ℝ) : Prop :=
  (∀ i, m i = m (ix2 (i (0 : Fin 2)) 0)) ∧ ∀ i, Pt (m i) (l i) (a i) (z (i (0 : Fin 2)).val) (y (i (0 : Fin 2)).val (i (1 : Fin 2)).val)

section Slab

variable {k : FVec Ideal S2048x256 .bf16} {v : FVec Ideal S2048x128 .bf16} {q : FVec Ideal S512x256 .bf16}
  {m l a : FVec Ideal S512x128 .f32} {X V Q K : ℕ → ℕ → ℝ} {z : ℕ → ℝ} {y : ℕ → ℕ → ℝ}

theorem slabS_real (hq : Is2 q Q) (hk : Is2 k K) :
    Is2 (slabS k q) fun r c => (∑ d ∈ Finset.range 256, Q r d * K c d) * ((Real.log 2)⁻¹ * rs) := by
  intro i
  show FloatOps.matmul dot_S512x256_S2048x256_S512x2048_1_1_0_0_n_n none q k
    (constant S512x2048 .f32 0x00000000#32) i * Named.named (F := Ideal) κ "scale_log2e" (φ := .f32) 0x3DD53B95#32 = _
  rw [matmul_real _ _ 256 rfl rfl q k i (fun d => Q (i (0 : Fin 2)).val d) (fun d => K (i (1 : Fin 2)).val d)
      (fun _ => hq _) (fun _ => hk _), named_both, ← EReal.coe_mul]

theorem column (x : FVec Ideal S512 .f32) (r : Fin 512) : shapeCast S512x1 x Facts₀.shapeCasts_S512_S512x1 (ix2 r 0) = x (ix1 r) := by
  refine shapeCast_apply _ _ _ _ ?_
  rw [Shape.rowMajor_val_one, Shape.rowMajor_val_two]
  show r.val = r.val * 1 + 0
  omega

/-- A column of 512 numbers, in all lanes. -/
theorem spread (x : FVec Ideal S512 .f32) (i : S512x128.Idx) :
    broadcastTo S512x128 (shapeCast S512x1 x Facts₀.shapeCasts_S512_S512x1) Facts₀.broadcasts_S512x1_S512x128 i = x (ix1 (i (0 : Fin 2))) :=
  (broadcastTo_apply _ _ i (ix2 (i (0 : Fin 2)) 0) (by intro a; fin_cases a <;> rfl)).trans (column x _)

theorem rowMax_real (hs : Is2 (slabS k q) X) (j : S512.Idx) :
    ∃ x : ℝ, multiReduction .maximumf [1] S512 (slabS k q) 0xFF800000#32 Facts₀.reduces_S512x2048_S512 (.inl rfl) rfl j = (x : EReal) := by
  have hb : (FloatOps.ofBits (F := Ideal) .f32 0xFF800000#32 : EReal) = ⊥ := Att.bot_real fun k => k.elim0
  have e := Ideal.multiReduction_maximumf_single (slabS k q) 0xFF800000#32 Facts₀.reduces_S512x2048_S512 (.inl rfl) rfl j
  rw [hb] at e
  rcases fold_max_real (Finset.univ : Finset (Fin (S512x2048.size (1 : Fin 2)))) ((slabS k q) ∘ (Facts₀.reduces_S512x2048_S512).lift j) (fun k => ⟨_, hs _⟩) with ⟨-, e'⟩ | ⟨x, e'⟩
  · exact absurd (e' ▸ Finset.mem_univ (⟨0, by decide⟩ : Fin (S512x2048.size (1 : Fin 2)))) (Finset.notMem_empty _)
  · exact ⟨x, e.trans e'⟩

theorem slabM_real (h : St 512 m l a z y) (hs : Is2 (slabS k q) X) : ∃ R : ℕ → ℝ, ∀ i, slabM m k q i = ((R (i (0 : Fin 2)).val : ℝ) : EReal) := by
  have hr : ∀ i, ∃ r : ℝ, slabM m k q i = (r : EReal) := fun i => by
    obtain ⟨x, hx⟩ := rowMax_real hs (ix1 (i (0 : Fin 2)))
    obtain ⟨R, hR⟩ := max_real (h.2 i).1 x
    refine ⟨R, ?_⟩
    show max (m i) (broadcastTo S512x128 (shapeCast S512x1 _ _) _ i) = _
    rw [spread, hx, hR]
  obtain ⟨R, hR⟩ := exists_real2 (a := 512) (b := 128) _ hr
  refine ⟨fun r => R r 0, fun i => ?_⟩
  refine Eq.trans ?_ (hR (ix2 (i (0 : Fin 2)) 0))
  show max (m i) (broadcastTo S512x128 (shapeCast S512x1 _ _) _ i) = max (m _) (broadcastTo S512x128 (shapeCast S512x1 _ _) _ _)
  rw [spread, spread, h.1 i]

/-- Where each copy begins. -/
theorem places : ∀ n, n < 16 → ((([S512x128, S512x128, S512x128, S512x128, S512x128, S512x128, S512x128, S512x128,
    S512x128, S512x128, S512x128, S512x128, S512x128, S512x128, S512x128, S512x128] : List Shape).take n).map fun s => if h : s.rank = S512x2048.rank then s.size ((1 : Fin S512x2048.rank).cast h.symm) else 0).sum = n * 128 := by
  decide +kernel

theorem wide_real {x : FVec Ideal S512x128 .f32} {R : ℕ → ℝ} (h : ∀ i, x i = ((R (i (0 : Fin 2)).val : ℝ) : EReal)) (i : S512x2048.Idx) :
    wide x i = ((R (i (0 : Fin 2)).val : ℝ) : EReal) := by
  have h1 : (i (1 : Fin 2)).val < 2048 := (i (1 : Fin 2)).isLt
  have key : ∀ n : ℕ, n < 16 → n = (i (1 : Fin 2)).val / 128 → wide x i = ((R (i (0 : Fin 2)).val : ℝ) : EReal) := by
    intro n hn e
    refine (concatenate_apply_piece (t := S512x2048) 1
      ([⟨S512x128, x⟩, ⟨S512x128, x⟩, ⟨S512x128, x⟩, ⟨S512x128, x⟩, ⟨S512x128, x⟩, ⟨S512x128, x⟩, ⟨S512x128, x⟩, ⟨S512x128, x⟩,
      ⟨S512x128, x⟩, ⟨S512x128, x⟩, ⟨S512x128, x⟩, ⟨S512x128, x⟩, ⟨S512x128, x⟩, ⟨S512x128, x⟩, ⟨S512x128, x⟩, ⟨S512x128, x⟩] : List ((s : Shape) × (s.Idx → EReal))) _ i n hn S512x128 x ?_ rfl (n * 128) ?_
      (ix2 (i (0 : Fin 2)) ⟨(i (1 : Fin 2)).val - n * 128, by omega⟩) ?_ ?_).trans (h _)
    · interval_cases n <;> rfl
    · rw [List.map_take]
      exact places n hn
    · intro b hb
      fin_cases b
      · rfl
      · exact absurd rfl hb
    · show n * 128 + ((i (1 : Fin 2)).val - n * 128) = (i (1 : Fin 2)).val
      omega
  exact key _ (by omega) rfl

/-- One slab against one block of keys. -/
theorem slab_step (h : St 512 m l a z y) (hs : Is2 (slabS k q) X) (hv : Is2 v V) :
    St 512 (slabM m k q) (slabL m l k q) (slabA m a k v q)
      (fun r => z r + ∑ c ∈ Finset.range 2048, (2 : ℝ) ^ X r c) fun r e => y r e + ∑ c ∈ Finset.range 2048, (2 : ℝ) ^ X r c * V c e := by
  obtain ⟨R, hR⟩ := slabM_real h hs
  have hp : Is2 (slabP m k q) fun r c => (2 : ℝ) ^ (X r c - R r) := fun i => by
    show Ideal.exp2 (slabS k q i - wide (slabM m k q) i) = _
    rw [hs, wide_real hR, ← EReal.coe_sub, Ideal.exp2_coe]
    rfl
  refine ⟨fun i => by rw [hR, hR], fun i => ?_⟩
  obtain ⟨hm, L, A, hl, ha, hL, hA⟩ := h.2 i
  obtain ⟨C, hC, hC'⟩ := corr_real hm (R (i (0 : Fin 2)).val)
  have hc : slabC m k q i = (C : EReal) := by
    show Ideal.exp2 (m i - slabM m k q i) = _
    rw [hR, hC]
  have two : ∀ c, (2 : ℝ) ^ R (i (0 : Fin 2)).val * (2 : ℝ) ^ (X (i (0 : Fin 2)).val c - R (i (0 : Fin 2)).val) = (2 : ℝ) ^ X (i (0 : Fin 2)).val c := fun c => by
    rw [← Real.rpow_add two_pos, add_sub_cancel]
  rw [hR i]
  refine ⟨EReal.coe_ne_top _, C * L + ∑ c ∈ Finset.range 2048, (2 : ℝ) ^ (X (i (0 : Fin 2)).val c - R (i (0 : Fin 2)).val),
    C * A + ∑ c ∈ Finset.range 2048, (2 : ℝ) ^ (X (i (0 : Fin 2)).val c - R (i (0 : Fin 2)).val) * V c (i (1 : Fin 2)).val, ?_, ?_, ?_, ?_⟩
  · show slabC m k q i * l i + broadcastTo S512x128 (shapeCast S512x1 _ _) _ i = _
    rw [spread, hc, hl, EReal.coe_add, EReal.coe_mul]
    refine congrArg _ ((Ideal.multiReduction_add_single _ _ _ _ _ _).trans ?_)
    rw [← sum_fin_real fun c => (2 : ℝ) ^ (X (i (0 : Fin 2)).val c - R (i (0 : Fin 2)).val)]
    exact Finset.sum_congr rfl fun c _ => hp _
  · show slabC m k q i * a i + FloatOps.matmul dot_S512x2048_S2048x128_S512x128_1_0_0_1_n_n none (truncf .bf16 (slabP m k q) Facts₀.bitsLt_bf16_f32) v
      (constant S512x128 .f32 0x00000000#32) i = _
    rw [matmul_real _ _ 2048 rfl rfl _ v i (fun c => (2 : ℝ) ^ (X (i (0 : Fin 2)).val c - R (i (0 : Fin 2)).val)) (fun c => V c (i (1 : Fin 2)).val)
      (fun _ => hp _) (fun _ => hv _), hc, ha, EReal.coe_add, EReal.coe_mul]
  · rw [P_coe, mul_add, ← mul_assoc, hC', hL, Finset.mul_sum, Finset.sum_congr rfl fun c _ => two c]
  · rw [P_coe, mul_add, ← mul_assoc, hC', hA, Finset.mul_sum,
      Finset.sum_congr rfl fun c _ => (mul_assoc _ _ _).symm.trans (congrArg (· * V c (i (1 : Fin 2)).val) (two c))]

end Slab

/-! ## Four slabs -/

/-- Four slabs, one under the other. -/
def stack (a b c d : FVec Ideal S512x128 .f32) : FVec Ideal S2048x128 .f32 :=
  concatenate S2048x128 0 [⟨S512x128, a⟩, ⟨S512x128, b⟩, ⟨S512x128, c⟩, ⟨S512x128, d⟩]
    Facts₀.concatenates_S512x128_S512x128_S512x128_S512x128_S2048x128_d0

theorem stack_at (x : Fin 4 → FVec Ideal S512x128 .f32) (i : S2048x128.Idx) (n : Fin 4) (r : Fin 512) (h : (i (0 : Fin 2)).val = n.val * 512 + r.val) :
    stack (x 0) (x 1) (x 2) (x 3) i = x n (ix2 r (i (1 : Fin 2))) := by
  refine concatenate_apply_piece (t := S2048x128) 0
    ([⟨S512x128, x 0⟩, ⟨S512x128, x 1⟩, ⟨S512x128, x 2⟩, ⟨S512x128, x 3⟩] : List ((s : Shape) × (s.Idx → EReal))) _ i n.val n.isLt S512x128 (x n) ?_ rfl (n.val * 512) ?_ (ix2 r (i (1 : Fin 2))) ?_ h.symm
  · fin_cases n <;> rfl
  · fin_cases n <;> rfl
  · intro b hb
    fin_cases b
    · exact absurd rfl hb
    · rfl

theorem stack_st {m l a : Fin 4 → FVec Ideal S512x128 .f32} {z : ℕ → ℝ} {y : ℕ → ℕ → ℝ}
    (h : ∀ n : Fin 4, St 512 (m n) (l n) (a n) (fun r => z (n.val * 512 + r)) fun r e => y (n.val * 512 + r) e) :
    St 2048 (stack (m 0) (m 1) (m 2) (m 3)) (stack (l 0) (l 1) (l 2) (l 3)) (stack (a 0) (a 1) (a 2) (a 3)) z y := by
  have sp : ∀ i : S2048x128.Idx, ∃ (n : Fin 4) (r : Fin 512), (i (0 : Fin 2)).val = n.val * 512 + r.val := fun i => by
    have h0 : (i (0 : Fin 2)).val < 2048 := (i (0 : Fin 2)).isLt
    exact ⟨⟨(i (0 : Fin 2)).val / 512, by omega⟩, ⟨(i (0 : Fin 2)).val % 512, by omega⟩, by
      show (i (0 : Fin 2)).val = (i (0 : Fin 2)).val / 512 * 512 + (i (0 : Fin 2)).val % 512
      omega⟩
  refine ⟨fun i => ?_, fun i => ?_⟩
  · obtain ⟨n, r, e⟩ := sp i
    rw [stack_at m i n r e, stack_at m (ix2 (i (0 : Fin 2)) 0) n r e]
    exact (h n).1 _
  · obtain ⟨n, r, e⟩ := sp i
    rw [stack_at m i n r e, stack_at l i n r e, stack_at a i n r e, e]
    exact (h n).2 (ix2 r (i (1 : Fin 2)))

theorem slice_at (x : FVec Ideal S2048x128 .f32) (o : ℕ) (h : S2048x128.Slices ![o, 0] S512x128) (i : S512x128.Idx) (r : Fin 2048)
    (hr : r.val = o + (i (0 : Fin 2)).val) : extractStridedSlice S512x128 ![o, 0] x h i = x (ix2 r (i (1 : Fin 2))) := by
  refine extractStridedSlice_apply ![o, 0] x h i _ ?_
  intro a
  fin_cases a
  · exact hr
  · exact (Nat.zero_add _).symm

theorem slice_st {m l a : FVec Ideal S2048x128 .f32} {z : ℕ → ℝ} {y : ℕ → ℕ → ℝ} (h : St 2048 m l a z y) (o : ℕ) (ho : o + 512 ≤ 2048)
    (hs : S2048x128.Slices ![o, 0] S512x128) :
    St 512 (extractStridedSlice S512x128 ![o, 0] m hs) (extractStridedSlice S512x128 ![o, 0] l hs) (extractStridedSlice S512x128 ![o, 0] a hs)
      (fun r => z (o + r)) fun r e => y (o + r) e := by
  have hb : ∀ i : S512x128.Idx, o + (i (0 : Fin 2)).val < 2048 := fun i => by
    have h0 : (i (0 : Fin 2)).val < 512 := (i (0 : Fin 2)).isLt
    omega
  refine ⟨fun i => ?_, fun i => ?_⟩
  · rw [slice_at m o hs i ⟨_, hb i⟩ rfl, slice_at m o hs (ix2 (i (0 : Fin 2)) 0) ⟨_, hb i⟩ rfl]
    exact h.1 _
  · rw [slice_at m o hs i ⟨_, hb i⟩ rfl, slice_at l o hs i ⟨_, hb i⟩ rfl, slice_at a o hs i ⟨_, hb i⟩ rfl]
    exact h.2 (ix2 ⟨_, hb i⟩ (i (1 : Fin 2)))

end Fwd
end
-- ==== Proof.FwStep.lean ====
/-
  The forward pass on one block of 2048 query positions against one block of 2048 key positions: the kernel body's named
  payloads as the slab operations, what they do on real numbers, and what a grid point leaves in its buffers.
-/
module

public import proofs.«01_k».proof.Proof.FwTile
public import proofs.«01_k».proof.Proof.Step
public import proofs.«01_k».proof.Proof.Gen.AttFwIdeal.Frame

@[expose] public section

set_option maxHeartbeats 4000000
set_option maxRecDepth 8192

noncomputable section

namespace Fwd

open Cert.AttFwIdeal Cert.AttFwIdeal.Gen Idealize.ShloMosaic.TcCoe Idealize.ShloMosaic.Tactic
open Idealize.ShloMosaic hiding ix2
open Att (Is2 Is3 rs hz hz3)
open Idealize.SL.Sem
open Idealize.ShloMosaic.ValueIdx (ix2)
open scoped BigOperators

abbrev sl0 (x : FVec Ideal S2048x128 .f32) : FVec Ideal S512x128 .f32 := extractStridedSlice S512x128 ![0, 0] x Facts₀.slices_S2048x128_o0_0_S512x128
abbrev sl1 (x : FVec Ideal S2048x128 .f32) : FVec Ideal S512x128 .f32 := extractStridedSlice S512x128 ![512, 0] x Facts₀.slices_S2048x128_o512_0_S512x128
abbrev sl2 (x : FVec Ideal S2048x128 .f32) : FVec Ideal S512x128 .f32 := extractStridedSlice S512x128 ![1024, 0] x Facts₀.slices_S2048x128_o1024_0_S512x128
abbrev sl3 (x : FVec Ideal S2048x128 .f32) : FVec Ideal S512x128 .f32 := extractStridedSlice S512x128 ![1536, 0] x Facts₀.slices_S2048x128_o1536_0_S512x128

/-- The four slabs of a block of queries. -/
abbrev ld0 (x : Vec Ideal S2048x256 .bf16) : Vec Ideal S512x256 .bf16 := View.ld (Val := Elt Ideal) x (Rect.unit (s := S2048x256) ![0, 0] S512x256.size Facts₀.inb_S2048x256_S512x256_0_0)
abbrev ld1 (x : Vec Ideal S2048x256 .bf16) : Vec Ideal S512x256 .bf16 := View.ld (Val := Elt Ideal) x (Rect.unit (s := S2048x256) ![512, 0] S512x256.size Facts₀.inb_S2048x256_S512x256_512_0)
abbrev ld2 (x : Vec Ideal S2048x256 .bf16) : Vec Ideal S512x256 .bf16 := View.ld (Val := Elt Ideal) x (Rect.unit (s := S2048x256) ![1024, 0] S512x256.size Facts₀.inb_S2048x256_S512x256_1024_0)
abbrev ld3 (x : Vec Ideal S2048x256 .bf16) : Vec Ideal S512x256 .bf16 := View.ld (Val := Elt Ideal) x (Rect.unit (s := S2048x256) ![1536, 0] S512x256.size Facts₀.inb_S2048x256_S512x256_1536_0)

/-- The new maxima, sums and outputs of a block of queries. -/
def newM (k : FVec Ideal S2048x256 .bf16) (q : Vec Ideal S2048x256 .bf16) (m : FVec Ideal S2048x128 .f32) : FVec Ideal S2048x128 .f32 :=
  stack (slabM (sl0 m) k (ld0 q)) (slabM (sl1 m) k (ld1 q)) (slabM (sl2 m) k (ld2 q)) (slabM (sl3 m) k (ld3 q))
def newL (k : FVec Ideal S2048x256 .bf16) (q : Vec Ideal S2048x256 .bf16) (m l : FVec Ideal S2048x128 .f32) : FVec Ideal S2048x128 .f32 :=
  stack (slabL (sl0 m) (sl0 l) k (ld0 q)) (slabL (sl1 m) (sl1 l) k (ld1 q)) (slabL (sl2 m) (sl2 l) k (ld2 q)) (slabL (sl3 m) (sl3 l) k (ld3 q))
def newA (k : FVec Ideal S2048x256 .bf16) (v : FVec Ideal S2048x128 .bf16) (q : Vec Ideal S2048x256 .bf16) (m a : FVec Ideal S2048x128 .f32) : FVec Ideal S2048x128 .f32 :=
  stack (slabA (sl0 m) (sl0 a) k v (ld0 q)) (slabA (sl1 m) (sl1 a) k v (ld1 q)) (slabA (sl2 m) (sl2 a) k v (ld2 q)) (slabA (sl3 m) (sl3 a) k v (ld3 q))

/-! ## The payloads -/

section Payloads

variable (k : FVec Ideal S2048x256 .bf16) (v : FVec Ideal S2048x128 .bf16) (m l a : FVec Ideal S2048x128 .f32)
  (q q' : FVec Ideal S512x256 .bf16) (s0 s1 s2 : FVec Ideal S512x128 .f32)

theorem pay6_eq : k0_pay6 k = k := shapeCast_self _ _
theorem pay7_eq : k0_pay7 v = v := shapeCast_self _ _
theorem pay8_eq : k0_pay8 k q = slabS k q := by
  unfold k0_pay8; rw [pay6_eq]; simp only [shapeCast_self]; rfl
theorem pay10_eq : k0_pay10 k m q = slabM (sl0 m) k q := by
  unfold k0_pay10; rw [pay8_eq]; rfl
theorem pay11_eq : k0_pay11 k m q = slabC (sl0 m) k q := by
  unfold k0_pay11; rw [pay10_eq]; rfl
theorem pay12_eq : k0_pay12 k m q = slabP (sl0 m) k q := by
  unfold k0_pay12; rw [pay8_eq, pay10_eq]; rfl
theorem pay13_eq : k0_pay13 k m l q = slabL (sl0 m) (sl0 l) k q := by
  unfold k0_pay13; rw [pay11_eq, pay12_eq]; rfl
theorem pay14_eq : k0_pay14 k v m a q = slabA (sl0 m) (sl0 a) k v q := by
  unfold k0_pay14; rw [pay11_eq, pay12_eq, pay7_eq]; rfl
theorem pay15_eq : k0_pay15 k q = slabS k q := by
  unfold k0_pay15; simp only [shapeCast_self]; rfl
theorem pay17_eq : k0_pay17 k m q = slabM (sl1 m) k q := by
  unfold k0_pay17; rw [pay15_eq]; rfl
theorem pay18_eq : k0_pay18 k m q = slabC (sl1 m) k q := by
  unfold k0_pay18; rw [pay17_eq]; rfl
theorem pay19_eq : k0_pay19 k m q = slabP (sl1 m) k q := by
  unfold k0_pay19; rw [pay15_eq, pay17_eq]; rfl
theorem pay20_eq : k0_pay20 k m l q = slabL (sl1 m) (sl1 l) k q := by
  unfold k0_pay20; rw [pay18_eq, pay19_eq]; rfl
theorem pay21_eq : k0_pay21 k v m a q = slabA (sl1 m) (sl1 a) k v q := by
  unfold k0_pay21; rw [pay18_eq, pay19_eq]; rfl
theorem pay22_eq : k0_pay22 k q = slabS k q := by
  unfold k0_pay22; simp only [shapeCast_self]; rfl
theorem pay24_eq : k0_pay24 k m q = slabM (sl2 m) k q := by
  unfold k0_pay24; rw [pay22_eq]; rfl
theorem pay25_eq : k0_pay25 k m q = slabC (sl2 m) k q := by
  unfold k0_pay25; rw [pay24_eq]; rfl
theorem pay26_eq : k0_pay26 k m q = slabP (sl2 m) k q := by
  unfold k0_pay26; rw [pay22_eq, pay24_eq]; rfl
theorem pay27_eq : k0_pay27 k m l q = slabL (sl2 m) (sl2 l) k q := by
  unfold k0_pay27; rw [pay25_eq, pay26_eq]; rfl
theorem pay29_eq : k0_pay29 k q = slabS k q := by
  unfold k0_pay29; simp only [shapeCast_self]; rfl
theorem pay31_eq : k0_pay31 k m q = slabM (sl3 m) k q := by
  unfold k0_pay31; rw [pay29_eq]; rfl
theorem pay32_eq : k0_pay32 k m q = slabC (sl3 m) k q := by
  unfold k0_pay32; rw [pay31_eq]; rfl
theorem pay33_eq : k0_pay33 k m q = slabP (sl3 m) k q := by
  unfold k0_pay33; rw [pay29_eq, pay31_eq]; rfl
theorem pay34_eq : k0_pay34 k m s0 s1 s2 q = stack s0 s1 s2 (slabM (sl3 m) k q) := by
  unfold k0_pay34; rw [pay31_eq]; exact shapeCast_self _ _
theorem pay35_eq : k0_pay35 k m l s0 s1 s2 q = stack s0 s1 s2 (slabL (sl3 m) (sl3 l) k q) := by
  unfold k0_pay35; rw [pay32_eq, pay33_eq]; exact shapeCast_self _ _
theorem pay36_eq : k0_pay36 k v m a s0 s1 (k0_pay25 k m q) (k0_pay26 k m q) (k0_pay28 a) q'
    = stack s0 s1 (slabA (sl2 m) (sl2 a) k v q) (slabA (sl3 m) (sl3 a) k v q') := by
  unfold k0_pay36; rw [pay32_eq, pay33_eq, pay25_eq, pay26_eq]; exact shapeCast_self _ _

end Payloads

/-! ## On real numbers -/

/-- What one block of keys adds to the sum of query `r`, and to its output. -/
def zB (Q K : ℕ → ℕ → ℝ) (r : ℕ) : ℝ := ∑ c ∈ Finset.range 2048, Real.exp ((∑ d ∈ Finset.range 256, Q r d * K c d) * rs)
def yB (Q K V : ℕ → ℕ → ℝ) (r e : ℕ) : ℝ := ∑ c ∈ Finset.range 2048, Real.exp ((∑ d ∈ Finset.range 256, Q r d * K c d) * rs) * V c e

theorem two_pow (a : ℝ) : (2 : ℝ) ^ (a * ((Real.log 2)⁻¹ * rs)) = Real.exp (a * rs) := by
  have h2 : Real.log 2 ≠ 0 := (Real.log_pos one_lt_two).ne'
  rw [Real.rpow_def_of_pos two_pos]
  congr 1
  field_simp

theorem slab_st {k : FVec Ideal S2048x256 .bf16} {v : FVec Ideal S2048x128 .bf16} {q : FVec Ideal S512x256 .bf16} {m l a : FVec Ideal S512x128 .f32}
    {Q K V : ℕ → ℕ → ℝ} {z : ℕ → ℝ} {y : ℕ → ℕ → ℝ} {o : ℕ}
    (h : St 512 m l a (fun r => z (o + r)) fun r e => y (o + r) e) (hk : Is2 k K) (hq : Is2 q fun r d => Q (o + r) d) (hv : Is2 v V) :
    St 512 (slabM m k q) (slabL m l k q) (slabA m a k v q) (fun r => z (o + r) + zB Q K (o + r)) fun r e => y (o + r) e + yB Q K V (o + r) e := by
  have := slab_step h (slabS_real hq hk) hv
  simp only [two_pow] at this
  exact this

theorem block_st {k : FVec Ideal S2048x256 .bf16} {q : Vec Ideal S2048x256 .bf16} {v : FVec Ideal S2048x128 .bf16} {m l a : FVec Ideal S2048x128 .f32}
    {Q K V : ℕ → ℕ → ℝ} {z : ℕ → ℝ} {y : ℕ → ℕ → ℝ} (h : St 2048 m l a z y) (hk : Is2 k K) (hq : Is2 (a := 2048) (b := 256) q Q) (hv : Is2 v V) :
    St 2048 (newM k q m) (newL k q m l) (newA k v q m a) (fun r => z r + zB Q K r) fun r e => y r e + yB Q K V r e := by
  refine stack_st (m := ![slabM (sl0 m) k (ld0 q), slabM (sl1 m) k (ld1 q), slabM (sl2 m) k (ld2 q), slabM (sl3 m) k (ld3 q)])
    (l := ![slabL (sl0 m) (sl0 l) k (ld0 q), slabL (sl1 m) (sl1 l) k (ld1 q), slabL (sl2 m) (sl2 l) k (ld2 q), slabL (sl3 m) (sl3 l) k (ld3 q)])
    (a := ![slabA (sl0 m) (sl0 a) k v (ld0 q), slabA (sl1 m) (sl1 a) k v (ld1 q), slabA (sl2 m) (sl2 a) k v (ld2 q), slabA (sl3 m) (sl3 a) k v (ld3 q)])
    fun n => ?_
  fin_cases n
  · exact slab_st (o := 0 * 512) (slice_st h (0 * 512) (by omega) _) hk (Att.ld_real hq 0 _) hv
  · exact slab_st (o := 1 * 512) (slice_st h (1 * 512) (by omega) _) hk (Att.ld_real hq 512 _) hv
  · exact slab_st (o := 2 * 512) (slice_st h (2 * 512) (by omega) _) hk (Att.ld_real hq 1024 _) hv
  · exact slab_st (o := 3 * 512) (slice_st h (3 * 512) (by omega) _) hk (Att.ld_real hq 1536 _) hv

/-- What the buffers are filled with first stands for nothing. -/
theorem init_st : St 2048 (k0_pay3 (F := Ideal)) (k0_pay4 (F := Ideal)) (k0_pay5 (F := Ideal)) (fun _ => 0) fun _ _ => 0 := by
  have h3 : ∀ i, k0_pay3 (F := Ideal) i = (⊥ : EReal) := fun i => by
    unfold k0_pay3; rw [shapeCast_self]; exact Att.bot_real fun k => k.elim0
  have h4 : ∀ i, k0_pay4 (F := Ideal) i = (0 : EReal) := fun i => by
    unfold k0_pay4; rw [shapeCast_self]; exact Ideal.ofBits_zero_f32
  have h5 : ∀ i, k0_pay5 (F := Ideal) i = (0 : EReal) := fun i => by
    unfold k0_pay5; rw [shapeCast_self]; exact Ideal.ofBits_zero_f32
  refine ⟨fun i => by rw [h3, h3], fun i => ?_⟩
  rw [h3, h4, h5]
  exact pt_zero

/-- The block that is written out. -/
theorem quot_real {m l a : FVec Ideal S2048x128 .f32} {z : ℕ → ℝ} {y : ℕ → ℕ → ℝ} (h : St 2048 m l a z y) (hz : ∀ r, 0 < z r) :
    Is2 (k0_pay1 (F := Ideal) a l) fun r e => y r e / z r := fun i => pt_div (h.2 i) (hz _)

theorem logs_real {m l a : FVec Ideal S2048x128 .f32} {z : ℕ → ℝ} {y : ℕ → ℕ → ℝ} (h : St 2048 m l a z y) (hz : ∀ r, 0 < z r) :
    Is3 (k0_pay2 (F := Ideal) m l) fun _ r _ => Real.log (z r) := by
  intro i
  have h0 : (i (0 : Fin 3)).val < 1 := (i (0 : Fin 3)).isLt
  have h2 : (i (2 : Fin 3)).val < 1 := (i (2 : Fin 3)).isLt
  unfold k0_pay2
  refine (shapeCast_apply _ _ i (ix2 (i (1 : Fin 3)) (i (2 : Fin 3))) ?_).trans ((extractStridedSlice_apply ![0, 0] _ _ _ (ix2 (i (1 : Fin 3)) ⟨(i (2 : Fin 3)).val, by omega⟩) ?_).trans ?_)
  · rw [Shape.rowMajor_val_two, Shape.rowMajor_val_three]
    show (i (1 : Fin 3)).val * 1 + (i (2 : Fin 3)).val = ((i (0 : Fin 3)).val * 2048 + (i (1 : Fin 3)).val) * 1 + (i (2 : Fin 3)).val
    omega
  · intro a
    fin_cases a <;> exact (Nat.zero_add _).symm
  · show (m _ + Ideal.log (l _) * Named.named (F := Ideal) κ "log2e" (φ := .f32) 0x3FB8AA3B#32) * Named.named (F := Ideal) κ "log_2" (φ := .f32) 0x3F317218#32 = _
    rw [named_log2e, named_log_2]
    exact pt_log (h.2 _) (hz _)

/-! ## What a grid point leaves -/

theorem A_m (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : cond0_0 i) (hc1 : ¬cond0_1 i)
    (x0 : Vec Ideal S2048x256 .bf16) (x1 : Vec Ideal S2048x256 .bf16) (x2 : Vec Ideal S2048x128 .bf16) :
    sout0_A_0 c i arg3 harg3 arg4 harg4 arg5 harg5 arg6 harg6 arg7 harg7 arg8 harg8 arg9 harg9 arg10 harg10 hc0 hc1 x0 x1 x2 = newM x1 x0 (k0_pay3 (F := Ideal)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S2048x128) hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem A_l (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : cond0_0 i) (hc1 : ¬cond0_1 i)
    (x0 : Vec Ideal S2048x256 .bf16) (x1 : Vec Ideal S2048x256 .bf16) (x2 : Vec Ideal S2048x128 .bf16) :
    sout0_A_1 c i arg3 harg3 arg4 harg4 arg5 harg5 arg6 harg6 arg7 harg7 arg8 harg8 arg9 harg9 arg10 harg10 hc0 hc1 x0 x1 x2 = newL x1 x0 (k0_pay3 (F := Ideal)) (k0_pay4 (F := Ideal)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S2048x128) hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem A_a (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : cond0_0 i) (hc1 : ¬cond0_1 i)
    (x0 : Vec Ideal S2048x256 .bf16) (x1 : Vec Ideal S2048x256 .bf16) (x2 : Vec Ideal S2048x128 .bf16) :
    sout0_A_2 c i arg3 harg3 arg4 harg4 arg5 harg5 arg6 harg6 arg7 harg7 arg8 harg8 arg9 harg9 arg10 harg10 hc0 hc1 x0 x1 x2 = newA x1 x2 x0 (k0_pay3 (F := Ideal)) (k0_pay5 (F := Ideal)) := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S2048x128) hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem B_m (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : ¬cond0_1 i)
    (x0 : Vec Ideal S2048x256 .bf16) (x1 : Vec Ideal S2048x256 .bf16) (x2 : Vec Ideal S2048x128 .bf16) (xs0 xs1 xs2 : Vec Ideal S2048x128 .f32) :
    sout0_B_0 c i arg3 harg3 arg4 harg4 arg5 harg5 arg6 harg6 arg7 harg7 arg8 harg8 arg9 harg9 arg10 harg10 hc0 hc1 x0 x1 x2 xs0 xs1 xs2 = newM x1 x0 (xs0) := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem B_l (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : ¬cond0_1 i)
    (x0 : Vec Ideal S2048x256 .bf16) (x1 : Vec Ideal S2048x256 .bf16) (x2 : Vec Ideal S2048x128 .bf16) (xs0 xs1 xs2 : Vec Ideal S2048x128 .f32) :
    sout0_B_1 c i arg3 harg3 arg4 harg4 arg5 harg5 arg6 harg6 arg7 harg7 arg8 harg8 arg9 harg9 arg10 harg10 hc0 hc1 x0 x1 x2 xs0 xs1 xs2 = newL x1 x0 (xs0) (xs1) := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem B_a (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : ¬cond0_1 i)
    (x0 : Vec Ideal S2048x256 .bf16) (x1 : Vec Ideal S2048x256 .bf16) (x2 : Vec Ideal S2048x128 .bf16) (xs0 xs1 xs2 : Vec Ideal S2048x128 .f32) :
    sout0_B_2 c i arg3 harg3 arg4 harg4 arg5 harg5 arg6 harg6 arg7 harg7 arg8 harg8 arg9 harg9 arg10 harg10 hc0 hc1 x0 x1 x2 xs0 xs1 xs2 = newA x1 x2 x0 (xs0) (xs2) := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem C_m (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : cond0_1 i)
    (x0 : Vec Ideal S2048x256 .bf16) (x1 : Vec Ideal S2048x256 .bf16) (x2 : Vec Ideal S2048x128 .bf16) (xs0 xs1 xs2 : Vec Ideal S2048x128 .f32) :
    sout0_C_0 c i arg3 harg3 arg4 harg4 arg5 harg5 arg6 harg6 arg7 harg7 arg8 harg8 arg9 harg9 arg10 harg10 hc0 hc1 x0 x1 x2 xs0 xs1 xs2 = newM x1 x0 (xs0) := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem C_l (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : cond0_1 i)
    (x0 : Vec Ideal S2048x256 .bf16) (x1 : Vec Ideal S2048x256 .bf16) (x2 : Vec Ideal S2048x128 .bf16) (xs0 xs1 xs2 : Vec Ideal S2048x128 .f32) :
    sout0_C_1 c i arg3 harg3 arg4 harg4 arg5 harg5 arg6 harg6 arg7 harg7 arg8 harg8 arg9 harg9 arg10 harg10 hc0 hc1 x0 x1 x2 xs0 xs1 xs2 = newL x1 x0 (xs0) (xs1) := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem C_a (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : cond0_1 i)
    (x0 : Vec Ideal S2048x256 .bf16) (x1 : Vec Ideal S2048x256 .bf16) (x2 : Vec Ideal S2048x128 .bf16) (xs0 xs1 xs2 : Vec Ideal S2048x128 .f32) :
    sout0_C_2 c i arg3 harg3 arg4 harg4 arg5 harg5 arg6 harg6 arg7 harg7 arg8 harg8 arg9 harg9 arg10 harg10 hc0 hc1 x0 x1 x2 xs0 xs1 xs2 = newA x1 x2 x0 (xs0) (xs2) := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem C_out3 (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : cond0_1 i)
    (x0 : Vec Ideal S2048x256 .bf16) (x1 : Vec Ideal S2048x256 .bf16) (x2 : Vec Ideal S2048x128 .bf16) (xs0 xs1 xs2 : Vec Ideal S2048x128 .f32) :
    out0_C_3 c i arg3 harg3 arg4 harg4 arg5 harg5 arg6 harg6 arg7 harg7 arg8 harg8 arg9 harg9 arg10 harg10 hc0 hc1 x0 x1 x2 xs0 xs1 xs2 = k0_pay1 (F := Ideal) (newA x1 x2 x0 xs0 xs2) (newL x1 x0 xs0 xs1) := by
  unfold out0_C_3
  rw [View.read_writes_eq_canon _ _ _ (cover0_C_3 c i arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

theorem C_out4 (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : cond0_1 i)
    (x0 : Vec Ideal S2048x256 .bf16) (x1 : Vec Ideal S2048x256 .bf16) (x2 : Vec Ideal S2048x128 .bf16) (xs0 xs1 xs2 : Vec Ideal S2048x128 .f32) :
    out0_C_4 c i arg3 harg3 arg4 harg4 arg5 harg5 arg6 harg6 arg7 harg7 arg8 harg8 arg9 harg9 arg10 harg10 hc0 hc1 x0 x1 x2 xs0 xs1 xs2 = k0_pay2 (F := Ideal) (newM x1 x0 xs0) (newL x1 x0 xs0 xs1) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg3.read_unread, harg4.read_unread, harg5.read_unread, harg8.read_unread, harg9.read_unread, harg10.read_unread, View.ld_unit_zero (S := S2048x256) hz, View.ld_unit_zero (S := S2048x128) hz, View.readCov_unit_zero (S := S2048x128) _ hz, pay6_eq, pay7_eq, pay10_eq, pay13_eq, pay14_eq, pay17_eq, pay20_eq, pay21_eq, pay24_eq, pay27_eq, pay34_eq, pay35_eq, pay36_eq]
  rfl

end Fwd
end
-- ==== Proof.FwGrid.lean ====
/-
  The forward pass along the grid, on real numbers: the running sums over the key blocks so far, and the two results at the end.
-/
module

public import proofs.«01_k».proof.Proof.FwStep
public import proofs.«01_k».proof.Proof.Inv
public import proofs.«01_k».proof.Proof.Gen.AttFwIdeal.Value

@[expose] public section

set_option maxHeartbeats 1000000

noncomputable section

open Idealize.ShloMosaic Cert.AttFwIdeal Cert.AttFwIdeal.Gen Cert.AttFwIdeal.Value

namespace Fwd

open Att (Is2 Is3 rs at_two at_three lanes heads lanes_at heads_at sum_lanes sum_4 sV zV pV oV rq zV_pos)

/-! Point `n` is head `n / 16`, query block `n / 4 % 4`, key block `n % 4`. -/

/-- Rows of the query block, 256 columns of the head. -/
def bq (Q : ℕ → ℕ → ℝ) (n r d : ℕ) : ℝ := Q (2048 * (n / 4 % 4) + r) (256 * (n / 16) + d)
/-- Rows of the key block, 256 columns of the head. -/
def bk (K : ℕ → ℕ → ℝ) (n r d : ℕ) : ℝ := K (2048 * (n % 4) + r) (256 * (n / 16) + d)
/-- Rows of the key block, 128 columns of the head. -/
def bv (W : ℕ → ℕ → ℝ) (n r d : ℕ) : ℝ := W (2048 * (n % 4) + r) (128 * (n / 16) + d)

/-- What the first `k` key blocks of the query block of point `n` add up to. -/
def zS (Q K : ℕ → ℕ → ℝ) (n k r : ℕ) : ℝ := ∑ j ∈ Finset.range k, zB (bq Q (4 * (n / 4) + j)) (bk K (4 * (n / 4) + j)) r
def yS (Q K W : ℕ → ℕ → ℝ) (n k r e : ℕ) : ℝ :=
  ∑ j ∈ Finset.range k, yB (bq Q (4 * (n / 4) + j)) (bk K (4 * (n / 4) + j)) (bv W (4 * (n / 4) + j)) r e

theorem idx_q : ∀ t : Fin grid0.N, win0_0.index t (0 : Fin 2) = t.val / 4 % 4 ∧ win0_0.index t (1 : Fin 2) = t.val / 16 := by decide +kernel
theorem idx_k : ∀ t : Fin grid0.N, win0_1.index t (0 : Fin 2) = t.val % 4 ∧ win0_1.index t (1 : Fin 2) = t.val / 16 := by decide +kernel
theorem idx_v : ∀ t : Fin grid0.N, win0_2.index t (0 : Fin 2) = t.val % 4 ∧ win0_2.index t (1 : Fin 2) = t.val / 16 := by decide +kernel

variable (m : (b : Loc nD τ sig) → Buf (Elt Ideal) b) (c : Dev nD)
variable {Q K W : ℕ → ℕ → ℝ}

theorem blk_q (h : Is2 (a := 8192) (b := 2048) (V (F := Ideal) m c main_v2) Q) (t : Fin cfg0.N) :
    Is2 (a := 2048) (b := 256) (iblk (F := Ideal) m c 0 t) (bq Q t.val) := by
  intro i
  unfold iblk
  rw [View.read_apply]
  obtain ⟨e0, e1⟩ := idx_q t
  have hb0 : (((cfg0.win 0).blk t).view.emb i (0 : Fin 2)).val = win0_0.index t (0 : Fin 2) * 2048 + 1 * (i (0 : Fin 2)).val := rfl
  have hb1 : (((cfg0.win 0).blk t).view.emb i (1 : Fin 2)).val = win0_0.index t (1 : Fin 2) * 256 + 1 * (i (1 : Fin 2)).val := rfl
  rw [e0, one_mul, mul_comm] at hb0
  rw [e1, one_mul, mul_comm] at hb1
  show V (F := Ideal) m c main_v2 (((cfg0.win 0).blk t).view.emb i) = _
  exact at_two h _ hb0 hb1

theorem blk_k (h : Is2 (a := 8192) (b := 2048) (V (F := Ideal) m c main_v5) K) (t : Fin cfg0.N) :
    Is2 (a := 2048) (b := 256) (iblk (F := Ideal) m c 1 t) (bk K t.val) := by
  intro i
  unfold iblk
  rw [View.read_apply]
  obtain ⟨e0, e1⟩ := idx_k t
  have hb0 : (((cfg0.win 1).blk t).view.emb i (0 : Fin 2)).val = win0_1.index t (0 : Fin 2) * 2048 + 1 * (i (0 : Fin 2)).val := rfl
  have hb1 : (((cfg0.win 1).blk t).view.emb i (1 : Fin 2)).val = win0_1.index t (1 : Fin 2) * 256 + 1 * (i (1 : Fin 2)).val := rfl
  rw [e0, one_mul, mul_comm] at hb0
  rw [e1, one_mul, mul_comm] at hb1
  show V (F := Ideal) m c main_v5 (((cfg0.win 1).blk t).view.emb i) = _
  exact at_two h _ hb0 hb1

theorem blk_v (h : Is2 (a := 8192) (b := 1024) (V (F := Ideal) m c main_v7) W) (t : Fin cfg0.N) :
    Is2 (a := 2048) (b := 128) (iblk (F := Ideal) m c 2 t) (bv W t.val) := by
  intro i
  unfold iblk
  rw [View.read_apply]
  obtain ⟨e0, e1⟩ := idx_v t
  have hb0 : (((cfg0.win 2).blk t).view.emb i (0 : Fin 2)).val = win0_2.index t (0 : Fin 2) * 2048 + 1 * (i (0 : Fin 2)).val := rfl
  have hb1 : (((cfg0.win 2).blk t).view.emb i (1 : Fin 2)).val = win0_2.index t (1 : Fin 2) * 128 + 1 * (i (1 : Fin 2)).val := rfl
  rw [e0, one_mul, mul_comm] at hb0
  rw [e1, one_mul, mul_comm] at hb1
  show V (F := Ideal) m c main_v7 (((cfg0.win 2).blk t).view.emb i) = _
  exact at_two h _ hb0 hb1

theorem zB_pos (Q K : ℕ → ℕ → ℝ) (r : ℕ) : 0 < zB Q K r := Finset.sum_pos (fun _ _ => Real.exp_pos _) ⟨0, by simp⟩
theorem zS_pos (n k r : ℕ) : 0 < zS Q K n (k + 1) r := Finset.sum_pos (fun _ _ => zB_pos _ _ _) ⟨0, by simp⟩

theorem zS_succ (n r : ℕ) : zS Q K n (n % 4) r + zB (bq Q n) (bk K n) r = zS Q K n (n % 4 + 1) r := by
  unfold zS
  rw [Finset.sum_range_succ, show 4 * (n / 4) + n % 4 = n by omega]
theorem yS_succ (n r e : ℕ) : yS Q K W n (n % 4) r e + yB (bq Q n) (bk K n) (bv W n) r e = yS Q K W n (n % 4 + 1) r e := by
  unfold yS
  rw [Finset.sum_range_succ, show 4 * (n / 4) + n % 4 = n by omega]

theorem St.congr {k : ℕ} {x l a : (⟨2, ![k, 128]⟩ : Shape).Idx → EReal} {z z' : ℕ → ℝ} {y y' : ℕ → ℕ → ℝ} (h : St k x l a z y)
    (hz : ∀ r, z r = z' r) (hy : ∀ r e, y r e = y' r e) : St k x l a z' y' := by
  rw [← funext hz, ← funext fun r => funext (hy r)]; exact h

/-- The contents of the two results and the three buffers carried along. -/
abbrev State : Type := Vec Ideal S2048x128 .f32 × Vec Ideal S1x2048x1 .f32 × Vec Ideal S2048x128 .f32 × Vec Ideal S2048x128 .f32 × Vec Ideal S2048x128 .f32

/-- What the buffers hold after point `n`. -/
def Inv (Q K W : ℕ → ℕ → ℝ) (n : ℕ) (st : State) : Prop :=
  St 2048 st.2.2.1 st.2.2.2.1 st.2.2.2.2 (zS Q K n (n % 4 + 1)) (yS Q K W n (n % 4 + 1))
  ∧ (n % 4 = 3 → Is2 (a := 2048) (b := 128) st.1 (fun r e => yS Q K W n (n % 4 + 1) r e / zS Q K n (n % 4 + 1) r)
      ∧ Is3 (a := 1) (b := 2048) (c := 1) st.2.1 fun _ r _ => Real.log (zS Q K n (n % 4 + 1) r))

section
variable (hQ : Is2 (a := 8192) (b := 2048) (V (F := Ideal) m c main_v2) Q) (hK : Is2 (a := 8192) (b := 2048) (V (F := Ideal) m c main_v5) K)
  (hW : Is2 (a := 8192) (b := 1024) (V (F := Ideal) m c main_v7) W)
include hQ hK hW

/-- One block more. -/
theorem block_inv (t : Fin cfg0.N) {x l a : Vec Ideal S2048x128 .f32}
    (h : St 2048 x l a (zS Q K t.val (t.val % 4)) (yS Q K W t.val (t.val % 4))) :
    St 2048 (newM (iblk (F := Ideal) m c 1 t) (iblk (F := Ideal) m c 0 t) x) (newL (iblk (F := Ideal) m c 1 t) (iblk (F := Ideal) m c 0 t) x l)
      (newA (iblk (F := Ideal) m c 1 t) (iblk (F := Ideal) m c 2 t) (iblk (F := Ideal) m c 0 t) x a)
      (zS Q K t.val (t.val % 4 + 1)) (yS Q K W t.val (t.val % 4 + 1)) :=
  St.congr (block_st h (blk_k m c hK t) (blk_q m c hQ t) (blk_v m c hW t)) (zS_succ t.val) (yS_succ t.val)

theorem step_A (t : Fin cfg0.N) (acc : State) (h0 : t.val % 4 = 0) (h1 : ¬t.val % 4 = 3) :
    Inv Q K W t.val (stAt0 m c t.val t.isLt acc) := by
  rw [stAt0_A m c t acc h0 h1]
  unfold Inv
  refine ⟨?_, fun h => absurd h h1⟩
  dsimp only
  rw [A_m, A_l, A_a]
  refine block_inv m c hQ hK hW t (init_st.congr (fun r => ?_) fun r e => ?_)
  · unfold zS; rw [h0, Finset.sum_range_zero]
  · unfold yS; rw [h0, Finset.sum_range_zero]

theorem step_B (t : Fin cfg0.N) (acc : State) (h0 : ¬t.val % 4 = 0) (h1 : ¬t.val % 4 = 3)
    (h : ¬t.val % 4 = 0 → St 2048 acc.2.2.1 acc.2.2.2.1 acc.2.2.2.2 (zS Q K t.val (t.val % 4)) (yS Q K W t.val (t.val % 4))) :
    Inv Q K W t.val (stAt0 m c t.val t.isLt acc) := by
  rw [stAt0_B m c t acc h0 h1]
  unfold Inv
  refine ⟨?_, fun h => absurd h h1⟩
  dsimp only
  rw [B_m, B_l, B_a]
  exact block_inv m c hQ hK hW t (h h0)

theorem step_C (t : Fin cfg0.N) (acc : State) (h0 : ¬t.val % 4 = 0) (h1 : t.val % 4 = 3)
    (h : ¬t.val % 4 = 0 → St 2048 acc.2.2.1 acc.2.2.2.1 acc.2.2.2.2 (zS Q K t.val (t.val % 4)) (yS Q K W t.val (t.val % 4))) :
    Inv Q K W t.val (stAt0 m c t.val t.isLt acc) := by
  have e := block_inv m c hQ hK hW t (h h0)
  rw [stAt0_C m c t acc h0 h1]
  unfold Inv
  dsimp only
  rw [C_m, C_l, C_a, C_out3, C_out4]
  exact ⟨e, fun _ => ⟨quot_real e (zS_pos _ _), logs_real e (zS_pos _ _)⟩⟩

/-- One point. -/
theorem step (t : Fin cfg0.N) (acc : State)
    (h : ¬t.val % 4 = 0 → St 2048 acc.2.2.1 acc.2.2.2.1 acc.2.2.2.2 (zS Q K t.val (t.val % 4)) (yS Q K W t.val (t.val % 4))) :
    Inv Q K W t.val (stAt0 m c t.val t.isLt acc) := by
  by_cases h0 : t.val % 4 = 0
  · exact step_A m c hQ hK hW t acc h0 (by omega)
  · by_cases h1 : t.val % 4 = 3
    · exact step_C m c hQ hK hW t acc h0 h1 h
    · exact step_B m c hQ hK hW t acc h0 h1 h

/-- Every point. -/
theorem inv_all : ∀ (n : ℕ) (hn : n < cfg0.N), Inv Q K W n (outsAt0 m c n hn)
  | 0, hn => by
    rw [outsAt0_zero m c hn]
    exact step m c hQ hK hW ⟨0, hn⟩ _ (fun h => absurd rfl h)
  | n + 1, hn => by
    rw [outsAt0_succ m c n hn]
    obtain ⟨i, -⟩ := inv_all n (Nat.lt_of_succ_lt hn)
    refine step m c hQ hK hW ⟨n + 1, hn⟩ _ (fun h => i.congr (fun r => ?_) fun r e => ?_)
    · replace h : ¬(n + 1) % 4 = 0 := h
      unfold zS; rw [show (n + 1) / 4 = n / 4 by omega, show (n + 1) % 4 = n % 4 + 1 by omega]
    · replace h : ¬(n + 1) % 4 = 0 := h
      unfold yS; rw [show (n + 1) / 4 = n / 4 by omega, show (n + 1) % 4 = n % 4 + 1 by omega]

/-- The two results at an index. -/
theorem G3_real : Is2 (a := 8192) (b := 1024) (G3 (F := Ideal) m c) fun r e =>
    yS Q K W (16 * (e / 128) + 4 * (r / 2048) + 3) 4 (r % 2048) (e % 128) / zS Q K (16 * (e / 128) + 4 * (r / 2048) + 3) 4 (r % 2048) := by
  intro i
  have b0 : (i (0 : Fin 2)).val < 8192 := (i (0 : Fin 2)).isLt
  have b1 : (i (1 : Fin 2)).val < 1024 := (i (1 : Fin 2)).isLt
  have hp : pt3Of i = 16 * ((i (1 : Fin 2)).val / 128) + 4 * ((i (0 : Fin 2)).val / 2048) + 3 := by
    show 4 * (1 * ((i (0 : Fin 2)).val / 2048 - 0) + 4 * ((i (1 : Fin 2)).val / 128 - 0)) + 3 = _
    omega
  have hl : pt3Of i < cfg0.N := by rw [hp, show cfg0.N = 128 from N_0]; omega
  unfold G3
  rw [dif_pos hl, ← outsAt0_sweep m c _ hl]
  refine (((inv_all m c hQ hK hW _ hl).2 (by omega)).1 _).trans ?_
  show ((yS Q K W (pt3Of i) (pt3Of i % 4 + 1) ((i (0 : Fin 2)).val % 2048) ((i (1 : Fin 2)).val % 128)
    / zS Q K (pt3Of i) (pt3Of i % 4 + 1) ((i (0 : Fin 2)).val % 2048) : ℝ) : EReal) = _
  rw [show pt3Of i % 4 + 1 = 4 by omega, hp]

theorem G4_real : Is3 (a := 8) (b := 8192) (c := 1) (G4 (F := Ideal) m c) fun g r _ => Real.log (zS Q K (16 * g + 4 * (r / 2048) + 3) 4 (r % 2048)) := by
  intro i
  have b0 : (i (0 : Fin 3)).val < 8 := (i (0 : Fin 3)).isLt
  have b1 : (i (1 : Fin 3)).val < 8192 := (i (1 : Fin 3)).isLt
  have b2 : (i (2 : Fin 3)).val < 1 := (i (2 : Fin 3)).isLt
  have hp : pt4Of i = 16 * (i (0 : Fin 3)).val + 4 * ((i (1 : Fin 3)).val / 2048) + 3 := by
    show 4 * (4 * ((i (0 : Fin 3)).val / 1 - 0) + 1 * ((i (1 : Fin 3)).val / 2048 - 0) + 1 * ((i (2 : Fin 3)).val / 1 - 0)) + 3 = _
    omega
  have hl : pt4Of i < cfg0.N := by rw [hp, show cfg0.N = 128 from N_0]; omega
  unfold G4
  rw [dif_pos hl, ← outsAt0_sweep m c _ hl]
  refine (((inv_all m c hQ hK hW _ hl).2 (by omega)).2 _).trans ?_
  show ((Real.log (zS Q K (pt4Of i) (pt4Of i % 4 + 1) ((i (1 : Fin 3)).val % 2048)) : ℝ) : EReal) = _
  rw [show pt4Of i % 4 + 1 = 4 by omega, hp]
end

/-! ## The kernel's sums are the whole rows' -/

section Equation

variable (Q K W : ℕ → ℕ → ℕ → ℝ)

theorem score_eq (n r c : ℕ) : (∑ d ∈ Finset.range 256, bq (lanes Q) n r d * bk (lanes K) n c d) * rs
    = sV Q K (n / 16) (2048 * (n / 4 % 4) + r) (2048 * (n % 4) + c) := by
  unfold bq bk sV rq rs
  rw [sum_lanes, one_div]

theorem z_sum (h b r : ℕ) (hb : b < 4) : zS (lanes Q) (lanes K) (16 * h + 4 * b + 3) 4 r = zV Q K h (2048 * b + r) := by
  have key : ∀ a ∈ Finset.range 4, zB (bq (lanes Q) (4 * (4 * h + b) + a)) (bk (lanes K) (4 * (4 * h + b) + a)) r
      = ∑ c ∈ Finset.range 2048, Real.exp (sV Q K h (2048 * b + r) (2048 * a + c)) := by
    intro a ha
    have ha := Finset.mem_range.mp ha
    unfold zB
    refine Finset.sum_congr rfl fun c _ => ?_
    rw [score_eq, show (4 * (4 * h + b) + a) % 4 = a by omega, show (4 * (4 * h + b) + a) / 4 % 4 = b by omega, show (4 * (4 * h + b) + a) / 16 = h by omega]
  unfold zS zV
  rw [show (16 * h + 4 * b + 3) / 4 = 4 * h + b by omega, Finset.sum_congr rfl key, sum_4 fun c => Real.exp (sV Q K h (2048 * b + r) c)]

theorem y_sum (h b r e : ℕ) (hb : b < 4) (he : e < 128) : yS (lanes Q) (lanes K) (heads W) (16 * h + 4 * b + 3) 4 r e
    = ∑ c ∈ Finset.range 8192, Real.exp (sV Q K h (2048 * b + r) c) * W c h e := by
  have key : ∀ a ∈ Finset.range 4, yB (bq (lanes Q) (4 * (4 * h + b) + a)) (bk (lanes K) (4 * (4 * h + b) + a)) (bv (heads W) (4 * (4 * h + b) + a)) r e
      = ∑ c ∈ Finset.range 2048, Real.exp (sV Q K h (2048 * b + r) (2048 * a + c)) * W (2048 * a + c) h e := by
    intro a ha
    have ha := Finset.mem_range.mp ha
    unfold yB
    refine Finset.sum_congr rfl fun c _ => ?_
    rw [score_eq]
    unfold bv
    rw [show (4 * (4 * h + b) + a) % 4 = a by omega, show (4 * (4 * h + b) + a) / 4 % 4 = b by omega, show (4 * (4 * h + b) + a) / 16 = h by omega, heads_at _ _ _ _ he]
  unfold yS
  rw [show (16 * h + 4 * b + 3) / 4 = 4 * h + b by omega, Finset.sum_congr rfl key, sum_4 fun c => Real.exp (sV Q K h (2048 * b + r) c) * W c h e]

/-- The kernel's output is the attention's. -/
theorem o_sum (h b r e : ℕ) (hb : b < 4) (he : e < 128) :
    yS (lanes Q) (lanes K) (heads W) (16 * h + 4 * b + 3) 4 r e / zS (lanes Q) (lanes K) (16 * h + 4 * b + 3) 4 r = oV Q K W h (2048 * b + r) e := by
  rw [z_sum Q K h b r hb, y_sum Q K W h b r e hb he]
  unfold oV pV
  rw [Finset.sum_div]
  exact Finset.sum_congr rfl fun c _ => by ring

end Equation

end Fwd
end
-- ==== Proof.AttFw.lean ====
/-
  The forward pass and its reference compute the same output and the same logarithms of the row sums.
-/
module

public import proofs.«01_k».proof.Defs
public import proofs.«01_k».proof.Proof.Finite
public import proofs.«01_k».proof.Proof.FwGrid
public import proofs.«01_k».proof.Proof.Ref
public import proofs.«01_k».proof.Proof.Gen.AttFw.Frame
public import proofs.«01_k».proof.Proof.Gen.AttFwRefIdeal.Run
public import Idealize.ShloMosaic.Lib.Claim
public import Idealize.ShloMosaic.Lib.Quiescent

@[expose] public section

set_option maxHeartbeats 1000000
set_option maxRecDepth 8192

noncomputable section

namespace Cert.Pre_finite_qkv

open Idealize.ShloMosaic

instance facts : Facts := ⟨by decide, by decide, by decide, by decide, by decide⟩

/-- Every entry of the three arrays is real. -/
theorem reals (q k : FVec Ideal S8192x8x192 .f32) (v : FVec Ideal S8192x8x128 .f32) (h : fn (F := Ideal) q k v = fun _ => 1#1) :
    (∃ Q, Att.Is3 (a := 8192) (b := 8) (c := 192) q Q) ∧ (∃ K, Att.Is3 (a := 8192) (b := 8) (c := 192) k K)
      ∧ ∃ W, Att.Is3 (a := 8192) (b := 8) (c := 128) v W := by
  let j : S_.Idx := fun k => k.elim0
  have e := congrFun h j
  obtain ⟨e, h2⟩ := Cert.Pre_finite.and_one e
  obtain ⟨h0, h1⟩ := Cert.Pre_finite.and_one e
  exact ⟨Att.exists_real3 q (Cert.Pre_finite.reals_of_all (u := S_) q _ _ _ _ j h0), Att.exists_real3 k (Cert.Pre_finite.reals_of_all (u := S_) k _ _ _ _ j h1),
    Att.exists_real3 v (Cert.Pre_finite.reals_of_all (u := S_) v _ _ _ _ j h2)⟩

end Cert.Pre_finite_qkv

namespace Fwd

open Idealize.ShloMosaic Idealize.SL.Sem Cert.AttFwIdeal Cert.AttFwIdeal.Gen Cert.AttFwIdeal.Value
open Att (Is2 Is3 lanes heads lanes_real heads_real oA lseA oA_real lseA_real oV zV)
open scoped BigOperators

variable (m : (b : Loc nD τ sig) → Buf (Elt Ideal) b) (c : Dev nD) {Q K W : ℕ → ℕ → ℕ → ℝ}

theorem v2_eq : V (F := Ideal) m c main_v2 = shapeCast Cert.ReferenceIdeal.S8192x2048 (pad Cert.ReferenceIdeal.S8192x8x256 ![0, 0, 0] ![0, 0, 64] ![0, 0, 0]
    (m (c, Proc.tc.devRef main_arg0)) (sitofp (F := Ideal) .f32 (constantI Cert.ReferenceIdeal.S_ 32 0#32))
    Cert.ReferenceIdeal.Facts₀.pads_S8192x8x192_S8192x8x256_000_000_0640 Cert.ReferenceIdeal.Facts₀.h_S_)
    Cert.ReferenceIdeal.Facts₀.shapeCasts_S8192x8x256_S8192x2048 := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem v5_eq : V (F := Ideal) m c main_v5 = shapeCast Cert.ReferenceIdeal.S8192x2048 (pad Cert.ReferenceIdeal.S8192x8x256 ![0, 0, 0] ![0, 0, 64] ![0, 0, 0]
    (m (c, Proc.tc.devRef main_arg1)) (sitofp (F := Ideal) .f32 (constantI Cert.ReferenceIdeal.S_ 32 0#32))
    Cert.ReferenceIdeal.Facts₀.pads_S8192x8x192_S8192x8x256_000_000_0640 Cert.ReferenceIdeal.Facts₀.h_S_)
    Cert.ReferenceIdeal.Facts₀.shapeCasts_S8192x8x256_S8192x2048 := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

theorem v7_eq : V (F := Ideal) m c main_v7 = shapeCast Cert.ReferenceIdeal.S8192x1024 (m (c, Proc.tc.devRef main_arg2))
    Cert.ReferenceIdeal.Facts₀.shapeCasts_S8192x8x128_S8192x1024 := by
  simp -implicitDefEqProofs only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  rfl

section
variable (hq : Is3 (a := 8192) (b := 8) (c := 192) (m (c, Proc.tc.devRef main_arg0)) Q)
  (hk : Is3 (a := 8192) (b := 8) (c := 192) (m (c, Proc.tc.devRef main_arg1)) K)
  (hv : Is3 (a := 8192) (b := 8) (c := 128) (m (c, Proc.tc.devRef main_arg2)) W)

include hq in
theorem v2_real : Is2 (a := 8192) (b := 2048) (V (F := Ideal) m c main_v2) (lanes Q) := by
  rw [v2_eq]; exact lanes_real hq
include hk in
theorem v5_real : Is2 (a := 8192) (b := 2048) (V (F := Ideal) m c main_v5) (lanes K) := by
  rw [v5_eq]; exact lanes_real hk
include hv in
theorem v7_real : Is2 (a := 8192) (b := 1024) (V (F := Ideal) m c main_v7) (heads W) := by
  rw [v7_eq]; exact heads_real hv

include hq hk hv

/-- The kernel's output is the host's. -/
theorem o_same : G3 (F := Ideal) m c = shapeCast Cert.ReferenceIdeal.S8192x1024
    (oA (m (c, Proc.tc.devRef main_arg0)) (m (c, Proc.tc.devRef main_arg1)) (m (c, Proc.tc.devRef main_arg2)))
    Cert.ReferenceIdeal.Facts₀.shapeCasts_S8192x8x128_S8192x1024 :=
  Is2.ext (G3_real m c (v2_real m c hq) (v5_real m c hk) (v7_real m c hv))
    (heads_real (oA_real hq hk hv)) fun r e hr he => by
      rw [o_sum Q K W (e / 128) (r / 2048) (r % 2048) (e % 128) (by omega) (Nat.mod_lt _ (by norm_num)), Nat.div_add_mod]

/-- The kernel's logarithms are the host's. -/
theorem lse_same : G4 (F := Ideal) m c = lseA (m (c, Proc.tc.devRef main_arg0)) (m (c, Proc.tc.devRef main_arg1)) := by
  funext i
  have b1 : (i (1 : Fin 3)).val < 8192 := (i (1 : Fin 3)).isLt
  refine (G4_real m c (v2_real m c hq) (v5_real m c hk) (v7_real m c hv) i).trans (Eq.trans ?_ (lseA_real hq hk i).symm)
  dsimp only
  rw [z_sum Q K _ ((i (1 : Fin 3)).val / 2048) ((i (1 : Fin 3)).val % 2048) (by omega), Nat.div_add_mod]
end

theorem algebraic : Cert.algebraic_AttFwIdeal_AttFwRefIdeal_pre_finite_qkv := by
  intro m ρ m' ρ' hpre hagree
  refine ⟨_, _, Cert.AttFwIdeal.Value.run (F := Ideal) m ρ, ?_⟩
  refine (θ_run Cert.AttFwRefIdeal.defs _ _).mono (fun _ h c => ?_) (Cert.AttFwRefIdeal.Value.run (F := Ideal) m' ρ')
  obtain ⟨⟨Q, hq⟩, ⟨K, hk⟩, ⟨W, hv⟩⟩ := Cert.Pre_finite_qkv.reals _ _ _ (hpre c)
  obtain ⟨a0, a1, a2⟩ := hagree c
  obtain ⟨r0, r1, rest⟩ := h c
  refine ⟨r0.trans ?_, r1.trans ?_, rest⟩
  · rw [a0, a1, a2]
    exact (o_same m c hq hk hv).symm
  · rw [a0, a1]
    exact (lse_same m c hq hk hv).symm

theorem frame_p : Cert.quiescent_AttFw := fun m ρ _ => Cert.AttFw.Gen.frame m ρ
theorem frame_pi : Cert.quiescent_AttFwIdeal := fun m ρ _ => Cert.AttFwIdeal.Gen.frame m ρ
theorem frame_ri : Cert.quiescent_AttFwRefIdeal := fun m ρ _ =>
  (θ_run Cert.AttFwRefIdeal.defs _ _).mono (fun r h => ⟨fun c => (h c).2.2,
      Idealize.ShloMosaic.sem_eq_zero_of_no_sems (by decide) r.2⟩)
    (Cert.AttFwRefIdeal.Value.run (F := Ideal) m ρ)

theorem preserves : Cert.preserves_AttFw_AttFwIdeal :=
  ⟨IdealRules.named_const.statement Cert.AttFwIdeal.κ "scale_log2e" .f32 _ _ rfl,
    IdealRules.named_const.statement Cert.AttFwIdeal.κ "log2e" .f32 _ _ rfl,
    IdealRules.named_const.statement Cert.AttFwIdeal.κ "log_2" .f32 _ _ rfl⟩

end Fwd

end
-- ==== Proof.lean ====
module

public import proofs.«01_k».proof.Defs
public import proofs.«01_k».proof.Proof.Alg
public import proofs.«01_k».proof.Proof.GuDw
public import proofs.«01_k».proof.Proof.GuDx
public import proofs.«01_k».proof.Proof.DownDw
public import proofs.«01_k».proof.Proof.InDw
public import proofs.«01_k».proof.Proof.InDx
public import proofs.«01_k».proof.Proof.InFw
public import proofs.«01_k».proof.Proof.DownFw
public import proofs.«01_k».proof.Proof.OutFw
public import proofs.«01_k».proof.Proof.OutDx
public import proofs.«01_k».proof.Proof.OutDw
public import proofs.«01_k».proof.Proof.BrFw
public import proofs.«01_k».proof.Proof.BrDx
public import proofs.«01_k».proof.Proof.BrDw
public import proofs.«01_k».proof.Proof.UpFw
public import proofs.«01_k».proof.Proof.UpDx
public import proofs.«01_k».proof.Proof.UpDw
public import proofs.«01_k».proof.Proof.GuFw
public import proofs.«01_k».proof.Proof.DownDx
public import proofs.«01_k».proof.Proof.InTop
public import proofs.«01_k».proof.Proof.InBot
public import proofs.«01_k».proof.Proof.AttFw
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.GuDw
public import proofs.«01_k».proof.Proof.Gen.GuDw.Skeleton
public import proofs.«01_k».proof.Proof.Gen.GuDw.Launch
public import proofs.«01_k».proof.Proof.Gen.GuDw.Points
public import proofs.«01_k».proof.Proof.Gen.GuDw.Frame
public import proofs.«01_k».proof.Proof.Gen.GuDwIdeal
public import proofs.«01_k».proof.Proof.Gen.GuDwIdeal.Skeleton
public import proofs.«01_k».proof.Proof.Gen.GuDwIdeal.Launch
public import proofs.«01_k».proof.Proof.Gen.GuDwIdeal.Points
public import proofs.«01_k».proof.Proof.Gen.GuDwIdeal.Frame
public import proofs.«01_k».proof.Proof.Gen.GuDwRefIdeal
public import proofs.«01_k».proof.Proof.Gen.GuDwIdeal.Value
public import proofs.«01_k».proof.Proof.Gen.GuDwRefIdeal.Run
public import proofs.«01_k».proof.Proof.Gen.GuDx
public import proofs.«01_k».proof.Proof.Gen.GuDx.Skeleton
public import proofs.«01_k».proof.Proof.Gen.GuDx.Launch
public import proofs.«01_k».proof.Proof.Gen.GuDx.Points
public import proofs.«01_k».proof.Proof.Gen.GuDx.Frame
public import proofs.«01_k».proof.Proof.Gen.GuDxIdeal
public import proofs.«01_k».proof.Proof.Gen.GuDxIdeal.Skeleton
public import proofs.«01_k».proof.Proof.Gen.GuDxIdeal.Launch
public import proofs.«01_k».proof.Proof.Gen.GuDxIdeal.Points
public import proofs.«01_k».proof.Proof.Gen.GuDxIdeal.Frame
public import proofs.«01_k».proof.Proof.Gen.GuDxRefIdeal
public import proofs.«01_k».proof.Proof.Gen.GuDxIdeal.Value
public import proofs.«01_k».proof.Proof.Gen.GuDxRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.DownDwIdeal.Value
public import proofs.«01_k».proof.Proof.Gen.DownDwRefIdeal.Run
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwRefIdeal
public import proofs.«01_k».proof.Proof.Gen.InDwIdeal.Value
public import proofs.«01_k».proof.Proof.Gen.InDwRefIdeal.Run
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.InDxIdeal.Value
public import proofs.«01_k».proof.Proof.Gen.InDxRefIdeal.Run
public import proofs.«01_k».proof.Proof.Gen.InFw
public import proofs.«01_k».proof.Proof.Gen.InFw.Skeleton
public import proofs.«01_k».proof.Proof.Gen.InFw.Launch
public import proofs.«01_k».proof.Proof.Gen.InFw.Points
public import proofs.«01_k».proof.Proof.Gen.InFw.Frame
public import proofs.«01_k».proof.Proof.Gen.InFwIdeal
public import proofs.«01_k».proof.Proof.Gen.InFwIdeal.Skeleton
public import proofs.«01_k».proof.Proof.Gen.InFwIdeal.Launch
public import proofs.«01_k».proof.Proof.Gen.InFwIdeal.Points
public import proofs.«01_k».proof.Proof.Gen.InFwIdeal.Frame
public import proofs.«01_k».proof.Proof.Gen.InFwRefIdeal
public import proofs.«01_k».proof.Proof.Gen.InFwIdeal.Value
public import proofs.«01_k».proof.Proof.Gen.InFwRefIdeal.Run
public import proofs.«01_k».proof.Proof.Gen.DownFw
public import proofs.«01_k».proof.Proof.Gen.DownFw.Skeleton
public import proofs.«01_k».proof.Proof.Gen.DownFw.Launch
public import proofs.«01_k».proof.Proof.Gen.DownFw.Points
public import proofs.«01_k».proof.Proof.Gen.DownFw.Frame
public import proofs.«01_k».proof.Proof.Gen.DownFwIdeal
public import proofs.«01_k».proof.Proof.Gen.DownFwIdeal.Skeleton
public import proofs.«01_k».proof.Proof.Gen.DownFwIdeal.Launch
public import proofs.«01_k».proof.Proof.Gen.DownFwIdeal.Points
public import proofs.«01_k».proof.Proof.Gen.DownFwIdeal.Frame
public import proofs.«01_k».proof.Proof.Gen.DownFwRefIdeal
public import proofs.«01_k».proof.Proof.Gen.DownFwIdeal.Value
public import proofs.«01_k».proof.Proof.Gen.DownFwRefIdeal.Run
public import proofs.«01_k».proof.Proof.Gen.OutFw
public import proofs.«01_k».proof.Proof.Gen.OutFw.Skeleton
public import proofs.«01_k».proof.Proof.Gen.OutFw.Launch
public import proofs.«01_k».proof.Proof.Gen.OutFw.Points
public import proofs.«01_k».proof.Proof.Gen.OutFw.Frame
public import proofs.«01_k».proof.Proof.Gen.OutFwIdeal
public import proofs.«01_k».proof.Proof.Gen.OutFwIdeal.Skeleton
public import proofs.«01_k».proof.Proof.Gen.OutFwIdeal.Launch
public import proofs.«01_k».proof.Proof.Gen.OutFwIdeal.Points
public import proofs.«01_k».proof.Proof.Gen.OutFwIdeal.Frame
public import proofs.«01_k».proof.Proof.Gen.OutFwRefIdeal
public import proofs.«01_k».proof.Proof.Gen.OutFwIdeal.Value
public import proofs.«01_k».proof.Proof.Gen.OutFwRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxRefIdeal
public import proofs.«01_k».proof.Proof.Gen.OutDxIdeal.Value
public import proofs.«01_k».proof.Proof.Gen.OutDxRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwRefIdeal
public import proofs.«01_k».proof.Proof.Gen.OutDwIdeal.Value
public import proofs.«01_k».proof.Proof.Gen.OutDwRefIdeal.Run
public import proofs.«01_k».proof.Proof.Gen.BrFw
public import proofs.«01_k».proof.Proof.Gen.BrFw.Skeleton
public import proofs.«01_k».proof.Proof.Gen.BrFw.Launch
public import proofs.«01_k».proof.Proof.Gen.BrFw.Points
public import proofs.«01_k».proof.Proof.Gen.BrFw.Frame
public import proofs.«01_k».proof.Proof.Gen.BrFwIdeal
public import proofs.«01_k».proof.Proof.Gen.BrFwIdeal.Skeleton
public import proofs.«01_k».proof.Proof.Gen.BrFwIdeal.Launch
public import proofs.«01_k».proof.Proof.Gen.BrFwIdeal.Points
public import proofs.«01_k».proof.Proof.Gen.BrFwIdeal.Frame
public import proofs.«01_k».proof.Proof.Gen.BrFwRefIdeal
public import proofs.«01_k».proof.Proof.Gen.BrFwIdeal.Value
public import proofs.«01_k».proof.Proof.Gen.BrFwRefIdeal.Run
public import proofs.«01_k».proof.Proof.Gen.BrDx
public import proofs.«01_k».proof.Proof.Gen.BrDx.Skeleton
public import proofs.«01_k».proof.Proof.Gen.BrDx.Launch
public import proofs.«01_k».proof.Proof.Gen.BrDx.Points
public import proofs.«01_k».proof.Proof.Gen.BrDx.Frame
public import proofs.«01_k».proof.Proof.Gen.BrDxIdeal
public import proofs.«01_k».proof.Proof.Gen.BrDxIdeal.Skeleton
public import proofs.«01_k».proof.Proof.Gen.BrDxIdeal.Launch
public import proofs.«01_k».proof.Proof.Gen.BrDxIdeal.Points
public import proofs.«01_k».proof.Proof.Gen.BrDxIdeal.Frame
public import proofs.«01_k».proof.Proof.Gen.BrDxRefIdeal
public import proofs.«01_k».proof.Proof.Gen.BrDxIdeal.Value
public import proofs.«01_k».proof.Proof.Gen.BrDxRefIdeal.Run
public import proofs.«01_k».proof.Proof.Gen.BrDw
public import proofs.«01_k».proof.Proof.Gen.BrDw.Skeleton
public import proofs.«01_k».proof.Proof.Gen.BrDw.Launch
public import proofs.«01_k».proof.Proof.Gen.BrDw.Points
public import proofs.«01_k».proof.Proof.Gen.BrDw.Frame
public import proofs.«01_k».proof.Proof.Gen.BrDwIdeal
public import proofs.«01_k».proof.Proof.Gen.BrDwIdeal.Skeleton
public import proofs.«01_k».proof.Proof.Gen.BrDwIdeal.Launch
public import proofs.«01_k».proof.Proof.Gen.BrDwIdeal.Points
public import proofs.«01_k».proof.Proof.Gen.BrDwIdeal.Frame
public import proofs.«01_k».proof.Proof.Gen.BrDwRefIdeal
public import proofs.«01_k».proof.Proof.Gen.BrDwIdeal.Value
public import proofs.«01_k».proof.Proof.Gen.BrDwRefIdeal.Run
public import proofs.«01_k».proof.Proof.Gen.UpFw
public import proofs.«01_k».proof.Proof.Gen.UpFw.Skeleton
public import proofs.«01_k».proof.Proof.Gen.UpFw.Launch
public import proofs.«01_k».proof.Proof.Gen.UpFw.Points
public import proofs.«01_k».proof.Proof.Gen.UpFw.Frame
public import proofs.«01_k».proof.Proof.Gen.UpFwIdeal
public import proofs.«01_k».proof.Proof.Gen.UpFwIdeal.Skeleton
public import proofs.«01_k».proof.Proof.Gen.UpFwIdeal.Launch
public import proofs.«01_k».proof.Proof.Gen.UpFwIdeal.Points
public import proofs.«01_k».proof.Proof.Gen.UpFwIdeal.Frame
public import proofs.«01_k».proof.Proof.Gen.UpFwRefIdeal
public import proofs.«01_k».proof.Proof.Gen.UpFwIdeal.Value
public import proofs.«01_k».proof.Proof.Gen.UpFwRefIdeal.Run
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.UpDxIdeal.Value
public import proofs.«01_k».proof.Proof.Gen.UpDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwRefIdeal
public import proofs.«01_k».proof.Proof.Gen.UpDwIdeal.Value
public import proofs.«01_k».proof.Proof.Gen.UpDwRefIdeal.Run
public import proofs.«01_k».proof.Proof.Gen.GuFw
public import proofs.«01_k».proof.Proof.Gen.GuFw.Skeleton
public import proofs.«01_k».proof.Proof.Gen.GuFw.Launch
public import proofs.«01_k».proof.Proof.Gen.GuFw.Points
public import proofs.«01_k».proof.Proof.Gen.GuFw.Frame
public import proofs.«01_k».proof.Proof.Gen.GuFwIdeal
public import proofs.«01_k».proof.Proof.Gen.GuFwIdeal.Skeleton
public import proofs.«01_k».proof.Proof.Gen.GuFwIdeal.Launch
public import proofs.«01_k».proof.Proof.Gen.GuFwIdeal.Points
public import proofs.«01_k».proof.Proof.Gen.GuFwIdeal.Frame
public import proofs.«01_k».proof.Proof.Gen.GuFwRefIdeal
public import proofs.«01_k».proof.Proof.Gen.GuFwIdeal.Value
public import proofs.«01_k».proof.Proof.Gen.GuFwRefIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.DownDxIdeal.Value
public import proofs.«01_k».proof.Proof.Gen.DownDxRefIdeal.Run
public import proofs.«01_k».proof.Proof.Gen.InTop
public import proofs.«01_k».proof.Proof.Gen.InTop.Skeleton
public import proofs.«01_k».proof.Proof.Gen.InTop.Launch
public import proofs.«01_k».proof.Proof.Gen.InTop.Points
public import proofs.«01_k».proof.Proof.Gen.InTop.Frame
public import proofs.«01_k».proof.Proof.Gen.InTopIdeal
public import proofs.«01_k».proof.Proof.Gen.InTopIdeal.Skeleton
public import proofs.«01_k».proof.Proof.Gen.InTopIdeal.Launch
public import proofs.«01_k».proof.Proof.Gen.InTopIdeal.Points
public import proofs.«01_k».proof.Proof.Gen.InTopIdeal.Frame
public import proofs.«01_k».proof.Proof.Gen.InTopRefIdeal
public import proofs.«01_k».proof.Proof.Gen.InTopIdeal.Value
public import proofs.«01_k».proof.Proof.Gen.InTopRefIdeal.Run
public import proofs.«01_k».proof.Proof.Gen.InBot
public import proofs.«01_k».proof.Proof.Gen.InBot.Skeleton
public import proofs.«01_k».proof.Proof.Gen.InBot.Launch
public import proofs.«01_k».proof.Proof.Gen.InBot.Points
public import proofs.«01_k».proof.Proof.Gen.InBot.Frame
public import proofs.«01_k».proof.Proof.Gen.InBotIdeal
public import proofs.«01_k».proof.Proof.Gen.InBotIdeal.Skeleton
public import proofs.«01_k».proof.Proof.Gen.InBotIdeal.Launch
public import proofs.«01_k».proof.Proof.Gen.InBotIdeal.Points
public import proofs.«01_k».proof.Proof.Gen.InBotIdeal.Frame
public import proofs.«01_k».proof.Proof.Gen.InBotRefIdeal
public import proofs.«01_k».proof.Proof.Gen.InBotIdeal.Value
public import proofs.«01_k».proof.Proof.Gen.InBotRefIdeal.Run
public import proofs.«01_k».proof.Proof.Gen.AttFw
public import proofs.«01_k».proof.Proof.Gen.AttFw.Skeleton
public import proofs.«01_k».proof.Proof.Gen.AttFw.Launch
public import proofs.«01_k».proof.Proof.Gen.AttFw.Points
public import proofs.«01_k».proof.Proof.Gen.AttFw.Frame
public import proofs.«01_k».proof.Proof.Gen.AttFwIdeal
public import proofs.«01_k».proof.Proof.Gen.AttFwIdeal.Skeleton
public import proofs.«01_k».proof.Proof.Gen.AttFwIdeal.Launch
public import proofs.«01_k».proof.Proof.Gen.AttFwIdeal.Points
public import proofs.«01_k».proof.Proof.Gen.AttFwIdeal.Frame
public import proofs.«01_k».proof.Proof.Gen.AttFwRefIdeal
public import proofs.«01_k».proof.Proof.Gen.AttFwIdeal.Value
public import proofs.«01_k».proof.Proof.Gen.AttFwRefIdeal.Run
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.GuDw.Gen.facts, Cert.GuDwIdeal.Gen.facts, Cert.GuDwRefIdeal.Gen.facts,
    Cert.GuDx.Gen.facts, Cert.GuDxIdeal.Gen.facts, Cert.GuDxRefIdeal.Gen.facts,
    Cert.DownDw.Gen.facts, Cert.DownDwIdeal.Gen.facts, Cert.DownDwRefIdeal.Gen.facts,
    Cert.InDw.Gen.facts, Cert.InDwIdeal.Gen.facts, Cert.InDwRefIdeal.Gen.facts,
    Cert.InDx.Gen.facts, Cert.InDxIdeal.Gen.facts, Cert.InDxRefIdeal.Gen.facts,
    Cert.InFw.Gen.facts, Cert.InFwIdeal.Gen.facts, Cert.InFwRefIdeal.Gen.facts,
    Cert.DownFw.Gen.facts, Cert.DownFwIdeal.Gen.facts, Cert.DownFwRefIdeal.Gen.facts,
    Cert.OutFw.Gen.facts, Cert.OutFwIdeal.Gen.facts, Cert.OutFwRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.BrFw.Gen.facts, Cert.BrFwIdeal.Gen.facts, Cert.BrFwRefIdeal.Gen.facts,
    Cert.BrDx.Gen.facts, Cert.BrDxIdeal.Gen.facts, Cert.BrDxRefIdeal.Gen.facts,
    Cert.BrDw.Gen.facts, Cert.BrDwIdeal.Gen.facts, Cert.BrDwRefIdeal.Gen.facts,
    Cert.UpFw.Gen.facts, Cert.UpFwIdeal.Gen.facts, Cert.UpFwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.GuFw.Gen.facts, Cert.GuFwIdeal.Gen.facts, Cert.GuFwRefIdeal.Gen.facts,
    Cert.DownDx.Gen.facts, Cert.DownDxIdeal.Gen.facts, Cert.DownDxRefIdeal.Gen.facts,
    Cert.InTop.Gen.facts, Cert.InTopIdeal.Gen.facts, Cert.InTopRefIdeal.Gen.facts,
    Cert.InBot.Gen.facts, Cert.InBotIdeal.Gen.facts, Cert.InBotRefIdeal.Gen.facts,
    Cert.AttFw.Gen.facts, Cert.AttFwIdeal.Gen.facts, Cert.AttFwRefIdeal.Gen.facts,
    Cert.Pre_finite.facts, Cert.Pre_finite_mlp.facts, Cert.Pre_finite_qkv.facts,
    Att.frame_p, Att.frame_pi, fun m ρ _ => Att.frame_pi m ρ trivial, Att.frame_ri, fun m ρ _ => Att.frame_ri m ρ trivial,
    Mm.GuDw.frame_p, Mm.GuDw.frame_pi, Mm.GuDw.frame_ri,
    Mm.GuDx.frame_p, Mm.GuDx.frame_pi, Mm.GuDx.frame_ri,
    Mm.DownDw.frame_p, Mm.DownDw.frame_pi, Mm.DownDw.frame_ri,
    Mm.InDw.frame_p, Mm.InDw.frame_pi, Mm.InDw.frame_ri,
    Mm.InDx.frame_p, Mm.InDx.frame_pi, Mm.InDx.frame_ri,
    Mm.InFw.frame_p, Mm.InFw.frame_pi, Mm.InFw.frame_ri,
    Mm.DownFw.frame_p, Mm.DownFw.frame_pi, Mm.DownFw.frame_ri,
    Mm.OutFw.frame_p, Mm.OutFw.frame_pi, Mm.OutFw.frame_ri,
    Mm.OutDx.frame_p, Mm.OutDx.frame_pi, Mm.OutDx.frame_ri,
    Mm.OutDw.frame_p, Mm.OutDw.frame_pi, Mm.OutDw.frame_ri,
    Mm.BrFw.frame_p, Mm.BrFw.frame_pi, Mm.BrFw.frame_ri,
    Mm.BrDx.frame_p, Mm.BrDx.frame_pi, Mm.BrDx.frame_ri,
    Mm.BrDw.frame_p, Mm.BrDw.frame_pi, Mm.BrDw.frame_ri,
    Mm.UpFw.frame_p, Mm.UpFw.frame_pi, Mm.UpFw.frame_ri,
    Mm.UpDx.frame_p, Mm.UpDx.frame_pi, Mm.UpDx.frame_ri,
    Mm.UpDw.frame_p, Mm.UpDw.frame_pi, Mm.UpDw.frame_ri,
    Mm.GuFw.frame_p, Mm.GuFw.frame_pi, Mm.GuFw.frame_ri,
    Mm.DownDx.frame_p, Mm.DownDx.frame_pi, fun m ρ _ => Mm.DownDx.frame_pi m ρ trivial, Mm.DownDx.frame_ri, fun m ρ _ => Mm.DownDx.frame_ri m ρ trivial,
    Mm.InTop.frame_p, Mm.InTop.frame_pi, Mm.InTop.frame_ri,
    Mm.InBot.frame_p, Mm.InBot.frame_pi, Mm.InBot.frame_ri,
    Fwd.frame_p, Fwd.frame_pi, fun m ρ _ => Fwd.frame_pi m ρ trivial, Fwd.frame_ri, fun m ρ _ => Fwd.frame_ri m ρ trivial,
    Att.preserves, Att.algebraic,
    trivial, Mm.GuDw.algebraic,
    trivial, Mm.GuDx.algebraic,
    trivial, Mm.DownDw.algebraic,
    trivial, Mm.InDw.algebraic,
    trivial, Mm.InDx.algebraic,
    trivial, Mm.InFw.algebraic,
    trivial, Mm.DownFw.algebraic,
    trivial, Mm.OutFw.algebraic,
    trivial, Mm.OutDx.algebraic,
    trivial, Mm.OutDw.algebraic,
    trivial, Mm.BrFw.algebraic,
    trivial, Mm.BrDx.algebraic,
    trivial, Mm.BrDw.algebraic,
    trivial, Mm.UpFw.algebraic,
    trivial, Mm.UpDx.algebraic,
    trivial, Mm.UpDw.algebraic,
    trivial, Mm.GuFw.algebraic,
    trivial, Mm.DownDx.algebraic,
    trivial, Mm.InTop.algebraic,
    trivial, Mm.InBot.algebraic,
    Fwd.preserves, Fwd.algebraic⟩

end Cert.Proof

end
